-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelTailBack (m : (ℓ : Loc Cert.KernelTailBack.nD Cert.KernelTailBack.τ Cert.KernelTailBack.sig) → Buf (Elt Bits) ℓ) : Prop :=
  True

def Pre_KernelTailBackIdeal (m : (ℓ : Loc Cert.KernelTailBackIdeal.nD Cert.KernelTailBackIdeal.τ Cert.KernelTailBackIdeal.sig) → Buf (Elt Ideal) ℓ) : Prop :=
  True

def Pre_KernelTailBackIdeal_finite_tail [hPre_finite_tail : Cert.Pre_finite_tail.Facts] (m : (ℓ : Loc Cert.KernelTailBackIdeal.nD Cert.KernelTailBackIdeal.τ Cert.KernelTailBackIdeal.sig) → Buf (Elt Ideal) ℓ) : Prop :=
  ∀ c : Dev Cert.KernelTailBackIdeal.nD,
    (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.2.2.2.2.1 = (fun _ => 1#1)
    ∧ (Cert.Pre_finite_tail.fn (F := Ideal) (m ((c.tc : Thread Cert.KernelTailBackIdeal.nD Cert.KernelTailBackIdeal.τ).loc Cert.KernelTailBackIdeal.main_arg0)) (m ((c.tc : Thread Cert.KernelTailBackIdeal.nD Cert.KernelTailBackIdeal.τ).loc Cert.KernelTailBackIdeal.main_arg1)) (m ((c.tc : Thread Cert.KernelTailBackIdeal.nD Cert.KernelTailBackIdeal.τ).loc Cert.KernelTailBackIdeal.main_arg2)) (m ((c.tc : Thread Cert.KernelTailBackIdeal.nD Cert.KernelTailBackIdeal.τ).loc Cert.KernelTailBackIdeal.main_arg3)) (m ((c.tc : Thread Cert.KernelTailBackIdeal.nD Cert.KernelTailBackIdeal.τ).loc Cert.KernelTailBackIdeal.main_arg4)) (m ((c.tc : Thread Cert.KernelTailBackIdeal.nD Cert.KernelTailBackIdeal.τ).loc Cert.KernelTailBackIdeal.main_arg5)) (m ((c.tc : Thread Cert.KernelTailBackIdeal.nD Cert.KernelTailBackIdeal.τ).loc Cert.KernelTailBackIdeal.main_arg6)) (m ((c.tc : Thread Cert.KernelTailBackIdeal.nD Cert.KernelTailBackIdeal.τ).loc Cert.KernelTailBackIdeal.main_arg7)) (m ((c.tc : Thread Cert.KernelTailBackIdeal.nD Cert.KernelTailBackIdeal.τ).loc Cert.KernelTailBackIdeal.main_arg8)) (m ((c.tc : Thread Cert.KernelTailBackIdeal.nD Cert.KernelTailBackIdeal.τ).loc Cert.KernelTailBackIdeal.main_arg9)) (m ((c.tc : Thread Cert.KernelTailBackIdeal.nD Cert.KernelTailBackIdeal.τ).loc Cert.KernelTailBackIdeal.main_arg10))).2.2.2.2.2.2.2.2.2.2 = (fun _ => 1#1)

def Pre_ReferenceTailBackIdeal (m : (ℓ : Loc Cert.ReferenceTailBackIdeal.nD Cert.ReferenceTailBackIdeal.τ Cert.ReferenceTailBackIdeal.sig) → Buf (Elt Ideal) ℓ) : Prop :=
  True

def Pre_ReferenceTailBackIdeal_finite_tail [hPre_finite_tail : Cert.Pre_finite_tail.Facts] (m : (ℓ : Loc Cert.ReferenceTailBackIdeal.nD Cert.ReferenceTailBackIdeal.τ Cert.ReferenceTailBackIdeal.sig) → Buf (Elt Ideal) ℓ) : Prop :=
  ∀ c : Dev Cert.ReferenceTailBackIdeal.nD,
    (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.2.2.2.2.1 = (fun _ => 1#1)
    ∧ (Cert.Pre_finite_tail.fn (F := Ideal) (m ((c.tc : Thread Cert.ReferenceTailBackIdeal.nD Cert.ReferenceTailBackIdeal.τ).loc Cert.ReferenceTailBackIdeal.main_arg0)) (m ((c.tc : Thread Cert.ReferenceTailBackIdeal.nD Cert.ReferenceTailBackIdeal.τ).loc Cert.ReferenceTailBackIdeal.main_arg1)) (m ((c.tc : Thread Cert.ReferenceTailBackIdeal.nD Cert.ReferenceTailBackIdeal.τ).loc Cert.ReferenceTailBackIdeal.main_arg2)) (m ((c.tc : Thread Cert.ReferenceTailBackIdeal.nD Cert.ReferenceTailBackIdeal.τ).loc Cert.ReferenceTailBackIdeal.main_arg3)) (m ((c.tc : Thread Cert.ReferenceTailBackIdeal.nD Cert.ReferenceTailBackIdeal.τ).loc Cert.ReferenceTailBackIdeal.main_arg4)) (m ((c.tc : Thread Cert.ReferenceTailBackIdeal.nD Cert.ReferenceTailBackIdeal.τ).loc Cert.ReferenceTailBackIdeal.main_arg5)) (m ((c.tc : Thread Cert.ReferenceTailBackIdeal.nD Cert.ReferenceTailBackIdeal.τ).loc Cert.ReferenceTailBackIdeal.main_arg6)) (m ((c.tc : Thread Cert.ReferenceTailBackIdeal.nD Cert.ReferenceTailBackIdeal.τ).loc Cert.ReferenceTailBackIdeal.main_arg7)) (m ((c.tc : Thread Cert.ReferenceTailBackIdeal.nD Cert.ReferenceTailBackIdeal.τ).loc Cert.ReferenceTailBackIdeal.main_arg8)) (m ((c.tc : Thread Cert.ReferenceTailBackIdeal.nD Cert.ReferenceTailBackIdeal.τ).loc Cert.ReferenceTailBackIdeal.main_arg9)) (m ((c.tc : Thread Cert.ReferenceTailBackIdeal.nD Cert.ReferenceTailBackIdeal.τ).loc Cert.ReferenceTailBackIdeal.main_arg10))).2.2.2.2.2.2.2.2.2.2 = (fun _ => 1#1)

def Pre_KernelForward (m : (ℓ : Loc Cert.KernelForward.nD Cert.KernelForward.τ Cert.KernelForward.sig) → Buf (Elt Bits) ℓ) : Prop :=
  True

def Pre_KernelForwardIdeal (m : (ℓ : Loc Cert.KernelForwardIdeal.nD Cert.KernelForwardIdeal.τ Cert.KernelForwardIdeal.sig) → Buf (Elt Ideal) ℓ) : Prop :=
  True

def Pre_KernelForwardIdeal_finite_fwd [hPre_finite_fwd : Cert.Pre_finite_fwd.Facts] (m : (ℓ : Loc Cert.KernelForwardIdeal.nD Cert.KernelForwardIdeal.τ Cert.KernelForwardIdeal.sig) → Buf (Elt Ideal) ℓ) : Prop :=
  ∀ c : Dev Cert.KernelForwardIdeal.nD,
    (Cert.Pre_finite_fwd.fn (F := Ideal) (m ((c.tc : Thread Cert.KernelForwardIdeal.nD Cert.KernelForwardIdeal.τ).loc Cert.KernelForwardIdeal.main_arg0)) (m ((c.tc : Thread Cert.KernelForwardIdeal.nD Cert.KernelForwardIdeal.τ).loc Cert.KernelForwardIdeal.main_arg1)) (m ((c.tc : Thread Cert.KernelForwardIdeal.nD Cert.KernelForwardIdeal.τ).loc Cert.KernelForwardIdeal.main_arg2)) (m ((c.tc : Thread Cert.KernelForwardIdeal.nD Cert.KernelForwardIdeal.τ).loc Cert.KernelForwardIdeal.main_arg3)) (m ((c.tc : Thread Cert.KernelForwardIdeal.nD Cert.KernelForwardIdeal.τ).loc Cert.KernelForwardIdeal.main_arg4)) (m ((c.tc : Thread Cert.KernelForwardIdeal.nD Cert.KernelForwardIdeal.τ).loc Cert.KernelForwardIdeal.main_arg5))).1 = (fun _ => 1#1)
    ∧ (Cert.Pre_finite_fwd.fn (F := Ideal) (m ((c.tc : Thread Cert.KernelForwardIdeal.nD Cert.KernelForwardIdeal.τ).loc Cert.KernelForwardIdeal.main_arg0)) (m ((c.tc : Thread Cert.KernelForwardIdeal.nD Cert.KernelForwardIdeal.τ).loc Cert.KernelForwardIdeal.main_arg1)) (m ((c.tc : Thread Cert.KernelForwardIdeal.nD Cert.KernelForwardIdeal.τ).loc Cert.KernelForwardIdeal.main_arg2)) (m ((c.tc : Thread Cert.KernelForwardIdeal.nD Cert.KernelForwardIdeal.τ).loc Cert.KernelForwardIdeal.main_arg3)) (m ((c.tc : Thread Cert.KernelForwardIdeal.nD Cert.KernelForwardIdeal.τ).loc Cert.KernelForwardIdeal.main_arg4)) (m ((c.tc : Thread Cert.KernelForwardIdeal.nD Cert.KernelForwardIdeal.τ).loc Cert.KernelForwardIdeal.main_arg5))).2 = (fun _ => 1#1)

def Pre_ReferenceForwardIdeal (m : (ℓ : Loc Cert.ReferenceForwardIdeal.nD Cert.ReferenceForwardIdeal.τ Cert.ReferenceForwardIdeal.sig) → Buf (Elt Ideal) ℓ) : Prop :=
  True

def Pre_ReferenceForwardIdeal_finite_fwd [hPre_finite_fwd : Cert.Pre_finite_fwd.Facts] (m : (ℓ : Loc Cert.ReferenceForwardIdeal.nD Cert.ReferenceForwardIdeal.τ Cert.ReferenceForwardIdeal.sig) → Buf (Elt Ideal) ℓ) : Prop :=
  ∀ c : Dev Cert.ReferenceForwardIdeal.nD,
    (Cert.Pre_finite_fwd.fn (F := Ideal) (m ((c.tc : Thread Cert.ReferenceForwardIdeal.nD Cert.ReferenceForwardIdeal.τ).loc Cert.ReferenceForwardIdeal.main_arg0)) (m ((c.tc : Thread Cert.ReferenceForwardIdeal.nD Cert.ReferenceForwardIdeal.τ).loc Cert.ReferenceForwardIdeal.main_arg1)) (m ((c.tc : Thread Cert.ReferenceForwardIdeal.nD Cert.ReferenceForwardIdeal.τ).loc Cert.ReferenceForwardIdeal.main_arg2)) (m ((c.tc : Thread Cert.ReferenceForwardIdeal.nD Cert.ReferenceForwardIdeal.τ).loc Cert.ReferenceForwardIdeal.main_arg3)) (m ((c.tc : Thread Cert.ReferenceForwardIdeal.nD Cert.ReferenceForwardIdeal.τ).loc Cert.ReferenceForwardIdeal.main_arg4)) (m ((c.tc : Thread Cert.ReferenceForwardIdeal.nD Cert.ReferenceForwardIdeal.τ).loc Cert.ReferenceForwardIdeal.main_arg5))).1 = (fun _ => 1#1)
    ∧ (Cert.Pre_finite_fwd.fn (F := Ideal) (m ((c.tc : Thread Cert.ReferenceForwardIdeal.nD Cert.ReferenceForwardIdeal.τ).loc Cert.ReferenceForwardIdeal.main_arg0)) (m ((c.tc : Thread Cert.ReferenceForwardIdeal.nD Cert.ReferenceForwardIdeal.τ).loc Cert.ReferenceForwardIdeal.main_arg1)) (m ((c.tc : Thread Cert.ReferenceForwardIdeal.nD Cert.ReferenceForwardIdeal.τ).loc Cert.ReferenceForwardIdeal.main_arg2)) (m ((c.tc : Thread Cert.ReferenceForwardIdeal.nD Cert.ReferenceForwardIdeal.τ).loc Cert.ReferenceForwardIdeal.main_arg3)) (m ((c.tc : Thread Cert.ReferenceForwardIdeal.nD Cert.ReferenceForwardIdeal.τ).loc Cert.ReferenceForwardIdeal.main_arg4)) (m ((c.tc : Thread Cert.ReferenceForwardIdeal.nD Cert.ReferenceForwardIdeal.τ).loc Cert.ReferenceForwardIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9))
      ∧ r.2.sem = fun _ => 0)

def quiescent_KernelTailBack [hKernelTailBack : Cert.KernelTailBack.Facts] : Prop :=
  ∀ (m : (ℓ : Loc Cert.KernelTailBack.nD Cert.KernelTailBack.τ Cert.KernelTailBack.sig) → Buf (Elt Bits) ℓ) (g : Dev Cert.KernelTailBack.nD → PrngReg), Pre_KernelTailBack m →
    θ_run (Cert.KernelTailBack.defs (F := Bits)) (onTc (τ := Cert.KernelTailBack.τ) (Cert.KernelTailBack.main (F := Bits))) ⟨m, fun _ => 0, g⟩ (fun r => (∀ c : Dev Cert.KernelTailBack.nD,
      r.2.mem ((c.tc : Thread Cert.KernelTailBack.nD Cert.KernelTailBack.τ).loc Cert.KernelTailBack.main_arg0) = m ((c.tc : Thread Cert.KernelTailBack.nD Cert.KernelTailBack.τ).loc Cert.KernelTailBack.main_arg0)
      ∧ r.2.mem ((c.tc : Thread Cert.KernelTailBack.nD Cert.KernelTailBack.τ).loc Cert.KernelTailBack.main_arg1) = m ((c.tc : Thread Cert.KernelTailBack.nD Cert.KernelTailBack.τ).loc Cert.KernelTailBack.main_arg1)
      ∧ r.2.mem ((c.tc : Thread Cert.KernelTailBack.nD Cert.KernelTailBack.τ).loc Cert.KernelTailBack.main_arg2) = m ((c.tc : Thread Cert.KernelTailBack.nD Cert.KernelTailBack.τ).loc Cert.KernelTailBack.main_arg2)
      ∧ r.2.mem ((c.tc : Thread Cert.KernelTailBack.nD Cert.KernelTailBack.τ).loc Cert.KernelTailBack.main_arg3) = m ((c.tc : Thread Cert.KernelTailBack.nD Cert.KernelTailBack.τ).loc Cert.KernelTailBack.main_arg3)
      ∧ r.2.mem ((c.tc : Thread Cert.KernelTailBack.nD Cert.KernelTailBack.τ).loc Cert.KernelTailBack.main_arg4) = m ((c.tc : Thread Cert.KernelTailBack.nD Cert.KernelTailBack.τ).loc Cert.KernelTailBack.main_arg4)
      ∧ r.2.mem ((c.tc : Thread Cert.KernelTailBack.nD Cert.KernelTailBack.τ).loc Cert.KernelTailBack.main_arg5) = m ((c.tc : Thread Cert.KernelTailBack.nD Cert.KernelTailBack.τ).loc Cert.KernelTailBack.main_arg5)
      ∧ r.2.mem ((c.tc : Thread Cert.KernelTailBack.nD Cert.KernelTailBack.τ).loc Cert.KernelTailBack.main_arg6) = m ((c.tc : Thread Cert.KernelTailBack.nD Cert.KernelTailBack.τ).loc Cert.KernelTailBack.main_arg6)
      ∧ r.2.mem ((c.tc : Thread Cert.KernelTailBack.nD Cert.KernelTailBack.τ).loc Cert.KernelTailBack.main_arg7) = m ((c.tc : Thread Cert.KernelTailBack.nD Cert.KernelTailBack.τ).loc Cert.KernelTailBack.main_arg7)
      ∧ r.2.mem ((c.tc : Thread Cert.KernelTailBack.nD Cert.KernelTailBack.τ).loc Cert.KernelTailBack.main_arg8) = m ((c.tc : Thread Cert.KernelTailBack.nD Cert.KernelTailBack.τ).loc Cert.KernelTailBack.main_arg8)
      ∧ r.2.mem ((c.tc : Thread Cert.KernelTailBack.nD Cert.KernelTailBack.τ).loc Cert.KernelTailBack.main_arg9) = m ((c.tc : Thread Cert.KernelTailBack.nD Cert.KernelTailBack.τ).loc Cert.KernelTailBack.main_arg9)
      ∧ r.2.mem ((c.tc : Thread Cert.KernelTailBack.nD Cert.KernelTailBack.τ).loc Cert.KernelTailBack.main_arg10) = m ((c.tc : Thread Cert.KernelTailBack.nD Cert.KernelTailBack.τ).loc Cert.KernelTailBack.main_arg10))
      ∧ r.2.sem = fun _ => 0)

def quiescent_KernelTailBackIdeal [hKernelTailBackIdeal : Cert.KernelTailBackIdeal.Facts] : Prop :=
  ∀ (m : (ℓ : Loc Cert.KernelTailBackIdeal.nD Cert.KernelTailBackIdeal.τ Cert.KernelTailBackIdeal.sig) → Buf (Elt Ideal) ℓ) (g : Dev Cert.KernelTailBackIdeal.nD → PrngReg), Pre_KernelTailBackIdeal m →
    θ_run (Cert.KernelTailBackIdeal.defs (F := Ideal)) (onTc (τ := Cert.KernelTailBackIdeal.τ) (Cert.KernelTailBackIdeal.main (F := Ideal))) ⟨m, fun _ => 0, g⟩ (fun r => (∀ c : Dev Cert.KernelTailBackIdeal.nD,
      r.2.mem ((c.tc : Thread Cert.KernelTailBackIdeal.nD Cert.KernelTailBackIdeal.τ).loc Cert.KernelTailBackIdeal.main_arg0) = m ((c.tc : Thread Cert.KernelTailBackIdeal.nD Cert.KernelTailBackIdeal.τ).loc Cert.KernelTailBackIdeal.main_arg0)
      ∧ r.2.mem ((c.tc : Thread Cert.KernelTailBackIdeal.nD Cert.KernelTailBackIdeal.τ).loc Cert.KernelTailBackIdeal.main_arg1) = m ((c.tc : Thread Cert.KernelTailBackIdeal.nD Cert.KernelTailBackIdeal.τ).loc Cert.KernelTailBackIdeal.main_arg1)
      ∧ r.2.mem ((c.tc : Thread Cert.KernelTailBackIdeal.nD Cert.KernelTailBackIdeal.τ).loc Cert.KernelTailBackIdeal.main_arg2) = m ((c.tc : Thread Cert.KernelTailBackIdeal.nD Cert.KernelTailBackIdeal.τ).loc Cert.KernelTailBackIdeal.main_arg2)
      ∧ r.2.mem ((c.tc : Thread Cert.KernelTailBackIdeal.nD Cert.KernelTailBackIdeal.τ).loc Cert.KernelTailBackIdeal.main_arg3) = m ((c.tc : Thread Cert.KernelTailBackIdeal.nD Cert.KernelTailBackIdeal.τ).loc Cert.KernelTailBackIdeal.main_arg3)
      ∧ r.2.mem ((c.tc : Thread Cert.KernelTailBackIdeal.nD Cert.KernelTailBackIdeal.τ).loc Cert.KernelTailBackIdeal.main_arg4) = m ((c.tc : Thread Cert.KernelTailBackIdeal.nD Cert.KernelTailBackIdeal.τ).loc Cert.KernelTailBackIdeal.main_arg4)
      ∧ r.2.mem ((c.tc : Thread Cert.KernelTailBackIdeal.nD Cert.KernelTailBackIdeal.τ).loc Cert.KernelTailBackIdeal.main_arg5) = m ((c.tc : Thread Cert.KernelTailBackIdeal.nD Cert.KernelTailBackIdeal.τ).loc Cert.KernelTailBackIdeal.main_arg5)
      ∧ r.2.mem ((c.tc : Thread Cert.KernelTailBackIdeal.nD Cert.KernelTailBackIdeal.τ).loc Cert.KernelTailBackIdeal.main_arg6) = m ((c.tc : Thread Cert.KernelTailBackIdeal.nD Cert.KernelTailBackIdeal.τ).loc Cert.KernelTailBackIdeal.main_arg6)
      ∧ r.2.mem ((c.tc : Thread Cert.KernelTailBackIdeal.nD Cert.KernelTailBackIdeal.τ).loc Cert.KernelTailBackIdeal.main_arg7) = m ((c.tc : Thread Cert.KernelTailBackIdeal.nD Cert.KernelTailBackIdeal.τ).loc Cert.KernelTailBackIdeal.main_arg7)
      ∧ r.2.mem ((c.tc : Thread Cert.KernelTailBackIdeal.nD Cert.KernelTailBackIdeal.τ).loc Cert.KernelTailBackIdeal.main_arg8) = m ((c.tc : Thread Cert.KernelTailBackIdeal.nD Cert.KernelTailBackIdeal.τ).loc Cert.KernelTailBackIdeal.main_arg8)
      ∧ r.2.mem ((c.tc : Thread Cert.KernelTailBackIdeal.nD Cert.KernelTailBackIdeal.τ).loc Cert.KernelTailBackIdeal.main_arg9) = m ((c.tc : Thread Cert.KernelTailBackIdeal.nD Cert.KernelTailBackIdeal.τ).loc Cert.KernelTailBackIdeal.main_arg9)
      ∧ r.2.mem ((c.tc : Thread Cert.KernelTailBackIdeal.nD Cert.KernelTailBackIdeal.τ).loc Cert.KernelTailBackIdeal.main_arg10) = m ((c.tc : Thread Cert.KernelTailBackIdeal.nD Cert.KernelTailBackIdeal.τ).loc Cert.KernelTailBackIdeal.main_arg10))
      ∧ r.2.sem = fun _ => 0)

def quiescent_KernelTailBackIdeal_pre_finite_tail [hKernelTailBackIdeal : Cert.KernelTailBackIdeal.Facts] [hPre_finite_tail : Cert.Pre_finite_tail.Facts] : Prop :=
  ∀ (m : (ℓ : Loc Cert.KernelTailBackIdeal.nD Cert.KernelTailBackIdeal.τ Cert.KernelTailBackIdeal.sig) → Buf (Elt Ideal) ℓ) (g : Dev Cert.KernelTailBackIdeal.nD → PrngReg), Pre_KernelTailBackIdeal_finite_tail m →
    θ_run (Cert.KernelTailBackIdeal.defs (F := Ideal)) (onTc (τ := Cert.KernelTailBackIdeal.τ) (Cert.KernelTailBackIdeal.main (F := Ideal))) ⟨m, fun _ => 0, g⟩ (fun r => (∀ c : Dev Cert.KernelTailBackIdeal.nD,
      r.2.mem ((c.tc : Thread Cert.KernelTailBackIdeal.nD Cert.KernelTailBackIdeal.τ).loc Cert.KernelTailBackIdeal.main_arg0) = m ((c.tc : Thread Cert.KernelTailBackIdeal.nD Cert.KernelTailBackIdeal.τ).loc Cert.KernelTailBackIdeal.main_arg0)
      ∧ r.2.mem ((c.tc : Thread Cert.KernelTailBackIdeal.nD Cert.KernelTailBackIdeal.τ).loc Cert.KernelTailBackIdeal.main_arg1) = m ((c.tc : Thread Cert.KernelTailBackIdeal.nD Cert.KernelTailBackIdeal.τ).loc Cert.KernelTailBackIdeal.main_arg1)
      ∧ r.2.mem ((c.tc : Thread Cert.KernelTailBackIdeal.nD Cert.KernelTailBackIdeal.τ).loc Cert.KernelTailBackIdeal.main_arg2) = m ((c.tc : Thread Cert.KernelTailBackIdeal.nD Cert.KernelTailBackIdeal.τ).loc Cert.KernelTailBackIdeal.main_arg2)
      ∧ r.2.mem ((c.tc : Thread Cert.KernelTailBackIdeal.nD Cert.KernelTailBackIdeal.τ).loc Cert.KernelTailBackIdeal.main_arg3) = m ((c.tc : Thread Cert.KernelTailBackIdeal.nD Cert.KernelTailBackIdeal.τ).loc Cert.KernelTailBackIdeal.main_arg3)
      ∧ r.2.mem ((c.tc : Thread Cert.KernelTailBackIdeal.nD Cert.KernelTailBackIdeal.τ).loc Cert.KernelTailBackIdeal.main_arg4) = m ((c.tc : Thread Cert.KernelTailBackIdeal.nD Cert.KernelTailBackIdeal.τ).loc Cert.KernelTailBackIdeal.main_arg4)
      ∧ r.2.mem ((c.tc : Thread Cert.KernelTailBackIdeal.nD Cert.KernelTailBackIdeal.τ).loc Cert.KernelTailBackIdeal.main_arg5) = m ((c.tc : Thread Cert.KernelTailBackIdeal.nD Cert.KernelTailBackIdeal.τ).loc Cert.KernelTailBackIdeal.main_arg5)
      ∧ r.2.mem ((c.tc : Thread Cert.KernelTailBackIdeal.nD Cert.KernelTailBackIdeal.τ).loc Cert.KernelTailBackIdeal.main_arg6) = m ((c.tc : Thread Cert.KernelTailBackIdeal.nD Cert.KernelTailBackIdeal.τ).loc Cert.KernelTailBackIdeal.main_arg6)
      ∧ r.2.mem ((c.tc : Thread Cert.KernelTailBackIdeal.nD Cert.KernelTailBackIdeal.τ).loc Cert.KernelTailBackIdeal.main_arg7) = m ((c.tc : Thread Cert.KernelTailBackIdeal.nD Cert.KernelTailBackIdeal.τ).loc Cert.KernelTailBackIdeal.main_arg7)
      ∧ r.2.mem ((c.tc : Thread Cert.KernelTailBackIdeal.nD Cert.KernelTailBackIdeal.τ).loc Cert.KernelTailBackIdeal.main_arg8) = m ((c.tc : Thread Cert.KernelTailBackIdeal.nD Cert.KernelTailBackIdeal.τ).loc Cert.KernelTailBackIdeal.main_arg8)
      ∧ r.2.mem ((c.tc : Thread Cert.KernelTailBackIdeal.nD Cert.KernelTailBackIdeal.τ).loc Cert.KernelTailBackIdeal.main_arg9) = m ((c.tc : Thread Cert.KernelTailBackIdeal.nD Cert.KernelTailBackIdeal.τ).loc Cert.KernelTailBackIdeal.main_arg9)
      ∧ r.2.mem ((c.tc : Thread Cert.KernelTailBackIdeal.nD Cert.KernelTailBackIdeal.τ).loc Cert.KernelTailBackIdeal.main_arg10) = m ((c.tc : Thread Cert.KernelTailBackIdeal.nD Cert.KernelTailBackIdeal.τ).loc Cert.KernelTailBackIdeal.main_arg10))
      ∧ r.2.sem = fun _ => 0)

def quiescent_ReferenceTailBackIdeal [hReferenceTailBackIdeal : Cert.ReferenceTailBackIdeal.Facts] : Prop :=
  ∀ (m : (ℓ : Loc Cert.ReferenceTailBackIdeal.nD Cert.ReferenceTailBackIdeal.τ Cert.ReferenceTailBackIdeal.sig) → Buf (Elt Ideal) ℓ) (g : Dev Cert.ReferenceTailBackIdeal.nD → PrngReg), Pre_ReferenceTailBackIdeal m →
    θ_run (Cert.ReferenceTailBackIdeal.defs (F := Ideal)) (onTc (τ := Cert.ReferenceTailBackIdeal.τ) (Cert.ReferenceTailBackIdeal.main (F := Ideal))) ⟨m, fun _ => 0, g⟩ (fun r => (∀ c : Dev Cert.ReferenceTailBackIdeal.nD,
      r.2.mem ((c.tc : Thread Cert.ReferenceTailBackIdeal.nD Cert.ReferenceTailBackIdeal.τ).loc Cert.ReferenceTailBackIdeal.main_arg0) = m ((c.tc : Thread Cert.ReferenceTailBackIdeal.nD Cert.ReferenceTailBackIdeal.τ).loc Cert.ReferenceTailBackIdeal.main_arg0)
      ∧ r.2.mem ((c.tc : Thread Cert.ReferenceTailBackIdeal.nD Cert.ReferenceTailBackIdeal.τ).loc Cert.ReferenceTailBackIdeal.main_arg1) = m ((c.tc : Thread Cert.ReferenceTailBackIdeal.nD Cert.ReferenceTailBackIdeal.τ).loc Cert.ReferenceTailBackIdeal.main_arg1)
      ∧ r.2.mem ((c.tc : Thread Cert.ReferenceTailBackIdeal.nD Cert.ReferenceTailBackIdeal.τ).loc Cert.ReferenceTailBackIdeal.main_arg2) = m ((c.tc : Thread Cert.ReferenceTailBackIdeal.nD Cert.ReferenceTailBackIdeal.τ).loc Cert.ReferenceTailBackIdeal.main_arg2)
      ∧ r.2.mem ((c.tc : Thread Cert.ReferenceTailBackIdeal.nD Cert.ReferenceTailBackIdeal.τ).loc Cert.ReferenceTailBackIdeal.main_arg3) = m ((c.tc : Thread Cert.ReferenceTailBackIdeal.nD Cert.ReferenceTailBackIdeal.τ).loc Cert.ReferenceTailBackIdeal.main_arg3)
      ∧ r.2.mem ((c.tc : Thread Cert.ReferenceTailBackIdeal.nD Cert.ReferenceTailBackIdeal.τ).loc Cert.ReferenceTailBackIdeal.main_arg4) = m ((c.tc : Thread Cert.ReferenceTailBackIdeal.nD Cert.ReferenceTailBackIdeal.τ).loc Cert.ReferenceTailBackIdeal.main_arg4)
      ∧ r.2.mem ((c.tc : Thread Cert.ReferenceTailBackIdeal.nD Cert.ReferenceTailBackIdeal.τ).loc Cert.ReferenceTailBackIdeal.main_arg5) = m ((c.tc : Thread Cert.ReferenceTailBackIdeal.nD Cert.ReferenceTailBackIdeal.τ).loc Cert.ReferenceTailBackIdeal.main_arg5)
      ∧ r.2.mem ((c.tc : Thread Cert.ReferenceTailBackIdeal.nD Cert.ReferenceTailBackIdeal.τ).loc Cert.ReferenceTailBackIdeal.main_arg6) = m ((c.tc : Thread Cert.ReferenceTailBackIdeal.nD Cert.ReferenceTailBackIdeal.τ).loc Cert.ReferenceTailBackIdeal.main_arg6)
      ∧ r.2.mem ((c.tc : Thread Cert.ReferenceTailBackIdeal.nD Cert.ReferenceTailBackIdeal.τ).loc Cert.ReferenceTailBackIdeal.main_arg7) = m ((c.tc : Thread Cert.ReferenceTailBackIdeal.nD Cert.ReferenceTailBackIdeal.τ).loc Cert.ReferenceTailBackIdeal.main_arg7)
      ∧ r.2.mem ((c.tc : Thread Cert.ReferenceTailBackIdeal.nD Cert.ReferenceTailBackIdeal.τ).loc Cert.ReferenceTailBackIdeal.main_arg8) = m ((c.tc : Thread Cert.ReferenceTailBackIdeal.nD Cert.ReferenceTailBackIdeal.τ).loc Cert.ReferenceTailBackIdeal.main_arg8)
      ∧ r.2.mem ((c.tc : Thread Cert.ReferenceTailBackIdeal.nD Cert.ReferenceTailBackIdeal.τ).loc Cert.ReferenceTailBackIdeal.main_arg9) = m ((c.tc : Thread Cert.ReferenceTailBackIdeal.nD Cert.ReferenceTailBackIdeal.τ).loc Cert.ReferenceTailBackIdeal.main_arg9)
      ∧ r.2.mem ((c.tc : Thread Cert.ReferenceTailBackIdeal.nD Cert.ReferenceTailBackIdeal.τ).loc Cert.ReferenceTailBackIdeal.main_arg10) = m ((c.tc : Thread Cert.ReferenceTailBackIdeal.nD Cert.ReferenceTailBackIdeal.τ).loc Cert.ReferenceTailBackIdeal.main_arg10))
      ∧ r.2.sem = fun _ => 0)

def quiescent_ReferenceTailBackIdeal_pre_finite_tail [hReferenceTailBackIdeal : Cert.ReferenceTailBackIdeal.Facts] [hPre_finite_tail : Cert.Pre_finite_tail.Facts] : Prop :=
  ∀ (m : (ℓ : Loc Cert.ReferenceTailBackIdeal.nD Cert.ReferenceTailBackIdeal.τ Cert.ReferenceTailBackIdeal.sig) → Buf (Elt Ideal) ℓ) (g : Dev Cert.ReferenceTailBackIdeal.nD → PrngReg), Pre_ReferenceTailBackIdeal_finite_tail m →
    θ_run (Cert.ReferenceTailBackIdeal.defs (F := Ideal)) (onTc (τ := Cert.ReferenceTailBackIdeal.τ) (Cert.ReferenceTailBackIdeal.main (F := Ideal))) ⟨m, fun _ => 0, g⟩ (fun r => (∀ c : Dev Cert.ReferenceTailBackIdeal.nD,
      r.2.mem ((c.tc : Thread Cert.ReferenceTailBackIdeal.nD Cert.ReferenceTailBackIdeal.τ).loc Cert.ReferenceTailBackIdeal.main_arg0) = m ((c.tc : Thread Cert.ReferenceTailBackIdeal.nD Cert.ReferenceTailBackIdeal.τ).loc Cert.ReferenceTailBackIdeal.main_arg0)
      ∧ r.2.mem ((c.tc : Thread Cert.ReferenceTailBackIdeal.nD Cert.ReferenceTailBackIdeal.τ).loc Cert.ReferenceTailBackIdeal.main_arg1) = m ((c.tc : Thread Cert.ReferenceTailBackIdeal.nD Cert.ReferenceTailBackIdeal.τ).loc Cert.ReferenceTailBackIdeal.main_arg1)
      ∧ r.2.mem ((c.tc : Thread Cert.ReferenceTailBackIdeal.nD Cert.ReferenceTailBackIdeal.τ).loc Cert.ReferenceTailBackIdeal.main_arg2) = m ((c.tc : Thread Cert.ReferenceTailBackIdeal.nD Cert.ReferenceTailBackIdeal.τ).loc Cert.ReferenceTailBackIdeal.main_arg2)
      ∧ r.2.mem ((c.tc : Thread Cert.ReferenceTailBackIdeal.nD Cert.ReferenceTailBackIdeal.τ).loc Cert.ReferenceTailBackIdeal.main_arg3) = m ((c.tc : Thread Cert.ReferenceTailBackIdeal.nD Cert.ReferenceTailBackIdeal.τ).loc Cert.ReferenceTailBackIdeal.main_arg3)
      ∧ r.2.mem ((c.tc : Thread Cert.ReferenceTailBackIdeal.nD Cert.ReferenceTailBackIdeal.τ).loc Cert.ReferenceTailBackIdeal.main_arg4) = m ((c.tc : Thread Cert.ReferenceTailBackIdeal.nD Cert.ReferenceTailBackIdeal.τ).loc Cert.ReferenceTailBackIdeal.main_arg4)
      ∧ r.2.mem ((c.tc : Thread Cert.ReferenceTailBackIdeal.nD Cert.ReferenceTailBackIdeal.τ).loc Cert.ReferenceTailBackIdeal.main_arg5) = m ((c.tc : Thread Cert.ReferenceTailBackIdeal.nD Cert.ReferenceTailBackIdeal.τ).loc Cert.ReferenceTailBackIdeal.main_arg5)
      ∧ r.2.mem ((c.tc : Thread Cert.ReferenceTailBackIdeal.nD Cert.ReferenceTailBackIdeal.τ).loc Cert.ReferenceTailBackIdeal.main_arg6) = m ((c.tc : Thread Cert.ReferenceTailBackIdeal.nD Cert.ReferenceTailBackIdeal.τ).loc Cert.ReferenceTailBackIdeal.main_arg6)
      ∧ r.2.mem ((c.tc : Thread Cert.ReferenceTailBackIdeal.nD Cert.ReferenceTailBackIdeal.τ).loc Cert.ReferenceTailBackIdeal.main_arg7) = m ((c.tc : Thread Cert.ReferenceTailBackIdeal.nD Cert.ReferenceTailBackIdeal.τ).loc Cert.ReferenceTailBackIdeal.main_arg7)
      ∧ r.2.mem ((c.tc : Thread Cert.ReferenceTailBackIdeal.nD Cert.ReferenceTailBackIdeal.τ).loc Cert.ReferenceTailBackIdeal.main_arg8) = m ((c.tc : Thread Cert.ReferenceTailBackIdeal.nD Cert.ReferenceTailBackIdeal.τ).loc Cert.ReferenceTailBackIdeal.main_arg8)
      ∧ r.2.mem ((c.tc : Thread Cert.ReferenceTailBackIdeal.nD Cert.ReferenceTailBackIdeal.τ).loc Cert.ReferenceTailBackIdeal.main_arg9) = m ((c.tc : Thread Cert.ReferenceTailBackIdeal.nD Cert.ReferenceTailBackIdeal.τ).loc Cert.ReferenceTailBackIdeal.main_arg9)
      ∧ r.2.mem ((c.tc : Thread Cert.ReferenceTailBackIdeal.nD Cert.ReferenceTailBackIdeal.τ).loc Cert.ReferenceTailBackIdeal.main_arg10) = m ((c.tc : Thread Cert.ReferenceTailBackIdeal.nD Cert.ReferenceTailBackIdeal.τ).loc Cert.ReferenceTailBackIdeal.main_arg10))
      ∧ r.2.sem = fun _ => 0)

def quiescent_KernelForward [hKernelForward : Cert.KernelForward.Facts] : Prop :=
  ∀ (m : (ℓ : Loc Cert.KernelForward.nD Cert.KernelForward.τ Cert.KernelForward.sig) → Buf (Elt Bits) ℓ) (g : Dev Cert.KernelForward.nD → PrngReg), Pre_KernelForward m →
    θ_run (Cert.KernelForward.defs (F := Bits)) (onTc (τ := Cert.KernelForward.τ) (Cert.KernelForward.main (F := Bits))) ⟨m, fun _ => 0, g⟩ (fun r => (∀ c : Dev Cert.KernelForward.nD,
      r.2.mem ((c.tc : Thread Cert.KernelForward.nD Cert.KernelForward.τ).loc Cert.KernelForward.main_arg0) = m ((c.tc : Thread Cert.KernelForward.nD Cert.KernelForward.τ).loc Cert.KernelForward.main_arg0)
      ∧ r.2.mem ((c.tc : Thread Cert.KernelForward.nD Cert.KernelForward.τ).loc Cert.KernelForward.main_arg1) = m ((c.tc : Thread Cert.KernelForward.nD Cert.KernelForward.τ).loc Cert.KernelForward.main_arg1)
      ∧ r.2.mem ((c.tc : Thread Cert.KernelForward.nD Cert.KernelForward.τ).loc Cert.KernelForward.main_arg2) = m ((c.tc : Thread Cert.KernelForward.nD Cert.KernelForward.τ).loc Cert.KernelForward.main_arg2)
      ∧ r.2.mem ((c.tc : Thread Cert.KernelForward.nD Cert.KernelForward.τ).loc Cert.KernelForward.main_arg3) = m ((c.tc : Thread Cert.KernelForward.nD Cert.KernelForward.τ).loc Cert.KernelForward.main_arg3)
      ∧ r.2.mem ((c.tc : Thread Cert.KernelForward.nD Cert.KernelForward.τ).loc Cert.KernelForward.main_arg4) = m ((c.tc : Thread Cert.KernelForward.nD Cert.KernelForward.τ).loc Cert.KernelForward.main_arg4)
      ∧ r.2.mem ((c.tc : Thread Cert.KernelForward.nD Cert.KernelForward.τ).loc Cert.KernelForward.main_arg5) = m ((c.tc : Thread Cert.KernelForward.nD Cert.KernelForward.τ).loc Cert.KernelForward.main_arg5))
      ∧ r.2.sem = fun _ => 0)

def quiescent_KernelForwardIdeal [hKernelForwardIdeal : Cert.KernelForwardIdeal.Facts] : Prop :=
  ∀ (m : (ℓ : Loc Cert.KernelForwardIdeal.nD Cert.KernelForwardIdeal.τ Cert.KernelForwardIdeal.sig) → Buf (Elt Ideal) ℓ) (g : Dev Cert.KernelForwardIdeal.nD → PrngReg), Pre_KernelForwardIdeal m →
    θ_run (Cert.KernelForwardIdeal.defs (F := Ideal)) (onTc (τ := Cert.KernelForwardIdeal.τ) (Cert.KernelForwardIdeal.main (F := Ideal))) ⟨m, fun _ => 0, g⟩ (fun r => (∀ c : Dev Cert.KernelForwardIdeal.nD,
      r.2.mem ((c.tc : Thread Cert.KernelForwardIdeal.nD Cert.KernelForwardIdeal.τ).loc Cert.KernelForwardIdeal.main_arg0) = m ((c.tc : Thread Cert.KernelForwardIdeal.nD Cert.KernelForwardIdeal.τ).loc Cert.KernelForwardIdeal.main_arg0)
      ∧ r.2.mem ((c.tc : Thread Cert.KernelForwardIdeal.nD Cert.KernelForwardIdeal.τ).loc Cert.KernelForwardIdeal.main_arg1) = m ((c.tc : Thread Cert.KernelForwardIdeal.nD Cert.KernelForwardIdeal.τ).loc Cert.KernelForwardIdeal.main_arg1)
      ∧ r.2.mem ((c.tc : Thread Cert.KernelForwardIdeal.nD Cert.KernelForwardIdeal.τ).loc Cert.KernelForwardIdeal.main_arg2) = m ((c.tc : Thread Cert.KernelForwardIdeal.nD Cert.KernelForwardIdeal.τ).loc Cert.KernelForwardIdeal.main_arg2)
      ∧ r.2.mem ((c.tc : Thread Cert.KernelForwardIdeal.nD Cert.KernelForwardIdeal.τ).loc Cert.KernelForwardIdeal.main_arg3) = m ((c.tc : Thread Cert.KernelForwardIdeal.nD Cert.KernelForwardIdeal.τ).loc Cert.KernelForwardIdeal.main_arg3)
      ∧ r.2.mem ((c.tc : Thread Cert.KernelForwardIdeal.nD Cert.KernelForwardIdeal.τ).loc Cert.KernelForwardIdeal.main_arg4) = m ((c.tc : Thread Cert.KernelForwardIdeal.nD Cert.KernelForwardIdeal.τ).loc Cert.KernelForwardIdeal.main_arg4)
      ∧ r.2.mem ((c.tc : Thread Cert.KernelForwardIdeal.nD Cert.KernelForwardIdeal.τ).loc Cert.KernelForwardIdeal.main_arg5) = m ((c.tc : Thread Cert.KernelForwardIdeal.nD Cert.KernelForwardIdeal.τ).loc Cert.KernelForwardIdeal.main_arg5))
      ∧ r.2.sem = fun _ => 0)

def quiescent_KernelForwardIdeal_pre_finite_fwd [hKernelForwardIdeal : Cert.KernelForwardIdeal.Facts] [hPre_finite_fwd : Cert.Pre_finite_fwd.Facts] : Prop :=
  ∀ (m : (ℓ : Loc Cert.KernelForwardIdeal.nD Cert.KernelForwardIdeal.τ Cert.KernelForwardIdeal.sig) → Buf (Elt Ideal) ℓ) (g : Dev Cert.KernelForwardIdeal.nD → PrngReg), Pre_KernelForwardIdeal_finite_fwd m →
    θ_run (Cert.KernelForwardIdeal.defs (F := Ideal)) (onTc (τ := Cert.KernelForwardIdeal.τ) (Cert.KernelForwardIdeal.main (F := Ideal))) ⟨m, fun _ => 0, g⟩ (fun r => (∀ c : Dev Cert.KernelForwardIdeal.nD,
      r.2.mem ((c.tc : Thread Cert.KernelForwardIdeal.nD Cert.KernelForwardIdeal.τ).loc Cert.KernelForwardIdeal.main_arg0) = m ((c.tc : Thread Cert.KernelForwardIdeal.nD Cert.KernelForwardIdeal.τ).loc Cert.KernelForwardIdeal.main_arg0)
      ∧ r.2.mem ((c.tc : Thread Cert.KernelForwardIdeal.nD Cert.KernelForwardIdeal.τ).loc Cert.KernelForwardIdeal.main_arg1) = m ((c.tc : Thread Cert.KernelForwardIdeal.nD Cert.KernelForwardIdeal.τ).loc Cert.KernelForwardIdeal.main_arg1)
      ∧ r.2.mem ((c.tc : Thread Cert.KernelForwardIdeal.nD Cert.KernelForwardIdeal.τ).loc Cert.KernelForwardIdeal.main_arg2) = m ((c.tc : Thread Cert.KernelForwardIdeal.nD Cert.KernelForwardIdeal.τ).loc Cert.KernelForwardIdeal.main_arg2)
      ∧ r.2.mem ((c.tc : Thread Cert.KernelForwardIdeal.nD Cert.KernelForwardIdeal.τ).loc Cert.KernelForwardIdeal.main_arg3) = m ((c.tc : Thread Cert.KernelForwardIdeal.nD Cert.KernelForwardIdeal.τ).loc Cert.KernelForwardIdeal.main_arg3)
      ∧ r.2.mem ((c.tc : Thread Cert.KernelForwardIdeal.nD Cert.KernelForwardIdeal.τ).loc Cert.KernelForwardIdeal.main_arg4) = m ((c.tc : Thread Cert.KernelForwardIdeal.nD Cert.KernelForwardIdeal.τ).loc Cert.KernelForwardIdeal.main_arg4)
      ∧ r.2.mem ((c.tc : Thread Cert.KernelForwardIdeal.nD Cert.KernelForwardIdeal.τ).loc Cert.KernelForwardIdeal.main_arg5) = m ((c.tc : Thread Cert.KernelForwardIdeal.nD Cert.KernelForwardIdeal.τ).loc Cert.KernelForwardIdeal.main_arg5))
      ∧ r.2.sem = fun _ => 0)

def quiescent_ReferenceForwardIdeal [hReferenceForwardIdeal : Cert.ReferenceForwardIdeal.Facts] : Prop :=
  ∀ (m : (ℓ : Loc Cert.ReferenceForwardIdeal.nD Cert.ReferenceForwardIdeal.τ Cert.ReferenceForwardIdeal.sig) → Buf (Elt Ideal) ℓ) (g : Dev Cert.ReferenceForwardIdeal.nD → PrngReg), Pre_ReferenceForwardIdeal m →
    θ_run (Cert.ReferenceForwardIdeal.defs (F := Ideal)) (onTc (τ := Cert.ReferenceForwardIdeal.τ) (Cert.ReferenceForwardIdeal.main (F := Ideal))) ⟨m, fun _ => 0, g⟩ (fun r => (∀ c : Dev Cert.ReferenceForwardIdeal.nD,
      r.2.mem ((c.tc : Thread Cert.ReferenceForwardIdeal.nD Cert.ReferenceForwardIdeal.τ).loc Cert.ReferenceForwardIdeal.main_arg0) = m ((c.tc : Thread Cert.ReferenceForwardIdeal.nD Cert.ReferenceForwardIdeal.τ).loc Cert.ReferenceForwardIdeal.main_arg0)
      ∧ r.2.mem ((c.tc : Thread Cert.ReferenceForwardIdeal.nD Cert.ReferenceForwardIdeal.τ).loc Cert.ReferenceForwardIdeal.main_arg1) = m ((c.tc : Thread Cert.ReferenceForwardIdeal.nD Cert.ReferenceForwardIdeal.τ).loc Cert.ReferenceForwardIdeal.main_arg1)
      ∧ r.2.mem ((c.tc : Thread Cert.ReferenceForwardIdeal.nD Cert.ReferenceForwardIdeal.τ).loc Cert.ReferenceForwardIdeal.main_arg2) = m ((c.tc : Thread Cert.ReferenceForwardIdeal.nD Cert.ReferenceForwardIdeal.τ).loc Cert.ReferenceForwardIdeal.main_arg2)
      ∧ r.2.mem ((c.tc : Thread Cert.ReferenceForwardIdeal.nD Cert.ReferenceForwardIdeal.τ).loc Cert.ReferenceForwardIdeal.main_arg3) = m ((c.tc : Thread Cert.ReferenceForwardIdeal.nD Cert.ReferenceForwardIdeal.τ).loc Cert.ReferenceForwardIdeal.main_arg3)
      ∧ r.2.mem ((c.tc : Thread Cert.ReferenceForwardIdeal.nD Cert.ReferenceForwardIdeal.τ).loc Cert.ReferenceForwardIdeal.main_arg4) = m ((c.tc : Thread Cert.ReferenceForwardIdeal.nD Cert.ReferenceForwardIdeal.τ).loc Cert.ReferenceForwardIdeal.main_arg4)
      ∧ r.2.mem ((c.tc : Thread Cert.ReferenceForwardIdeal.nD Cert.ReferenceForwardIdeal.τ).loc Cert.ReferenceForwardIdeal.main_arg5) = m ((c.tc : Thread Cert.ReferenceForwardIdeal.nD Cert.ReferenceForwardIdeal.τ).loc Cert.ReferenceForwardIdeal.main_arg5))
      ∧ r.2.sem = fun _ => 0)

def quiescent_ReferenceForwardIdeal_pre_finite_fwd [hReferenceForwardIdeal : Cert.ReferenceForwardIdeal.Facts] [hPre_finite_fwd : Cert.Pre_finite_fwd.Facts] : Prop :=
  ∀ (m : (ℓ : Loc Cert.ReferenceForwardIdeal.nD Cert.ReferenceForwardIdeal.τ Cert.ReferenceForwardIdeal.sig) → Buf (Elt Ideal) ℓ) (g : Dev Cert.ReferenceForwardIdeal.nD → PrngReg), Pre_ReferenceForwardIdeal_finite_fwd m →
    θ_run (Cert.ReferenceForwardIdeal.defs (F := Ideal)) (onTc (τ := Cert.ReferenceForwardIdeal.τ) (Cert.ReferenceForwardIdeal.main (F := Ideal))) ⟨m, fun _ => 0, g⟩ (fun r => (∀ c : Dev Cert.ReferenceForwardIdeal.nD,
      r.2.mem ((c.tc : Thread Cert.ReferenceForwardIdeal.nD Cert.ReferenceForwardIdeal.τ).loc Cert.ReferenceForwardIdeal.main_arg0) = m ((c.tc : Thread Cert.ReferenceForwardIdeal.nD Cert.ReferenceForwardIdeal.τ).loc Cert.ReferenceForwardIdeal.main_arg0)
      ∧ r.2.mem ((c.tc : Thread Cert.ReferenceForwardIdeal.nD Cert.ReferenceForwardIdeal.τ).loc Cert.ReferenceForwardIdeal.main_arg1) = m ((c.tc : Thread Cert.ReferenceForwardIdeal.nD Cert.ReferenceForwardIdeal.τ).loc Cert.ReferenceForwardIdeal.main_arg1)
      ∧ r.2.mem ((c.tc : Thread Cert.ReferenceForwardIdeal.nD Cert.ReferenceForwardIdeal.τ).loc Cert.ReferenceForwardIdeal.main_arg2) = m ((c.tc : Thread Cert.ReferenceForwardIdeal.nD Cert.ReferenceForwardIdeal.τ).loc Cert.ReferenceForwardIdeal.main_arg2)
      ∧ r.2.mem ((c.tc : Thread Cert.ReferenceForwardIdeal.nD Cert.ReferenceForwardIdeal.τ).loc Cert.ReferenceForwardIdeal.main_arg3) = m ((c.tc : Thread Cert.ReferenceForwardIdeal.nD Cert.ReferenceForwardIdeal.τ).loc Cert.ReferenceForwardIdeal.main_arg3)
      ∧ r.2.mem ((c.tc : Thread Cert.ReferenceForwardIdeal.nD Cert.ReferenceForwardIdeal.τ).loc Cert.ReferenceForwardIdeal.main_arg4) = m ((c.tc : Thread Cert.ReferenceForwardIdeal.nD Cert.ReferenceForwardIdeal.τ).loc Cert.ReferenceForwardIdeal.main_arg4)
      ∧ r.2.mem ((c.tc : Thread Cert.ReferenceForwardIdeal.nD Cert.ReferenceForwardIdeal.τ).loc Cert.ReferenceForwardIdeal.main_arg5) = m ((c.tc : Thread Cert.ReferenceForwardIdeal.nD Cert.ReferenceForwardIdeal.τ).loc Cert.ReferenceForwardIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v44)) (v5 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_v46) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v296) = v1 c
          ∧ r.2.mem ((c.tc : Thread Cert.ReferenceIdeal.nD Cert.ReferenceIdeal.τ).loc Cert.ReferenceIdeal.main_v264) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_v281) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)) →
    ∃ (v0 : (c : Dev Cert.KernelGateUpIdeal.nD) → Buf (Elt Ideal) ((c.tc : Thread Cert.KernelGateUpIdeal.nD Cert.KernelGateUpIdeal.τ).loc Cert.KernelGateUpIdeal.main_v0)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v0) = v0 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v5) = v0 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)) →
    ∃ (v0 : (c : Dev Cert.KernelTailIdeal.nD) → Buf (Elt Ideal) ((c.tc : Thread Cert.KernelTailIdeal.nD Cert.KernelTailIdeal.τ).loc Cert.KernelTailIdeal.main_v7_0)) (v1 : (c : Dev Cert.KernelTailIdeal.nD) → Buf (Elt Ideal) ((c.tc : Thread Cert.KernelTailIdeal.nD Cert.KernelTailIdeal.τ).loc Cert.KernelTailIdeal.main_v7_1)) (v2 : (c : Dev Cert.KernelTailIdeal.nD) → Buf (Elt Ideal) ((c.tc : Thread Cert.KernelTailIdeal.nD Cert.KernelTailIdeal.τ).loc Cert.KernelTailIdeal.main_v7_2)) (v3 : (c : Dev Cert.KernelTailIdeal.nD) → Buf (Elt Ideal) ((c.tc : Thread Cert.KernelTailIdeal.nD Cert.KernelTailIdeal.τ).loc Cert.KernelTailIdeal.main_v7_3)) (v4 : (c : Dev Cert.KernelTailIdeal.nD) → Buf (Elt Ideal) ((c.tc : Thread Cert.KernelTailIdeal.nD Cert.KernelTailIdeal.τ).loc Cert.KernelTailIdeal.main_v7_4)) (v5 : (c : Dev Cert.KernelTailIdeal.nD) → Buf (Elt Ideal) ((c.tc : Thread Cert.KernelTailIdeal.nD Cert.KernelTailIdeal.τ).loc Cert.KernelTailIdeal.main_v7_5)) (v6 : (c : Dev Cert.KernelTailIdeal.nD) → Buf (Elt Ideal) ((c.tc : Thread Cert.KernelTailIdeal.nD Cert.KernelTailIdeal.τ).loc Cert.KernelTailIdeal.main_v7_6)) (v7 : (c : Dev Cert.KernelTailIdeal.nD) → Buf (Elt Ideal) ((c.tc : Thread Cert.KernelTailIdeal.nD Cert.KernelTailIdeal.τ).loc Cert.KernelTailIdeal.main_v7_7)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v7_0) = v0 c
          ∧ r.2.mem ((c.tc : Thread Cert.KernelTailIdeal.nD Cert.KernelTailIdeal.τ).loc Cert.KernelTailIdeal.main_v7_1) = v1 c
          ∧ r.2.mem ((c.tc : Thread Cert.KernelTailIdeal.nD Cert.KernelTailIdeal.τ).loc Cert.KernelTailIdeal.main_v7_2) = v2 c
          ∧ r.2.mem ((c.tc : Thread Cert.KernelTailIdeal.nD Cert.KernelTailIdeal.τ).loc Cert.KernelTailIdeal.main_v7_3) = v3 c
          ∧ r.2.mem ((c.tc : Thread Cert.KernelTailIdeal.nD Cert.KernelTailIdeal.τ).loc Cert.KernelTailIdeal.main_v7_4) = v4 c
          ∧ r.2.mem ((c.tc : Thread Cert.KernelTailIdeal.nD Cert.KernelTailIdeal.τ).loc Cert.KernelTailIdeal.main_v7_5) = v5 c
          ∧ r.2.mem ((c.tc : Thread Cert.KernelTailIdeal.nD Cert.KernelTailIdeal.τ).loc Cert.KernelTailIdeal.main_v7_6) = v6 c
          ∧ r.2.mem ((c.tc : Thread Cert.KernelTailIdeal.nD Cert.KernelTailIdeal.τ).loc Cert.KernelTailIdeal.main_v7_7) = v7 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v93) = v0 c
          ∧ r.2.mem ((c.tc : Thread Cert.ReferenceTailIdeal.nD Cert.ReferenceTailIdeal.τ).loc Cert.ReferenceTailIdeal.main_v94) = v1 c
          ∧ r.2.mem ((c.tc : Thread Cert.ReferenceTailIdeal.nD Cert.ReferenceTailIdeal.τ).loc Cert.ReferenceTailIdeal.main_v59) = v2 c
          ∧ r.2.mem ((c.tc : Thread Cert.ReferenceTailIdeal.nD Cert.ReferenceTailIdeal.τ).loc Cert.ReferenceTailIdeal.main_v95) = v3 c
          ∧ r.2.mem ((c.tc : Thread Cert.ReferenceTailIdeal.nD Cert.ReferenceTailIdeal.τ).loc Cert.ReferenceTailIdeal.main_v96) = v4 c
          ∧ r.2.mem ((c.tc : Thread Cert.ReferenceTailIdeal.nD Cert.ReferenceTailIdeal.τ).loc Cert.ReferenceTailIdeal.main_v97) = v5 c
          ∧ r.2.mem ((c.tc : Thread Cert.ReferenceTailIdeal.nD Cert.ReferenceTailIdeal.τ).loc Cert.ReferenceTailIdeal.main_v98) = v6 c
          ∧ r.2.mem ((c.tc : Thread Cert.ReferenceTailIdeal.nD Cert.ReferenceTailIdeal.τ).loc Cert.ReferenceTailIdeal.main_v92) = v7 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9))

def preserves_KernelTailBack_KernelTailBackIdeal : Prop :=
  True

def algebraic_KernelTailBackIdeal_ReferenceTailBackIdeal_pre_finite_tail [hKernelTailBackIdeal : Cert.KernelTailBackIdeal.Facts] [hReferenceTailBackIdeal : Cert.ReferenceTailBackIdeal.Facts] [hPre_finite_tail : Cert.Pre_finite_tail.Facts] : Prop :=
  ∀ (m : (ℓ : Loc Cert.KernelTailBackIdeal.nD Cert.KernelTailBackIdeal.τ Cert.KernelTailBackIdeal.sig) → Buf (Elt Ideal) ℓ) (g : Dev Cert.KernelTailBackIdeal.nD → PrngReg)
    (m' : (ℓ : Loc Cert.ReferenceTailBackIdeal.nD Cert.ReferenceTailBackIdeal.τ Cert.ReferenceTailBackIdeal.sig) → Buf (Elt Ideal) ℓ) (g' : Dev Cert.ReferenceTailBackIdeal.nD → PrngReg), Pre_KernelTailBackIdeal_finite_tail m →
    (∀ c : Dev Cert.KernelTailBackIdeal.nD,
      m' ((c.tc : Thread Cert.ReferenceTailBackIdeal.nD Cert.ReferenceTailBackIdeal.τ).loc Cert.ReferenceTailBackIdeal.main_arg0) = m ((c.tc : Thread Cert.KernelTailBackIdeal.nD Cert.KernelTailBackIdeal.τ).loc Cert.KernelTailBackIdeal.main_arg0)
      ∧ m' ((c.tc : Thread Cert.ReferenceTailBackIdeal.nD Cert.ReferenceTailBackIdeal.τ).loc Cert.ReferenceTailBackIdeal.main_arg1) = m ((c.tc : Thread Cert.KernelTailBackIdeal.nD Cert.KernelTailBackIdeal.τ).loc Cert.KernelTailBackIdeal.main_arg1)
      ∧ m' ((c.tc : Thread Cert.ReferenceTailBackIdeal.nD Cert.ReferenceTailBackIdeal.τ).loc Cert.ReferenceTailBackIdeal.main_arg2) = m ((c.tc : Thread Cert.KernelTailBackIdeal.nD Cert.KernelTailBackIdeal.τ).loc Cert.KernelTailBackIdeal.main_arg2)
      ∧ m' ((c.tc : Thread Cert.ReferenceTailBackIdeal.nD Cert.ReferenceTailBackIdeal.τ).loc Cert.ReferenceTailBackIdeal.main_arg3) = m ((c.tc : Thread Cert.KernelTailBackIdeal.nD Cert.KernelTailBackIdeal.τ).loc Cert.KernelTailBackIdeal.main_arg3)
      ∧ m' ((c.tc : Thread Cert.ReferenceTailBackIdeal.nD Cert.ReferenceTailBackIdeal.τ).loc Cert.ReferenceTailBackIdeal.main_arg4) = m ((c.tc : Thread Cert.KernelTailBackIdeal.nD Cert.KernelTailBackIdeal.τ).loc Cert.KernelTailBackIdeal.main_arg4)
      ∧ m' ((c.tc : Thread Cert.ReferenceTailBackIdeal.nD Cert.ReferenceTailBackIdeal.τ).loc Cert.ReferenceTailBackIdeal.main_arg5) = m ((c.tc : Thread Cert.KernelTailBackIdeal.nD Cert.KernelTailBackIdeal.τ).loc Cert.KernelTailBackIdeal.main_arg5)
      ∧ m' ((c.tc : Thread Cert.ReferenceTailBackIdeal.nD Cert.ReferenceTailBackIdeal.τ).loc Cert.ReferenceTailBackIdeal.main_arg6) = m ((c.tc : Thread Cert.KernelTailBackIdeal.nD Cert.KernelTailBackIdeal.τ).loc Cert.KernelTailBackIdeal.main_arg6)
      ∧ m' ((c.tc : Thread Cert.ReferenceTailBackIdeal.nD Cert.ReferenceTailBackIdeal.τ).loc Cert.ReferenceTailBackIdeal.main_arg7) = m ((c.tc : Thread Cert.KernelTailBackIdeal.nD Cert.KernelTailBackIdeal.τ).loc Cert.KernelTailBackIdeal.main_arg7)
      ∧ m' ((c.tc : Thread Cert.ReferenceTailBackIdeal.nD Cert.ReferenceTailBackIdeal.τ).loc Cert.ReferenceTailBackIdeal.main_arg8) = m ((c.tc : Thread Cert.KernelTailBackIdeal.nD Cert.KernelTailBackIdeal.τ).loc Cert.KernelTailBackIdeal.main_arg8)
      ∧ m' ((c.tc : Thread Cert.ReferenceTailBackIdeal.nD Cert.ReferenceTailBackIdeal.τ).loc Cert.ReferenceTailBackIdeal.main_arg9) = m ((c.tc : Thread Cert.KernelTailBackIdeal.nD Cert.KernelTailBackIdeal.τ).loc Cert.KernelTailBackIdeal.main_arg9)
      ∧ m' ((c.tc : Thread Cert.ReferenceTailBackIdeal.nD Cert.ReferenceTailBackIdeal.τ).loc Cert.ReferenceTailBackIdeal.main_arg10) = m ((c.tc : Thread Cert.KernelTailBackIdeal.nD Cert.KernelTailBackIdeal.τ).loc Cert.KernelTailBackIdeal.main_arg10)) →
    ∃ (v0 : (c : Dev Cert.KernelTailBackIdeal.nD) → Buf (Elt Ideal) ((c.tc : Thread Cert.KernelTailBackIdeal.nD Cert.KernelTailBackIdeal.τ).loc Cert.KernelTailBackIdeal.main_v103_0)) (v1 : (c : Dev Cert.KernelTailBackIdeal.nD) → Buf (Elt Ideal) ((c.tc : Thread Cert.KernelTailBackIdeal.nD Cert.KernelTailBackIdeal.τ).loc Cert.KernelTailBackIdeal.main_v103_1)) (v2 : (c : Dev Cert.KernelTailBackIdeal.nD) → Buf (Elt Ideal) ((c.tc : Thread Cert.KernelTailBackIdeal.nD Cert.KernelTailBackIdeal.τ).loc Cert.KernelTailBackIdeal.main_v103_2)) (v3 : (c : Dev Cert.KernelTailBackIdeal.nD) → Buf (Elt Ideal) ((c.tc : Thread Cert.KernelTailBackIdeal.nD Cert.KernelTailBackIdeal.τ).loc Cert.KernelTailBackIdeal.main_v103_3)) (v4 : (c : Dev Cert.KernelTailBackIdeal.nD) → Buf (Elt Ideal) ((c.tc : Thread Cert.KernelTailBackIdeal.nD Cert.KernelTailBackIdeal.τ).loc Cert.KernelTailBackIdeal.main_v103_4)) (v5 : (c : Dev Cert.KernelTailBackIdeal.nD) → Buf (Elt Ideal) ((c.tc : Thread Cert.KernelTailBackIdeal.nD Cert.KernelTailBackIdeal.τ).loc Cert.KernelTailBackIdeal.main_v103_5)),
      θ_run (Cert.KernelTailBackIdeal.defs (F := Ideal)) (onTc (τ := Cert.KernelTailBackIdeal.τ) (Cert.KernelTailBackIdeal.main (F := Ideal))) ⟨m, fun _ => 0, g⟩ (fun r => ∀ c : Dev Cert.KernelTailBackIdeal.nD,
          r.2.mem ((c.tc : Thread Cert.KernelTailBackIdeal.nD Cert.KernelTailBackIdeal.τ).loc Cert.KernelTailBackIdeal.main_v103_0) = v0 c
          ∧ r.2.mem ((c.tc : Thread Cert.KernelTailBackIdeal.nD Cert.KernelTailBackIdeal.τ).loc Cert.KernelTailBackIdeal.main_v103_1) = v1 c
          ∧ r.2.mem ((c.tc : Thread Cert.KernelTailBackIdeal.nD Cert.KernelTailBackIdeal.τ).loc Cert.KernelTailBackIdeal.main_v103_2) = v2 c
          ∧ r.2.mem ((c.tc : Thread Cert.KernelTailBackIdeal.nD Cert.KernelTailBackIdeal.τ).loc Cert.KernelTailBackIdeal.main_v103_3) = v3 c
          ∧ r.2.mem ((c.tc : Thread Cert.KernelTailBackIdeal.nD Cert.KernelTailBackIdeal.τ).loc Cert.KernelTailBackIdeal.main_v103_4) = v4 c
          ∧ r.2.mem ((c.tc : Thread Cert.KernelTailBackIdeal.nD Cert.KernelTailBackIdeal.τ).loc Cert.KernelTailBackIdeal.main_v103_5) = v5 c
          ∧ r.2.mem ((c.tc : Thread Cert.KernelTailBackIdeal.nD Cert.KernelTailBackIdeal.τ).loc Cert.KernelTailBackIdeal.main_arg0) = m ((c.tc : Thread Cert.KernelTailBackIdeal.nD Cert.KernelTailBackIdeal.τ).loc Cert.KernelTailBackIdeal.main_arg0)
          ∧ r.2.mem ((c.tc : Thread Cert.KernelTailBackIdeal.nD Cert.KernelTailBackIdeal.τ).loc Cert.KernelTailBackIdeal.main_arg1) = m ((c.tc : Thread Cert.KernelTailBackIdeal.nD Cert.KernelTailBackIdeal.τ).loc Cert.KernelTailBackIdeal.main_arg1)
          ∧ r.2.mem ((c.tc : Thread Cert.KernelTailBackIdeal.nD Cert.KernelTailBackIdeal.τ).loc Cert.KernelTailBackIdeal.main_arg2) = m ((c.tc : Thread Cert.KernelTailBackIdeal.nD Cert.KernelTailBackIdeal.τ).loc Cert.KernelTailBackIdeal.main_arg2)
          ∧ r.2.mem ((c.tc : Thread Cert.KernelTailBackIdeal.nD Cert.KernelTailBackIdeal.τ).loc Cert.KernelTailBackIdeal.main_arg3) = m ((c.tc : Thread Cert.KernelTailBackIdeal.nD Cert.KernelTailBackIdeal.τ).loc Cert.KernelTailBackIdeal.main_arg3)
          ∧ r.2.mem ((c.tc : Thread Cert.KernelTailBackIdeal.nD Cert.KernelTailBackIdeal.τ).loc Cert.KernelTailBackIdeal.main_arg4) = m ((c.tc : Thread Cert.KernelTailBackIdeal.nD Cert.KernelTailBackIdeal.τ).loc Cert.KernelTailBackIdeal.main_arg4)
          ∧ r.2.mem ((c.tc : Thread Cert.KernelTailBackIdeal.nD Cert.KernelTailBackIdeal.τ).loc Cert.KernelTailBackIdeal.main_arg5) = m ((c.tc : Thread Cert.KernelTailBackIdeal.nD Cert.KernelTailBackIdeal.τ).loc Cert.KernelTailBackIdeal.main_arg5)
          ∧ r.2.mem ((c.tc : Thread Cert.KernelTailBackIdeal.nD Cert.KernelTailBackIdeal.τ).loc Cert.KernelTailBackIdeal.main_arg6) = m ((c.tc : Thread Cert.KernelTailBackIdeal.nD Cert.KernelTailBackIdeal.τ).loc Cert.KernelTailBackIdeal.main_arg6)
          ∧ r.2.mem ((c.tc : Thread Cert.KernelTailBackIdeal.nD Cert.KernelTailBackIdeal.τ).loc Cert.KernelTailBackIdeal.main_arg7) = m ((c.tc : Thread Cert.KernelTailBackIdeal.nD Cert.KernelTailBackIdeal.τ).loc Cert.KernelTailBackIdeal.main_arg7)
          ∧ r.2.mem ((c.tc : Thread Cert.KernelTailBackIdeal.nD Cert.KernelTailBackIdeal.τ).loc Cert.KernelTailBackIdeal.main_arg8) = m ((c.tc : Thread Cert.KernelTailBackIdeal.nD Cert.KernelTailBackIdeal.τ).loc Cert.KernelTailBackIdeal.main_arg8)
          ∧ r.2.mem ((c.tc : Thread Cert.KernelTailBackIdeal.nD Cert.KernelTailBackIdeal.τ).loc Cert.KernelTailBackIdeal.main_arg9) = m ((c.tc : Thread Cert.KernelTailBackIdeal.nD Cert.KernelTailBackIdeal.τ).loc Cert.KernelTailBackIdeal.main_arg9)
          ∧ r.2.mem ((c.tc : Thread Cert.KernelTailBackIdeal.nD Cert.KernelTailBackIdeal.τ).loc Cert.KernelTailBackIdeal.main_arg10) = m ((c.tc : Thread Cert.KernelTailBackIdeal.nD Cert.KernelTailBackIdeal.τ).loc Cert.KernelTailBackIdeal.main_arg10))
      ∧ θ_run (Cert.ReferenceTailBackIdeal.defs (F := Ideal)) (onTc (τ := Cert.ReferenceTailBackIdeal.τ) (Cert.ReferenceTailBackIdeal.main (F := Ideal))) ⟨m', fun _ => 0, g'⟩ (fun r => ∀ c : Dev Cert.ReferenceTailBackIdeal.nD,
          r.2.mem ((c.tc : Thread Cert.ReferenceTailBackIdeal.nD Cert.ReferenceTailBackIdeal.τ).loc Cert.ReferenceTailBackIdeal.main_v225) = v0 c
          ∧ r.2.mem ((c.tc : Thread Cert.ReferenceTailBackIdeal.nD Cert.ReferenceTailBackIdeal.τ).loc Cert.ReferenceTailBackIdeal.main_v226) = v1 c
          ∧ r.2.mem ((c.tc : Thread Cert.ReferenceTailBackIdeal.nD Cert.ReferenceTailBackIdeal.τ).loc Cert.ReferenceTailBackIdeal.main_v153) = v2 c
          ∧ r.2.mem ((c.tc : Thread Cert.ReferenceTailBackIdeal.nD Cert.ReferenceTailBackIdeal.τ).loc Cert.ReferenceTailBackIdeal.main_v227) = v3 c
          ∧ r.2.mem ((c.tc : Thread Cert.ReferenceTailBackIdeal.nD Cert.ReferenceTailBackIdeal.τ).loc Cert.ReferenceTailBackIdeal.main_v228) = v4 c
          ∧ r.2.mem ((c.tc : Thread Cert.ReferenceTailBackIdeal.nD Cert.ReferenceTailBackIdeal.τ).loc Cert.ReferenceTailBackIdeal.main_v229) = v5 c
          ∧ r.2.mem ((c.tc : Thread Cert.ReferenceTailBackIdeal.nD Cert.ReferenceTailBackIdeal.τ).loc Cert.ReferenceTailBackIdeal.main_arg0) = m' ((c.tc : Thread Cert.ReferenceTailBackIdeal.nD Cert.ReferenceTailBackIdeal.τ).loc Cert.ReferenceTailBackIdeal.main_arg0)
          ∧ r.2.mem ((c.tc : Thread Cert.ReferenceTailBackIdeal.nD Cert.ReferenceTailBackIdeal.τ).loc Cert.ReferenceTailBackIdeal.main_arg1) = m' ((c.tc : Thread Cert.ReferenceTailBackIdeal.nD Cert.ReferenceTailBackIdeal.τ).loc Cert.ReferenceTailBackIdeal.main_arg1)
          ∧ r.2.mem ((c.tc : Thread Cert.ReferenceTailBackIdeal.nD Cert.ReferenceTailBackIdeal.τ).loc Cert.ReferenceTailBackIdeal.main_arg2) = m' ((c.tc : Thread Cert.ReferenceTailBackIdeal.nD Cert.ReferenceTailBackIdeal.τ).loc Cert.ReferenceTailBackIdeal.main_arg2)
          ∧ r.2.mem ((c.tc : Thread Cert.ReferenceTailBackIdeal.nD Cert.ReferenceTailBackIdeal.τ).loc Cert.ReferenceTailBackIdeal.main_arg3) = m' ((c.tc : Thread Cert.ReferenceTailBackIdeal.nD Cert.ReferenceTailBackIdeal.τ).loc Cert.ReferenceTailBackIdeal.main_arg3)
          ∧ r.2.mem ((c.tc : Thread Cert.ReferenceTailBackIdeal.nD Cert.ReferenceTailBackIdeal.τ).loc Cert.ReferenceTailBackIdeal.main_arg4) = m' ((c.tc : Thread Cert.ReferenceTailBackIdeal.nD Cert.ReferenceTailBackIdeal.τ).loc Cert.ReferenceTailBackIdeal.main_arg4)
          ∧ r.2.mem ((c.tc : Thread Cert.ReferenceTailBackIdeal.nD Cert.ReferenceTailBackIdeal.τ).loc Cert.ReferenceTailBackIdeal.main_arg5) = m' ((c.tc : Thread Cert.ReferenceTailBackIdeal.nD Cert.ReferenceTailBackIdeal.τ).loc Cert.ReferenceTailBackIdeal.main_arg5)
          ∧ r.2.mem ((c.tc : Thread Cert.ReferenceTailBackIdeal.nD Cert.ReferenceTailBackIdeal.τ).loc Cert.ReferenceTailBackIdeal.main_arg6) = m' ((c.tc : Thread Cert.ReferenceTailBackIdeal.nD Cert.ReferenceTailBackIdeal.τ).loc Cert.ReferenceTailBackIdeal.main_arg6)
          ∧ r.2.mem ((c.tc : Thread Cert.ReferenceTailBackIdeal.nD Cert.ReferenceTailBackIdeal.τ).loc Cert.ReferenceTailBackIdeal.main_arg7) = m' ((c.tc : Thread Cert.ReferenceTailBackIdeal.nD Cert.ReferenceTailBackIdeal.τ).loc Cert.ReferenceTailBackIdeal.main_arg7)
          ∧ r.2.mem ((c.tc : Thread Cert.ReferenceTailBackIdeal.nD Cert.ReferenceTailBackIdeal.τ).loc Cert.ReferenceTailBackIdeal.main_arg8) = m' ((c.tc : Thread Cert.ReferenceTailBackIdeal.nD Cert.ReferenceTailBackIdeal.τ).loc Cert.ReferenceTailBackIdeal.main_arg8)
          ∧ r.2.mem ((c.tc : Thread Cert.ReferenceTailBackIdeal.nD Cert.ReferenceTailBackIdeal.τ).loc Cert.ReferenceTailBackIdeal.main_arg9) = m' ((c.tc : Thread Cert.ReferenceTailBackIdeal.nD Cert.ReferenceTailBackIdeal.τ).loc Cert.ReferenceTailBackIdeal.main_arg9)
          ∧ r.2.mem ((c.tc : Thread Cert.ReferenceTailBackIdeal.nD Cert.ReferenceTailBackIdeal.τ).loc Cert.ReferenceTailBackIdeal.main_arg10) = m' ((c.tc : Thread Cert.ReferenceTailBackIdeal.nD Cert.ReferenceTailBackIdeal.τ).loc Cert.ReferenceTailBackIdeal.main_arg10))

def preserves_KernelForward_KernelForwardIdeal : Prop :=
  True

def algebraic_KernelForwardIdeal_ReferenceForwardIdeal_pre_finite_fwd [hKernelForwardIdeal : Cert.KernelForwardIdeal.Facts] [hReferenceForwardIdeal : Cert.ReferenceForwardIdeal.Facts] [hPre_finite_fwd : Cert.Pre_finite_fwd.Facts] : Prop :=
  ∀ (m : (ℓ : Loc Cert.KernelForwardIdeal.nD Cert.KernelForwardIdeal.τ Cert.KernelForwardIdeal.sig) → Buf (Elt Ideal) ℓ) (g : Dev Cert.KernelForwardIdeal.nD → PrngReg)
    (m' : (ℓ : Loc Cert.ReferenceForwardIdeal.nD Cert.ReferenceForwardIdeal.τ Cert.ReferenceForwardIdeal.sig) → Buf (Elt Ideal) ℓ) (g' : Dev Cert.ReferenceForwardIdeal.nD → PrngReg), Pre_KernelForwardIdeal_finite_fwd m →
    (∀ c : Dev Cert.KernelForwardIdeal.nD,
      m' ((c.tc : Thread Cert.ReferenceForwardIdeal.nD Cert.ReferenceForwardIdeal.τ).loc Cert.ReferenceForwardIdeal.main_arg0) = m ((c.tc : Thread Cert.KernelForwardIdeal.nD Cert.KernelForwardIdeal.τ).loc Cert.KernelForwardIdeal.main_arg0)
      ∧ m' ((c.tc : Thread Cert.ReferenceForwardIdeal.nD Cert.ReferenceForwardIdeal.τ).loc Cert.ReferenceForwardIdeal.main_arg1) = m ((c.tc : Thread Cert.KernelForwardIdeal.nD Cert.KernelForwardIdeal.τ).loc Cert.KernelForwardIdeal.main_arg1)
      ∧ m' ((c.tc : Thread Cert.ReferenceForwardIdeal.nD Cert.ReferenceForwardIdeal.τ).loc Cert.ReferenceForwardIdeal.main_arg2) = m ((c.tc : Thread Cert.KernelForwardIdeal.nD Cert.KernelForwardIdeal.τ).loc Cert.KernelForwardIdeal.main_arg2)
      ∧ m' ((c.tc : Thread Cert.ReferenceForwardIdeal.nD Cert.ReferenceForwardIdeal.τ).loc Cert.ReferenceForwardIdeal.main_arg3) = m ((c.tc : Thread Cert.KernelForwardIdeal.nD Cert.KernelForwardIdeal.τ).loc Cert.KernelForwardIdeal.main_arg3)
      ∧ m' ((c.tc : Thread Cert.ReferenceForwardIdeal.nD Cert.ReferenceForwardIdeal.τ).loc Cert.ReferenceForwardIdeal.main_arg4) = m ((c.tc : Thread Cert.KernelForwardIdeal.nD Cert.KernelForwardIdeal.τ).loc Cert.KernelForwardIdeal.main_arg4)
      ∧ m' ((c.tc : Thread Cert.ReferenceForwardIdeal.nD Cert.ReferenceForwardIdeal.τ).loc Cert.ReferenceForwardIdeal.main_arg5) = m ((c.tc : Thread Cert.KernelForwardIdeal.nD Cert.KernelForwardIdeal.τ).loc Cert.KernelForwardIdeal.main_arg5)) →
    ∃ (v0 : (c : Dev Cert.KernelForwardIdeal.nD) → Buf (Elt Ideal) ((c.tc : Thread Cert.KernelForwardIdeal.nD Cert.KernelForwardIdeal.τ).loc Cert.KernelForwardIdeal.main_v17_0)) (v1 : (c : Dev Cert.KernelForwardIdeal.nD) → Buf (Elt Ideal) ((c.tc : Thread Cert.KernelForwardIdeal.nD Cert.KernelForwardIdeal.τ).loc Cert.KernelForwardIdeal.main_v17_1)) (v2 : (c : Dev Cert.KernelForwardIdeal.nD) → Buf (Elt Ideal) ((c.tc : Thread Cert.KernelForwardIdeal.nD Cert.KernelForwardIdeal.τ).loc Cert.KernelForwardIdeal.main_v17_2)) (v3 : (c : Dev Cert.KernelForwardIdeal.nD) → Buf (Elt Ideal) ((c.tc : Thread Cert.KernelForwardIdeal.nD Cert.KernelForwardIdeal.τ).loc Cert.KernelForwardIdeal.main_v17_3)) (v4 : (c : Dev Cert.KernelForwardIdeal.nD) → Buf (Elt Ideal) ((c.tc : Thread Cert.KernelForwardIdeal.nD Cert.KernelForwardIdeal.τ).loc Cert.KernelForwardIdeal.main_v17_4)),
      θ_run (Cert.KernelForwardIdeal.defs (F := Ideal)) (onTc (τ := Cert.KernelForwardIdeal.τ) (Cert.KernelForwardIdeal.main (F := Ideal))) ⟨m, fun _ => 0, g⟩ (fun r => ∀ c : Dev Cert.KernelForwardIdeal.nD,
          r.2.mem ((c.tc : Thread Cert.KernelForwardIdeal.nD Cert.KernelForwardIdeal.τ).loc Cert.KernelForwardIdeal.main_v17_0) = v0 c
          ∧ r.2.mem ((c.tc : Thread Cert.KernelForwardIdeal.nD Cert.KernelForwardIdeal.τ).loc Cert.KernelForwardIdeal.main_v17_1) = v1 c
          ∧ r.2.mem ((c.tc : Thread Cert.KernelForwardIdeal.nD Cert.KernelForwardIdeal.τ).loc Cert.KernelForwardIdeal.main_v17_2) = v2 c
          ∧ r.2.mem ((c.tc : Thread Cert.KernelForwardIdeal.nD Cert.KernelForwardIdeal.τ).loc Cert.KernelForwardIdeal.main_v17_3) = v3 c
          ∧ r.2.mem ((c.tc : Thread Cert.KernelForwardIdeal.nD Cert.KernelForwardIdeal.τ).loc Cert.KernelForwardIdeal.main_v17_4) = v4 c
          ∧ r.2.mem ((c.tc : Thread Cert.KernelForwardIdeal.nD Cert.KernelForwardIdeal.τ).loc Cert.KernelForwardIdeal.main_arg0) = m ((c.tc : Thread Cert.KernelForwardIdeal.nD Cert.KernelForwardIdeal.τ).loc Cert.KernelForwardIdeal.main_arg0)
          ∧ r.2.mem ((c.tc : Thread Cert.KernelForwardIdeal.nD Cert.KernelForwardIdeal.τ).loc Cert.KernelForwardIdeal.main_arg1) = m ((c.tc : Thread Cert.KernelForwardIdeal.nD Cert.KernelForwardIdeal.τ).loc Cert.KernelForwardIdeal.main_arg1)
          ∧ r.2.mem ((c.tc : Thread Cert.KernelForwardIdeal.nD Cert.KernelForwardIdeal.τ).loc Cert.KernelForwardIdeal.main_arg2) = m ((c.tc : Thread Cert.KernelForwardIdeal.nD Cert.KernelForwardIdeal.τ).loc Cert.KernelForwardIdeal.main_arg2)
          ∧ r.2.mem ((c.tc : Thread Cert.KernelForwardIdeal.nD Cert.KernelForwardIdeal.τ).loc Cert.KernelForwardIdeal.main_arg3) = m ((c.tc : Thread Cert.KernelForwardIdeal.nD Cert.KernelForwardIdeal.τ).loc Cert.KernelForwardIdeal.main_arg3)
          ∧ r.2.mem ((c.tc : Thread Cert.KernelForwardIdeal.nD Cert.KernelForwardIdeal.τ).loc Cert.KernelForwardIdeal.main_arg4) = m ((c.tc : Thread Cert.KernelForwardIdeal.nD Cert.KernelForwardIdeal.τ).loc Cert.KernelForwardIdeal.main_arg4)
          ∧ r.2.mem ((c.tc : Thread Cert.KernelForwardIdeal.nD Cert.KernelForwardIdeal.τ).loc Cert.KernelForwardIdeal.main_arg5) = m ((c.tc : Thread Cert.KernelForwardIdeal.nD Cert.KernelForwardIdeal.τ).loc Cert.KernelForwardIdeal.main_arg5))
      ∧ θ_run (Cert.ReferenceForwardIdeal.defs (F := Ideal)) (onTc (τ := Cert.ReferenceForwardIdeal.τ) (Cert.ReferenceForwardIdeal.main (F := Ideal))) ⟨m', fun _ => 0, g'⟩ (fun r => ∀ c : Dev Cert.ReferenceForwardIdeal.nD,
          r.2.mem ((c.tc : Thread Cert.ReferenceForwardIdeal.nD Cert.ReferenceForwardIdeal.τ).loc Cert.ReferenceForwardIdeal.main_v127) = v0 c
          ∧ r.2.mem ((c.tc : Thread Cert.ReferenceForwardIdeal.nD Cert.ReferenceForwardIdeal.τ).loc Cert.ReferenceForwardIdeal.main_v128) = v1 c
          ∧ r.2.mem ((c.tc : Thread Cert.ReferenceForwardIdeal.nD Cert.ReferenceForwardIdeal.τ).loc Cert.ReferenceForwardIdeal.main_v129) = v2 c
          ∧ r.2.mem ((c.tc : Thread Cert.ReferenceForwardIdeal.nD Cert.ReferenceForwardIdeal.τ).loc Cert.ReferenceForwardIdeal.main_v132) = v3 c
          ∧ r.2.mem ((c.tc : Thread Cert.ReferenceForwardIdeal.nD Cert.ReferenceForwardIdeal.τ).loc Cert.ReferenceForwardIdeal.main_v125) = v4 c
          ∧ r.2.mem ((c.tc : Thread Cert.ReferenceForwardIdeal.nD Cert.ReferenceForwardIdeal.τ).loc Cert.ReferenceForwardIdeal.main_arg0) = m' ((c.tc : Thread Cert.ReferenceForwardIdeal.nD Cert.ReferenceForwardIdeal.τ).loc Cert.ReferenceForwardIdeal.main_arg0)
          ∧ r.2.mem ((c.tc : Thread Cert.ReferenceForwardIdeal.nD Cert.ReferenceForwardIdeal.τ).loc Cert.ReferenceForwardIdeal.main_arg1) = m' ((c.tc : Thread Cert.ReferenceForwardIdeal.nD Cert.ReferenceForwardIdeal.τ).loc Cert.ReferenceForwardIdeal.main_arg1)
          ∧ r.2.mem ((c.tc : Thread Cert.ReferenceForwardIdeal.nD Cert.ReferenceForwardIdeal.τ).loc Cert.ReferenceForwardIdeal.main_arg2) = m' ((c.tc : Thread Cert.ReferenceForwardIdeal.nD Cert.ReferenceForwardIdeal.τ).loc Cert.ReferenceForwardIdeal.main_arg2)
          ∧ r.2.mem ((c.tc : Thread Cert.ReferenceForwardIdeal.nD Cert.ReferenceForwardIdeal.τ).loc Cert.ReferenceForwardIdeal.main_arg3) = m' ((c.tc : Thread Cert.ReferenceForwardIdeal.nD Cert.ReferenceForwardIdeal.τ).loc Cert.ReferenceForwardIdeal.main_arg3)
          ∧ r.2.mem ((c.tc : Thread Cert.ReferenceForwardIdeal.nD Cert.ReferenceForwardIdeal.τ).loc Cert.ReferenceForwardIdeal.main_arg4) = m' ((c.tc : Thread Cert.ReferenceForwardIdeal.nD Cert.ReferenceForwardIdeal.τ).loc Cert.ReferenceForwardIdeal.main_arg4)
          ∧ r.2.mem ((c.tc : Thread Cert.ReferenceForwardIdeal.nD Cert.ReferenceForwardIdeal.τ).loc Cert.ReferenceForwardIdeal.main_arg5) = m' ((c.tc : Thread Cert.ReferenceForwardIdeal.nD Cert.ReferenceForwardIdeal.τ).loc Cert.ReferenceForwardIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelGateUp : Cert.KernelGateUp.Facts) (hKernelGateUpIdeal : Cert.KernelGateUpIdeal.Facts) (hReferenceGateUpIdeal : Cert.ReferenceGateUpIdeal.Facts) (hKernelDown : Cert.KernelDown.Facts) (hKernelDownIdeal : Cert.KernelDownIdeal.Facts) (hReferenceDownIdeal : Cert.ReferenceDownIdeal.Facts) (hKernelTail : Cert.KernelTail.Facts) (hKernelTailIdeal : Cert.KernelTailIdeal.Facts) (hReferenceTailIdeal : Cert.ReferenceTailIdeal.Facts) (hKernelTailBack : Cert.KernelTailBack.Facts) (hKernelTailBackIdeal : Cert.KernelTailBackIdeal.Facts) (hReferenceTailBackIdeal : Cert.ReferenceTailBackIdeal.Facts) (hKernelForward : Cert.KernelForward.Facts) (hKernelForwardIdeal : Cert.KernelForwardIdeal.Facts) (hReferenceForwardIdeal : Cert.ReferenceForwardIdeal.Facts) (hPre_finite : Cert.Pre_finite.Facts) (hPre_finite_tail : Cert.Pre_finite_tail.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelTailBack (hKernelTailBack := hKernelTailBack)
    ∧ quiescent_KernelTailBackIdeal (hKernelTailBackIdeal := hKernelTailBackIdeal)
    ∧ quiescent_KernelTailBackIdeal_pre_finite_tail (hKernelTailBackIdeal := hKernelTailBackIdeal) (hPre_finite_tail := hPre_finite_tail)
    ∧ quiescent_ReferenceTailBackIdeal (hReferenceTailBackIdeal := hReferenceTailBackIdeal)
    ∧ quiescent_ReferenceTailBackIdeal_pre_finite_tail (hReferenceTailBackIdeal := hReferenceTailBackIdeal) (hPre_finite_tail := hPre_finite_tail)
    ∧ quiescent_KernelForward (hKernelForward := hKernelForward)
    ∧ quiescent_KernelForwardIdeal (hKernelForwardIdeal := hKernelForwardIdeal)
    ∧ quiescent_KernelForwardIdeal_pre_finite_fwd (hKernelForwardIdeal := hKernelForwardIdeal) (hPre_finite_fwd := hPre_finite_fwd)
    ∧ quiescent_ReferenceForwardIdeal (hReferenceForwardIdeal := hReferenceForwardIdeal)
    ∧ quiescent_ReferenceForwardIdeal_pre_finite_fwd (hReferenceForwardIdeal := hReferenceForwardIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelTail_KernelTailIdeal
    ∧ algebraic_KernelTailIdeal_ReferenceTailIdeal (hKernelTailIdeal := hKernelTailIdeal) (hReferenceTailIdeal := hReferenceTailIdeal)
    ∧ preserves_KernelTailBack_KernelTailBackIdeal
    ∧ algebraic_KernelTailBackIdeal_ReferenceTailBackIdeal_pre_finite_tail (hKernelTailBackIdeal := hKernelTailBackIdeal) (hReferenceTailBackIdeal := hReferenceTailBackIdeal) (hPre_finite_tail := hPre_finite_tail)
    ∧ preserves_KernelForward_KernelForwardIdeal
    ∧ algebraic_KernelForwardIdeal_ReferenceForwardIdeal_pre_finite_fwd (hKernelForwardIdeal := hKernelForwardIdeal) (hReferenceForwardIdeal := hReferenceForwardIdeal) (hPre_finite_fwd := hPre_finite_fwd)
-- ==== Pre_finite.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2560 : S_.BroadcastsInDim S1024x2560 (![] : Fin 0 → Fin S1024x2560.rank)
  bcast_S_S3x256 : S_.BroadcastsInDim S3x256 (![] : Fin 0 → Fin S3x256.rank)
  bcast_S_S4x64x64 : S_.BroadcastsInDim S4x64x64 (![] : Fin 0 → Fin S4x64x64.rank)
  bcast_S_S256 : S_.BroadcastsInDim S256 (![] : Fin 0 → Fin S256.rank)
  bitsLt_bf16_f32 : FTy.bits .bf16 < FTy.bits .f32
  bcast_S_S8192x512 : S_.BroadcastsInDim S8192x512 (![] : Fin 0 → Fin S8192x512.rank)

variable [Facts]

def fn_part1 {F : FTy → Type} [FloatOps F] (main_arg6 : FVec F S8192x512 .bf16) (main_arg7 : FVec F S8192x512 .bf16) (main_arg8 : FVec F S8192x512 .bf16) (main_arg9 : FVec F S8192x512 .bf16) (main_v2 : IVec S8192x1024 1) (main_v5 : IVec S1024 1) (main_v8 : IVec S1024x2560 1) (main_v11 : IVec S3x256 1) (main_v14 : IVec S4x64x64 1) (main_v17 : IVec S256 1) : IVec S8192x1024 1 × IVec S1024 1 × IVec S1024x2560 1 × IVec S3x256 1 × IVec S4x64x64 1 × IVec S256 1 × IVec S8192x512 1 × IVec S8192x512 1 × IVec S8192x512 1 × IVec S8192x512 1 :=
  let main_v18 : FVec F S8192x512 .f32 := (extf .f32 · bitsLt_bf16_f32) main_arg6
  let main_v19 : FVec F S8192x512 .f32 := Host.absf main_v18
  let main_cst_5 : FVec F S_ .f32 := constant S_ .f32 0x7F800000#32
  let main_v20 : FVec F S8192x512 .f32 := broadcastInDim S8192x512 ![] bcast_S_S8192x512 main_cst_5
  let main_v21 : IVec S8192x512 1 := cmpf .olt main_v19 main_v20
  let main_v22 : FVec F S8192x512 .f32 := (extf .f32 · bitsLt_bf16_f32) main_arg7
  let main_v23 : FVec F S8192x512 .f32 := Host.absf main_v22
  let main_cst_6 : FVec F S_ .f32 := constant S_ .f32 0x7F800000#32
  let main_v24 : FVec F S8192x512 .f32 := broadcastInDim S8192x512 ![] bcast_S_S8192x512 main_cst_6
  let main_v25 : IVec S8192x512 1 := cmpf .olt main_v23 main_v24
  let main_v26 : FVec F S8192x512 .f32 := (extf .f32 · bitsLt_bf16_f32) main_arg8
  let main_v27 : FVec F S8192x512 .f32 := Host.absf main_v26
  let main_cst_7 : FVec F S_ .f32 := constant S_ .f32 0x7F800000#32
  let main_v28 : FVec F S8192x512 .f32 := broadcastInDim S8192x512 ![] bcast_S_S8192x512 main_cst_7
  let main_v29 : IVec S8192x512 1 := cmpf .olt main_v27 main_v28
  let main_v30 : FVec F S8192x512 .f32 := (extf .f32 · bitsLt_bf16_f32) main_arg9
  let main_v31 : FVec F S8192x512 .f32 := Host.absf main_v30
  let main_cst_8 : FVec F S_ .f32 := constant S_ .f32 0x7F800000#32
  let main_v32 : FVec F S8192x512 .f32 := broadcastInDim S8192x512 ![] bcast_S_S8192x512 main_cst_8
  let main_v33 : IVec S8192x512 1 := cmpf .olt main_v31 main_v32
  (main_v2, main_v5, main_v8, main_v11, main_v14, main_v17, main_v21, main_v25, main_v29, main_v33)

def fn {F : FTy → Type} [FloatOps F] (main_arg0 : FVec F S8192x1024 .f32) (main_arg1 : FVec F S1024 .f32) (main_arg2 : FVec F S1024x2560 .f32) (main_arg3 : FVec F S3x256 .f32) (main_arg4 : FVec F S4x64x64 .f32) (main_arg5 : FVec F S256 .f32) (main_arg6 : FVec F S8192x512 .bf16) (main_arg7 : FVec F S8192x512 .bf16) (main_arg8 : FVec F S8192x512 .bf16) (main_arg9 : FVec F S8192x512 .bf16) (main_arg10 : FVec F S8192x1024 .f32) : IVec S8192x1024 1 × IVec S1024 1 × IVec S1024x2560 1 × IVec S3x256 1 × IVec S4x64x64 1 × IVec S256 1 × IVec S8192x512 1 × IVec S8192x512 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_v12 : FVec F S4x64x64 .f32 := Host.absf main_arg4
  let main_cst_3 : FVec F S_ .f32 := constant S_ .f32 0x7F800000#32
  let main_v13 : FVec F S4x64x64 .f32 := broadcastInDim S4x64x64 ![] bcast_S_S4x64x64 main_cst_3
  let main_v14 : IVec S4x64x64 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_arg8 main_arg9 main_v2 main_v5 main_v8 main_v11 main_v14 main_v17
-- ==== Pre_finite_fwd.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S1024x256 : Shape := ⟨2, ![1024, 256]⟩

class Facts : Prop where
  bcast_S_S1024 : S_.BroadcastsInDim S1024 (![] : Fin 0 → Fin S1024.rank)
  slices_S1024x2560_S1024x256_0_768 : S1024x2560.Slices ![0, 768] S1024x256
  bcast_S_S1024x256 : S_.BroadcastsInDim S1024x256 (![] : Fin 0 → Fin S1024x256.rank)

variable [Facts]

def fn {F : FTy → Type} [FloatOps F] (main_arg0 : FVec F S8192x1024 .f32) (main_arg1 : FVec F S1024 .f32) (main_arg2 : FVec F S1024x2560 .f32) (main_arg3 : FVec F S3x256 .f32) (main_arg4 : FVec F S4x64x64 .f32) (main_arg5 : FVec F S256 .f32) : IVec S1024 1 × IVec S1024x256 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x256 .f32 := (extractStridedSlice S1024x256 ![0, 768] · slices_S1024x2560_S1024x256_0_768) main_arg2
  let main_v4 : FVec F S1024x256 .f32 := Host.absf main_v3
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  (main_v2, main_v6)
-- ==== Pre_finite_tail.lean ====
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x512 : S_.BroadcastsInDim S8192x512 (![] : Fin 0 → Fin S8192x512.rank)
  bcast_S_S1024 : S_.BroadcastsInDim S1024 (![] : Fin 0 → Fin S1024.rank)
  bcast_S_S1024x1024 : S_.BroadcastsInDim S1024x1024 (![] : Fin 0 → Fin S1024x1024.rank)
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x5632 .f32) (main_arg8 : FVec F S2816x1024 .f32) (main_arg9 : FVec F S1024 .f32) (main_arg10 : FVec F S8192x1024 .f32) (main_v2 : IVec S8192x512 1) (main_v5 : IVec S8192x512 1) (main_v8 : IVec S1024 1) (main_v11 : IVec S1024x1024 1) (main_v14 : IVec S8192x1024 1) (main_v17 : IVec S1024 1) : IVec S8192x512 1 × IVec S8192x512 1 × IVec S1024 1 × IVec S1024x1024 1 × IVec S8192x1024 1 × IVec S1024 1 × IVec S1024 1 × IVec S1024x5632 1 × IVec S2816x1024 1 × IVec S1024 1 × IVec S8192x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  (main_v2, main_v5, main_v8, main_v11, main_v14, main_v17, main_v20, main_v23, main_v26, main_v29, main_v32)

def fn {F : FTy → Type} [FloatOps F] (main_arg0 : FVec F S8192x512 .f32) (main_arg1 : FVec F S8192x512 .f32) (main_arg2 : FVec F S1024 .f32) (main_arg3 : FVec F S1024x1024 .f32) (main_arg4 : FVec F S8192x1024 .f32) (main_arg5 : FVec F S1024 .f32) (main_arg6 : FVec F S1024 .f32) (main_arg7 : FVec F S1024x5632 .f32) (main_arg8 : FVec F S2816x1024 .f32) (main_arg9 : FVec F S1024 .f32) (main_arg10 : FVec F S8192x1024 .f32) : IVec S8192x512 1 × IVec S8192x512 1 × IVec S1024 1 × IVec S1024x1024 1 × IVec S8192x1024 1 × IVec S1024 1 × IVec S1024 1 × IVec S1024x5632 1 × IVec S2816x1024 1 × IVec S1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Kernel.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S8x256 : Shape := ⟨2, ![8, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S8x1024 : Shape := ⟨2, ![8, 1024]⟩
abbrev S512x1024 : Shape := ⟨2, ![512, 1024]⟩
abbrev S16x1024 : Shape := ⟨2, ![16, 1024]⟩
abbrev S512x512 : Shape := ⟨2, ![512, 512]⟩
abbrev S16x256 : Shape := ⟨2, ![16, 256]⟩
abbrev S512x256 : Shape := ⟨2, ![512, 256]⟩
abbrev S528x256 : Shape := ⟨2, ![528, 256]⟩
abbrev S512x1 : Shape := ⟨2, ![512, 1]⟩
abbrev S1024x512 : Shape := ⟨2, ![1024, 512]⟩
abbrev S512 : Shape := ⟨1, ![512]⟩
abbrev S64x64 : Shape := ⟨2, ![64, 64]⟩
abbrev S1x64x64 : Shape := ⟨3, ![1, 64, 64]⟩

abbrev nBuf : Space → Nat
  | .hbm => 69
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S3x256, .f32⟩
  | .hbm, ⟨4, _⟩ => ⟨S4x64x64, .f32⟩
  | .hbm, ⟨5, _⟩ => ⟨S256, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S8192x1024, .f32⟩
  | .hbm, ⟨29, _⟩ => ⟨S_, .i32⟩
  | .hbm, ⟨30, _⟩ => ⟨S_, .f32⟩
  | .hbm, ⟨31, _⟩ => ⟨S8x256, .f32⟩
  | .hbm, ⟨32, _⟩ => ⟨S4x4, .i32⟩
  | .hbm, ⟨33, _⟩ => ⟨S4x4, .i32⟩
  | .hbm, ⟨34, _⟩ => ⟨S_, .i32⟩
  | .hbm, ⟨35, _⟩ => ⟨S4x4, .i32⟩
  | .hbm, ⟨36, _⟩ => ⟨S4x4, .i32⟩
  | .hbm, ⟨37, _⟩ => ⟨S4x4, .i1⟩
  | .hbm, ⟨38, _⟩ => ⟨S4x4, .f32⟩
  | .hbm, ⟨39, _⟩ => ⟨S4x1x4x1, .f32⟩
  | .hbm, ⟨40, _⟩ => ⟨S4x64x1x64, .f32⟩
  | .hbm, ⟨41, _⟩ => ⟨S4x64x4x64, .f32⟩
  | .hbm, ⟨42, _⟩ => ⟨S4x64x4x64, .f32⟩
  | .hbm, ⟨43, _⟩ => ⟨S4x64x4x64, .f32⟩
  | .hbm, ⟨44, _⟩ => ⟨S256x256, .f32⟩
  | .hbm, ⟨45, _⟩ => ⟨S256x256, .bf16⟩
  | .hbm, ⟨46, _⟩ => ⟨S1x256, .f32⟩
  | .hbm, ⟨47, _⟩ => ⟨S1024x2560, .bf16⟩
  | .hbm, ⟨48, _⟩ => ⟨S1x1024, .f32⟩
  | .hbm, ⟨49, _⟩ => ⟨S8192x1024, .bf16⟩
  | .hbm, ⟨50, _⟩ => ⟨S8192x1024, .f32⟩
  | .hbm, ⟨51, _⟩ => ⟨S8x256, .f32⟩
  | .hbm, ⟨52, _⟩ => ⟨S256x256, .f32⟩
  | .hbm, ⟨53, _⟩ => ⟨S8x256, .f32⟩
  | .hbm, ⟨54, _⟩ => ⟨S8x1024, .f32⟩
  | .hbm, ⟨55, _⟩ => ⟨S3x256, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S1x64x64, .f32⟩
  | .hbm, ⟨61, _⟩ => ⟨S1x64x64, .f32⟩
  | .hbm, ⟨62, _⟩ => ⟨S1x64x64, .f32⟩
  | .hbm, ⟨63, _⟩ => ⟨S1x64x64, .f32⟩
  | .hbm, ⟨64, _⟩ => ⟨S4x64x64, .f32⟩
  | .hbm, ⟨65, _⟩ => ⟨S1x256, .f32⟩
  | .hbm, ⟨66, _⟩ => ⟨S256, .f32⟩
  | .hbm, ⟨67, _⟩ => ⟨S1x1024, .f32⟩
  | .hbm, ⟨68, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x512, .bf16⟩
  | .local _ .vmem, ⟨5, _⟩ => ⟨S512x512, .bf16⟩
  | .local _ .vmem, ⟨6, _⟩ => ⟨S8x256, .f32⟩
  | .local _ .vmem, ⟨7, _⟩ => ⟨S256x256, .bf16⟩
  | .local _ .vmem, ⟨8, _⟩ => ⟨S1x256, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1024x2560, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S8x256, .f32⟩
  | .local _ .vmem, ⟨26, _⟩ => ⟨S256x256, .f32⟩
  | .local _ .vmem, ⟨27, _⟩ => ⟨S8x256, .f32⟩
  | .local _ .vmem, ⟨28, _⟩ => ⟨S8x1024, .f32⟩
  | .local _ .vmem, ⟨29, _⟩ => ⟨S16x256, .f32⟩
  | .local _ .vmem, ⟨30, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev main_v32_3 : Ref sig .tc := ⟨.hbm, 52, rfl⟩
abbrev main_v32_4 : Ref sig .tc := ⟨.hbm, 53, rfl⟩
abbrev main_v32_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x1536 : Shape := ⟨2, ![8192, 1536]⟩
abbrev S8192x256 : Shape := ⟨2, ![8192, 256]⟩
abbrev S1x256 : Shape := ⟨2, ![1, 256]⟩
abbrev S8191x256 : Shape := ⟨2, ![8191, 256]⟩
abbrev S2x256 : Shape := ⟨2, ![2, 256]⟩
abbrev S8190x256 : Shape := ⟨2, ![8190, 256]⟩
abbrev S8192x64 : Shape := ⟨2, ![8192, 64]⟩
abbrev S2x64 : Shape := ⟨2, ![2, 64]⟩
abbrev S8190x64 : Shape := ⟨2, ![8190, 64]⟩
abbrev S1x64x64 : Shape := ⟨3, ![1, 64, 64]⟩
abbrev S64x64 : Shape := ⟨2, ![64, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩

abbrev nBuf : Space → Nat
  | .hbm => 381
  | .vmem => 0
  | .smem => 0
  | _ => 0

abbrev hbmTy0_0 (i : Nat) : BufTy := match i % 128 with
  | 0 => ⟨S8192x1024, .f32⟩
  | 1 => ⟨S1024, .f32⟩
  | 2 => ⟨S1024x2560, .f32⟩
  | 3 => ⟨S3x256, .f32⟩
  | 4 => ⟨S4x64x64, .f32⟩
  | 5 => ⟨S256, .f32⟩
  | 6 => ⟨S8192x512, .bf16⟩
  | 7 => ⟨S8192x512, .bf16⟩
  | 8 => ⟨S8192x512, .bf16⟩
  | 9 => ⟨S8192x512, .bf16⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2560, .f32⟩
  | 32 => ⟨S8192x512, .f32⟩
  | 33 => ⟨S8192x512, .f32⟩
  | 34 => ⟨S8192x512, .f32⟩
  | 35 => ⟨S8192x1536, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S1x256, .f32⟩
  | 42 => ⟨S256, .f32⟩
  | 43 => ⟨S1x256, .f32⟩
  | 44 => ⟨S8192x256, .f32⟩
  | 45 => ⟨S8192x256, .f32⟩
  | 46 => ⟨S1x256, .f32⟩
  | 47 => ⟨S256, .f32⟩
  | 48 => ⟨S_, .f32⟩
  | 49 => ⟨S1x256, .f32⟩
  | 50 => ⟨S8191x256, .f32⟩
  | 51 => ⟨S8192x256, .f32⟩
  | 52 => ⟨S_, .f32⟩
  | 53 => ⟨S1x256, .f32⟩
  | 54 => ⟨S1x256, .f32⟩
  | 55 => ⟨S8192x256, .f32⟩
  | 56 => ⟨S8192x256, .f32⟩
  | 57 => ⟨S8192x256, .f32⟩
  | 58 => ⟨S1x256, .f32⟩
  | 59 => ⟨S256, .f32⟩
  | 60 => ⟨S_, .f32⟩
  | 61 => ⟨S2x256, .f32⟩
  | 62 => ⟨S8190x256, .f32⟩
  | 63 => ⟨S8192x256, .f32⟩
  | 64 => ⟨S_, .f32⟩
  | 65 => ⟨S2x256, .f32⟩
  | 66 => ⟨S1x256, .f32⟩
  | 67 => ⟨S8192x256, .f32⟩
  | 68 => ⟨S8192x256, .f32⟩
  | 69 => ⟨S8192x256, .f32⟩
  | 70 => ⟨S8192x256, .f32⟩
  | 71 => ⟨S_, .f32⟩
  | 72 => ⟨S_, .f32⟩
  | 73 => ⟨S8192x256, .f32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S8192x1, .f32⟩
  | 83 => ⟨S8192x64, .f32⟩
  | 84 => ⟨S8192x64, .f32⟩
  | 85 => ⟨S_, .f32⟩
  | 86 => ⟨S2x64, .f32⟩
  | 87 => ⟨S8190x64, .f32⟩
  | 88 => ⟨S8192x64, .f32⟩
  | 89 => ⟨S_, .f32⟩
  | 90 => ⟨S2x64, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S1x64x64, .f32⟩
  | 97 => ⟨S64x64, .f32⟩
  | 98 => ⟨S8192x64, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x64, .f32⟩
  | 108 => ⟨S8192x64, .f32⟩
  | 109 => ⟨S_, .f32⟩
  | 110 => ⟨S4x64, .f32⟩
  | 111 => ⟨S8188x64, .f32⟩
  | 112 => ⟨S8192x64, .f32⟩
  | 113 => ⟨S_, .f32⟩
  | 114 => ⟨S4x64, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S1x64x64, .f32⟩
  | 121 => ⟨S64x64, .f32⟩
  | 122 => ⟨S8192x64, .f32⟩
  | 123 => ⟨S_, .i32⟩
  | 124 => ⟨S8192, .i32⟩
  | 125 => ⟨S8192, .i32⟩
  | 126 => ⟨S_, .i32⟩
  | 127 => ⟨S8192, .i32⟩
  | _ => ⟨S8192x1024, .f32⟩

abbrev hbmTy0_1 (i : Nat) : BufTy := match i % 128 with
  | 0 => ⟨S8192, .i32⟩
  | 1 => ⟨S8192, .f32⟩
  | 2 => ⟨S8192x1, .f32⟩
  | 3 => ⟨S8192x64, .f32⟩
  | 4 => ⟨S8192x64, .f32⟩
  | 5 => ⟨S_, .f32⟩
  | 6 => ⟨S8x64, .f32⟩
  | 7 => ⟨S8184x64, .f32⟩
  | 8 => ⟨S8192x64, .f32⟩
  | 9 => ⟨S_, .f32⟩
  | 10 => ⟨S8x64, .f32⟩
  | 11 => ⟨S8192x64, .f32⟩
  | 12 => ⟨S8192x64, .f32⟩
  | 13 => ⟨S8192x64, .f32⟩
  | 14 => ⟨S8192x64, .f32⟩
  | 15 => ⟨S8192x64, .f32⟩
  | 16 => ⟨S1x64x64, .f32⟩
  | 17 => ⟨S64x64, .f32⟩
  | 18 => ⟨S8192x64, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .f32⟩
  | 26 => ⟨S8192x1, .f32⟩
  | 27 => ⟨S8192x64, .f32⟩
  | 28 => ⟨S8192x64, .f32⟩
  | 29 => ⟨S_, .f32⟩
  | 30 => ⟨S16x64, .f32⟩
  | 31 => ⟨S8176x64, .f32⟩
  | 32 => ⟨S8192x64, .f32⟩
  | 33 => ⟨S_, .f32⟩
  | 34 => ⟨S16x64, .f32⟩
  | 35 => ⟨S8192x64, .f32⟩
  | 36 => ⟨S8192x64, .f32⟩
  | 37 => ⟨S8192x64, .f32⟩
  | 38 => ⟨S8192x64, .f32⟩
  | 39 => ⟨S8192x64, .f32⟩
  | 40 => ⟨S1x64x64, .f32⟩
  | 41 => ⟨S64x64, .f32⟩
  | 42 => ⟨S8192x64, .f32⟩
  | 43 => ⟨S8192x256, .f32⟩
  | 44 => ⟨S1x256, .f32⟩
  | 45 => ⟨S8192x256, .f32⟩
  | 46 => ⟨S8192x256, .f32⟩
  | 47 => ⟨S8192x512, .f32⟩
  | 48 => ⟨S8192x1536, .f32⟩
  | 49 => ⟨S8192x512, .f32⟩
  | 50 => ⟨S_, .f32⟩
  | 51 => ⟨S8192x2560, .f32⟩
  | 52 => ⟨S8192x256, .f32⟩
  | 53 => ⟨S8192x256, .f32⟩
  | 54 => ⟨S8192x256, .f32⟩
  | 55 => ⟨S_, .f32⟩
  | 56 => ⟨S256, .f32⟩
  | 57 => ⟨S1x256, .f32⟩
  | 58 => ⟨S8192x256, .f32⟩
  | 59 => ⟨S8192x256, .f32⟩
  | 60 => ⟨S_, .f32⟩
  | 61 => ⟨S256, .f32⟩
  | 62 => ⟨S8192x64, .f32⟩
  | 63 => ⟨S8192x64, .f32⟩
  | 64 => ⟨S8192x64, .f32⟩
  | 65 => ⟨S8192x64, .f32⟩
  | 66 => ⟨S64x64, .f32⟩
  | 67 => ⟨S64x64, .f32⟩
  | 68 => ⟨S8192x64, .f32⟩
  | 69 => ⟨S1x64x64, .f32⟩
  | 70 => ⟨S_, .f32⟩
  | 71 => ⟨S4x64x64, .f32⟩
  | 72 => ⟨S8192x64, .f32⟩
  | 73 => ⟨S_, .f32⟩
  | 74 => ⟨S8192x256, .f32⟩
  | 75 => ⟨S8192x64, .f32⟩
  | 76 => ⟨S8192x64, .f32⟩
  | 77 => ⟨S8192x64, .f32⟩
  | 78 => ⟨S16x64, .f32⟩
  | 79 => ⟨S8176x64, .f32⟩
  | 80 => ⟨S_, .f32⟩
  | 81 => ⟨S8192x64, .f32⟩
  | 82 => ⟨S_, .f32⟩
  | 83 => ⟨S8192x256, .f32⟩
  | 84 => ⟨S_, .f32⟩
  | 85 => ⟨S8192x256, .f32⟩
  | 86 => ⟨S8192x256, .f32⟩
  | 87 => ⟨S64x64, .f32⟩
  | 88 => ⟨S64x64, .f32⟩
  | 89 => ⟨S8192x64, .f32⟩
  | 90 => ⟨S1x64x64, .f32⟩
  | 91 => ⟨S_, .f32⟩
  | 92 => ⟨S4x64x64, .f32⟩
  | 93 => ⟨S4x64x64, .f32⟩
  | 94 => ⟨S8192x64, .f32⟩
  | 95 => ⟨S_, .f32⟩
  | 96 => ⟨S8192x256, .f32⟩
  | 97 => ⟨S8192x256, .f32⟩
  | 98 => ⟨S8192x64, .f32⟩
  | 99 => ⟨S8192x64, .f32⟩
  | 100 => ⟨S8192x64, .f32⟩
  | 101 => ⟨S8x64, .f32⟩
  | 102 => ⟨S8184x64, .f32⟩
  | 103 => ⟨S_, .f32⟩
  | 104 => ⟨S8192x64, .f32⟩
  | 105 => ⟨S_, .f32⟩
  | 106 => ⟨S8192x256, .f32⟩
  | 107 => ⟨S8192x256, .f32⟩
  | 108 => ⟨S_, .f32⟩
  | 109 => ⟨S8192x256, .f32⟩
  | 110 => ⟨S8192x256, .f32⟩
  | 111 => ⟨S64x64, .f32⟩
  | 112 => ⟨S64x64, .f32⟩
  | 113 => ⟨S8192x64, .f32⟩
  | 114 => ⟨S1x64x64, .f32⟩
  | 115 => ⟨S_, .f32⟩
  | 116 => ⟨S4x64x64, .f32⟩
  | 117 => ⟨S4x64x64, .f32⟩
  | 118 => ⟨S8192x64, .f32⟩
  | 119 => ⟨S_, .f32⟩
  | 120 => ⟨S8192x256, .f32⟩
  | 121 => ⟨S8192x256, .f32⟩
  | 122 => ⟨S8192x64, .f32⟩
  | 123 => ⟨S8192x64, .f32⟩
  | 124 => ⟨S8192x64, .f32⟩
  | 125 => ⟨S4x64, .f32⟩
  | 126 => ⟨S8188x64, .f32⟩
  | 127 => ⟨S_, .f32⟩
  | _ => ⟨S8192x1024, .f32⟩

abbrev hbmTy0_2 (i : Nat) : BufTy := match i % 128 with
  | 0 => ⟨S8192x64, .f32⟩
  | 1 => ⟨S_, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S64x64, .f32⟩
  | 8 => ⟨S64x64, .f32⟩
  | 9 => ⟨S8192x64, .f32⟩
  | 10 => ⟨S1x64x64, .f32⟩
  | 11 => ⟨S_, .f32⟩
  | 12 => ⟨S4x64x64, .f32⟩
  | 13 => ⟨S4x64x64, .f32⟩
  | 14 => ⟨S8192x64, .f32⟩
  | 15 => ⟨S_, .f32⟩
  | 16 => ⟨S8192x256, .f32⟩
  | 17 => ⟨S8192x256, .f32⟩
  | 18 => ⟨S8192x64, .f32⟩
  | 19 => ⟨S8192x64, .f32⟩
  | 20 => ⟨S8192x64, .f32⟩
  | 21 => ⟨S2x64, .f32⟩
  | 22 => ⟨S8190x64, .f32⟩
  | 23 => ⟨S_, .f32⟩
  | 24 => ⟨S8192x64, .f32⟩
  | 25 => ⟨S_, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S_, .f32⟩
  | 32 => ⟨S_, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S_, .f32⟩
  | 41 => ⟨S256, .f32⟩
  | 42 => ⟨S1x256, .f32⟩
  | 43 => ⟨S_, .f32⟩
  | 44 => ⟨S256, .f32⟩
  | 45 => ⟨S2x256, .f32⟩
  | 46 => ⟨S8190x256, .f32⟩
  | 47 => ⟨S_, .f32⟩
  | 48 => ⟨S8192x256, .f32⟩
  | 49 => ⟨S1x256, .f32⟩
  | 50 => ⟨S_, .f32⟩
  | 51 => ⟨S3x256, .f32⟩
  | 52 => ⟨S8192x256, .f32⟩
  | 53 => ⟨S8192x256, .f32⟩
  | 54 => ⟨S8192x256, .f32⟩
  | 55 => ⟨S_, .f32⟩
  | 56 => ⟨S256, .f32⟩
  | 57 => ⟨S1x256, .f32⟩
  | 58 => ⟨S_, .f32⟩
  | 59 => ⟨S256, .f32⟩
  | 60 => ⟨S1x256, .f32⟩
  | 61 => ⟨S8191x256, .f32⟩
  | 62 => ⟨S_, .f32⟩
  | 63 => ⟨S8192x256, .f32⟩
  | 64 => ⟨S8192x256, .f32⟩
  | 65 => ⟨S1x256, .f32⟩
  | 66 => ⟨S_, .f32⟩
  | 67 => ⟨S3x256, .f32⟩
  | 68 => ⟨S3x256, .f32⟩
  | 69 => ⟨S8192x256, .f32⟩
  | 70 => ⟨S8192x256, .f32⟩
  | 71 => ⟨S8192x256, .f32⟩
  | 72 => ⟨S8192x256, .f32⟩
  | 73 => ⟨S_, .f32⟩
  | 74 => ⟨S256, .f32⟩
  | 75 => ⟨S1x256, .f32⟩
  | 76 => ⟨S_, .f32⟩
  | 77 => ⟨S256, .f32⟩
  | 78 => ⟨S1x256, .f32⟩
  | 79 => ⟨S_, .f32⟩
  | 80 => ⟨S3x256, .f32⟩
  | 81 => ⟨S3x256, .f32⟩
  | 82 => ⟨S8192x256, .f32⟩
  | 83 => ⟨S8192x256, .f32⟩
  | 84 => ⟨S_, .f32⟩
  | 85 => ⟨S8192x2560, .f32⟩
  | 86 => ⟨S8192x2560, .f32⟩
  | 87 => ⟨S_, .f32⟩
  | 88 => ⟨S8192x2560, .f32⟩
  | 89 => ⟨S8192x2560, .f32⟩
  | 90 => ⟨S_, .f32⟩
  | 91 => ⟨S8192x2560, .f32⟩
  | 92 => ⟨S8192x2560, .f32⟩
  | 93 => ⟨S_, .f32⟩
  | 94 => ⟨S8192x2560, .f32⟩
  | 95 => ⟨S8192x2560, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S_, .f32⟩
  | 104 => ⟨S1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1024, .f32⟩
  | 111 => ⟨S8192x1024, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_call0_cst : Ref sig .tc := ⟨.hbm, 71, rfl⟩
abbrev main_call0_call0_v0 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_10 : Ref sig .tc := ⟨.hbm, 99, rfl⟩
abbrev main_v74 : Ref sig .tc := ⟨.hbm, 100, rfl⟩
abbrev main_v75 : Ref sig .tc := ⟨.hbm, 101, rfl⟩
abbrev main_c_11 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_12 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_14 : Ref sig .tc := ⟨.hbm, 123, rfl⟩
abbrev main_v94 : Ref sig .tc := ⟨.hbm, 124, rfl⟩
abbrev main_v95 : Ref sig .tc := ⟨.hbm, 125, rfl⟩
abbrev main_c_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_17 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_18 : Ref sig .tc := ⟨.hbm, 147, rfl⟩
abbrev main_v114 : Ref sig .tc := ⟨.hbm, 148, rfl⟩
abbrev main_v115 : Ref sig .tc := ⟨.hbm, 149, rfl⟩
abbrev main_c_19 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_20 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_21 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_22 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_23 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_24 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_25 : Ref sig .tc := ⟨.hbm, 198, rfl⟩
abbrev main_v158 : Ref sig .tc := ⟨.hbm, 199, rfl⟩
abbrev main_v159 : Ref sig .tc := ⟨.hbm, 200, rfl⟩
abbrev main_cst_26 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_27 : Ref sig .tc := ⟨.hbm, 208, rfl⟩
abbrev main_v166 : Ref sig .tc := ⟨.hbm, 209, rfl⟩
abbrev main_cst_28 : Ref sig .tc := ⟨.hbm, 210, rfl⟩
abbrev main_v167 : Ref sig .tc := ⟨.hbm, 211, rfl⟩
abbrev main_cst_29 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_30 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_31 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_32 : Ref sig .tc := ⟨.hbm, 231, rfl⟩
abbrev main_v184 : Ref sig .tc := ⟨.hbm, 232, rfl⟩
abbrev main_cst_33 : Ref sig .tc := ⟨.hbm, 233, rfl⟩
abbrev main_v185 : Ref sig .tc := ⟨.hbm, 234, rfl⟩
abbrev main_v186 : Ref sig .tc := ⟨.hbm, 235, rfl⟩
abbrev main_cst_34 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_35 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_cst_36 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_cst_37 : Ref sig .tc := ⟨.hbm, 255, rfl⟩
abbrev main_v203 : Ref sig .tc := ⟨.hbm, 256, rfl⟩
abbrev main_cst_38 : Ref sig .tc := ⟨.hbm, 257, rfl⟩
abbrev main_v204 : Ref sig .tc := ⟨.hbm, 258, rfl⟩
abbrev main_v205 : Ref sig .tc := ⟨.hbm, 259, rfl⟩
abbrev main_cst_39 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_40 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_cst_41 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_cst_42 : Ref sig .tc := ⟨.hbm, 279, rfl⟩
abbrev main_v222 : Ref sig .tc := ⟨.hbm, 280, rfl⟩
abbrev main_cst_43 : Ref sig .tc := ⟨.hbm, 281, rfl⟩
abbrev main_v223 : Ref sig .tc := ⟨.hbm, 282, rfl⟩
abbrev main_v224 : Ref sig .tc := ⟨.hbm, 283, rfl⟩
abbrev main_cst_44 : Ref sig .tc := ⟨.hbm, 284, rfl⟩
abbrev main_v225 : Ref sig .tc := ⟨.hbm, 285, rfl⟩
abbrev main_v226 : Ref sig .tc := ⟨.hbm, 286, rfl⟩
abbrev main_call1_call0_cst : Ref sig .tc := ⟨.hbm, 287, rfl⟩
abbrev main_call1_call0_v0 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_cst_45 : Ref sig .tc := ⟨.hbm, 296, rfl⟩
abbrev main_v234 : Ref sig .tc := ⟨.hbm, 297, rfl⟩
abbrev main_v235 : Ref sig .tc := ⟨.hbm, 298, rfl⟩
abbrev main_cst_46 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_cst_47 : Ref sig .tc := ⟨.hbm, 303, rfl⟩
abbrev main_v239 : Ref sig .tc := ⟨.hbm, 304, rfl⟩
abbrev main_v240 : Ref sig .tc := ⟨.hbm, 305, rfl⟩
abbrev main_cst_48 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_cst_49 : Ref sig .tc := ⟨.hbm, 311, rfl⟩
abbrev main_v245 : Ref sig .tc := ⟨.hbm, 312, rfl⟩
abbrev main_v246 : Ref sig .tc := ⟨.hbm, 313, rfl⟩
abbrev main_cst_50 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_cst_51 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_cst_52 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_cst_53 : Ref sig .tc := ⟨.hbm, 329, rfl⟩
abbrev main_v259 : Ref sig .tc := ⟨.hbm, 330, rfl⟩
abbrev main_v260 : Ref sig .tc := ⟨.hbm, 331, rfl⟩
abbrev main_cst_54 : Ref sig .tc := ⟨.hbm, 332, rfl⟩
abbrev main_v261 : Ref sig .tc := ⟨.hbm, 333, rfl⟩
abbrev main_v262 : Ref sig .tc := ⟨.hbm, 334, rfl⟩
abbrev main_cst_55 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_cst_56 : Ref sig .tc := ⟨.hbm, 340, rfl⟩
abbrev main_v267 : Ref sig .tc := ⟨.hbm, 341, rfl⟩
abbrev main_v268 : Ref sig .tc := ⟨.hbm, 342, rfl⟩
abbrev main_cst_57 : Ref sig .tc := ⟨.hbm, 343, rfl⟩
abbrev main_v269 : Ref sig .tc := ⟨.hbm, 344, rfl⟩
abbrev main_v270 : Ref sig .tc := ⟨.hbm, 345, rfl⟩
abbrev main_cst_58 : Ref sig .tc := ⟨.hbm, 346, rfl⟩
abbrev main_v271 : Ref sig .tc := ⟨.hbm, 347, rfl⟩
abbrev main_v272 : Ref sig .tc := ⟨.hbm, 348, rfl⟩
abbrev main_cst_59 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_cst_60 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_cst_61 : Ref sig .tc := ⟨.hbm, 359, rfl⟩
abbrev main_v281 : Ref sig .tc := ⟨.hbm, 360, rfl⟩
abbrev main_v282 : Ref sig .tc := ⟨.hbm, 361, rfl⟩
abbrev main_cst_62 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_cst_63 : Ref sig .tc := ⟨.hbm, 369, rfl⟩
abbrev main_v289 : Ref sig .tc := ⟨.hbm, 370, rfl⟩
abbrev main_v290 : Ref sig .tc := ⟨.hbm, 371, rfl⟩
abbrev main_cst_64 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩

abbrev nD : Nat := 1
abbrev τ : Topo := Topo.v7x

variable {F : FTy → Type} [FloatOps F]
-- ==== KernelIn.lean ====
abbrev S8192x1024 : Shape := ⟨2, ![8192, 1024]⟩
abbrev S8192x512 : Shape := ⟨2, ![8192, 512]⟩
abbrev S1024x2560 : Shape := ⟨2, ![1024, 2560]⟩
abbrev S1024x1024 : Shape := ⟨2, ![1024, 1024]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceInIdeal.lean ====
abbrev S8192x1024 : Shape := ⟨2, ![8192, 1024]⟩
abbrev S8192x512 : Shape := ⟨2, ![8192, 512]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x2560, .bf16⟩
  | .hbm, ⟨6, _⟩ => ⟨S_, .f32⟩
  | .hbm, ⟨7, _⟩ => ⟨S1024x2560, .f32⟩
  | .hbm, ⟨8, _⟩ => ⟨S8192x1024, .f32⟩
  | .hbm, ⟨9, _⟩ => ⟨S8192x2560, .f32⟩
  | .hbm, ⟨10, _⟩ => ⟨S8192x2560, .f32⟩
  | .hbm, ⟨11, _⟩ => ⟨S2560x1024, .f32⟩
  | .hbm, ⟨12, _⟩ => ⟨S1024x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGateUp.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelTail.lean ====
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S8192x5632 : Shape := ⟨2, ![8192, 5632]⟩
abbrev S8192x2816 : Shape := ⟨2, ![8192, 2816]⟩
abbrev S256x512 : Shape := ⟨2, ![256, 512]⟩
abbrev S256x1024 : Shape := ⟨2, ![256, 1024]⟩
abbrev S256x5632 : Shape := ⟨2, ![256, 5632]⟩
abbrev S256x2816 : Shape := ⟨2, ![256, 2816]⟩
abbrev S3 : Shape := ⟨1, ![3]⟩
abbrev S1 : Shape := ⟨1, ![1]⟩
abbrev S_ : Shape := ⟨0, ![]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x512 : Shape := ⟨2, ![1, 512]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 25
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S1x1024, .f32⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S8192x2816, .bf16⟩
  | .hbm, ⟨23, _⟩ => ⟨S8192x1024, .bf16⟩
  | .hbm, ⟨24, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x5632, .bf16⟩
  | .local _ .vmem, ⟨19, _⟩ => ⟨S256x5632, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S1024x1024, .bf16⟩
  | .local _ .vmem, ⟨27, _⟩ => ⟨S1024x5632, .bf16⟩
  | .local _ .vmem, ⟨28, _⟩ => ⟨S2816x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceTailIdeal.lean ====
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1024x5632 : Shape := ⟨2, ![1024, 5632]⟩
abbrev S2816x1024 : Shape := ⟨2, ![2816, 1024]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 135
  | .vmem => 0
  | .smem => 0
  | _ => 0

abbrev hbmTy0_0 (i : Nat) : BufTy := match i % 128 with
  | 0 => ⟨S8192x512, .f32⟩
  | 1 => ⟨S8192x512, .f32⟩
  | 2 => ⟨S1024, .f32⟩
  | 3 => ⟨S1024x1024, .f32⟩
  | 4 => ⟨S8192x1024, .f32⟩
  | 5 => ⟨S1024, .f32⟩
  | 6 => ⟨S1024, .f32⟩
  | 7 => ⟨S1024x5632, .f32⟩
  | 8 => ⟨S2816x1024, .f32⟩
  | 9 => ⟨S1024, .f32⟩
  | 10 => ⟨S8192x256, .f32⟩
  | 11 => ⟨S256, .f32⟩
  | 12 => ⟨S8192x256, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S8192x256, .f32⟩
  | 29 => ⟨S256, .f32⟩
  | 30 => ⟨S8192x256, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x256, .f32⟩
  | 42 => ⟨S8192x256, .f32⟩
  | 43 => ⟨S1x256, .f32⟩
  | 44 => ⟨S8192x256, .f32⟩
  | 45 => ⟨S8192x256, .f32⟩
  | 46 => ⟨S512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x512, .f32⟩
  | 59 => ⟨S8192x512, .f32⟩
  | 60 => ⟨S1x512, .f32⟩
  | 61 => ⟨S8192x512, .f32⟩
  | 62 => ⟨S8192x512, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x1, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x5632, .f32⟩
  | 99 => ⟨S8192x2816, .f32⟩
  | 100 => ⟨S8192x2816, .f32⟩
  | 101 => ⟨S8192x2816, .f32⟩
  | 102 => ⟨S_, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S8192x2816, .f32⟩
  | 109 => ⟨S8192x2816, .f32⟩
  | 110 => ⟨S8192x2816, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1024, .bf16⟩
  | 2 => ⟨S8192x1024, .bf16⟩
  | 3 => ⟨S8192x1024, .bf16⟩
  | 4 => ⟨S8192x5632, .bf16⟩
  | 5 => ⟨S8192x2816, .bf16⟩
  | 6 => ⟨S8192x1024, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]
-- ==== KernelTailBack.lean ====
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1024x5632 : Shape := ⟨2, ![1024, 5632]⟩
abbrev S2816x1024 : Shape := ⟨2, ![2816, 1024]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x512 : Shape := ⟨2, ![256, 512]⟩
abbrev S3 : Shape := ⟨1, ![3]⟩
abbrev S1 : Shape := ⟨1, ![1]⟩
abbrev S256x1 : Shape := ⟨2, ![256, 1]⟩
abbrev S1408x1024 : Shape := ⟨2, ![1408, 1024]⟩
abbrev S256x1408 : Shape := ⟨2, ![256, 1408]⟩
abbrev S1024x1408 : Shape := ⟨2, ![1024, 1408]⟩
abbrev S256x256 : Shape := ⟨2, ![256, 256]⟩

abbrev nBuf : Space → Nat
  | .hbm => 150
  | .vmem => 37
  | .smem => 0
  | _ => 0

abbrev hbmTy0_0 (i : Nat) : BufTy := match i % 128 with
  | 0 => ⟨S8192x512, .f32⟩
  | 1 => ⟨S8192x512, .f32⟩
  | 2 => ⟨S1024, .f32⟩
  | 3 => ⟨S1024x1024, .f32⟩
  | 4 => ⟨S8192x1024, .f32⟩
  | 5 => ⟨S1024, .f32⟩
  | 6 => ⟨S1024, .f32⟩
  | 7 => ⟨S1024x5632, .f32⟩
  | 8 => ⟨S2816x1024, .f32⟩
  | 9 => ⟨S1024, .f32⟩
  | 10 => ⟨S8192x1024, .f32⟩
  | 11 => ⟨S8192x256, .f32⟩
  | 12 => ⟨S256, .f32⟩
  | 13 => ⟨S8192x256, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x256, .f32⟩
  | 25 => ⟨S8192x256, .f32⟩
  | 26 => ⟨S1x256, .f32⟩
  | 27 => ⟨S8192x256, .f32⟩
  | 28 => ⟨S8192x256, .f32⟩
  | 29 => ⟨S8192x256, .f32⟩
  | 30 => ⟨S256, .f32⟩
  | 31 => ⟨S8192x256, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x256, .f32⟩
  | 43 => ⟨S8192x256, .f32⟩
  | 44 => ⟨S1x256, .f32⟩
  | 45 => ⟨S8192x256, .f32⟩
  | 46 => ⟨S8192x256, .f32⟩
  | 47 => ⟨S512, .f32⟩
  | 48 => ⟨S8192x512, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S8192x1024, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1, .f32⟩
  | 77 => ⟨S8192x1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S8192x5632, .f32⟩
  | 100 => ⟨S8192x2816, .f32⟩
  | 101 => ⟨S8192x2816, .f32⟩
  | 102 => ⟨S8192x2816, .f32⟩
  | 103 => ⟨S_, .f32⟩
  | 104 => ⟨S8192x2816, .f32⟩
  | 105 => ⟨S8192x2816, .f32⟩
  | 106 => ⟨S_, .f32⟩
  | 107 => ⟨S8192x2816, .f32⟩
  | 108 => ⟨S8192x2816, .f32⟩
  | 109 => ⟨S8192x2816, .f32⟩
  | 110 => ⟨S8192x2816, .f32⟩
  | 111 => ⟨S8192x2816, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192x1, .f32⟩
  | 122 => ⟨S8192x1, .f32⟩
  | 123 => ⟨S8192x1, .f32⟩
  | 124 => ⟨S8192x1024, .f32⟩
  | 125 => ⟨S8192x1024, .f32⟩
  | 126 => ⟨S1x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1024, .f32⟩
  | 2 => ⟨S8192x1024, .bf16⟩
  | 3 => ⟨S1x1024, .f32⟩
  | 4 => ⟨S8192x5632, .bf16⟩
  | 5 => ⟨S2816x1024, .bf16⟩
  | 6 => ⟨S1024x5632, .bf16⟩
  | 7 => ⟨S1x1024, .f32⟩
  | 8 => ⟨S8192x1024, .bf16⟩
  | 9 => ⟨S1x1024, .f32⟩
  | 10 => ⟨S1024x1024, .bf16⟩
  | 11 => ⟨S1x1024, .f32⟩
  | 12 => ⟨S8192x1024, .bf16⟩
  | 13 => ⟨S8192x5632, .bf16⟩
  | 14 => ⟨S8192x1024, .f32⟩
  | 15 => ⟨S8192x1024, .bf16⟩
  | 16 => ⟨S8192x512, .bf16⟩
  | 17 => ⟨S8192x512, .bf16⟩
  | 18 => ⟨S8x1024, .f32⟩
  | 19 => ⟨S8x1024, .f32⟩
  | 20 => ⟨S8x1024, .f32⟩
  | 21 => ⟨S8x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x5632, .bf16⟩
  | .local _ .vmem, ⟨21, _⟩ => ⟨S256x5632, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S2816x1024, .bf16⟩
  | .local _ .vmem, ⟨35, _⟩ => ⟨S1024x5632, .bf16⟩
  | .local _ .vmem, ⟨36, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103_0 : Ref sig .tc := ⟨.hbm, 140, rfl⟩
abbrev main_v103_1 : Ref sig .tc := ⟨.hbm, 141, rfl⟩
abbrev main_v103_2 : Ref sig .tc := ⟨.hbm, 142, rfl⟩
abbrev main_v103_3 : Ref sig .tc := ⟨.hbm, 143, rfl⟩
abbrev main_v103_4 : Ref sig .tc := ⟨.hbm, 144, rfl⟩
abbrev main_v103_5 : Ref sig .tc := ⟨.hbm, 145, rfl⟩
abbrev main_v103_6 : Ref sig .tc := ⟨.hbm, 146, rfl⟩
abbrev main_v103_7 : Ref sig .tc := ⟨.hbm, 147, rfl⟩
abbrev main_v103_8 : Ref sig .tc := ⟨.hbm, 148, rfl⟩
abbrev main_v103_9 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceTailBackIdeal.lean ====
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1024x5632 : Shape := ⟨2, ![1024, 5632]⟩
abbrev S2816x1024 : Shape := ⟨2, ![2816, 1024]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 302
  | .vmem => 0
  | .smem => 0
  | _ => 0

abbrev hbmTy0_0 (i : Nat) : BufTy := match i % 128 with
  | 0 => ⟨S8192x512, .f32⟩
  | 1 => ⟨S8192x512, .f32⟩
  | 2 => ⟨S1024, .f32⟩
  | 3 => ⟨S1024x1024, .f32⟩
  | 4 => ⟨S8192x1024, .f32⟩
  | 5 => ⟨S1024, .f32⟩
  | 6 => ⟨S1024, .f32⟩
  | 7 => ⟨S1024x5632, .f32⟩
  | 8 => ⟨S2816x1024, .f32⟩
  | 9 => ⟨S1024, .f32⟩
  | 10 => ⟨S8192x1024, .f32⟩
  | 11 => ⟨S8192x256, .f32⟩
  | 12 => ⟨S256, .f32⟩
  | 13 => ⟨S8192x256, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x256, .f32⟩
  | 29 => ⟨S8192x256, .f32⟩
  | 30 => ⟨S1x256, .f32⟩
  | 31 => ⟨S8192x256, .f32⟩
  | 32 => ⟨S8192x256, .f32⟩
  | 33 => ⟨S8192x256, .f32⟩
  | 34 => ⟨S256, .f32⟩
  | 35 => ⟨S8192x256, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x256, .f32⟩
  | 51 => ⟨S8192x256, .f32⟩
  | 52 => ⟨S1x256, .f32⟩
  | 53 => ⟨S8192x256, .f32⟩
  | 54 => ⟨S8192x256, .f32⟩
  | 55 => ⟨S512, .f32⟩
  | 56 => ⟨S8192x512, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x512, .f32⟩
  | 72 => ⟨S8192x512, .f32⟩
  | 73 => ⟨S1x512, .f32⟩
  | 74 => ⟨S8192x512, .f32⟩
  | 75 => ⟨S8192x512, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x1024, .f32⟩
  | 115 => ⟨S8192x1024, .f32⟩
  | 116 => ⟨S1x1024, .f32⟩
  | 117 => ⟨S8192x1024, .f32⟩
  | 118 => ⟨S8192x1024, .f32⟩
  | 119 => ⟨S8192x5632, .f32⟩
  | 120 => ⟨S8192x2816, .f32⟩
  | 121 => ⟨S8192x2816, .f32⟩
  | 122 => ⟨S8192x2816, .f32⟩
  | 123 => ⟨S_, .f32⟩
  | 124 => ⟨S8192x2816, .f32⟩
  | 125 => ⟨S8192x2816, .f32⟩
  | 126 => ⟨S_, .f32⟩
  | 127 => ⟨S8192x2816, .f32⟩
  | _ => ⟨S8192x512, .f32⟩

abbrev hbmTy0_1 (i : Nat) : BufTy := match i % 128 with
  | 0 => ⟨S8192x2816, .f32⟩
  | 1 => ⟨S_, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S8192x1024, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S_, .f32⟩
  | 55 => ⟨S8192x5632, .f32⟩
  | 56 => ⟨S8192x2816, .f32⟩
  | 57 => ⟨S8192x2816, .f32⟩
  | 58 => ⟨S8192x2816, .f32⟩
  | 59 => ⟨S8192x2816, .f32⟩
  | 60 => ⟨S_, .f32⟩
  | 61 => ⟨S8192x5632, .f32⟩
  | 62 => ⟨S8192x5632, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S8192x1024, .f32⟩
  | 71 => ⟨S8192x1024, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x256, .f32⟩
  | 105 => ⟨S8192x256, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8192, .f32⟩
  | 112 => ⟨S8192x1, .f32⟩
  | 113 => ⟨S8192x512, .f32⟩
  | 114 => ⟨S8192x512, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x256, .f32⟩
  | 127 => ⟨S8192x256, .f32⟩
  | _ => ⟨S8192x512, .f32⟩

abbrev hbmTy0_2 (i : Nat) : BufTy := match i % 128 with
  | 0 => ⟨S8192x256, .f32⟩
  | 1 => ⟨S_, .f32⟩
  | 2 => ⟨S8192, .f32⟩
  | 3 => ⟨S8192x1, .f32⟩
  | 4 => ⟨S8192x256, .f32⟩
  | 5 => ⟨S8192x256, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S_, .f32⟩
  | 18 => ⟨S8192x512, .f32⟩
  | 19 => ⟨S8192x256, .f32⟩
  | 20 => ⟨S8192x256, .f32⟩
  | 21 => ⟨S8192x256, .f32⟩
  | 22 => ⟨S_, .f32⟩
  | 23 => ⟨S8192, .f32⟩
  | 24 => ⟨S8192x1, .f32⟩
  | 25 => ⟨S8192x256, .f32⟩
  | 26 => ⟨S8192x256, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S_, .f32⟩
  | 39 => ⟨S8192x512, .f32⟩
  | 40 => ⟨S8192x512, .f32⟩
  | 41 => ⟨S8192x1024, .bf16⟩
  | 42 => ⟨S8192x5632, .bf16⟩
  | 43 => ⟨S8192x1024, .bf16⟩
  | 44 => ⟨S8192x512, .bf16⟩
  | 45 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_v90_2 : Ref sig .tc := ⟨.hbm, 128, rfl⟩
abbrev main_call0_cst_1 : Ref sig .tc := ⟨.hbm, 129, rfl⟩
abbrev main_call0_v6 : Ref sig .tc := ⟨.hbm, 130, rfl⟩
abbrev main_call0_v7 : Ref sig .tc := ⟨.hbm, 131, rfl⟩
abbrev main_v90_1 : Ref sig .tc := ⟨.hbm, 132, rfl⟩
abbrev main_v90_0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_22 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_23 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_24 : Ref sig .tc := ⟨.hbm, 169, rfl⟩
abbrev main_v121 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_26 : Ref sig .tc := ⟨.hbm, 182, rfl⟩
abbrev main_v132 : Ref sig .tc := ⟨.hbm, 183, rfl⟩
abbrev main_call1_v0 : Ref sig .tc := ⟨.hbm, 184, rfl⟩
abbrev main_call1_v1 : Ref sig .tc := ⟨.hbm, 185, rfl⟩
abbrev main_call1_v2 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_28 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_29 : Ref sig .tc := ⟨.hbm, 201, rfl⟩
abbrev main_v145 : Ref sig .tc := ⟨.hbm, 202, rfl⟩
abbrev main_v146 : Ref sig .tc := ⟨.hbm, 203, rfl⟩
abbrev main_cst_30 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_31 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_32 : Ref sig .tc := ⟨.hbm, 221, rfl⟩
abbrev main_v162 : Ref sig .tc := ⟨.hbm, 222, rfl⟩
abbrev main_v163 : Ref sig .tc := ⟨.hbm, 223, rfl⟩
abbrev main_cst_33 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_34 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_35 : Ref sig .tc := ⟨.hbm, 244, rfl⟩
abbrev main_v182 : Ref sig .tc := ⟨.hbm, 245, rfl⟩
abbrev main_v183 : Ref sig .tc := ⟨.hbm, 246, rfl⟩
abbrev main_cst_36 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_37 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_38 : Ref sig .tc := ⟨.hbm, 263, rfl⟩
abbrev main_v198 : Ref sig .tc := ⟨.hbm, 264, rfl⟩
abbrev main_v199 : Ref sig .tc := ⟨.hbm, 265, rfl⟩
abbrev main_cst_39 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_40 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_cst_41 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_42 : Ref sig .tc := ⟨.hbm, 284, rfl⟩
abbrev main_v215 : Ref sig .tc := ⟨.hbm, 285, rfl⟩
abbrev main_v216 : Ref sig .tc := ⟨.hbm, 286, rfl⟩
abbrev main_cst_43 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_cst_44 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩

abbrev nD : Nat := 1
abbrev τ : Topo := Topo.v7x

variable {F : FTy → Type} [FloatOps F]
-- ==== KernelForward.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S1x1024 : Shape := ⟨2, ![1, 1024]⟩
abbrev S_ : Shape := ⟨0, ![]⟩
abbrev S8x256 : Shape := ⟨2, ![8, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S8192x1536 : Shape := ⟨2, ![8192, 1536]⟩
abbrev S1024x8192 : Shape := ⟨2, ![1024, 8192]⟩
abbrev S8192x512 : Shape := ⟨2, ![8192, 512]⟩
abbrev S512x1024 : Shape := ⟨2, ![512, 1024]⟩
abbrev S512x1536 : Shape := ⟨2, ![512, 1536]⟩
abbrev S1024x512 : Shape := ⟨2, ![1024, 512]⟩
abbrev S512x512 : Shape := ⟨2, ![512, 512]⟩
abbrev S16x1024 : Shape := ⟨2, ![16, 1024]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩
abbrev S512x256 : Shape := ⟨2, ![512, 256]⟩
abbrev S16x256 : Shape := ⟨2, ![16, 256]⟩
abbrev S528x256 : Shape := ⟨2, ![528, 256]⟩

abbrev nBuf : Space → Nat
  | .hbm => 31
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S3x256, .f32⟩
  | .hbm, ⟨4, _⟩ => ⟨S4x64x64, .f32⟩
  | .hbm, ⟨5, _⟩ => ⟨S256, .f32⟩
  | .hbm, ⟨6, _⟩ => ⟨S1x1024, .f32⟩
  | .hbm, ⟨7, _⟩ => ⟨S1024x2560, .bf16⟩
  | .hbm, ⟨8, _⟩ => ⟨S_, .i32⟩
  | .hbm, ⟨9, _⟩ => ⟨S_, .f32⟩
  | .hbm, ⟨10, _⟩ => ⟨S8x256, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x1x4x1, .f32⟩
  | .hbm, ⟨19, _⟩ => ⟨S4x64x1x64, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S256x256, .bf16⟩
  | .hbm, ⟨25, _⟩ => ⟨S1x256, .f32⟩
  | .hbm, ⟨26, _⟩ => ⟨S8192x1024, .bf16⟩
  | .hbm, ⟨27, _⟩ => ⟨S8192x1024, .f32⟩
  | .hbm, ⟨28, _⟩ => ⟨S8192x1536, .bf16⟩
  | .hbm, ⟨29, _⟩ => ⟨S1024x8192, .bf16⟩
  | .hbm, ⟨30, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S8x256, .f32⟩
  | .local _ .vmem, ⟨5, _⟩ => ⟨S256x256, .bf16⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1536, .bf16⟩
  | .local _ .vmem, ⟨12, _⟩ => ⟨S512x1536, .bf16⟩
  | .local _ .vmem, ⟨13, _⟩ => ⟨S1024x512, .bf16⟩
  | .local _ .vmem, ⟨14, _⟩ => ⟨S1024x512, .bf16⟩
  | .local _ .vmem, ⟨15, _⟩ => ⟨S512x512, .f32⟩
  | .local _ .vmem, ⟨16, _⟩ => ⟨S512x512, .f32⟩
  | .local _ .vmem, ⟨17, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceForwardIdeal.lean ====
abbrev S8192x1024 : Shape := ⟨2, ![8192, 1024]⟩
abbrev S1024 : Shape := ⟨1, ![1024]⟩
abbrev S1024x2560 : Shape := ⟨2, ![1024, 2560]⟩
abbrev S3x256 : Shape := ⟨2, ![3, 256]⟩
abbrev S4x64x64 : Shape := ⟨3, ![4, 64, 64]⟩
abbrev S256 : Shape := ⟨1, ![256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x256 : Shape := ⟨2, ![8192, 256]⟩
abbrev S1x256 : Shape := ⟨2, ![1, 256]⟩
abbrev S8191x256 : Shape := ⟨2, ![8191, 256]⟩
abbrev S2x256 : Shape := ⟨2, ![2, 256]⟩
abbrev S8190x256 : Shape := ⟨2, ![8190, 256]⟩
abbrev S8192x64 : Shape := ⟨2, ![8192, 64]⟩
abbrev S2x64 : Shape := ⟨2, ![2, 64]⟩
abbrev S8190x64 : Shape := ⟨2, ![8190, 64]⟩
abbrev S1x64x64 : Shape := ⟨3, ![1, 64, 64]⟩
abbrev S64x64 : Shape := ⟨2, ![64, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x512 : Shape := ⟨2, ![8192, 512]⟩
abbrev S8192x1536 : Shape := ⟨2, ![8192, 1536]⟩
abbrev S1024x8192 : Shape := ⟨2, ![1024, 8192]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1024, .f32⟩
  | 2 => ⟨S1024x2560, .f32⟩
  | 3 => ⟨S3x256, .f32⟩
  | 4 => ⟨S4x64x64, .f32⟩
  | 5 => ⟨S256, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2560, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S1x256, .f32⟩
  | 29 => ⟨S256, .f32⟩
  | 30 => ⟨S1x256, .f32⟩
  | 31 => ⟨S8192x256, .f32⟩
  | 32 => ⟨S8192x256, .f32⟩
  | 33 => ⟨S1x256, .f32⟩
  | 34 => ⟨S256, .f32⟩
  | 35 => ⟨S_, .f32⟩
  | 36 => ⟨S1x256, .f32⟩
  | 37 => ⟨S8191x256, .f32⟩
  | 38 => ⟨S8192x256, .f32⟩
  | 39 => ⟨S1x256, .f32⟩
  | 40 => ⟨S8192x256, .f32⟩
  | 41 => ⟨S8192x256, .f32⟩
  | 42 => ⟨S8192x256, .f32⟩
  | 43 => ⟨S1x256, .f32⟩
  | 44 => ⟨S256, .f32⟩
  | 45 => ⟨S_, .f32⟩
  | 46 => ⟨S2x256, .f32⟩
  | 47 => ⟨S8190x256, .f32⟩
  | 48 => ⟨S8192x256, .f32⟩
  | 49 => ⟨S1x256, .f32⟩
  | 50 => ⟨S8192x256, .f32⟩
  | 51 => ⟨S8192x256, .f32⟩
  | 52 => ⟨S8192x256, .f32⟩
  | 53 => ⟨S8192x256, .f32⟩
  | 54 => ⟨S_, .f32⟩
  | 55 => ⟨S_, .f32⟩
  | 56 => ⟨S8192x256, .f32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x1, .f32⟩
  | 66 => ⟨S8192x64, .f32⟩
  | 67 => ⟨S8192x64, .f32⟩
  | 68 => ⟨S_, .f32⟩
  | 69 => ⟨S2x64, .f32⟩
  | 70 => ⟨S8190x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S1x64x64, .f32⟩
  | 78 => ⟨S64x64, .f32⟩
  | 79 => ⟨S8192x64, .f32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S8192, .f32⟩
  | 87 => ⟨S8192x1, .f32⟩
  | 88 => ⟨S8192x64, .f32⟩
  | 89 => ⟨S8192x64, .f32⟩
  | 90 => ⟨S_, .f32⟩
  | 91 => ⟨S4x64, .f32⟩
  | 92 => ⟨S8188x64, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S1x64x64, .f32⟩
  | 100 => ⟨S64x64, .f32⟩
  | 101 => ⟨S8192x64, .f32⟩
  | 102 => ⟨S_, .i32⟩
  | 103 => ⟨S8192, .i32⟩
  | 104 => ⟨S8192, .i32⟩
  | 105 => ⟨S_, .i32⟩
  | 106 => ⟨S8192, .i32⟩
  | 107 => ⟨S8192, .i32⟩
  | 108 => ⟨S8192, .f32⟩
  | 109 => ⟨S8192x1, .f32⟩
  | 110 => ⟨S8192x64, .f32⟩
  | 111 => ⟨S8192x64, .f32⟩
  | 112 => ⟨S_, .f32⟩
  | 113 => ⟨S8x64, .f32⟩
  | 114 => ⟨S8184x64, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S8192x64, .f32⟩
  | 121 => ⟨S1x64x64, .f32⟩
  | 122 => ⟨S64x64, .f32⟩
  | 123 => ⟨S8192x64, .f32⟩
  | 124 => ⟨S_, .i32⟩
  | 125 => ⟨S8192, .i32⟩
  | 126 => ⟨S8192, .i32⟩
  | 127 => ⟨S_, .i32⟩
  | _ => ⟨S8192x1024, .f32⟩

abbrev hbmTy0_1 (i : Nat) : BufTy := match i % 128 with
  | 0 => ⟨S8192, .i32⟩
  | 1 => ⟨S8192, .i32⟩
  | 2 => ⟨S8192, .f32⟩
  | 3 => ⟨S8192x1, .f32⟩
  | 4 => ⟨S8192x64, .f32⟩
  | 5 => ⟨S8192x64, .f32⟩
  | 6 => ⟨S_, .f32⟩
  | 7 => ⟨S16x64, .f32⟩
  | 8 => ⟨S8176x64, .f32⟩
  | 9 => ⟨S8192x64, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S1x64x64, .f32⟩
  | 16 => ⟨S64x64, .f32⟩
  | 17 => ⟨S8192x64, .f32⟩
  | 18 => ⟨S8192x256, .f32⟩
  | 19 => ⟨S1x256, .f32⟩
  | 20 => ⟨S8192x256, .f32⟩
  | 21 => ⟨S8192x256, .f32⟩
  | 22 => ⟨S8192x512, .f32⟩
  | 23 => ⟨S8192x1536, .f32⟩
  | 24 => ⟨S8192x1024, .bf16⟩
  | 25 => ⟨S8192x1024, .f32⟩
  | 26 => ⟨S8192x1536, .bf16⟩
  | 27 => ⟨S8192x1024, .f32⟩
  | 28 => ⟨S1024x8192, .f32⟩
  | 29 => ⟨S1024x8192, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_call0_cst : Ref sig .tc := ⟨.hbm, 54, rfl⟩
abbrev main_call0_call0_v0 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_v45 : Ref sig .tc := ⟨.hbm, 59, rfl⟩
abbrev main_v46 : Ref sig .tc := ⟨.hbm, 60, rfl⟩
abbrev main_c_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_6 : Ref sig .tc := ⟨.hbm, 80, rfl⟩
abbrev main_v64 : Ref sig .tc := ⟨.hbm, 81, rfl⟩
abbrev main_v65 : Ref sig .tc := ⟨.hbm, 82, rfl⟩
abbrev main_c_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_9 : Ref sig .tc := ⟨.hbm, 102, rfl⟩
abbrev main_v83 : Ref sig .tc := ⟨.hbm, 103, rfl⟩
abbrev main_v84 : Ref sig .tc := ⟨.hbm, 104, rfl⟩
abbrev main_c_10 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_11 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_c_12 : Ref sig .tc := ⟨.hbm, 124, rfl⟩
abbrev main_v102 : Ref sig .tc := ⟨.hbm, 125, rfl⟩
abbrev main_v103 : Ref sig .tc := ⟨.hbm, 126, rfl⟩
abbrev main_c_13 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_14 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩

abbrev nD : Nat := 1
abbrev τ : Topo := Topo.v7x

variable {F : FTy → Type} [FloatOps F]
-- ==== Proof.Windows.lean ====
/- Loads and stores of rectangles of a buffer, as windows of an array and windows put into one. -/
module

public import Idealize.ShloMosaic.Lib.VecWindow
public import Idealize.ShloMosaic.Lib.Pointwise
public import Idealize.ShloMosaic.PureOps.Ideal

@[expose] public section

namespace Cert.Windows

open Idealize.ShloMosaic

variable {F : FTy → Type}

section Loads

variable {sig : RefSig} {κ : Kind} {sp : Space} {s : Shape} {e : EltTy}

/-- A load of a whole buffer reads what the buffer holds. -/
theorem ld_full (m : Memref sig κ sp s e) (h : m.IsWhole) (x : s.Idx → Elt F e) {off : Fin s.rank → ℕ} (inb : ∀ a, off a + s.size a ≤ s.size a) :
    m.view.readAt (Elt F) (Rect.unit off s.size inb).toLoadRect (h.unread x) = x := by
  rw [View.readAt_full, h.read_unread]

/-- A load of a rectangle reads a window of what the buffer holds. -/
theorem ld_win (m : Memref sig κ sp s e) (h : m.IsWhole) (x : s.Idx → Elt F e) {off size : Fin s.rank → ℕ} (inb : ∀ a, off a + size a ≤ s.size a) :
    m.view.readAt (Elt F) (Rect.unit off size inb).toLoadRect (h.unread x) = VecWindow.window x off size inb := by
  rw [View.readAt_unit _ _ inb rfl inb, h.read_unread]

/-- A load of a rectangle after earlier stores alone reads a window of what they leave. -/
theorem ld_cov [∀ e, Nonempty (Elt F e)] (v : View sig κ sp s e) (L : List (View.Piece (Elt F) s e)) {off size : Fin s.rank → ℕ} (inb : ∀ a, off a + size a ≤ s.size a) :
    v.readCov L (Rect.unit off size inb).toLoadRect = VecWindow.window (v.read (Elt F) (v.writes (Elt F) v.junk L)) off size inb := by
  unfold View.readCov
  rw [View.readAt_unit _ _ inb rfl inb]

/-- A store at a rectangle puts its payload over what the stores before it left. -/
theorem st_put (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A store of a whole buffer leaves its payload. -/
theorem st_whole (v : View sig κ sp s e) (f : v.ty.Contents (Elt F)) (w : s.Idx → Elt F e) :
    v.read (Elt F) (v.writes (Elt F) f [⟨Rect.whole s, w⟩]) = w := by
  refine (st_put v f (off := fun _ => 0) (size := s.size) (fun _ => by simp) w []).trans (funext fun y => ?_)
  refine (dif_pos fun a => ⟨Nat.zero_le _, by have := (y a).isLt; omega⟩).trans (congrArg w (funext fun a => Fin.ext ?_))
  exact Nat.sub_zero _

end Loads

/-- A window of all of an array is the array. -/
theorem window_whole {α : Type} {n k : ℕ} (x : (⟨2, ![n, k]⟩ : Shape).Idx → α) (h : ∀ a, (![0, 0] : Fin 2 → ℕ) a + (![n, k] : Fin 2 → ℕ) a ≤ (⟨2, ![n, k]⟩ : Shape).size a) :
    VecWindow.window (s := ⟨2, ![n, k]⟩) x ![0, 0] ![n, k] h = x := by
  funext y
  refine congrArg x (funext fun a => Fin.ext ?_)
  show (![0, 0] : Fin 2 → ℕ) a + 1 * (y a).val = (y a).val
  fin_cases a <;> simp

/-- Putting a whole array leaves that array. -/
theorem put_whole {α : Type} {n k : ℕ} (x w : (⟨2, ![n, k]⟩ : Shape).Idx → α) :
    VecWindow.put (s := ⟨2, ![n, k]⟩) x ![0, 0] ![n, k] w = w :=
  (window_whole _ (by intro a; fin_cases a <;> simp)).symm.trans
    (VecWindow.window_put_same (s := ⟨2, ![n, k]⟩) x ![0, 0] ![n, k] (by intro a; fin_cases a <;> simp) w)

/-- An entry of the columns just put is the payload's. -/
theorem put_cols_in {α : Type} {n k w : ℕ} (x : (⟨2, ![n, k]⟩ : Shape).Idx → α) (o : ℕ) (y : (⟨2, ![n, w]⟩ : Shape).Idx → α) (a : Fin n) (b : Fin k)
    (h : o ≤ b.val ∧ b.val < o + w) :
    VecWindow.put (s := ⟨2, ![n, k]⟩) x ![0, o] ![n, w] y (ix2 a b) = y (ix2 a ⟨b.val - o, by omega⟩) := by
  unfold VecWindow.put
  rw [dif_pos (fun c => by
    fin_cases c
    · exact ⟨Nat.zero_le _, by show a.val < 0 + n; omega⟩
    · exact h)]
  refine congrArg y (funext fun c => ?_)
  fin_cases c <;> rfl

/-- An entry of another column is what it was. -/
theorem put_cols_out {α : Type} {n k w : ℕ} (x : (⟨2, ![n, k]⟩ : Shape).Idx → α) (o : ℕ) (y : (⟨2, ![n, w]⟩ : Shape).Idx → α) (a : Fin n) (b : Fin k)
    (h : b.val < o ∨ o + w ≤ b.val) :
    VecWindow.put (s := ⟨2, ![n, k]⟩) x ![0, o] ![n, w] y (ix2 a b) = x (ix2 a b) := by
  unfold VecWindow.put
  refine dif_neg fun hc => ?_
  have := hc (1 : Fin 2)
  have h1 : o ≤ b.val := this.1
  have h2 : b.val < o + w := this.2
  omega

/-- A window of columns, entry by entry. -/
theorem window_cols {α : Type} {n k w : ℕ} (x : (⟨2, ![n, k]⟩ : Shape).Idx → α) (o : ℕ) (h : ∀ a, (![0, o] : Fin 2 → ℕ) a + (![n, w] : Fin 2 → ℕ) a ≤ (⟨2, ![n, k]⟩ : Shape).size a)
    (a : Fin n) (b : Fin w) (hb : o + b.val < k) :
    VecWindow.window (s := ⟨2, ![n, k]⟩) x ![0, o] ![n, w] h (ix2 a b) = x (ix2 a ⟨o + b.val, hb⟩) := by
  refine congrArg x (funext fun c => Fin.ext ?_)
  fin_cases c
  · show 0 + 1 * a.val = a.val
    omega
  · show o + 1 * b.val = o + b.val
    omega

end Cert.Windows
-- ==== Proof.TailRows.lean ====
/- The layer's tail, one token at a time: norms of the three mixers' outputs, the output projection, the feed-forward block and the two
   residual sums. And the tail call's steps on a block of tokens, read off as those rows. -/
module

public import proofs.«01_k».proof.Proof.Gen.KernelTailIdeal.Skeleton
public import proofs.«01_k».proof.Proof.Windows
public import Idealize.ShloMosaic.Lib.Pointwise
public import Idealize.ShloMosaic.Lib.Pipeline.ValueKit

@[expose] public section

set_option maxRecDepth 16384

noncomputable section

namespace Cert.Tail

open Idealize.ShloMosaic Idealize.ShloMosaic.TcCoe

/-- The constant inside the roots, and the lengths that the means divide by. -/
abbrev eps : EReal := Ideal.ofBits FTy.f32 897988541#32
abbrev d256 : EReal := Ideal.ofBits FTy.f32 1132462080#32
abbrev d512 : EReal := Ideal.ofBits FTy.f32 1140850688#32
abbrev d1024 : EReal := Ideal.ofBits FTy.f32 1149239296#32

/-- A row over the root of its mean square, times gains. -/
def rms {n : ℕ} (d : EReal) (x g : Fin n → EReal) (b : Fin n) : EReal :=
  x b * Ideal.rsqrt (Ideal.div (∑ k, x k * x k) d + eps) * g b

/-- A row times a matrix. -/
def prod {n k : ℕ} (x : Fin n → EReal) (w : Fin n → Fin k → EReal) (b : Fin k) : EReal := ∑ l, x l * w l b

/-- The three mixers' outputs, normed. -/
def yRow (p q : Fin 512 → EReal) (g : Fin 1024 → EReal) (b : Fin 1024) : EReal :=
  if h : b.val < 256 then rms (n := 256) d256 (fun k => p ⟨k.val, by omega⟩) (fun k => g ⟨k.val, by omega⟩) ⟨b.val, h⟩
  else if h1 : b.val < 512 then rms (n := 256) d256 (fun k => p ⟨256 + k.val, by omega⟩) (fun k => g ⟨256 + k.val, by omega⟩) ⟨b.val - 256, by omega⟩
  else rms (n := 512) d512 q (fun k => g ⟨512 + k.val, by omega⟩) ⟨b.val - 512, by omega⟩

/-- The gated activations of the feed-forward block. -/
def ffRow (gu : Fin 5632 → EReal) (b : Fin 2816) : EReal :=
  gu ⟨b.val, by omega⟩ * Ideal.logistic (gu ⟨b.val, by omega⟩) * gu ⟨2816 + b.val, by omega⟩

/-- What a token's row of the tail reads. -/
structure Row where
  p : Fin 512 → EReal
  q : Fin 512 → EReal
  gg : Fin 1024 → EReal
  h : Fin 1024 → EReal
  gm : Fin 1024 → EReal
  gf : Fin 1024 → EReal
  go : Fin 1024 → EReal
  wo : Fin 1024 → Fin 1024 → EReal
  wg : Fin 1024 → Fin 5632 → EReal
  wd : Fin 2816 → Fin 1024 → EReal

namespace Row

variable (r : Row)

def y : Fin 1024 → EReal := yRow r.p r.q r.gg
def mix : Fin 1024 → EReal := prod r.y r.wo
def h1 (b : Fin 1024) : EReal := r.h b + rms d1024 r.mix r.gm b
def hn : Fin 1024 → EReal := rms d1024 r.h1 r.gf
def gu : Fin 5632 → EReal := prod r.hn r.wg
def ff : Fin 2816 → EReal := ffRow r.gu
def ffo : Fin 1024 → EReal := prod r.ff r.wd
def h2 (b : Fin 1024) : EReal := r.h1 b + rms d1024 r.ffo r.go b

end Row

end Cert.Tail

namespace Cert.KernelTailIdeal.Rows

open Idealize.ShloMosaic Idealize.ShloMosaic.TcCoe
open Cert.KernelTailIdeal.Gen Cert.Tail Cert.Windows

variable (x0 x1 : FVec Ideal S256x512 .f32) (x2 : FVec Ideal S1x1024 .f32) (x3 : FVec Ideal S256x1024 .f32) (x4 x5 x6 : FVec Ideal S1x1024 .f32)
  (w0 : FVec Ideal S1024x1024 .bf16) (w1 : FVec Ideal S1024x5632 .bf16) (w2 : FVec Ideal S2816x1024 .bf16)

/-- The row that token `a` of a block reads. -/
def row (a : Fin 256) : Row where
  p b := x0 (ix2 a b)
  q b := x1 (ix2 a b)
  gg b := x2 (ix2 0 b)
  h b := x3 (ix2 a b)
  gm b := x4 (ix2 0 b)
  gf b := x5 (ix2 0 b)
  go b := x6 (ix2 0 b)
  wo k b := w0 (ix2 k b)
  wg k b := w1 (ix2 k b)
  wd k b := w2 (ix2 k b)

theorem pay3_apply (a b : Fin 256) : k0_pay3 (F := Ideal) x0 x1 x2 (ix2 a b)
    = rms (n := 256) d256 (fun k => x0 (ix2 a ⟨k.val, by omega⟩)) (fun k => x2 (ix2 0 ⟨k.val, by omega⟩)) b := by
  pointwise [k0_pay3, k0_pay1, k0_pay2]
  have hb : ∀ k : Fin 256, k.val < 512 := fun k => by omega
  simp only [dif_pos (hb _), rms]

theorem pay4_apply (a b : Fin 256) : k0_pay4 (F := Ideal) x0 x1 x2 (ix2 a b)
    = rms (n := 256) d256 (fun k => x0 (ix2 a ⟨256 + k.val, by omega⟩)) (fun k => x2 (ix2 0 ⟨256 + k.val, by omega⟩)) b := by
  pointwise [k0_pay4, k0_pay1, k0_pay2]
  have hb : ∀ k : Fin 256, 256 + k.val < 512 := fun k => by omega
  simp only [dif_pos (hb _), rms]

theorem pay5_apply (a : Fin 256) (b : Fin 512) : k0_pay5 (F := Ideal) x0 x1 (ix2 a b) = x1 (ix2 a b) := by
  pointwise [k0_pay5, k0_pay1]

theorem pay6_apply (b : Fin 512) : k0_pay6 (F := Ideal) x2 (ix2 0 b) = x2 (ix2 0 ⟨512 + b.val, by omega⟩) := by
  pointwise [k0_pay6, k0_pay2]

theorem pay7_apply (a : Fin 256) : k0_pay7 (F := Ideal) x0 x1 (ix1 a) = ∑ k : Fin 512, x1 (ix2 a k) * x1 (ix2 a k) := by
  pointwise [k0_pay7]
  simp only [pay5_apply]

/-- The normed mixers' outputs, the projection, the first residual sum and the normed input of the feed-forward block. -/
abbrev yB : FVec Ideal S256x1024 .bf16 := k0_pay8 (k0_pay3 x0 x1 x2) (k0_pay4 x0 x1 x2) (k0_pay5 x0 x1) (k0_pay6 x2) (k0_pay7 x0 x1)
abbrev mixB : FVec Ideal S256x1024 .f32 := k0_pay9 (k0_pay3 x0 x1 x2) (k0_pay4 x0 x1 x2) (k0_pay5 x0 x1) (k0_pay6 x2) (k0_pay7 x0 x1) w0
abbrev mixbB : FVec Ideal S256x1024 .bf16 := k0_pay10 (k0_pay3 x0 x1 x2) (k0_pay4 x0 x1 x2) (k0_pay5 x0 x1) (k0_pay6 x2) (k0_pay7 x0 x1) w0
abbrev h1B : FVec Ideal S256x1024 .f32 := k0_pay11 (k0_pay3 x0 x1 x2) (k0_pay4 x0 x1 x2) (k0_pay5 x0 x1) (k0_pay6 x2) (k0_pay7 x0 x1) w0 x3 x4
abbrev sqB : FVec Ideal S256x1024 .f32 := k0_pay13 (k0_pay3 x0 x1 x2) (k0_pay4 x0 x1 x2) (k0_pay5 x0 x1) (k0_pay6 x2) (k0_pay7 x0 x1) w0 x3 x4
abbrev hnB : FVec Ideal S256x1024 .bf16 := k0_pay14 (h1B x0 x1 x2 x3 x4 w0) (k0_pay12 x5) (sqB x0 x1 x2 x3 x4 w0)

theorem y_apply (a : Fin 256) (b : Fin 1024) : yB x0 x1 x2 (ix2 a b) = (row x0 x1 x2 x3 x4 x5 x6 w0 w1 w2 a).y b := by
  pointwise [k0_pay8]
  unfold Row.y yRow
  by_cases h : b.val < 256
  · simp only [dif_pos h, pay3_apply, row]
  by_cases h1 : b.val < 512
  · simp only [dif_neg h, dif_pos h1, dif_pos (show b.val - 256 < 256 by omega), pay4_apply, row]
  simp only [dif_neg h, dif_neg h1, dif_neg (show ¬ b.val - 256 < 256 by omega), Nat.sub_sub, pay5_apply, pay6_apply, pay7_apply, row, rms]

theorem mix_apply (a : Fin 256) (b : Fin 1024) : mixB x0 x1 x2 w0 (ix2 a b) = (row x0 x1 x2 x3 x4 x5 x6 w0 w1 w2 a).mix b := by
  pointwise [k0_pay9]
  exact Finset.sum_congr rfl fun l _ => congrArg₂ (· * ·) (y_apply x0 x1 x2 x3 x4 x5 x6 w0 w1 w2 a l) rfl

theorem h1_apply (a : Fin 256) (b : Fin 1024) : h1B x0 x1 x2 x3 x4 w0 (ix2 a b) = (row x0 x1 x2 x3 x4 x5 x6 w0 w1 w2 a).h1 b := by
  pointwise [k0_pay11]
  unfold Row.h1 rms
  simp only [← mix_apply x0 x1 x2 x3 x4 x5 x6 w0 w1 w2]
  rfl

theorem sq_apply (a : Fin 256) (b : Fin 1024) : sqB x0 x1 x2 x3 x4 w0 (ix2 a b)
    = (row x0 x1 x2 x3 x4 x5 x6 w0 w1 w2 a).h1 b * (row x0 x1 x2 x3 x4 x5 x6 w0 w1 w2 a).h1 b := by
  pointwise [k0_pay13]
  exact congrArg₂ (· * ·) (h1_apply ..) (h1_apply ..)

theorem hn_apply (a : Fin 256) (b : Fin 1024) : hnB x0 x1 x2 x3 x4 x5 w0 (ix2 a b) = (row x0 x1 x2 x3 x4 x5 x6 w0 w1 w2 a).hn b := by
  unfold hnB
  pointwise [k0_pay14, k0_pay12]
  unfold Row.hn rms
  simp only [← sq_apply, ← h1_apply]
  rfl

/-- Columns `o` to `o + 1408` of the first feed-forward matrix. -/
abbrev wgAt (o : ℕ) (h : ∀ a, (![0, o] : Fin 2 → ℕ) a + (![1024, 1408] : Fin 2 → ℕ) a ≤ S1024x5632.size a) : FVec Ideal S1024x1408 .bf16 :=
  VecWindow.window (s := S1024x5632) w1 ![0, o] ![1024, 1408] h

/-- Rows `o` to `o + 1408` of the second feed-forward matrix. -/
abbrev wdAt (o : ℕ) (h : ∀ a, (![o, 0] : Fin 2 → ℕ) a + (![1408, 1024] : Fin 2 → ℕ) a ≤ S2816x1024.size a) : FVec Ideal S1408x1024 .bf16 :=
  VecWindow.window (s := S2816x1024) w2 ![o, 0] ![1408, 1024] h

/-- The four products with the first feed-forward matrix's columns. -/
theorem gu_apply (o : ℕ) (h) (a : Fin 256) (b : Fin 1408) (hb : o + b.val < 5632) :
    ∑ l : Fin 1024, hnB x0 x1 x2 x3 x4 x5 w0 (ix2 a l) * wgAt w1 o h (ix2 l b) = (row x0 x1 x2 x3 x4 x5 x6 w0 w1 w2 a).gu ⟨o + b.val, hb⟩ := by
  unfold Row.gu prod
  refine Finset.sum_congr rfl fun l _ => congrArg₂ (· * ·) (hn_apply x0 x1 x2 x3 x4 x5 x6 w0 w1 w2 a l) ?_
  exact window_cols _ _ _ _ _ hb

/-- The columns of the first matrix, and the rows of the second, that the call takes at a time. -/
abbrev wg0 : FVec Ideal S1024x1408 .bf16 := wgAt w1 0 inb_S1024x5632_S1024x1408_0_0
abbrev wg1 : FVec Ideal S1024x1408 .bf16 := wgAt w1 2816 inb_S1024x5632_S1024x1408_0_2816
abbrev wg2 : FVec Ideal S1024x1408 .bf16 := wgAt w1 1408 inb_S1024x5632_S1024x1408_0_1408
abbrev wg3 : FVec Ideal S1024x1408 .bf16 := wgAt w1 4224 inb_S1024x5632_S1024x1408_0_4224
abbrev wd0 : FVec Ideal S1408x1024 .bf16 := wdAt w2 0 inb_S2816x1024_S1408x1024_0_0
abbrev wd1 : FVec Ideal S1408x1024 .bf16 := wdAt w2 1408 inb_S2816x1024_S1408x1024_1408_0

/-- The gate products of the second columns, and the first half of the second feed-forward product. -/
abbrev gateB : FVec Ideal S256x1408 .f32 := k0_pay21 (h1B x0 x1 x2 x3 x4 w0) (k0_pay12 x5) (sqB x0 x1 x2 x3 x4 w0) (wg2 w1)
abbrev halfB : FVec Ideal S256x1024 .f32 := k0_pay20 (h1B x0 x1 x2 x3 x4 w0) (k0_pay12 x5) (sqB x0 x1 x2 x3 x4 w0) (wg0 w1) (wg1 w1) (wd0 w2)

/-- What the call leaves of the first feed-forward product, of the gated activations, of the second product, and of the second sum. -/
def guB (base : FVec Ideal S256x5632 .bf16) : FVec Ideal S256x5632 .bf16 :=
  VecWindow.put (s := S256x5632)
    (VecWindow.put (s := S256x5632)
      (VecWindow.put (s := S256x5632)
        (VecWindow.put (s := S256x5632) base ![0, 0] ![256, 1408] (k0_pay17 (h1B x0 x1 x2 x3 x4 w0) (k0_pay12 x5) (sqB x0 x1 x2 x3 x4 w0) (wg0 w1)))
        ![0, 2816] ![256, 1408] (k0_pay18 (h1B x0 x1 x2 x3 x4 w0) (k0_pay12 x5) (sqB x0 x1 x2 x3 x4 w0) (wg1 w1)))
      ![0, 1408] ![256, 1408] (k0_pay23 (gateB x0 x1 x2 x3 x4 x5 w0 w1)))
    ![0, 4224] ![256, 1408] (k0_pay24 (hnB x0 x1 x2 x3 x4 x5 w0) (wg3 w1))
def ffB (base : FVec Ideal S256x2816 .bf16) : FVec Ideal S256x2816 .bf16 :=
  VecWindow.put (s := S256x2816)
    (VecWindow.put (s := S256x2816) base ![0, 0] ![256, 1408] (k0_pay19 (h1B x0 x1 x2 x3 x4 w0) (k0_pay12 x5) (sqB x0 x1 x2 x3 x4 w0) (wg0 w1) (wg1 w1)))
    ![0, 1408] ![256, 1408] (k0_pay25 (hnB x0 x1 x2 x3 x4 x5 w0) (gateB x0 x1 x2 x3 x4 x5 w0 w1) (wg3 w1))
def ffoB : FVec Ideal S256x1024 .bf16 :=
  k0_pay27 (hnB x0 x1 x2 x3 x4 x5 w0) (halfB x0 x1 x2 x3 x4 x5 w0 w1 w2) (gateB x0 x1 x2 x3 x4 x5 w0 w1) (wg3 w1) (wd1 w2)
def h2B : FVec Ideal S256x1024 .f32 :=
  k0_pay28 (h1B x0 x1 x2 x3 x4 w0) (hnB x0 x1 x2 x3 x4 x5 w0) (halfB x0 x1 x2 x3 x4 x5 w0 w1 w2) (gateB x0 x1 x2 x3 x4 x5 w0 w1) (wg3 w1) (wd1 w2) x6

/-- A window of rows, entry by entry. -/
theorem wd_apply (o : ℕ) (h) (a : Fin 1408) (b : Fin 1024) (ha : o + a.val < 2816) : wdAt w2 o h (ix2 a b) = w2 (ix2 ⟨o + a.val, ha⟩ b) := by
  refine congrArg w2 (funext fun c => Fin.ext ?_)
  fin_cases c
  · show o + 1 * a.val = o + a.val
    omega
  · show 0 + 1 * b.val = b.val
    omega

/-- The four products, and the two tiles of gated activations. -/
theorem prod0_apply (a : Fin 256) (b : Fin 1408) : k0_pay15 (h1B x0 x1 x2 x3 x4 w0) (k0_pay12 x5) (sqB x0 x1 x2 x3 x4 w0) (wg0 w1) (ix2 a b)
    = (row x0 x1 x2 x3 x4 x5 x6 w0 w1 w2 a).gu ⟨b.val, by omega⟩ := by
  pointwise [k0_pay15]
  exact (gu_apply x0 x1 x2 x3 x4 x5 x6 w0 w1 w2 0 _ a b (by omega)).trans (congrArg _ (Fin.ext (Nat.zero_add _)))

theorem prod1_apply (a : Fin 256) (b : Fin 1408) : k0_pay16 (h1B x0 x1 x2 x3 x4 w0) (k0_pay12 x5) (sqB x0 x1 x2 x3 x4 w0) (wg1 w1) (ix2 a b)
    = (row x0 x1 x2 x3 x4 x5 x6 w0 w1 w2 a).gu ⟨2816 + b.val, by omega⟩ := by
  pointwise [k0_pay16]
  exact gu_apply x0 x1 x2 x3 x4 x5 x6 w0 w1 w2 2816 _ a b _

theorem gate_apply (a : Fin 256) (b : Fin 1408) : gateB x0 x1 x2 x3 x4 x5 w0 w1 (ix2 a b)
    = (row x0 x1 x2 x3 x4 x5 x6 w0 w1 w2 a).gu ⟨1408 + b.val, by omega⟩ := by
  unfold gateB
  pointwise [k0_pay21]
  exact gu_apply x0 x1 x2 x3 x4 x5 x6 w0 w1 w2 1408 _ a b _

theorem prod3_apply (a : Fin 256) (b : Fin 1408) : k0_pay22 (hnB x0 x1 x2 x3 x4 x5 w0) (wg3 w1) (ix2 a b)
    = (row x0 x1 x2 x3 x4 x5 x6 w0 w1 w2 a).gu ⟨4224 + b.val, by omega⟩ := by
  pointwise [k0_pay22]
  exact gu_apply x0 x1 x2 x3 x4 x5 x6 w0 w1 w2 4224 _ a b _

theorem ff0_apply (a : Fin 256) (b : Fin 1408) : k0_pay19 (h1B x0 x1 x2 x3 x4 w0) (k0_pay12 x5) (sqB x0 x1 x2 x3 x4 w0) (wg0 w1) (wg1 w1) (ix2 a b)
    = (row x0 x1 x2 x3 x4 x5 x6 w0 w1 w2 a).ff ⟨b.val, by omega⟩ := by
  pointwise [k0_pay19]
  simp only [prod0_apply x0 x1 x2 x3 x4 x5 x6 w0 w1 w2, prod1_apply x0 x1 x2 x3 x4 x5 x6 w0 w1 w2, Row.ff, ffRow]

theorem ff1_apply (a : Fin 256) (b : Fin 1408) : k0_pay25 (hnB x0 x1 x2 x3 x4 x5 w0) (gateB x0 x1 x2 x3 x4 x5 w0 w1) (wg3 w1) (ix2 a b)
    = (row x0 x1 x2 x3 x4 x5 x6 w0 w1 w2 a).ff ⟨1408 + b.val, by omega⟩ := by
  pointwise [k0_pay25]
  simp only [gate_apply x0 x1 x2 x3 x4 x5 x6 w0 w1 w2, prod3_apply x0 x1 x2 x3 x4 x5 x6 w0 w1 w2, Row.ff, ffRow, ← Nat.add_assoc]

/-- The first feed-forward product, whole. -/
theorem guB_apply (base : FVec Ideal S256x5632 .bf16) (a : Fin 256) (b : Fin 5632) :
    guB x0 x1 x2 x3 x4 x5 w0 w1 base (ix2 a b) = (row x0 x1 x2 x3 x4 x5 x6 w0 w1 w2 a).gu b := by
  unfold guB
  by_cases h3 : 4224 ≤ b.val
  · refine (put_cols_in _ _ _ _ _ (by omega)).trans ?_
    pointwise [k0_pay24]
    exact (prod3_apply x0 x1 x2 x3 x4 x5 x6 w0 w1 w2 a _).trans (congrArg _ (Fin.ext (by dsimp only; omega)))
  refine (put_cols_out _ _ _ _ _ (by omega)).trans ?_
  by_cases h2 : 1408 ≤ b.val ∧ b.val < 2816
  · refine (put_cols_in _ _ _ _ _ (by omega)).trans ?_
    pointwise [k0_pay23]
    exact (gate_apply x0 x1 x2 x3 x4 x5 x6 w0 w1 w2 a _).trans (congrArg _ (Fin.ext (by dsimp only; omega)))
  refine (put_cols_out _ _ _ _ _ (by omega)).trans ?_
  by_cases h1 : 2816 ≤ b.val
  · refine (put_cols_in _ _ _ _ _ (by omega)).trans ?_
    pointwise [k0_pay18]
    exact (prod1_apply x0 x1 x2 x3 x4 x5 x6 w0 w1 w2 a _).trans (congrArg _ (Fin.ext (by dsimp only; omega)))
  refine (put_cols_out _ _ _ _ _ (by omega)).trans ?_
  refine (put_cols_in _ _ _ _ _ (by omega)).trans ?_
  pointwise [k0_pay17]
  exact prod0_apply x0 x1 x2 x3 x4 x5 x6 w0 w1 w2 a _

/-- The gated activations, whole. -/
theorem ffB_apply (base : FVec Ideal S256x2816 .bf16) (a : Fin 256) (b : Fin 2816) :
    ffB x0 x1 x2 x3 x4 x5 w0 w1 base (ix2 a b) = (row x0 x1 x2 x3 x4 x5 x6 w0 w1 w2 a).ff b := by
  unfold ffB
  by_cases h : 1408 ≤ b.val
  · refine (put_cols_in _ _ _ _ _ (by omega)).trans ?_
    exact (ff1_apply x0 x1 x2 x3 x4 x5 x6 w0 w1 w2 a _).trans (congrArg _ (Fin.ext (by dsimp only; omega)))
  refine (put_cols_out _ _ _ _ _ (by omega)).trans ?_
  refine (put_cols_in _ _ _ _ _ (by omega)).trans ?_
  exact (ff0_apply x0 x1 x2 x3 x4 x5 x6 w0 w1 w2 a _).trans (congrArg _ (Fin.ext (by dsimp only; omega)))

/-- The second feed-forward product: its two halves added. -/
theorem sum_apply (a : Fin 256) (b : Fin 1024) :
    k0_pay26 (hnB x0 x1 x2 x3 x4 x5 w0) (halfB x0 x1 x2 x3 x4 x5 w0 w1 w2) (gateB x0 x1 x2 x3 x4 x5 w0 w1) (wg3 w1) (wd1 w2) (ix2 a b)
      = (row x0 x1 x2 x3 x4 x5 x6 w0 w1 w2 a).ffo b := by
  pointwise [k0_pay26, k0_pay20]
  unfold Row.ffo prod
  refine Eq.trans ?_ (Fin.sum_univ_add (a := 1408) (b := 1408) (fun l : Fin 2816 => (row x0 x1 x2 x3 x4 x5 x6 w0 w1 w2 a).ff l * w2 (ix2 l b))).symm
  refine congrArg₂ (· + ·) (Finset.sum_congr rfl fun l _ => congrArg₂ (· * ·) ?_ ?_) (Finset.sum_congr rfl fun l _ => congrArg₂ (· * ·) ?_ ?_)
  · exact ff0_apply x0 x1 x2 x3 x4 x5 x6 w0 w1 w2 a l
  · exact (wd_apply w2 0 _ l b (by omega)).trans (congrArg w2 (congrArg (fun l => ix2 l b) (Fin.ext (Nat.zero_add _))))
  · exact ff1_apply x0 x1 x2 x3 x4 x5 x6 w0 w1 w2 a l
  · exact wd_apply w2 1408 _ l b (by omega)

theorem ffoB_apply (a : Fin 256) (b : Fin 1024) : ffoB x0 x1 x2 x3 x4 x5 w0 w1 w2 (ix2 a b) = (row x0 x1 x2 x3 x4 x5 x6 w0 w1 w2 a).ffo b := by
  unfold ffoB
  pointwise [k0_pay27]
  exact sum_apply ..

theorem mixbB_apply (a : Fin 256) (b : Fin 1024) : mixbB x0 x1 x2 w0 (ix2 a b) = (row x0 x1 x2 x3 x4 x5 x6 w0 w1 w2 a).mix b := by
  unfold mixbB
  pointwise [k0_pay10]
  exact mix_apply ..

theorem h2B_apply (a : Fin 256) (b : Fin 1024) : h2B x0 x1 x2 x3 x4 x5 x6 w0 w1 w2 (ix2 a b) = (row x0 x1 x2 x3 x4 x5 x6 w0 w1 w2 a).h2 b := by
  unfold h2B
  pointwise [k0_pay28]
  unfold Row.h2 rms
  simp only [← sum_apply x0 x1 x2 x3 x4 x5 x6 w0 w1 w2, ← h1_apply x0 x1 x2 x3 x4 x5 x6 w0 w1 w2]
  rfl

end Cert.KernelTailIdeal.Rows

end
-- ==== Proof.Tail.lean ====
/- The tail call, point by point: what a point leaves in its blocks and in the three weights that it keeps. -/
module

public import proofs.«01_k».proof.Proof.TailRows
public import proofs.«01_k».proof.Proof.Gen.KernelTailIdeal.Frame
public import Idealize.ShloMosaic.Lib.Pipeline.Value
public import Idealize.ShloMosaic.Lib.Pipeline.ValueKit

@[expose] public section

set_option maxRecDepth 16384

noncomputable section

namespace Cert.KernelTailIdeal.Points

open Idealize.ShloMosaic Idealize.ShloMosaic.TcCoe Idealize.SL.Sem
open Cert.KernelTailIdeal.Gen Cert.KernelTailIdeal.Rows Cert.Windows

variable (m : (ℓ : Loc nD τ sig) → Buf (Elt Ideal) ℓ) (c : Dev nD)

/-- The inputs' blocks at a point, and the three weights. -/
abbrev b0 (t : Fin cfg0.N) : FVec Ideal S256x512 .f32 := iblk m c 0 t
abbrev b1 (t : Fin cfg0.N) : FVec Ideal S256x512 .f32 := iblk m c 1 t
abbrev b2 (t : Fin cfg0.N) : FVec Ideal S1x1024 .f32 := iblk m c 2 t
abbrev b3 (t : Fin cfg0.N) : FVec Ideal S256x1024 .f32 := iblk m c 3 t
abbrev b4 (t : Fin cfg0.N) : FVec Ideal S1x1024 .f32 := iblk m c 4 t
abbrev b5 (t : Fin cfg0.N) : FVec Ideal S1x1024 .f32 := iblk m c 5 t
abbrev b6 (t : Fin cfg0.N) : FVec Ideal S1x1024 .f32 := iblk m c 6 t
abbrev w0 : FVec Ideal S1024x1024 .bf16 := V m c main_v1
abbrev w1 : FVec Ideal S1024x5632 .bf16 := V m c main_v4
abbrev w2 : FVec Ideal S2816x1024 .bf16 := V m c main_v5

/-- What a point leaves. -/
abbrev left (t : Fin cfg0.N) : Vec Ideal S256x1024 .bf16 × Vec Ideal S256x1024 .bf16 × Vec Ideal S256x1024 .f32 × Vec Ideal S256x1024 .bf16
    × Vec Ideal S256x5632 .bf16 × Vec Ideal S256x2816 .bf16 × Vec Ideal S256x1024 .bf16 × Vec Ideal S256x1024 .f32
    × Vec Ideal S1024x1024 .bf16 × Vec Ideal S1024x5632 .bf16 × Vec Ideal S2816x1024 .bf16 :=
  (yB (b0 m c t) (b1 m c t) (b2 m c t),
   mixbB (b0 m c t) (b1 m c t) (b2 m c t) (w0 m c),
   h1B (b0 m c t) (b1 m c t) (b2 m c t) (b3 m c t) (b4 m c t) (w0 m c),
   hnB (b0 m c t) (b1 m c t) (b2 m c t) (b3 m c t) (b4 m c t) (b5 m c t) (w0 m c),
   guB (b0 m c t) (b1 m c t) (b2 m c t) (b3 m c t) (b4 m c t) (b5 m c t) (w0 m c) (w1 m c) (VO0_11.read (Elt Ideal) VO0_11.junk),
   ffB (b0 m c t) (b1 m c t) (b2 m c t) (b3 m c t) (b4 m c t) (b5 m c t) (w0 m c) (w1 m c) (VO0_12.read (Elt Ideal) VO0_12.junk),
   ffoB (b0 m c t) (b1 m c t) (b2 m c t) (b3 m c t) (b4 m c t) (b5 m c t) (w0 m c) (w1 m c) (w2 m c),
   h2B (b0 m c t) (b1 m c t) (b2 m c t) (b3 m c t) (b4 m c t) (b5 m c t) (b6 m c t) (w0 m c) (w1 m c) (w2 m c),
   w0 m c, w1 m c, w2 m c)

/-- Equal parts make equal lists of eleven. -/
theorem eleven {A0 A1 A2 A3 A4 A5 A6 A7 A8 A9 A10 : Type} {a0 b0 : A0} {a1 b1 : A1} {a2 b2 : A2} {a3 b3 : A3} {a4 b4 : A4} {a5 b5 : A5} {a6 b6 : A6}
    {a7 b7 : A7} {a8 b8 : A8} {a9 b9 : A9} {a10 b10 : A10} (h0 : a0 = b0) (h1 : a1 = b1) (h2 : a2 = b2) (h3 : a3 = b3) (h4 : a4 = b4) (h5 : a5 = b5)
    (h6 : a6 = b6) (h7 : a7 = b7) (h8 : a8 = b8) (h9 : a9 = b9) (h10 : a10 = b10) :
    (a0, a1, a2, a3, a4, a5, a6, a7, a8, a9, a10) = (b0, b1, b2, b3, b4, b5, b6, b7, b8, b9, b10) := by
  subst h0 h1 h2 h3 h4 h5 h6 h7 h8 h9 h10; rfl

/-- The first point brings the weights in. -/
theorem outs_A (t : Fin cfg0.N) (h0 : t.val % 32 = 0) : outsAt0 m c t.val t.isLt = left m c t := by
  refine (outsAt0_A m c t h0).trans (eleven ?_ ?_ ?_ ?_ ?_ ?_ ?_ ?_ ?_ ?_ ?_)
  all_goals
    first
      | unfold out0_A_7 | unfold out0_A_8 | unfold out0_A_9 | unfold out0_A_10 | unfold out0_A_11 | unfold out0_A_12 | unfold out0_A_13
      | unfold out0_A_14 | unfold sout0_A_0 | unfold sout0_A_1 | unfold sout0_A_2
    try unfold kernelRun0_A
    try dsimp only
    try sl_unfold_words
    try simp only [ld_win, ld_cov, st_put, st_whole, View.writes_nil, Memref.IsWhole.read_unread]
    try simp only [window_whole, put_whole]
    try rfl

/-- A later point finds the weights. -/
theorem outs_B (t s : Fin cfg0.N) (h0 : ¬t.val % 32 = 0) (h : outsAt0 m c (t.val - 1) (Nat.lt_of_le_of_lt (Nat.sub_le _ _) t.isLt) = left m c s) :
    outsAt0 m c t.val t.isLt = left m c t := by
  refine (outsAt0_B m c t h0).trans ?_
  rw [h]
  dsimp only [left]
  refine eleven ?_ ?_ ?_ ?_ ?_ ?_ ?_ ?_ rfl rfl rfl
  all_goals
    generalize (Memref.isWhole_whole cc0_scratch0) = p0
    generalize (Memref.isWhole_whole cc0_scratch1) = p1
    generalize (Memref.isWhole_whole cc0_scratch2) = p2
    revert p0 p1 p2
    change ∀ (p0 : scM0_0.IsWhole) (p1 : scM0_1.IsWhole) (p2 : scM0_2.IsWhole), _
    generalize scM0_0 = s0
    generalize scM0_1 = s1
    generalize scM0_2 = s2
    intro p0 p1 p2
    first
      | unfold out0_B_7 | unfold out0_B_8 | unfold out0_B_9 | unfold out0_B_10 | unfold out0_B_11 | unfold out0_B_12 | unfold out0_B_13
      | unfold out0_B_14
    try unfold kernelRun0_B
    try dsimp only
    try sl_unfold_words
    try simp only [ld_win, ld_cov, st_put, st_whole, View.writes_nil, Memref.IsWhole.read_unread]
    try simp only [window_whole, put_whole]
    try rfl

/-- So every point leaves the same function of its blocks and of the weights. -/
theorem outs (n : ℕ) (h : n < cfg0.N) : outsAt0 m c n h = left m c ⟨n, h⟩ := by
  induction n with
  | zero => exact outs_A m c ⟨0, h⟩ rfl
  | succ n ih =>
    have hN := lt_of_lt_of_eq h (show cfg0.N = 32 from N_0)
    exact outs_B m c ⟨n + 1, h⟩ ⟨n, by omega⟩ (by dsimp only; omega) (ih _)

end Cert.KernelTailIdeal.Points

end
-- ==== Proof.TailReference.lean ====
/- The reference's tail of a layer, one token at a time. -/
module

public import proofs.«01_k».proof.Proof.TailRows
public import proofs.«01_k».proof.Proof.Gen.ReferenceTailIdeal.Run
public import Idealize.ShloMosaic.Lib.Pointwise

@[expose] public section

set_option maxRecDepth 16384

noncomputable section

namespace Cert.ReferenceTailIdeal.Rows

open Idealize.ShloMosaic Idealize.ShloMosaic.TcCoe Idealize.SL.Sem
open Cert.ReferenceTailIdeal.Value Cert.Tail

variable (V0 : Valuation τ sig (Elt Ideal))

/-- The arguments. -/
abbrev a0 : FVec Ideal S8192x512 .f32 := V0 (Proc.devRef .tc main_arg0)
abbrev a1 : FVec Ideal S8192x512 .f32 := V0 (Proc.devRef .tc main_arg1)
abbrev a2 : FVec Ideal S1024 .f32 := V0 (Proc.devRef .tc main_arg2)
abbrev a3 : FVec Ideal S1024x1024 .f32 := V0 (Proc.devRef .tc main_arg3)
abbrev a4 : FVec Ideal S8192x1024 .f32 := V0 (Proc.devRef .tc main_arg4)
abbrev a5 : FVec Ideal S1024 .f32 := V0 (Proc.devRef .tc main_arg5)
abbrev a6 : FVec Ideal S1024 .f32 := V0 (Proc.devRef .tc main_arg6)
abbrev a7 : FVec Ideal S1024x5632 .f32 := V0 (Proc.devRef .tc main_arg7)
abbrev a8 : FVec Ideal S2816x1024 .f32 := V0 (Proc.devRef .tc main_arg8)
abbrev a9 : FVec Ideal S1024 .f32 := V0 (Proc.devRef .tc main_arg9)

/-- The stages. -/
abbrev yR : FVec Ideal S8192x1024 .f32 := res_main_v44 V0
abbrev mixR : FVec Ideal S8192x1024 .f32 := res_main_v45 V0
abbrev h1R : FVec Ideal S8192x1024 .f32 := res_main_v59 V0
abbrev hnR : FVec Ideal S8192x1024 .f32 := res_main_v72 V0
abbrev guR : FVec Ideal S8192x5632 .f32 := res_main_v73 V0
abbrev ffR : FVec Ideal S8192x2816 .f32 := res_main_v77 V0
abbrev ffoR : FVec Ideal S8192x1024 .f32 := res_main_v78 V0

/-- What token `a` reads. -/
def row (a : Fin 8192) : Row where
  p b := a0 V0 (ix2 a b)
  q b := a1 V0 (ix2 a b)
  gg b := a2 V0 (ix1 b)
  h b := a4 V0 (ix2 a b)
  gm b := a5 V0 (ix1 b)
  gf b := a6 V0 (ix1 b)
  go b := a9 V0 (ix1 b)
  wo k b := a3 V0 (ix2 k b)
  wg k b := a7 V0 (ix2 k b)
  wd k b := a8 V0 (ix2 k b)

theorem y_apply (a : Fin 8192) (b : Fin 1024) : yR V0 (ix2 a b) = (row V0 a).y b := by
  unfold yR
  pointwise [res_main_v44, res_main_v0, res_main_v15]
  unfold Row.y yRow
  by_cases h : b.val < 256
  · simp only [dif_pos h, row, rms]
  by_cases h1 : b.val < 512
  · simp only [dif_neg h, dif_pos h1, dif_pos (show b.val - 256 < 256 by omega), row, rms]
  simp only [dif_neg h, dif_neg h1, dif_neg (show ¬ b.val - 256 < 256 by omega), Nat.sub_sub, row, rms]

theorem mix_apply (a : Fin 8192) (b : Fin 1024) : mixR V0 (ix2 a b) = (row V0 a).mix b := by
  unfold mixR
  pointwise [res_main_v45]
  exact Finset.sum_congr rfl fun l _ => congrArg₂ (· * ·) (y_apply V0 a l) rfl

theorem h1_apply (a : Fin 8192) (b : Fin 1024) : h1R V0 (ix2 a b) = (row V0 a).h1 b := by
  unfold h1R
  pointwise [res_main_v59]
  unfold Row.h1 rms
  simp only [← mix_apply V0]
  rfl

theorem hn_apply (a : Fin 8192) (b : Fin 1024) : hnR V0 (ix2 a b) = (row V0 a).hn b := by
  unfold hnR
  pointwise [res_main_v72]
  unfold Row.hn rms
  simp only [← h1_apply V0]
  rfl

theorem gu_apply (a : Fin 8192) (b : Fin 5632) : guR V0 (ix2 a b) = (row V0 a).gu b := by
  unfold guR
  pointwise [res_main_v73]
  exact Finset.sum_congr rfl fun l _ => congrArg₂ (· * ·) (hn_apply V0 a l) rfl

theorem ff_apply (a : Fin 8192) (b : Fin 2816) : ffR V0 (ix2 a b) = (row V0 a).ff b := by
  unfold ffR
  pointwise [res_main_v77, res_main_v74]
  unfold Row.ff ffRow
  simp only [← gu_apply V0]
  rfl

theorem ffo_apply (a : Fin 8192) (b : Fin 1024) : ffoR V0 (ix2 a b) = (row V0 a).ffo b := by
  unfold ffoR
  pointwise [res_main_v78]
  exact Finset.sum_congr rfl fun l _ => congrArg₂ (· * ·) (ff_apply V0 a l) rfl

/-- The second sum, which the reference returns as it is. -/
abbrev h2R : FVec Ideal S8192x1024 .f32 :=
  addf (res_main_v59 V0) (mulf (mulf (res_main_v78 V0) (broadcastInDim S8192x1024 ![0, 1] Facts₀.bcast_S8192x1_S8192x1024_0_1
    (Host.rsqrt (addf (Host.divf (broadcastInDim S8192x1 ![0] Facts₀.bcast_S8192_S8192x1_0
      (Host.reduceAdd (mulf (res_main_v78 V0) (res_main_v78 V0)) (constant S_ .f32 0x00000000#32) Facts₀.reducesTo_S8192x1024_S8192_d1 Facts₀.h_S_))
      (broadcastInDim S8192x1 ![] Facts₀.bcast_S_S8192x1 (constant S_ .f32 0x44800000#32)))
      (broadcastInDim S8192x1 ![] Facts₀.bcast_S_S8192x1 (constant S_ .f32 0x358637BD#32))))))
    (broadcastInDim S8192x1024 ![0, 1] Facts₀.bcast_S1x1024_S8192x1024_0_1 (broadcastInDim S1x1024 ![1] Facts₀.bcast_S1024_S1x1024_1 (V0 (Proc.devRef .tc main_arg9)))))

theorem h2_apply (a : Fin 8192) (b : Fin 1024) : h2R V0 (ix2 a b) = (row V0 a).h2 b := by
  unfold h2R
  pointwise
  unfold Row.h2 rms
  simp only [← h1_apply V0, ← ffo_apply V0]
  rfl

end Cert.ReferenceTailIdeal.Rows

end
-- ==== Proof.TailValue.lean ====
/- The tail of a layer: what the call leaves, token by token, is what the reference computes. -/
module

public import proofs.«01_k».proof.Defs
public import proofs.«01_k».proof.Proof.Tail
public import proofs.«01_k».proof.Proof.TailReference
public import proofs.«01_k».proof.Proof.Gen.KernelTail.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelTailIdeal.Points

open Idealize.ShloMosaic Idealize.ShloMosaic.TcCoe Idealize.SL.Sem
open Cert.KernelTailIdeal.Gen Cert.KernelTailIdeal.Rows Cert.Tail

/-- Which block each window is on at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ t.val < 32 :=
  (by decide +kernel : ∀ t : Fin grid0.N, _)

variable (m : (ℓ : Loc nD τ sig) → Buf (Elt Ideal) ℓ) (c : Dev nD)

/-- The arguments. -/
abbrev a0 : FVec Ideal S8192x512 .f32 := m ((c : Thread nD τ).loc main_arg0)
abbrev a1 : FVec Ideal S8192x512 .f32 := m ((c : Thread nD τ).loc main_arg1)
abbrev a2 : FVec Ideal S1024 .f32 := m ((c : Thread nD τ).loc main_arg2)
abbrev a3 : FVec Ideal S1024x1024 .f32 := m ((c : Thread nD τ).loc main_arg3)
abbrev a4 : FVec Ideal S8192x1024 .f32 := m ((c : Thread nD τ).loc main_arg4)
abbrev a5 : FVec Ideal S1024 .f32 := m ((c : Thread nD τ).loc main_arg5)
abbrev a6 : FVec Ideal S1024 .f32 := m ((c : Thread nD τ).loc main_arg6)
abbrev a7 : FVec Ideal S1024x5632 .f32 := m ((c : Thread nD τ).loc main_arg7)
abbrev a8 : FVec Ideal S2816x1024 .f32 := m ((c : Thread nD τ).loc main_arg8)
abbrev a9 : FVec Ideal S1024 .f32 := m ((c : Thread nD τ).loc main_arg9)

/-- What token `a` reads. -/
def token (a : Fin 8192) : Row where
  p b := a0 m c (ix2 a b)
  q b := a1 m c (ix2 a b)
  gg b := a2 m c (ix1 b)
  h b := a4 m c (ix2 a b)
  gm b := a5 m c (ix1 b)
  gf b := a6 m c (ix1 b)
  go b := a9 m c (ix1 b)
  wo k b := a3 m c (ix2 k b)
  wg k b := a7 m c (ix2 k b)
  wd k b := a8 m c (ix2 k b)

theorem entry1 (a : Fin 1024) (b : Fin 1024) : w0 m c (ix2 a b) = a3 m c (ix2 a b) := by
  dsimp only [w0, V, List.flatten_cons, List.flatten_nil, List.cons_append, List.nil_append]
  after_reads_at
theorem entry4 (a : Fin 1024) (b : Fin 5632) : w1 m c (ix2 a b) = a7 m c (ix2 a b) := by
  dsimp only [w1, V, List.flatten_cons, List.flatten_nil, List.cons_append, List.nil_append]
  after_reads_at
theorem entry5 (a : Fin 2816) (b : Fin 1024) : w2 m c (ix2 a b) = a8 m c (ix2 a b) := by
  dsimp only [w2, V, List.flatten_cons, List.flatten_nil, List.cons_append, List.nil_append]
  after_reads_at
theorem entry0 (a : Fin 1) (b : Fin 1024) : (V m c main_v0 : FVec Ideal S1x1024 .f32) (ix2 a b) = a2 m c (ix1 b) := by
  dsimp only [V, List.flatten_cons, List.flatten_nil, List.cons_append, List.nil_append]
  after_reads_at
theorem entry2 (a : Fin 1) (b : Fin 1024) : (V m c main_v2 : FVec Ideal S1x1024 .f32) (ix2 a b) = a5 m c (ix1 b) := by
  dsimp only [V, List.flatten_cons, List.flatten_nil, List.cons_append, List.nil_append]
  after_reads_at
theorem entry3 (a : Fin 1) (b : Fin 1024) : (V m c main_v3 : FVec Ideal S1x1024 .f32) (ix2 a b) = a6 m c (ix1 b) := by
  dsimp only [V, List.flatten_cons, List.flatten_nil, List.cons_append, List.nil_append]
  after_reads_at
theorem entry6 (a : Fin 1) (b : Fin 1024) : (V m c main_v6 : FVec Ideal S1x1024 .f32) (ix2 a b) = a9 m c (ix1 b) := by
  dsimp only [V, List.flatten_cons, List.flatten_nil, List.cons_append, List.nil_append]
  after_reads_at

theorem read0 (t : Fin cfg0.N) (a : Fin 256) (b : Fin 512) (h : t.val * 256 + a.val < 8192) : b0 m c t (ix2 a b) = a0 m c (ix2 ⟨t.val * 256 + a.val, h⟩ b) := by
  blk_ext [iblk, V, idx t]
theorem read1 (t : Fin cfg0.N) (a : Fin 256) (b : Fin 512) (h : t.val * 256 + a.val < 8192) : b1 m c t (ix2 a b) = a1 m c (ix2 ⟨t.val * 256 + a.val, h⟩ b) := by
  blk_ext [iblk, V, idx t]
theorem read2 (t : Fin cfg0.N) (a : Fin 1) (b : Fin 1024) : b2 m c t (ix2 a b) = (V m c main_v0 : FVec Ideal S1x1024 .f32) (ix2 a b) := by
  blk_ext [iblk, idx t]
theorem read3 (t : Fin cfg0.N) (a : Fin 256) (b : Fin 1024) (h : t.val * 256 + a.val < 8192) : b3 m c t (ix2 a b) = a4 m c (ix2 ⟨t.val * 256 + a.val, h⟩ b) := by
  blk_ext [iblk, V, idx t]
theorem read4 (t : Fin cfg0.N) (a : Fin 1) (b : Fin 1024) : b4 m c t (ix2 a b) = (V m c main_v2 : FVec Ideal S1x1024 .f32) (ix2 a b) := by
  blk_ext [iblk, idx t]
theorem read5 (t : Fin cfg0.N) (a : Fin 1) (b : Fin 1024) : b5 m c t (ix2 a b) = (V m c main_v3 : FVec Ideal S1x1024 .f32) (ix2 a b) := by
  blk_ext [iblk, idx t]
theorem read6 (t : Fin cfg0.N) (a : Fin 1) (b : Fin 1024) : b6 m c t (ix2 a b) = (V m c main_v6 : FVec Ideal S1x1024 .f32) (ix2 a b) := by
  blk_ext [iblk, idx t]

/-- Row `a` of the blocks at point `t` is token `256 t + a`. -/
theorem row_eq (t : Fin cfg0.N) (a : Fin 256) (h : t.val * 256 + a.val < 8192) :
    row (b0 m c t) (b1 m c t) (b2 m c t) (b3 m c t) (b4 m c t) (b5 m c t) (b6 m c t) (w0 m c) (w1 m c) (w2 m c) a = token m c ⟨t.val * 256 + a.val, h⟩ := by
  simp only [row, token, Row.mk.injEq]
  exact ⟨funext fun b => read0 m c t a b h, funext fun b => read1 m c t a b h, funext fun b => (read2 m c t 0 b).trans (entry0 m c 0 b),
    funext fun b => read3 m c t a b h, funext fun b => (read4 m c t 0 b).trans (entry2 m c 0 b), funext fun b => (read5 m c t 0 b).trans (entry3 m c 0 b),
    funext fun b => (read6 m c t 0 b).trans (entry6 m c 0 b), funext fun k => funext fun b => entry1 m c k b, funext fun k => funext fun b => entry4 m c k b,
    funext fun k => funext fun b => entry5 m c k b⟩

/-- An array whose row `a` is a function of what token `a` reads. -/
abbrev rows {n : ℕ} (f : Row → Fin n → EReal) : (⟨2, ![8192, n]⟩ : Shape).Idx → EReal := fun j => f (token m c (j 0)) (j 1)

/-- A row of a block, in the array. -/
theorem at_row {n : ℕ} (f : Row → Fin n → EReal) (t : Fin cfg0.N) (a : Fin 256) (b : Fin n) (j : (⟨2, ![8192, n]⟩ : Shape).Idx) (h : t.val * 256 + a.val < 8192)
    (hj : j = ix2 ⟨t.val * 256 + a.val, h⟩ b) :
    f (row (b0 m c t) (b1 m c t) (b2 m c t) (b3 m c t) (b4 m c t) (b5 m c t) (b6 m c t) (w0 m c) (w1 m c) (w2 m c) a) b = rows m c f j := by
  subst hj
  rw [row_eq m c t a h]
  rfl

/-- The eight arrays that the call leaves. -/
theorem final7 : (dats m 0 c).arrAt 7 cfg0.N = (rows m c Row.y : FVec Ideal S8192x1024 .bf16) := by
  refine (dats m 0 c).arrAt_eq_of_covers 7 _ (by decide +kernel) fun t _ y => ?_
  have ht := (idx t).2.2.2.2.2.2.2.2.2.2.2.2.2.2.2
  blk_simp
  rw [after0_7, outs]
  idx_vars y
  exact (y_apply (b0 m c t) (b1 m c t) (b2 m c t) (b3 m c t) (b4 m c t) (b5 m c t) (b6 m c t) (w0 m c) (w1 m c) (w2 m c) y0 y1).trans
    (at_row m c Row.y t y0 y1 _ (by omega) (by blk_ext [idx t]))

theorem final8 : (dats m 0 c).arrAt 8 cfg0.N = (rows m c Row.mix : FVec Ideal S8192x1024 .bf16) := by
  refine (dats m 0 c).arrAt_eq_of_covers 8 _ (by decide +kernel) fun t _ y => ?_
  have ht := (idx t).2.2.2.2.2.2.2.2.2.2.2.2.2.2.2
  blk_simp
  rw [after0_8, outs]
  idx_vars y
  exact (mixbB_apply (b0 m c t) (b1 m c t) (b2 m c t) (b3 m c t) (b4 m c t) (b5 m c t) (b6 m c t) (w0 m c) (w1 m c) (w2 m c) y0 y1).trans
    (at_row m c Row.mix t y0 y1 _ (by omega) (by blk_ext [idx t]))

theorem final9 : (dats m 0 c).arrAt 9 cfg0.N = (rows m c Row.h1 : FVec Ideal S8192x1024 .f32) := by
  refine (dats m 0 c).arrAt_eq_of_covers 9 _ (by decide +kernel) fun t _ y => ?_
  have ht := (idx t).2.2.2.2.2.2.2.2.2.2.2.2.2.2.2
  blk_simp
  rw [after0_9, outs]
  idx_vars y
  exact (h1_apply (b0 m c t) (b1 m c t) (b2 m c t) (b3 m c t) (b4 m c t) (b5 m c t) (b6 m c t) (w0 m c) (w1 m c) (w2 m c) y0 y1).trans
    (at_row m c Row.h1 t y0 y1 _ (by omega) (by blk_ext [idx t]))

theorem final10 : (dats m 0 c).arrAt 10 cfg0.N = (rows m c Row.hn : FVec Ideal S8192x1024 .bf16) := by
  refine (dats m 0 c).arrAt_eq_of_covers 10 _ (by decide +kernel) fun t _ y => ?_
  have ht := (idx t).2.2.2.2.2.2.2.2.2.2.2.2.2.2.2
  blk_simp
  rw [after0_10, outs]
  idx_vars y
  exact (hn_apply (b0 m c t) (b1 m c t) (b2 m c t) (b3 m c t) (b4 m c t) (b5 m c t) (b6 m c t) (w0 m c) (w1 m c) (w2 m c) y0 y1).trans
    (at_row m c Row.hn t y0 y1 _ (by omega) (by blk_ext [idx t]))

theorem final11 : (dats m 0 c).arrAt 11 cfg0.N = (rows m c Row.gu : FVec Ideal S8192x5632 .bf16) := by
  refine (dats m 0 c).arrAt_eq_of_covers 11 _ (by decide +kernel) fun t _ y => ?_
  have ht := (idx t).2.2.2.2.2.2.2.2.2.2.2.2.2.2.2
  blk_simp
  rw [after0_11, outs]
  idx_vars y
  exact (guB_apply (b0 m c t) (b1 m c t) (b2 m c t) (b3 m c t) (b4 m c t) (b5 m c t) (b6 m c t) (w0 m c) (w1 m c) (w2 m c) _ y0 y1).trans
    (at_row m c Row.gu t y0 y1 _ (by omega) (by blk_ext [idx t]))

theorem final12 : (dats m 0 c).arrAt 12 cfg0.N = (rows m c Row.ff : FVec Ideal S8192x2816 .bf16) := by
  refine (dats m 0 c).arrAt_eq_of_covers 12 _ (by decide +kernel) fun t _ y => ?_
  have ht := (idx t).2.2.2.2.2.2.2.2.2.2.2.2.2.2.2
  blk_simp
  rw [after0_12, outs]
  idx_vars y
  exact (ffB_apply (b0 m c t) (b1 m c t) (b2 m c t) (b3 m c t) (b4 m c t) (b5 m c t) (b6 m c t) (w0 m c) (w1 m c) (w2 m c) _ y0 y1).trans
    (at_row m c Row.ff t y0 y1 _ (by omega) (by blk_ext [idx t]))

theorem final13 : (dats m 0 c).arrAt 13 cfg0.N = (rows m c Row.ffo : FVec Ideal S8192x1024 .bf16) := by
  refine (dats m 0 c).arrAt_eq_of_covers 13 _ (by decide +kernel) fun t _ y => ?_
  have ht := (idx t).2.2.2.2.2.2.2.2.2.2.2.2.2.2.2
  blk_simp
  rw [after0_13, outs]
  idx_vars y
  exact (ffoB_apply (b0 m c t) (b1 m c t) (b2 m c t) (b3 m c t) (b4 m c t) (b5 m c t) (b6 m c t) (w0 m c) (w1 m c) (w2 m c) y0 y1).trans
    (at_row m c Row.ffo t y0 y1 _ (by omega) (by blk_ext [idx t]))

theorem final14 : (dats m 0 c).arrAt 14 cfg0.N = (rows m c Row.h2 : FVec Ideal S8192x1024 .f32) := by
  refine (dats m 0 c).arrAt_eq_of_covers 14 _ (by decide +kernel) fun t _ y => ?_
  have ht := (idx t).2.2.2.2.2.2.2.2.2.2.2.2.2.2.2
  blk_simp
  rw [after0_14, outs]
  idx_vars y
  exact (h2B_apply (b0 m c t) (b1 m c t) (b2 m c t) (b3 m c t) (b4 m c t) (b5 m c t) (b6 m c t) (w0 m c) (w1 m c) (w2 m c) y0 y1).trans
    (at_row m c Row.h2 t y0 y1 _ (by omega) (by blk_ext [idx t]))

end Cert.KernelTailIdeal.Points

namespace Cert.TailValue

open Idealize.ShloMosaic Idealize.ShloMosaic.TcCoe Idealize.SL.Sem
open Cert.KernelTailIdeal.Points Cert.Tail

/-- The frames of the kernel's two programs and of the reference. -/
theorem frame_kernel : Cert.quiescent_KernelTail (hKernelTail := Cert.KernelTail.Gen.facts) := fun m ρ _ => Cert.KernelTail.Gen.frame m ρ
theorem frame_ideal : Cert.quiescent_KernelTailIdeal (hKernelTailIdeal := Cert.KernelTailIdeal.Gen.facts) := fun m ρ _ => Cert.KernelTailIdeal.Gen.frame m ρ
theorem frame_reference : Cert.quiescent_ReferenceTailIdeal (hReferenceTailIdeal := Cert.ReferenceTailIdeal.Gen.facts) := by
  intro m ρ _
  exact (θ_run Cert.ReferenceTailIdeal.defs _ _).mono (fun r h => ⟨fun c => (h c).2.2.2.2.2.2.2.2, sem_eq_zero_of_no_sems (by decide) r.2⟩)
    (Cert.ReferenceTailIdeal.Value.run (F := Ideal) m ρ)

open Cert.ReferenceTailIdeal in
/-- A stage of the reference whose rows are functions of what the tokens read. -/
theorem rows_eq {n : ℕ} (f : Row → Fin n → EReal) (m : (ℓ : Loc Cert.KernelTailIdeal.nD Cert.KernelTailIdeal.τ Cert.KernelTailIdeal.sig) → Buf (Elt Ideal) ℓ)
    (c : Dev Cert.KernelTailIdeal.nD) (V0 : Valuation τ sig (Elt Ideal)) (e : ∀ a, Cert.ReferenceTailIdeal.Rows.row V0 a = token m c a)
    (x : FVec Ideal ⟨2, ![8192, n]⟩ .f32) (h : ∀ a b, x (ix2 a b) = f (Cert.ReferenceTailIdeal.Rows.row V0 a) b) : x = rows m c f := by
  funext (j : (⟨2, ![8192, n]⟩ : Shape).Idx)
  have hj : ∀ (a : Fin 8192) (b : Fin n), x (ix2 a b) = f (token m c a) b := fun a b => (h a b).trans (by rw [e])
  exact (congrArg x (eq_ix2 j)).trans (hj (j 0) (j 1))

/-- Kernel and reference compute the same tail of a layer. -/
theorem value : Cert.algebraic_KernelTailIdeal_ReferenceTailIdeal (hKernelTailIdeal := Cert.KernelTailIdeal.Gen.facts)
    (hReferenceTailIdeal := Cert.ReferenceTailIdeal.Gen.facts) := by
  intro m g m' g' _ hargs
  refine ⟨fun c => rows m c Row.y, fun c => rows m c Row.mix, fun c => rows m c Row.h1, fun c => rows m c Row.hn, fun c => rows m c Row.gu,
    fun c => rows m c Row.ff, fun c => rows m c Row.ffo, fun c => rows m c Row.h2, ?_, ?_⟩
  · open Cert.KernelTailIdeal Cert.KernelTailIdeal.Gen in
    exact (θ_run _ _ _).mono (fun r h c => ⟨((h c).1 7).trans (final7 m c), ((h c).1 8).trans (final8 m c), ((h c).1 9).trans (final9 m c),
      ((h c).1 10).trans (final10 m c), ((h c).1 11).trans (final11 m c), ((h c).1 12).trans (final12 m c), ((h c).1 13).trans (final13 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m g)
  · refine (θ_run _ _ _).mono (fun r h c => ?_) (Cert.ReferenceTailIdeal.Value.run m' g')
    obtain ⟨e0, e1, e2, e3, e4, e5, e6, e7, e8, e9⟩ := hargs c
    have e : ∀ a, Cert.ReferenceTailIdeal.Rows.row (StableHlo.launchContents m' c) a = token m c a := fun a => by
      simp only [Cert.ReferenceTailIdeal.Rows.row, token, Row.mk.injEq]
      exact ⟨funext fun b => congrFun e0 _, funext fun b => congrFun e1 _, funext fun b => congrFun e2 _, funext fun b => congrFun e4 _,
        funext fun b => congrFun e5 _, funext fun b => congrFun e6 _, funext fun b => congrFun e9 _, funext fun k => funext fun b => congrFun e3 _,
        funext fun k => funext fun b => congrFun e7 _, funext fun k => funext fun b => congrFun e8 _⟩
    obtain ⟨r0, r1, r2, r3, r4, r5, r6, r7, hr⟩ := h c
    open Cert.ReferenceTailIdeal.Rows in
    exact ⟨r0.trans (rows_eq Row.y m c _ e (yR _) (y_apply _)), r1.trans (rows_eq Row.mix m c _ e (mixR _) (mix_apply _)),
      r2.trans (rows_eq Row.h1 m c _ e (h1R _) (h1_apply _)), r3.trans (rows_eq Row.hn m c _ e (hnR _) (hn_apply _)),
      r4.trans (rows_eq Row.gu m c _ e (guR _) (gu_apply _)), r5.trans (rows_eq Row.ff m c _ e (ffR _) (ff_apply _)),
      r6.trans (rows_eq Row.ffo m c _ e (ffoR _) (ffo_apply _)), r7.trans (rows_eq Row.h2 m c _ e (h2R _) (h2_apply _)), hr⟩

end Cert.TailValue

end
-- ==== Proof.Model.lean ====
/- Real numbers inside the extended reals: how each operation of the two programs acts on finite values,
   and the constants the programs name. -/
module

public import Idealize.ShloMosaic.Lib.Pointwise
public import Idealize.ShloMosaic.Lib.IdealHost
public import Mathlib.Algebra.BigOperators.Fin

@[expose] public section

set_option maxRecDepth 16384

noncomputable section

namespace Mixer

open Idealize.ShloMosaic

/-- The small number added to the mean square before the root. -/
def eps : ℝ := 8796093 / 2 ^ 43

theorem eps_pos : 0 < eps := by unfold eps; norm_num

theorem coe_sum {ι : Type*} (s : Finset ι) (f : ι → ℝ) : (∑ k ∈ s, ((f k : ℝ) : EReal)) = ((∑ k ∈ s, f k : ℝ) : EReal) := by
  induction s using Finset.cons_induction with
  | empty => simp
  | cons a s h ih => rw [Finset.sum_cons, Finset.sum_cons, ih, EReal.coe_add]

theorem coe_ite (p : Prop) [Decidable p] (x y : ℝ) : (if p then (x : EReal) else (y : EReal)) = ((if p then x else y : ℝ) : EReal) := by
  split <;> rfl

theorem coe_dite (p : Prop) [Decidable p] (x : p → ℝ) (y : ¬p → ℝ) :
    (if h : p then ((x h : ℝ) : EReal) else ((y h : ℝ) : EReal)) = ((if h : p then x h else y h : ℝ) : EReal) := by
  split <;> rfl

/-- Division of finite values by a nonzero one is division of reals. -/
theorem div_coe (x y : ℝ) (h : y ≠ 0) : Ideal.div (x : EReal) (y : EReal) = ((x / y : ℝ) : EReal) := by
  have h' : (y : EReal) ≠ 0 := by exact_mod_cast h
  rw [Ideal.div, if_neg h', div_eq_mul_inv, EReal.coe_mul, EReal.coe_inv]

theorem c1024 : (Ideal.ofBits .f32 0x44800000#32 : EReal) = ((1024 : ℝ) : EReal) := by
  simp [Ideal.ofBits, Ideal.ieee, -EReal.coe_mul]; norm_num
theorem ceps : (Ideal.ofBits .f32 0x358637BD#32 : EReal) = ((eps : ℝ) : EReal) := by
  simp [Ideal.ofBits, Ideal.ieee, -EReal.coe_mul, eps]; norm_num
theorem cmhalf : (Ideal.ofBits .f32 0xBF000000#32 : EReal) = ((-(1/2) : ℝ) : EReal) := by
  simp [Ideal.ofBits, Ideal.ieee, -EReal.coe_mul, -EReal.coe_neg]; norm_num

/-- The finite arguments of the step, as real functions of their indices. -/
structure Args where
  h : ℕ → ℕ → ℝ
  g : ℕ → ℝ
  w : ℕ → ℕ → ℝ
  cw : ℕ → ℕ → ℝ
  pw : ℕ → ℕ → ℕ → ℝ
  ps : ℕ → ℝ
  y : ℕ → ℕ → ℝ
  q : ℕ → ℕ → ℝ
  k : ℕ → ℕ → ℝ
  v : ℕ → ℕ → ℝ

namespace Args

variable (A : Args)

/-- The mean square of a row, with the small number added. -/
def ms (t : ℕ) : ℝ := (∑ k : Fin 1024, A.h t k * A.h t k) / 1024 + eps
/-- The reciprocal root of the mean square. -/
def rs (t : ℕ) : ℝ := (Real.sqrt (A.ms t))⁻¹
/-- The normalised row. -/
def xh (t c : ℕ) : ℝ := A.h t c * A.rs t
/-- The projection. -/
def P (t c : ℕ) : ℝ := ∑ k : Fin 1024, A.xh t k * A.g k * A.w k c
/-- The gated product the convolution reads. -/
def z (t c : ℕ) : ℝ := A.P t (256 + c) * A.P t (512 + c)
/-- The gated product, `n` rows earlier (zero before the first row). -/
def zs (n t c : ℕ) : ℝ := if t < n then 0 else A.z (t - n) c
/-- The short convolution. -/
def conv (t c : ℕ) : ℝ := A.cw 2 c * A.z t c + A.cw 1 c * A.zs 1 t c + A.cw 0 c * A.zs 2 t c
/-- The pooled columns. -/
def pu (t c : ℕ) : ℝ := A.P t (768 + c)
/-- The window of a column's group: 2, 4, 8, 16. -/
def gw (c : ℕ) : ℕ := 2 ^ (c / 64 + 1)
/-- How many rows the window holds at row `t`. -/
def cnt (t c : ℕ) : ℝ := ((min (t + 1) (gw c) : ℕ) : ℝ)
/-- The pooled value less the value itself. -/
def D (t c : ℕ) : ℝ := (∑ j ∈ Finset.range (min (t + 1) (gw c)), A.pu (t - j) c) / cnt t c - A.pu t c
/-- The group's small product. -/
def po (t c : ℕ) : ℝ := ∑ k : Fin 64, A.D t (64 * (c / 64) + k) * A.pw (c / 64) k (c % 64)
/-- The cotangent of the convolution's gate. -/
def dgb (t c : ℕ) : ℝ := A.y t c * A.conv t c
/-- The cotangent of the convolution. -/
def dconv (t c : ℕ) : ℝ := A.P t c * A.y t c
/-- The same, zero past the last row. -/
def dcs (t c : ℕ) : ℝ := if t < 8192 then A.dconv t c else 0
/-- The cotangent of the gated product. -/
def dz (t c : ℕ) : ℝ := A.cw 0 c * A.dcs (t + 2) c + A.cw 1 c * A.dcs (t + 1) c + A.cw 2 c * A.dconv t c
/-- The cotangent of the small products. -/
def dys (t c : ℕ) : ℝ := A.y t (256 + c) * A.ps c
/-- The cotangent of the pooled difference. -/
def dd (t c : ℕ) : ℝ := ∑ k : Fin 64, A.dys t (64 * (c / 64) + k) * A.pw (c / 64) (c % 64) k
/-- The same over the count. -/
def E (t c : ℕ) : ℝ := A.dd t c / cnt t c
/-- The same, zero past the last row. -/
def Es (t c : ℕ) : ℝ := if t < 8192 then A.E t c else 0
/-- The cotangent of the pooled columns. -/
def dpu (t c : ℕ) : ℝ := (∑ j ∈ Finset.range (gw c), A.Es (t + j) c) - A.dd t c
/-- The cotangent of the projection's mixer columns. -/
def dpa (t c : ℕ) : ℝ :=
  if c < 256 then A.dgb t c
  else if c < 512 then A.dz t (c - 256) * A.P t (512 + (c - 256))
  else if c < 768 then A.dz t (c - 512) * A.P t (256 + (c - 512))
  else A.dpu t (c - 768)
/-- The cotangent of the projection. -/
def dp (t c : ℕ) : ℝ :=
  if c < 1024 then A.dpa t c
  else if c < 1536 then A.q t (c - 1024)
  else if c < 2048 then A.k t (c - 1536)
  else A.v t (c - 2048)
/-- The cotangent of the scaled normalised row. -/
def dxn (t c : ℕ) : ℝ := ∑ k : Fin 2560, A.dp t k * A.w c k
/-- What the normalisation's cotangent adds to the residual's. -/
def dhr (t c : ℕ) : ℝ :=
  A.rs t * (A.dxn t c * A.g c - A.xh t c * ((∑ k : Fin 1024, A.dxn t k * A.g k * A.xh t k) / 1024))
/-- The cotangent of the convolution's weights. -/
def dcw (r c : ℕ) : ℝ := ∑ t : Fin 8192, A.dconv t c * A.zs (2 - r) t c
/-- The cotangent of the small products' weights. -/
def dpw (i a b : ℕ) : ℝ := ∑ t : Fin 8192, A.D t (64 * i + a) * A.dys t (64 * i + b)
/-- The cotangent of the pool's scale. -/
def dps (c : ℕ) : ℝ := ∑ t : Fin 8192, A.po t c * A.y t (256 + c)
/-- The cotangent of the normalisation's scale. -/
def dg (c : ℕ) : ℝ := ∑ t : Fin 8192, A.xh t c * A.dxn t c

theorem ms_pos (t : ℕ) : 0 < A.ms t := by
  have h : 0 ≤ ∑ k : Fin 1024, A.h t k * A.h t k := Finset.sum_nonneg fun k _ => mul_self_nonneg _
  have := eps_pos
  unfold ms
  positivity

theorem gw_pos (c : ℕ) : 0 < gw c := by unfold gw; positivity

theorem cnt_ne (t c : ℕ) : cnt t c ≠ 0 := by
  have := gw_pos c
  unfold cnt
  exact_mod_cast (by omega : min (t + 1) (gw c) ≠ 0)

end Args

theorem rsqrt_coe (x : ℝ) (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.mpr h.le), if_neg h.ne']

end Mixer
-- ==== Proof.Given.lean ====
/- The call's arguments as arrays of the model's real numbers. -/
module

public import proofs.«01_k».proof.Proof.Model

@[expose] public section

noncomputable section

namespace Mixer

open Idealize.ShloMosaic

/-- The arguments as the model's numbers. -/
structure Given (A : Args) (h : FVec Ideal ⟨2, ![8192, 1024]⟩ .f32) (g : FVec Ideal ⟨1, ![1024]⟩ .f32) (w : FVec Ideal ⟨2, ![1024, 2560]⟩ .f32) (cw : FVec Ideal ⟨2, ![3, 256]⟩ .f32)
    (pw : FVec Ideal ⟨3, ![4, 64, 64]⟩ .f32) (ps : FVec Ideal ⟨1, ![256]⟩ .f32) (y q k v : FVec Ideal ⟨2, ![8192, 512]⟩ .bf16) : Prop where
  h (a : Fin 8192) (b : Fin 1024) : h (ix2 a b) = ((A.h a b : ℝ) : EReal)
  g (a : Fin 1024) : g (ix1 a) = ((A.g a : ℝ) : EReal)
  w (a : Fin 1024) (b : Fin 2560) : w (ix2 a b) = ((A.w a b : ℝ) : EReal)
  cw (a : Fin 3) (b : Fin 256) : cw (ix2 a b) = ((A.cw a b : ℝ) : EReal)
  pw (a : Fin 4) (b c : Fin 64) : pw (ix3 a b c) = ((A.pw a b c : ℝ) : EReal)
  ps (a : Fin 256) : ps (ix1 a) = ((A.ps a : ℝ) : EReal)
  y (a : Fin 8192) (b : Fin 512) : y (ix2 a b) = ((A.y a b : ℝ) : EReal)
  q (a : Fin 8192) (b : Fin 512) : q (ix2 a b) = ((A.q a b : ℝ) : EReal)
  k (a : Fin 8192) (b : Fin 512) : k (ix2 a b) = ((A.k a b : ℝ) : EReal)
  v (a : Fin 8192) (b : Fin 512) : v (ix2 a b) = ((A.v a b : ℝ) : EReal)

end Mixer

end
-- ==== Proof.Finite.lean ====
/- Arguments of which every entry is finite are arrays of the model's real numbers. -/
module

public import proofs.«01_k».proof.Proof.Given
public import proofs.«01_k».proof.Pre_finite
public import Idealize.ShloMosaic.Lib.Pipeline.ValueKit

@[expose] public section

noncomputable section

namespace Mixer

open Idealize.ShloMosaic

theorem cinf : (Ideal.ofBits .f32 0x7F800000#32 : EReal) = ⊤ := by simp [Ideal.ofBits, Ideal.ieee]

theorem real_of_abs_lt (x : EReal) (h : BitVec.ofBool (decide (max x (-x) < ⊤)) = 1#1) : ∃ r : ℝ, x = (r : EReal) := by
  have h' : max x (-x) < ⊤ := by
    by_contra hn
    rw [decide_eq_false hn] at h
    exact absurd h (by decide)
  induction x using EReal.rec with
  | bot => simp at h'
  | coe r => exact ⟨r, rfl⟩
  | top => simp at h'

theorem finite_entry {s : Shape} (x : FVec Ideal s .f32) {u : Shape} (d) (hb : u.BroadcastsInDim s d)
    (e : cmpf .olt (Host.absf x) (broadcastInDim s d hb (constant u .f32 0x7F800000#32)) = fun _ => 1#1) (i : s.Idx) : ∃ r : ℝ, x i = (r : EReal) := by
  have h := congrFun e i
  pointwise at h
  rw [cinf] at h
  exact real_of_abs_lt _ h

theorem finite_entry_bf16 {s : Shape} (x : FVec Ideal s .bf16) {u : Shape} (d) (hb : u.BroadcastsInDim s d) (hw)
    (e : cmpf .olt (Host.absf (extf .f32 x hw)) (broadcastInDim s d hb (constant u .f32 0x7F800000#32)) = fun _ => 1#1) (i : s.Idx) :
    ∃ r : ℝ, x i = (r : EReal) := by
  have h := congrFun e i
  pointwise at h
  rw [cinf] at h
  exact real_of_abs_lt _ h

theorem coe_of {x : EReal} (h : ∃ r : ℝ, x = (r : EReal)) : x = ((x.toReal : ℝ) : EReal) := by
  obtain ⟨r, rfl⟩ := h
  rfl

theorem real_entry1 {n : ℕ} (f : Fin n → EReal) (a : Fin n) (h : ∃ r : ℝ, f a = (r : EReal)) :
    f a = ((if e : a.val < n then (f ⟨a, e⟩).toReal else 0 : ℝ) : EReal) := by
  rw [dif_pos a.isLt]
  exact coe_of h

theorem real_entry2 {n k : ℕ} (f : Fin n → Fin k → EReal) (a : Fin n) (b : Fin k) (h : ∃ r : ℝ, f a b = (r : EReal)) :
    f a b = ((if e : a.val < n ∧ b.val < k then (f ⟨a, e.1⟩ ⟨b, e.2⟩).toReal else 0 : ℝ) : EReal) := by
  rw [dif_pos ⟨a.isLt, b.isLt⟩]
  exact coe_of h

theorem real_entry3 {n k l : ℕ} (f : Fin n → Fin k → Fin l → EReal) (a : Fin n) (b : Fin k) (c : Fin l) (h : ∃ r : ℝ, f a b c = (r : EReal)) :
    f a b c = ((if e : a.val < n ∧ b.val < k ∧ c.val < l then (f ⟨a, e.1⟩ ⟨b, e.2.1⟩ ⟨c, e.2.2⟩).toReal else 0 : ℝ) : EReal) := by
  rw [dif_pos ⟨a.isLt, b.isLt, c.isLt⟩]
  exact coe_of h

/-- The call's arguments. -/
structure Arrays where
  h : FVec Ideal ⟨2, ![8192, 1024]⟩ .f32
  g : FVec Ideal ⟨1, ![1024]⟩ .f32
  w : FVec Ideal ⟨2, ![1024, 2560]⟩ .f32
  cw : FVec Ideal ⟨2, ![3, 256]⟩ .f32
  pw : FVec Ideal ⟨3, ![4, 64, 64]⟩ .f32
  ps : FVec Ideal ⟨1, ![256]⟩ .f32
  y : FVec Ideal ⟨2, ![8192, 512]⟩ .bf16
  q : FVec Ideal ⟨2, ![8192, 512]⟩ .bf16
  k : FVec Ideal ⟨2, ![8192, 512]⟩ .bf16
  v : FVec Ideal ⟨2, ![8192, 512]⟩ .bf16

/-- Every entry of every argument is a real number. -/
structure Arrays.Finite (x : Arrays) : Prop where
  h i : ∃ r : ℝ, x.h i = (r : EReal)
  g i : ∃ r : ℝ, x.g i = (r : EReal)
  w i : ∃ r : ℝ, x.w i = (r : EReal)
  cw i : ∃ r : ℝ, x.cw i = (r : EReal)
  pw i : ∃ r : ℝ, x.pw i = (r : EReal)
  ps i : ∃ r : ℝ, x.ps i = (r : EReal)
  y i : ∃ r : ℝ, x.y i = (r : EReal)
  q i : ∃ r : ℝ, x.q i = (r : EReal)
  k i : ∃ r : ℝ, x.k i = (r : EReal)
  v i : ∃ r : ℝ, x.v i = (r : EReal)

/-- The arguments' real numbers. -/
def Arrays.args (x : Arrays) : Args where
  h a b := if e : a < 8192 ∧ b < 1024 then (x.h (ix2 ⟨a, e.1⟩ ⟨b, e.2⟩)).toReal else 0
  g a := if e : a < 1024 then (x.g (ix1 ⟨a, e⟩)).toReal else 0
  w a b := if e : a < 1024 ∧ b < 2560 then (x.w (ix2 ⟨a, e.1⟩ ⟨b, e.2⟩)).toReal else 0
  cw a b := if e : a < 3 ∧ b < 256 then (x.cw (ix2 ⟨a, e.1⟩ ⟨b, e.2⟩)).toReal else 0
  pw a b c := if e : a < 4 ∧ b < 64 ∧ c < 64 then (x.pw (ix3 ⟨a, e.1⟩ ⟨b, e.2.1⟩ ⟨c, e.2.2⟩)).toReal else 0
  ps a := if e : a < 256 then (x.ps (ix1 ⟨a, e⟩)).toReal else 0
  y a b := if e : a < 8192 ∧ b < 512 then (x.y (ix2 ⟨a, e.1⟩ ⟨b, e.2⟩)).toReal else 0
  q a b := if e : a < 8192 ∧ b < 512 then (x.q (ix2 ⟨a, e.1⟩ ⟨b, e.2⟩)).toReal else 0
  k a b := if e : a < 8192 ∧ b < 512 then (x.k (ix2 ⟨a, e.1⟩ ⟨b, e.2⟩)).toReal else 0
  v a b := if e : a < 8192 ∧ b < 512 then (x.v (ix2 ⟨a, e.1⟩ ⟨b, e.2⟩)).toReal else 0

theorem Arrays.Finite.given {x : Arrays} (H : x.Finite) : Given x.args x.h x.g x.w x.cw x.pw x.ps x.y x.q x.k x.v where
  h a b := real_entry2 (fun a b => x.h (ix2 a b)) a b (H.h _)
  g a := real_entry1 (fun a => x.g (ix1 a)) a (H.g _)
  w a b := real_entry2 (fun a b => x.w (ix2 a b)) a b (H.w _)
  cw a b := real_entry2 (fun a b => x.cw (ix2 a b)) a b (H.cw _)
  pw a b c := real_entry3 (fun a b c => x.pw (ix3 a b c)) a b c (H.pw _)
  ps a := real_entry1 (fun a => x.ps (ix1 a)) a (H.ps _)
  y a b := real_entry2 (fun a b => x.y (ix2 a b)) a b (H.y _)
  q a b := real_entry2 (fun a b => x.q (ix2 a b)) a b (H.q _)
  k a b := real_entry2 (fun a b => x.k (ix2 a b)) a b (H.k _)
  v a b := real_entry2 (fun a b => x.v (ix2 a b)) a b (H.v _)

theorem finite_arrays [Cert.Pre_finite.Facts] (x : Arrays) (o : FVec Ideal ⟨2, ![8192, 1024]⟩ .f32)
    (e : ∀ f, f = Cert.Pre_finite.fn (F := Ideal) x.h x.g x.w x.cw x.pw x.ps x.y x.q x.k x.v o →
      f.1 = (fun _ => 1#1)
        ∧ f.2.1 = (fun _ => 1#1)
        ∧ f.2.2.1 = (fun _ => 1#1)
        ∧ f.2.2.2.1 = (fun _ => 1#1)
        ∧ f.2.2.2.2.1 = (fun _ => 1#1)
        ∧ f.2.2.2.2.2.1 = (fun _ => 1#1)
        ∧ f.2.2.2.2.2.2.1 = (fun _ => 1#1)
        ∧ f.2.2.2.2.2.2.2.1 = (fun _ => 1#1)
        ∧ f.2.2.2.2.2.2.2.2.1 = (fun _ => 1#1)
        ∧ f.2.2.2.2.2.2.2.2.2 = (fun _ => 1#1)) : x.Finite where
  h i := finite_entry x.h _ _ ((e _ rfl).1) i
  g i := finite_entry x.g _ _ ((e _ rfl).2.1) i
  w i := finite_entry x.w _ _ ((e _ rfl).2.2.1) i
  cw i := finite_entry x.cw _ _ ((e _ rfl).2.2.2.1) i
  pw i := finite_entry x.pw _ _ ((e _ rfl).2.2.2.2.1) i
  ps i := finite_entry x.ps _ _ ((e _ rfl).2.2.2.2.2.1) i
  y i := finite_entry_bf16 x.y _ _ _ ((e _ rfl).2.2.2.2.2.2.1) i
  q i := finite_entry_bf16 x.q _ _ _ ((e _ rfl).2.2.2.2.2.2.2.1) i
  k i := finite_entry_bf16 x.k _ _ _ ((e _ rfl).2.2.2.2.2.2.2.2.1) i
  v i := finite_entry_bf16 x.v _ _ _ ((e _ rfl).2.2.2.2.2.2.2.2.2) i

end Mixer

end
-- ==== Proof.TailBack.lean ====
/- The gradient of a layer's tail, one token at a time: back through the two residual sums, the feed-forward block, the output
   projection and the norms of the three mixers' outputs. A norm's gradient is written in two ways, which agree on real numbers. -/
module

public import proofs.«01_k».proof.Proof.Model
public import proofs.«01_k».proof.Proof.TailRows

@[expose] public section

noncomputable section

namespace Cert.Tail

open Idealize.ShloMosaic Mixer

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, rfl⟩
theorem IsReal.sub {x y : EReal} (hx : IsReal x) (hy : IsReal y) : IsReal (x - y) := by
  obtain ⟨a, rfl⟩ := hx; obtain ⟨b, rfl⟩ := hy; exact ⟨a - b, rfl⟩
theorem IsReal.mul {x y : EReal} (hx : IsReal x) (hy : IsReal y) : IsReal (x * y) := by
  obtain ⟨a, rfl⟩ := hx; obtain ⟨b, rfl⟩ := hy; exact ⟨a * b, rfl⟩
theorem IsReal.sum {n : ℕ} {f : Fin n → EReal} (h : ∀ k, IsReal (f k)) : IsReal (∑ k, f k) := by
  choose g hg using h
  exact ⟨∑ k, g k, (Finset.sum_congr rfl fun k _ => hg k).trans (coe_sum _ _)⟩
theorem IsReal.logistic {x : EReal} (hx : IsReal x) : IsReal (Ideal.logistic x) := by
  obtain ⟨a, rfl⟩ := hx; exact ⟨_, Ideal.logistic_coe a⟩
theorem isReal_one : IsReal 1 := ⟨1, rfl⟩

theorem eps_coe : eps = ((Mixer.eps : ℝ) : EReal) := ceps
theorem d256_coe : d256 = ((256 : ℝ) : EReal) := by
  simp [d256, Ideal.ofBits, Ideal.ieee]; norm_cast; norm_num
theorem d512_coe : d512 = ((512 : ℝ) : EReal) := by
  simp [d512, Ideal.ofBits, Ideal.ieee]; norm_cast; norm_num
theorem d1024_coe : d1024 = ((1024 : ℝ) : EReal) := c1024

/-- A row's mean square, and the constant. -/
def ms {n : ℕ} (d : EReal) (x : Fin n → EReal) : EReal := Ideal.div (∑ k, x k * x k) d + eps

/-- A norm's gradient, as the call computes it: the row over the root is taken once. -/
def back {n : ℕ} (d : EReal) (dy x g : Fin n → EReal) (b : Fin n) : EReal :=
  Ideal.rsqrt (ms d x) * (dy b * g b - x b * Ideal.rsqrt (ms d x) * Ideal.div (∑ k, dy k * g k * (x k * Ideal.rsqrt (ms d x))) d)

/-- The gradient that reaches the mean square, as the derivative of the root gives it. -/
def pull {n : ℕ} (d : EReal) (a x : Fin n → EReal) : EReal :=
  Ideal.div ((∑ k, x k * a k) * (Ideal.ofBits FTy.f32 3204448256#32 * Ideal.div (Ideal.rsqrt (ms d x)) (ms d x))) d

/-- A norm's gradient by the product rule. -/
def rule {n : ℕ} (d : EReal) (a x : Fin n → EReal) (b : Fin n) : EReal :=
  a b * Ideal.rsqrt (ms d x) + x b * pull d a x + pull d a x * x b

/-- The mean square of real numbers is a positive real number. -/
theorem ms_coe {n : ℕ} {d : EReal} {D : ℝ} (hd : d = ((D : ℝ) : EReal)) (hD : 0 < D) {x : Fin n → EReal} (hx : ∀ k, IsReal (x k)) :
    ∃ M : ℝ, 0 < M ∧ ms d x = ((M : ℝ) : EReal) := by
  choose u hu using hx
  refine ⟨(∑ k, u k * u k) / D + Mixer.eps, ?_, ?_⟩
  · have h : 0 ≤ ∑ k, u k * u k := Finset.sum_nonneg fun k _ => mul_self_nonneg _
    have := eps_pos
    positivity
  · rw [ms, hd, eps_coe]
    simp only [hu, ← EReal.coe_mul, coe_sum]
    rw [div_coe _ _ hD.ne', EReal.coe_add]

/-- Both on real numbers. -/
theorem rule_eq {n : ℕ} {d : EReal} {D : ℝ} (hd : d = ((D : ℝ) : EReal)) (hD : 0 < D) {dy x g : Fin n → EReal} (hdy : ∀ k, IsReal (dy k))
    (hx : ∀ k, IsReal (x k)) (hg : ∀ k, IsReal (g k)) (b : Fin n) : rule d (fun k => dy k * g k) x b = back d dy x g b := by
  obtain ⟨M, hM, hms⟩ := ms_coe hd hD hx
  subst hd
  choose y hy using hdy
  choose u hu using hx
  choose v hv using hg
  have hr : (Real.sqrt M)⁻¹ / M = (Real.sqrt M)⁻¹ * ((Real.sqrt M)⁻¹ * (Real.sqrt M)⁻¹) := by
    rw [← mul_inv, Real.mul_self_sqrt hM.le, div_eq_mul_inv]
  have hs : ∑ k, y k * v k * (u k * (Real.sqrt M)⁻¹) = (Real.sqrt M)⁻¹ * ∑ k, u k * (y k * v k) := by
    rw [Finset.mul_sum]
    exact Finset.sum_congr rfl fun k _ => by ring
  simp only [rule, back, pull, hms, rsqrt_coe _ hM, hy, hu, hv, cmhalf, div_coe _ _ hM.ne', ← EReal.coe_mul, coe_sum, div_coe _ _ hD.ne', ← EReal.coe_sub,
    ← EReal.coe_add]
  rw [hr, hs]
  congr 1
  ring

/-- A norm and its gradient are real where what they read is. -/
theorem IsReal.rsqrt_ms {n : ℕ} {d : EReal} {D : ℝ} (hd : d = ((D : ℝ) : EReal)) (hD : 0 < D) {x : Fin n → EReal}
    (hx : ∀ k, IsReal (x k)) : IsReal (Ideal.rsqrt (ms d x)) := by
  obtain ⟨M, hM, hms⟩ := ms_coe hd hD hx
  exact ⟨_, by rw [hms, rsqrt_coe _ hM]⟩

theorem IsReal.div {x d : EReal} {D : ℝ} (hd : d = ((D : ℝ) : EReal)) (hD : 0 < D) (hx : IsReal x) : IsReal (Ideal.div x d) := by
  obtain ⟨a, rfl⟩ := hx
  exact ⟨a / D, by rw [hd, div_coe _ _ hD.ne']⟩

theorem IsReal.rms {n : ℕ} {d : EReal} {D : ℝ} (hd : d = ((D : ℝ) : EReal)) (hD : 0 < D) {x g : Fin n → EReal}
    (hx : ∀ k, IsReal (x k)) (hg : ∀ k, IsReal (g k)) (b : Fin n) : IsReal (rms d x g b) :=
  ((hx b).mul (IsReal.rsqrt_ms hd hD hx)).mul (hg b)

theorem IsReal.back {n : ℕ} {d : EReal} {D : ℝ} (hd : d = ((D : ℝ) : EReal)) (hD : 0 < D) {dy x g : Fin n → EReal} (hdy : ∀ k, IsReal (dy k))
    (hx : ∀ k, IsReal (x k)) (hg : ∀ k, IsReal (g k)) (b : Fin n) : IsReal (back d dy x g b) := by
  have hr := IsReal.rsqrt_ms hd hD hx
  exact hr.mul (((hdy b).mul (hg b)).sub (((hx b).mul hr).mul (IsReal.div hd hD (IsReal.sum fun k => ((hdy k).mul (hg k)).mul ((hx k).mul hr)))))

theorem IsReal.prod {n k : ℕ} {x : Fin n → EReal} {w : Fin n → Fin k → EReal} (hx : ∀ l, IsReal (x l)) (hw : ∀ l b, IsReal (w l b)) (b : Fin k) :
    IsReal (prod x w b) := IsReal.sum fun l => (hx l).mul (hw l b)

/-- The gate's gradient, in two ways that agree on real numbers. -/
def gateBack (d g : EReal) : EReal := d * (Ideal.logistic g * (1 + g * (1 - Ideal.logistic g)))

theorem gateBack_eq {d g : EReal} (hd : IsReal d) (hg : IsReal g) :
    d * Ideal.logistic g + g * d * (Ideal.logistic g * (1 - Ideal.logistic g)) = gateBack d g := by
  obtain ⟨s, hs⟩ := hg.logistic
  obtain ⟨a, rfl⟩ := hd
  obtain ⟨b, rfl⟩ := hg
  simp only [gateBack, hs, ← EReal.coe_one, ← EReal.coe_mul, ← EReal.coe_sub, ← EReal.coe_add]
  congr 1
  ring

theorem IsReal.gateBack {d g : EReal} (hd : IsReal d) (hg : IsReal g) : IsReal (gateBack d g) :=
  hd.mul (hg.logistic.mul (isReal_one.add (hg.mul (isReal_one.sub hg.logistic))))

/-- What a token's row of the gradient reads: the gradient of the layer's output, and what the tail left on the way. -/
structure Back where
  dh : Fin 1024 → EReal
  ffo : Fin 1024 → EReal
  go : Fin 1024 → EReal
  gu : Fin 5632 → EReal
  wd : Fin 2816 → Fin 1024 → EReal
  wg : Fin 1024 → Fin 5632 → EReal
  h1 : Fin 1024 → EReal
  gf : Fin 1024 → EReal
  mix : Fin 1024 → EReal
  gm : Fin 1024 → EReal
  wo : Fin 1024 → Fin 1024 → EReal
  p : Fin 512 → EReal
  q : Fin 512 → EReal
  gg : Fin 1024 → EReal

namespace Back

variable (r : Back)

def dffo : Fin 1024 → EReal := back d1024 r.dh r.ffo r.go
def dff (l : Fin 2816) : EReal := ∑ k, r.dffo k * r.wd l k
def dgate (l : Fin 2816) : EReal := gateBack (r.dff l * r.gu ⟨2816 + l.val, by omega⟩) (r.gu ⟨l.val, by omega⟩)
def dup (l : Fin 2816) : EReal := r.dff l * (r.gu ⟨l.val, by omega⟩ * Ideal.logistic (r.gu ⟨l.val, by omega⟩))
def dgu (b : Fin 5632) : EReal := if h : b.val < 2816 then r.dgate ⟨b.val, h⟩ else r.dup ⟨b.val - 2816, by omega⟩
def dhn (b : Fin 1024) : EReal := ∑ l, r.dgu l * r.wg b l
def dh1 (b : Fin 1024) : EReal := r.dh b + back d1024 r.dhn r.h1 r.gf b
def dmix : Fin 1024 → EReal := back d1024 r.dh1 r.mix r.gm
def dy (b : Fin 1024) : EReal := ∑ k, r.dmix k * r.wo b k
def dp (b : Fin 512) : EReal :=
  if h : b.val < 256 then back (n := 256) d256 (fun k => r.dy ⟨k.val, by omega⟩) (fun k => r.p ⟨k.val, by omega⟩) (fun k => r.gg ⟨k.val, by omega⟩) ⟨b.val, h⟩
  else back (n := 256) d256 (fun k => r.dy ⟨256 + k.val, by omega⟩) (fun k => r.p ⟨256 + k.val, by omega⟩) (fun k => r.gg ⟨256 + k.val, by omega⟩)
    ⟨b.val - 256, by omega⟩
def dq : Fin 512 → EReal := back d512 (fun k => r.dy ⟨512 + k.val, by omega⟩) r.q (fun k => r.gg ⟨512 + k.val, by omega⟩)

/-- Everything that the row reads is a real number. -/
structure Finite : Prop where
  dh : ∀ b, IsReal (r.dh b)
  ffo : ∀ b, IsReal (r.ffo b)
  go : ∀ b, IsReal (r.go b)
  gu : ∀ b, IsReal (r.gu b)
  wd : ∀ k b, IsReal (r.wd k b)
  wg : ∀ k b, IsReal (r.wg k b)
  h1 : ∀ b, IsReal (r.h1 b)
  gf : ∀ b, IsReal (r.gf b)
  mix : ∀ b, IsReal (r.mix b)
  gm : ∀ b, IsReal (r.gm b)
  wo : ∀ k b, IsReal (r.wo k b)
  p : ∀ b, IsReal (r.p b)
  q : ∀ b, IsReal (r.q b)
  gg : ∀ b, IsReal (r.gg b)

namespace Finite

variable {r} (H : r.Finite)
include H

theorem dffo (b) : IsReal (r.dffo b) := IsReal.back d1024_coe (by norm_num) H.dh H.ffo H.go b
theorem dff (l) : IsReal (r.dff l) := IsReal.sum fun k => (H.dffo k).mul (H.wd l k)
theorem dgate (l) : IsReal (r.dgate l) := IsReal.gateBack ((H.dff l).mul (H.gu _)) (H.gu _)
theorem dup (l) : IsReal (r.dup l) := (H.dff l).mul ((H.gu _).mul (H.gu _).logistic)
theorem dgu (b) : IsReal (r.dgu b) := by
  unfold Back.dgu
  split
  · exact H.dgate _
  · exact H.dup _
theorem dhn (b) : IsReal (r.dhn b) := IsReal.sum fun l => (H.dgu l).mul (H.wg b l)
theorem dh1 (b) : IsReal (r.dh1 b) := (H.dh b).add (IsReal.back d1024_coe (by norm_num) H.dhn H.h1 H.gf b)
theorem dmix (b) : IsReal (r.dmix b) := IsReal.back d1024_coe (by norm_num) H.dh1 H.mix H.gm b
theorem dy (b) : IsReal (r.dy b) := IsReal.sum fun k => (H.dmix k).mul (H.wo b k)

end Finite

end Back

namespace Row

/-- The gradient's row, where the tail's row left what it reads. -/
def back (r : Row) (dh : Fin 1024 → EReal) : Back where
  dh := dh
  ffo := r.ffo
  go := r.go
  gu := r.gu
  wd := r.wd
  wg := r.wg
  h1 := r.h1
  gf := r.gf
  mix := r.mix
  gm := r.gm
  wo := r.wo
  p := r.p
  q := r.q
  gg := r.gg

/-- Real arguments leave real numbers everywhere. -/
theorem back_finite (r : Row) (dh : Fin 1024 → EReal) (hp : ∀ b, IsReal (r.p b)) (hq : ∀ b, IsReal (r.q b)) (hgg : ∀ b, IsReal (r.gg b))
    (hh : ∀ b, IsReal (r.h b)) (hgm : ∀ b, IsReal (r.gm b)) (hgf : ∀ b, IsReal (r.gf b)) (hgo : ∀ b, IsReal (r.go b)) (hwo : ∀ k b, IsReal (r.wo k b))
    (hwg : ∀ k b, IsReal (r.wg k b)) (hwd : ∀ k b, IsReal (r.wd k b)) (hdh : ∀ b, IsReal (dh b)) : (r.back dh).Finite := by
  have hy : ∀ b, IsReal (r.y b) := fun b => by
    unfold Row.y yRow
    split
    · exact IsReal.rms d256_coe (by norm_num) (fun k => hp _) (fun k => hgg _) _
    split
    · exact IsReal.rms d256_coe (by norm_num) (fun k => hp _) (fun k => hgg _) _
    · exact IsReal.rms d512_coe (by norm_num) (fun k => hq _) (fun k => hgg _) _
  have hmix : ∀ b, IsReal (r.mix b) := IsReal.prod hy hwo
  have hh1 : ∀ b, IsReal (r.h1 b) := fun b => (hh b).add (IsReal.rms d1024_coe (by norm_num) hmix hgm b)
  have hgu : ∀ b, IsReal (r.gu b) := IsReal.prod (IsReal.rms d1024_coe (by norm_num) hh1 hgf) hwg
  have hffo : ∀ b, IsReal (r.ffo b) := IsReal.prod (fun b => ((hgu _).mul (hgu _).logistic).mul (hgu _)) hwd
  exact ⟨hdh, hffo, hgo, hgu, hwd, hwg, hh1, hgf, hmix, hgm, hwo, hp, hq, hgg⟩

end Row

end Cert.Tail

end
-- ==== Proof.TailBackHost.lean ====
/- What the call for the tail's gradient is given: the arguments, and what the tail leaves on the way forward. -/
module

public import proofs.«01_k».proof.Proof.TailBack
public import proofs.«01_k».proof.Proof.Gen.KernelTailBackIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelTailBackIdeal.Points

open Idealize.ShloMosaic Idealize.ShloMosaic.TcCoe Idealize.SL.Sem
open Cert.KernelTailBackIdeal.Gen Cert.Tail

variable (m : (ℓ : Loc nD τ sig) → Buf (Elt Ideal) ℓ) (c : Dev nD)

/-- The arguments. -/
abbrev a0 : FVec Ideal S8192x512 .f32 := m ((c : Thread nD τ).loc main_arg0)
abbrev a1 : FVec Ideal S8192x512 .f32 := m ((c : Thread nD τ).loc main_arg1)
abbrev a2 : FVec Ideal S1024 .f32 := m ((c : Thread nD τ).loc main_arg2)
abbrev a3 : FVec Ideal S1024x1024 .f32 := m ((c : Thread nD τ).loc main_arg3)
abbrev a4 : FVec Ideal S8192x1024 .f32 := m ((c : Thread nD τ).loc main_arg4)
abbrev a5 : FVec Ideal S1024 .f32 := m ((c : Thread nD τ).loc main_arg5)
abbrev a6 : FVec Ideal S1024 .f32 := m ((c : Thread nD τ).loc main_arg6)
abbrev a7 : FVec Ideal S1024x5632 .f32 := m ((c : Thread nD τ).loc main_arg7)
abbrev a8 : FVec Ideal S2816x1024 .f32 := m ((c : Thread nD τ).loc main_arg8)
abbrev a9 : FVec Ideal S1024 .f32 := m ((c : Thread nD τ).loc main_arg9)
abbrev a10 : FVec Ideal S8192x1024 .f32 := m ((c : Thread nD τ).loc main_arg10)

/-- What token `a` reads on the way forward, and what its gradient reads. -/
def token (a : Fin 8192) : Row where
  p b := a0 m c (ix2 a b)
  q b := a1 m c (ix2 a b)
  gg b := a2 m c (ix1 b)
  h b := a4 m c (ix2 a b)
  gm b := a5 m c (ix1 b)
  gf b := a6 m c (ix1 b)
  go b := a9 m c (ix1 b)
  wo k b := a3 m c (ix2 k b)
  wg k b := a7 m c (ix2 k b)
  wd k b := a8 m c (ix2 k b)
def btoken (a : Fin 8192) : Back := (token m c a).back fun b => a10 m c (ix2 a b)

/-- The lines before the call, and what they leave up to the three groups, the projection, the first sum, and the gate and up projections. -/
abbrev line : List (HloOp τ sig (Elt Ideal)) := List.flatten [hostOps0, hostOps0_1, hostOps0_2]
def W0 : Valuation τ sig (Elt Ideal) := StableHlo.after (line.take 53) fun b => m (c, b)
def W1 : Valuation τ sig (Elt Ideal) := StableHlo.after ((line.drop 53).take 2) (W0 m c)
def W2 : Valuation τ sig (Elt Ideal) := StableHlo.after ((line.drop 55).take 17) (W1 m c)
def W3 : Valuation τ sig (Elt Ideal) := StableHlo.after ((line.drop 72).take 17) (W2 m c)

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem V_eq (b : Ref sig .tc) : V m c b = StableHlo.after (line.drop 89) (W3 m c) (Proc.devRef .tc b) := by
  unfold W3 W2 W1 W0
  rw [← after_app, ← after_app, ← after_app, ← after_app]
  rfl

/-- The three groups, normed. -/
theorem group0 (a : Fin 8192) (b : Fin 256) : (W0 m c (Proc.devRef .tc main_v14) : FVec Ideal S8192x256 .f32) (ix2 a b)
    = rms d256 (fun k => (token m c a).p ⟨k.val, by omega⟩) (fun k => (token m c a).gg ⟨k.val, by omega⟩) b := by
  unfold W0
  after_reads_at
  rfl
theorem group1 (a : Fin 8192) (b : Fin 256) : (W0 m c (Proc.devRef .tc main_v29) : FVec Ideal S8192x256 .f32) (ix2 a b)
    = rms d256 (fun k => (token m c a).p ⟨256 + k.val, by omega⟩) (fun k => (token m c a).gg ⟨256 + k.val, by omega⟩) b := by
  unfold W0
  after_reads_at
  rfl
theorem group2 (a : Fin 8192) (b : Fin 512) : (W0 m c (Proc.devRef .tc main_v43) : FVec Ideal S8192x512 .f32) (ix2 a b)
    = rms d512 (token m c a).q (fun k => (token m c a).gg ⟨512 + k.val, by omega⟩) b := by
  unfold W0
  after_reads_at
  rfl

/-- The arguments are read as they were given. -/
theorem arg3_entry (k : Fin 1024) (b : Fin 1024) : (W0 m c (Proc.devRef .tc main_arg3) : FVec Ideal S1024x1024 .f32) (ix2 k b) = a3 m c (ix2 k b) := by
  unfold W0
  after_reads_at
theorem arg4_entry (k : Fin 8192) (b : Fin 1024) : (W1 m c (Proc.devRef .tc main_arg4) : FVec Ideal S8192x1024 .f32) (ix2 k b) = a4 m c (ix2 k b) := by
  unfold W1
  after_reads_at
  unfold W0
  after_reads_at
theorem arg5_entry (b : Fin 1024) : (W1 m c (Proc.devRef .tc main_arg5) : FVec Ideal S1024 .f32) (ix1 b) = a5 m c (ix1 b) := by
  unfold W1
  after_reads_at
  unfold W0
  after_reads_at
theorem arg6_entry (b : Fin 1024) : (W2 m c (Proc.devRef .tc main_arg6) : FVec Ideal S1024 .f32) (ix1 b) = a6 m c (ix1 b) := by
  unfold W2
  after_reads_at
  unfold W1
  after_reads_at
  unfold W0
  after_reads_at
theorem arg7_entry (k : Fin 1024) (b : Fin 5632) : (W2 m c (Proc.devRef .tc main_arg7) : FVec Ideal S1024x5632 .f32) (ix2 k b) = a7 m c (ix2 k b) := by
  unfold W2
  after_reads_at
  unfold W1
  after_reads_at
  unfold W0
  after_reads_at
theorem arg8_entry (k : Fin 2816) (b : Fin 1024) : (W3 m c (Proc.devRef .tc main_arg8) : FVec Ideal S2816x1024 .f32) (ix2 k b) = a8 m c (ix2 k b) := by
  unfold W3
  after_reads_at
  unfold W2
  after_reads_at
  unfold W1
  after_reads_at
  unfold W0
  after_reads_at

/-- The stages of the way forward. -/
theorem mix_entry (a : Fin 8192) (b : Fin 1024) : (W1 m c (Proc.devRef .tc main_v45) : FVec Ideal S8192x1024 .f32) (ix2 a b) = (token m c a).mix b := by
  unfold W1
  after_reads_at
  refine Finset.sum_congr rfl fun l _ => congrArg₂ (· * ·) ?_ (arg3_entry m c l b)
  unfold Row.y yRow
  by_cases h : l.val < 256
  · rw [dif_pos h, dif_pos h]
    exact group0 m c a _
  by_cases h1 : l.val < 512
  · rw [dif_neg h, dif_neg h, dif_pos (show l.val - 256 < 256 by omega), dif_pos h1]
    exact group1 m c a _
  rw [dif_neg h, dif_neg h, dif_neg (show ¬ l.val - 256 < 256 by omega), dif_neg h1]
  refine (group2 m c a _).trans ?_
  simp only [Nat.sub_sub]

theorem h1_entry (a : Fin 8192) (b : Fin 1024) : (W2 m c (Proc.devRef .tc main_v59) : FVec Ideal S8192x1024 .f32) (ix2 a b) = (token m c a).h1 b := by
  unfold W2
  after_reads_at
  rw [arg4_entry, arg5_entry]
  unfold Row.h1 rms
  simp only [← mix_entry]
  rfl

theorem gu_entry (a : Fin 8192) (b : Fin 5632) : (W3 m c (Proc.devRef .tc main_v73) : FVec Ideal S8192x5632 .f32) (ix2 a b) = (token m c a).gu b := by
  unfold W3
  after_reads_at
  have e1 : (fun x => (W2 m c (Proc.devRef .tc main_v59) : FVec Ideal S8192x1024 .f32) (ix2 a x)) = (token m c a).h1 := funext (h1_entry m c a)
  have e2 : (fun x => (W2 m c (Proc.devRef .tc main_arg6) : FVec Ideal S1024 .f32) (ix1 x)) = (token m c a).gf := funext (arg6_entry m c)
  unfold Row.gu prod Row.hn
  rw [← e1, ← e2]
  exact Finset.sum_congr rfl fun l _ => congrArg₂ (· * ·) rfl (arg7_entry m c l b)

/-- What the call is given. -/
theorem give_ffo (a : Fin 8192) (b : Fin 1024) : (V m c main_v93 : FVec Ideal S8192x1024 .bf16) (ix2 a b) = (token m c a).ffo b := by
  rw [V_eq]
  after_reads_at
  have e : (fun x => (W3 m c (Proc.devRef .tc main_v73) : FVec Ideal S8192x5632 .f32) (ix2 a x)) = (token m c a).gu := funext (gu_entry m c a)
  unfold Row.ffo prod Row.ff
  rw [← e]
  exact Finset.sum_congr rfl fun l _ => congrArg₂ (· * ·) rfl (arg8_entry m c l b)
theorem give_gu (a : Fin 8192) (b : Fin 5632) : (V m c main_v95 : FVec Ideal S8192x5632 .bf16) (ix2 a b) = (token m c a).gu b := by
  rw [V_eq]
  after_reads_at
  exact gu_entry m c a b
theorem give_h1 (a : Fin 8192) (b : Fin 1024) : (V m c main_v59 : FVec Ideal S8192x1024 .f32) (ix2 a b) = (token m c a).h1 b := by
  rw [V_eq]
  after_reads_at
  unfold W3
  after_reads_at
  exact h1_entry m c a b
theorem give_mix (a : Fin 8192) (b : Fin 1024) : (V m c main_v99 : FVec Ideal S8192x1024 .bf16) (ix2 a b) = (token m c a).mix b := by
  rw [V_eq]
  after_reads_at
  unfold W3
  after_reads_at
  unfold W2
  after_reads_at
  exact mix_entry m c a b
theorem give_go (a : Fin 1) (b : Fin 1024) : (V m c main_v94 : FVec Ideal S1x1024 .f32) (ix2 a b) = a9 m c (ix1 b) := by
  dsimp only [V, List.flatten_cons, List.flatten_nil, List.cons_append, List.nil_append]
  after_reads_at
theorem give_gf (a : Fin 1) (b : Fin 1024) : (V m c main_v98 : FVec Ideal S1x1024 .f32) (ix2 a b) = a6 m c (ix1 b) := by
  dsimp only [V, List.flatten_cons, List.flatten_nil, List.cons_append, List.nil_append]
  after_reads_at
theorem give_gm (a : Fin 1) (b : Fin 1024) : (V m c main_v100 : FVec Ideal S1x1024 .f32) (ix2 a b) = a5 m c (ix1 b) := by
  dsimp only [V, List.flatten_cons, List.flatten_nil, List.cons_append, List.nil_append]
  after_reads_at
theorem give_gg (a : Fin 1) (b : Fin 1024) : (V m c main_v102 : FVec Ideal S1x1024 .f32) (ix2 a b) = a2 m c (ix1 b) := by
  dsimp only [V, List.flatten_cons, List.flatten_nil, List.cons_append, List.nil_append]
  after_reads_at
theorem give_wd (a : Fin 2816) (b : Fin 1024) : (V m c main_v96 : FVec Ideal S2816x1024 .bf16) (ix2 a b) = a8 m c (ix2 a b) := by
  dsimp only [V, List.flatten_cons, List.flatten_nil, List.cons_append, List.nil_append]
  after_reads_at
theorem give_wg (a : Fin 1024) (b : Fin 5632) : (V m c main_v97 : FVec Ideal S1024x5632 .bf16) (ix2 a b) = a7 m c (ix2 a b) := by
  dsimp only [V, List.flatten_cons, List.flatten_nil, List.cons_append, List.nil_append]
  after_reads_at
theorem give_wo (a : Fin 1024) (b : Fin 1024) : (V m c main_v101 : FVec Ideal S1024x1024 .bf16) (ix2 a b) = a3 m c (ix2 a b) := by
  dsimp only [V, List.flatten_cons, List.flatten_nil, List.cons_append, List.nil_append]
  after_reads_at

end Cert.KernelTailBackIdeal.Points

end
-- ==== Proof.TailBackRows.lean ====
/- The steps of the call for the tail's gradient on a block of tokens, read off as the rows of `Cert.Tail.Back`. -/
module

public import proofs.«01_k».proof.Proof.Gen.KernelTailBackIdeal.Skeleton
public import proofs.«01_k».proof.Proof.TailBack
public import proofs.«01_k».proof.Proof.Windows
public import Idealize.ShloMosaic.Lib.Pointwise
public import Idealize.ShloMosaic.Lib.Pipeline.ValueKit

@[expose] public section

set_option maxRecDepth 16384

noncomputable section

namespace Cert.KernelTailBackIdeal.Rows

open Idealize.ShloMosaic Idealize.ShloMosaic.TcCoe
open Cert.KernelTailBackIdeal.Gen Cert.Tail Cert.Windows

/-- What a point reads: its blocks, and the three weights. -/
structure Blocks where
  dh : FVec Ideal S256x1024 .f32
  ffo : FVec Ideal S256x1024 .bf16
  go : FVec Ideal S1x1024 .f32
  gu : FVec Ideal S256x5632 .bf16
  h1 : FVec Ideal S256x1024 .f32
  gf : FVec Ideal S1x1024 .f32
  mix : FVec Ideal S256x1024 .bf16
  gm : FVec Ideal S1x1024 .f32
  p : FVec Ideal S256x512 .f32
  q : FVec Ideal S256x512 .f32
  gg : FVec Ideal S1x1024 .f32
  wd : FVec Ideal S2816x1024 .bf16
  wg : FVec Ideal S1024x5632 .bf16
  wo : FVec Ideal S1024x1024 .bf16

namespace Blocks

variable (B : Blocks)

/-- The row that token `a` of a block reads. -/
def row (a : Fin 256) : Back where
  dh b := B.dh (ix2 a b)
  ffo b := B.ffo (ix2 a b)
  go b := B.go (ix2 0 b)
  gu b := B.gu (ix2 a b)
  wd k b := B.wd (ix2 k b)
  wg k b := B.wg (ix2 k b)
  h1 b := B.h1 (ix2 a b)
  gf b := B.gf (ix2 0 b)
  mix b := B.mix (ix2 a b)
  gm b := B.gm (ix2 0 b)
  wo k b := B.wo (ix2 k b)
  p b := B.p (ix2 a b)
  q b := B.q (ix2 a b)
  gg b := B.gg (ix2 0 b)

/-- Columns of the gate and up projections, of the first feed-forward matrix, and rows of the second, as the call takes them. -/
abbrev guAt (o : ℕ) (h : ∀ a, (![0, o] : Fin 2 → ℕ) a + (![256, 1408] : Fin 2 → ℕ) a ≤ S256x5632.size a) : FVec Ideal S256x1408 .bf16 :=
  VecWindow.window (s := S256x5632) B.gu ![0, o] ![256, 1408] h
abbrev wgAt (o : ℕ) (h : ∀ a, (![0, o] : Fin 2 → ℕ) a + (![1024, 1408] : Fin 2 → ℕ) a ≤ S1024x5632.size a) : FVec Ideal S1024x1408 .bf16 :=
  VecWindow.window (s := S1024x5632) B.wg ![0, o] ![1024, 1408] h
abbrev wdAt (o : ℕ) (h : ∀ a, (![o, 0] : Fin 2 → ℕ) a + (![1408, 1024] : Fin 2 → ℕ) a ≤ S2816x1024.size a) : FVec Ideal S1408x1024 .bf16 :=
  VecWindow.window (s := S2816x1024) B.wd ![o, 0] ![1408, 1024] h
abbrev gu0 : FVec Ideal S256x1408 .bf16 := B.guAt 0 inb_S256x5632_S256x1408_0_0
abbrev gu1 : FVec Ideal S256x1408 .bf16 := B.guAt 1408 inb_S256x5632_S256x1408_0_1408
abbrev gu2 : FVec Ideal S256x1408 .bf16 := B.guAt 2816 inb_S256x5632_S256x1408_0_2816
abbrev gu3 : FVec Ideal S256x1408 .bf16 := B.guAt 4224 inb_S256x5632_S256x1408_0_4224
abbrev wg0 : FVec Ideal S1024x1408 .bf16 := B.wgAt 0 inb_S1024x5632_S1024x1408_0_0
abbrev wg1 : FVec Ideal S1024x1408 .bf16 := B.wgAt 1408 inb_S1024x5632_S1024x1408_0_1408
abbrev wg2 : FVec Ideal S1024x1408 .bf16 := B.wgAt 2816 inb_S1024x5632_S1024x1408_0_2816
abbrev wg3 : FVec Ideal S1024x1408 .bf16 := B.wgAt 4224 inb_S1024x5632_S1024x1408_0_4224
abbrev wd0 : FVec Ideal S1408x1024 .bf16 := B.wdAt 0 inb_S2816x1024_S1408x1024_0_0
abbrev wd1 : FVec Ideal S1408x1024 .bf16 := B.wdAt 1408 inb_S2816x1024_S1408x1024_1408_0

/-- Back through the second norm of the feed-forward block, and through its two matrices. -/
abbrev dffoF : FVec Ideal S256x1024 .f32 := k0_pay8 B.dh B.ffo B.go
abbrev dffo : FVec Ideal S256x1024 .bf16 := k0_pay11 B.dffoF
abbrev dgate0 : FVec Ideal S256x1408 .bf16 := k0_pay15 B.dffoF B.wd0 B.gu0 B.gu2
abbrev dup0 : FVec Ideal S256x1408 .bf16 := k0_pay16 B.dffoF B.wd0 B.gu0
abbrev dgate1 : FVec Ideal S256x1408 .bf16 := k0_pay21 B.dffo B.wd1 B.gu1 B.gu3
abbrev dup1 : FVec Ideal S256x1408 .bf16 := k0_pay22 B.dffo B.wd1 B.gu1
abbrev dhn : FVec Ideal S256x1024 .f32 :=
  k0_pay23 B.dffo B.dup0 (k0_pay17 B.dffoF B.wd0 B.gu0 B.gu2 B.wg0) B.wg2 B.wd1 B.gu1 B.gu3 B.wg1 B.wg3
/-- Back through the first norm, the norm of the projection, the projection, and the norms of the mixers' outputs. -/
abbrev dh1 : FVec Ideal S256x1024 .f32 := k0_pay28 B.dh B.dhn (k0_pay24 B.h1) B.gf
abbrev dmix : FVec Ideal S256x1024 .bf16 := k0_pay35 B.dh1 (k0_pay29 B.mix) (k0_pay30 B.gm) (k0_pay31 B.mix)
abbrev dy : FVec Ideal S256x1024 .f32 := k0_pay36 B.dh1 (k0_pay29 B.mix) (k0_pay30 B.gm) (k0_pay31 B.mix) B.wo
abbrev y : FVec Ideal S256x1024 .f32 := k0_pay37 B.p B.q
abbrev dp0 : FVec Ideal S256x256 .f32 :=
  k0_pay43 (k0_pay38 B.gg) (k0_pay39 B.dh1 (k0_pay29 B.mix) (k0_pay30 B.gm) (k0_pay31 B.mix) B.wo) (k0_pay40 B.p B.q)
abbrev dp : FVec Ideal S256x512 .bf16 := k0_pay55 B.dp0 (k0_pay47 B.y) (k0_pay49 B.dy B.y (k0_pay38 B.gg))
abbrev dq : FVec Ideal S256x512 .bf16 := k0_pay56 B.dy B.y (k0_pay38 B.gg)

/-- The gradient of the gate and up projections, put together from its four tiles. -/
def dgu (base : FVec Ideal S256x5632 .bf16) : FVec Ideal S256x5632 .bf16 :=
  VecWindow.put (s := S256x5632)
    (VecWindow.put (s := S256x5632)
      (VecWindow.put (s := S256x5632)
        (VecWindow.put (s := S256x5632) base ![0, 0] ![256, 1408] B.dgate0)
        ![0, 2816] ![256, 1408] B.dup0)
      ![0, 1408] ![256, 1408] B.dgate1)
    ![0, 4224] ![256, 1408] B.dup1

theorem dffoF_apply (a : Fin 256) (b : Fin 1024) : B.dffoF (ix2 a b) = (B.row a).dffo b := by
  unfold dffoF
  pointwise [k0_pay8, k0_pay7, k0_pay6, k0_pay5]
  rfl

theorem dffo_apply (a : Fin 256) (b : Fin 1024) : B.dffo (ix2 a b) = (B.row a).dffo b := by
  unfold dffo
  pointwise [k0_pay11]
  exact B.dffoF_apply a b

theorem gu_apply (o : ℕ) (h) (a : Fin 256) (b : Fin 1408) (hb : o + b.val < 5632) : B.guAt o h (ix2 a b) = (B.row a).gu ⟨o + b.val, hb⟩ :=
  window_cols _ _ _ _ _ hb

theorem wg_apply (o : ℕ) (h) (l : Fin 1024) (b : Fin 1408) (hb : o + b.val < 5632) : B.wgAt o h (ix2 l b) = B.wg (ix2 l ⟨o + b.val, hb⟩) :=
  window_cols _ _ _ _ _ hb

theorem wd_apply (o : ℕ) (h) (a : Fin 1408) (b : Fin 1024) (ha : o + a.val < 2816) : B.wdAt o h (ix2 a b) = B.wd (ix2 ⟨o + a.val, ha⟩ b) := by
  refine congrArg B.wd (funext fun c => Fin.ext ?_)
  fin_cases c
  · show o + 1 * a.val = o + a.val
    omega
  · show 0 + 1 * b.val = b.val
    omega

/-- The products with the second matrix's rows. -/
theorem dff0_apply (a : Fin 256) (l : Fin 1408) : k0_pay12 B.dffoF B.wd0 (ix2 a l) = (B.row a).dff ⟨l.val, by omega⟩ := by
  pointwise [k0_pay12]
  exact Finset.sum_congr rfl fun k _ => congrArg₂ (· * ·) (B.dffo_apply a k)
    ((B.wd_apply 0 _ l k (by omega)).trans (congrArg B.wd (congrArg (fun l => ix2 l k) (Fin.ext (Nat.zero_add _)))))

theorem dff1_apply (a : Fin 256) (l : Fin 1408) : k0_pay18 B.dffo B.wd1 (ix2 a l) = (B.row a).dff ⟨1408 + l.val, by omega⟩ := by
  pointwise [k0_pay18]
  exact Finset.sum_congr rfl fun k _ => congrArg₂ (· * ·) (B.dffo_apply a k) (B.wd_apply 1408 _ l k (by omega))

theorem gate0_apply (a : Fin 256) (l : Fin 1408) : B.gu0 (ix2 a l) = (B.row a).gu ⟨l.val, by omega⟩ :=
  (B.gu_apply 0 _ a l (by omega)).trans (congrArg _ (Fin.ext (Nat.zero_add _)))

theorem gate1_apply (a : Fin 256) (l : Fin 1408) : B.gu1 (ix2 a l) = (B.row a).gu ⟨1408 + l.val, by omega⟩ := B.gu_apply 1408 _ a l (by omega)
theorem up0_apply (a : Fin 256) (l : Fin 1408) : B.gu2 (ix2 a l) = (B.row a).gu ⟨2816 + l.val, by omega⟩ := B.gu_apply 2816 _ a l (by omega)
theorem up1_apply (a : Fin 256) (l : Fin 1408) : B.gu3 (ix2 a l) = (B.row a).gu ⟨4224 + l.val, by omega⟩ := B.gu_apply 4224 _ a l (by omega)

theorem dgate0_apply (a : Fin 256) (l : Fin 1408) : B.dgate0 (ix2 a l) = (B.row a).dgate ⟨l.val, by omega⟩ := by
  unfold dgate0
  pointwise [k0_pay15, k0_pay14, k0_pay13]
  simp only [B.dff0_apply, B.gate0_apply, B.up0_apply]
  rfl

theorem dup0_apply (a : Fin 256) (l : Fin 1408) : B.dup0 (ix2 a l) = (B.row a).dup ⟨l.val, by omega⟩ := by
  unfold dup0
  pointwise [k0_pay16, k0_pay14, k0_pay13]
  simp only [B.dff0_apply, B.gate0_apply]
  rfl

theorem dgate1_apply (a : Fin 256) (l : Fin 1408) : B.dgate1 (ix2 a l) = (B.row a).dgate ⟨1408 + l.val, by omega⟩ := by
  unfold dgate1
  pointwise [k0_pay21, k0_pay20, k0_pay19]
  simp only [B.dff1_apply, B.gate1_apply, B.up1_apply]
  unfold Back.dgate gateBack
  simp only [← Nat.add_assoc]

theorem dup1_apply (a : Fin 256) (l : Fin 1408) : B.dup1 (ix2 a l) = (B.row a).dup ⟨1408 + l.val, by omega⟩ := by
  unfold dup1
  pointwise [k0_pay22, k0_pay20, k0_pay19]
  simp only [B.dff1_apply, B.gate1_apply]
  rfl

/-- The gradient of the gate and up projections, whole. -/
theorem dgu_apply (base : FVec Ideal S256x5632 .bf16) (a : Fin 256) (b : Fin 5632) : B.dgu base (ix2 a b) = (B.row a).dgu b := by
  unfold dgu Back.dgu
  by_cases h3 : 4224 ≤ b.val
  · refine (put_cols_in _ _ _ _ _ (by omega)).trans ?_
    rw [dif_neg (by omega)]
    exact (B.dup1_apply a _).trans (congrArg _ (Fin.ext (by dsimp only; omega)))
  refine (put_cols_out _ _ _ _ _ (by omega)).trans ?_
  by_cases h2 : 1408 ≤ b.val ∧ b.val < 2816
  · refine (put_cols_in _ _ _ _ _ (by omega)).trans ?_
    rw [dif_pos h2.2]
    exact (B.dgate1_apply a _).trans (congrArg _ (Fin.ext (by dsimp only; omega)))
  refine (put_cols_out _ _ _ _ _ (by omega)).trans ?_
  by_cases h1 : 2816 ≤ b.val
  · refine (put_cols_in _ _ _ _ _ (by omega)).trans ?_
    rw [dif_neg (by omega)]
    exact B.dup0_apply a _
  refine (put_cols_out _ _ _ _ _ (by omega)).trans ?_
  refine (put_cols_in _ _ _ _ _ (by omega)).trans ?_
  rw [dif_pos (by omega)]
  exact B.dgate0_apply a _

/-- The product with the first matrix: its four parts added. -/
theorem dhn_apply (a : Fin 256) (b : Fin 1024) : B.dhn (ix2 a b) = (B.row a).dhn b := by
  have hs (f : Fin 5632 → EReal) : ∑ l, f l = ∑ l : Fin 1408, f ⟨l.val, by omega⟩ + ∑ l : Fin 1408, f ⟨2816 + l.val, by omega⟩
      + ∑ l : Fin 1408, f ⟨1408 + l.val, by omega⟩ + ∑ l : Fin 1408, f ⟨4224 + l.val, by omega⟩ := by
    refine (Fin.sum_univ_add (a := 4224) (b := 1408) f).trans (congrArg₂ (· + ·) ?_ rfl)
    refine (Fin.sum_univ_add (a := 2816) (b := 1408) fun l => f (Fin.castAdd 1408 l)).trans ?_
    refine (congrArg₂ (· + ·) (Fin.sum_univ_add (a := 1408) (b := 1408) fun l => f (Fin.castAdd 1408 (Fin.castAdd 1408 l))) rfl).trans ?_
    exact add_right_comm _ _ _
  have hg (l : Fin 1408) : (B.row a).dgu ⟨l.val, by omega⟩ = (B.row a).dgate ⟨l.val, by omega⟩ := dif_pos (by show l.val < 2816; omega)
  have hg' (l : Fin 1408) : (B.row a).dgu ⟨1408 + l.val, by omega⟩ = (B.row a).dgate ⟨1408 + l.val, by omega⟩ := dif_pos (by show 1408 + l.val < 2816; omega)
  have hu (l : Fin 1408) : (B.row a).dgu ⟨2816 + l.val, by omega⟩ = (B.row a).dup ⟨l.val, by omega⟩ :=
    (dif_neg (by show ¬2816 + l.val < 2816; omega)).trans (congrArg _ (Fin.ext (by show 2816 + l.val - 2816 = l.val; omega)))
  have hu' (l : Fin 1408) : (B.row a).dgu ⟨4224 + l.val, by omega⟩ = (B.row a).dup ⟨1408 + l.val, by omega⟩ :=
    (dif_neg (by show ¬4224 + l.val < 2816; omega)).trans (congrArg _ (Fin.ext (by show 4224 + l.val - 2816 = 1408 + l.val; omega)))
  unfold dhn Back.dhn
  pointwise [k0_pay23, k0_pay17]
  rw [hs]
  refine congrArg₂ (· + ·) (congrArg₂ (· + ·) (congrArg₂ (· + ·) ?_ ?_) ?_) ?_
  · refine Finset.sum_congr rfl fun l _ => congrArg₂ (· * ·) ((B.dgate0_apply a l).trans (hg l).symm) ?_
    exact (B.wg_apply 0 _ b l (by omega)).trans (congrArg B.wg (congrArg (fun l => ix2 b l) (Fin.ext (Nat.zero_add _))))
  · exact Finset.sum_congr rfl fun l _ => congrArg₂ (· * ·) ((B.dup0_apply a l).trans (hu l).symm) (B.wg_apply 2816 _ b l (by omega))
  · exact Finset.sum_congr rfl fun l _ => congrArg₂ (· * ·) ((B.dgate1_apply a l).trans (hg' l).symm) (B.wg_apply 1408 _ b l (by omega))
  · exact Finset.sum_congr rfl fun l _ => congrArg₂ (· * ·) ((B.dup1_apply a l).trans (hu' l).symm) (B.wg_apply 4224 _ b l (by omega))

theorem dh1_apply (a : Fin 256) (b : Fin 1024) : B.dh1 (ix2 a b) = (B.row a).dh1 b := by
  unfold dh1
  pointwise [k0_pay28, k0_pay26, k0_pay25, k0_pay24]
  simp only [B.dhn_apply]
  rfl

theorem dmix_apply (a : Fin 256) (b : Fin 1024) : B.dmix (ix2 a b) = (B.row a).dmix b := by
  unfold dmix
  pointwise [k0_pay35, k0_pay33, k0_pay32, k0_pay31, k0_pay30, k0_pay29]
  simp only [B.dh1_apply]
  rfl

theorem dy_apply (a : Fin 256) (b : Fin 1024) : B.dy (ix2 a b) = (B.row a).dy b := by
  unfold dy
  pointwise [k0_pay36]
  exact Finset.sum_congr rfl fun k _ => congrArg₂ (· * ·) (B.dmix_apply a k) rfl

theorem dp0_apply (a b : Fin 256) : B.dp0 (ix2 a b) = back (n := 256) d256 (fun k => (B.row a).dy ⟨k.val, by omega⟩) (fun k => B.p (ix2 a ⟨k.val, by omega⟩))
    (fun k => B.gg (ix2 0 ⟨k.val, by omega⟩)) b := by
  unfold dp0
  pointwise [k0_pay43, k0_pay42, k0_pay41, k0_pay40, k0_pay39, k0_pay38, k0_pay37]
  have hb : ∀ k : Fin 256, k.val < 512 := fun k => by omega
  simp only [dif_pos (hb _)]
  simp only [B.dy_apply]
  rfl

theorem dp_apply (a : Fin 256) (b : Fin 512) : B.dp (ix2 a b) = (B.row a).dp b := by
  unfold dp
  pointwise [k0_pay55]
  unfold Back.dp
  by_cases h : b.val < 256
  · rw [dif_pos h, dif_pos h]
    exact B.dp0_apply a _
  rw [dif_neg h, dif_neg h]
  pointwise [k0_pay49, k0_pay48, k0_pay47, k0_pay46, k0_pay45, k0_pay38, k0_pay37]
  have hb : ∀ k : Fin 256, 256 + k.val < 512 := fun k => by omega
  have h5 : 256 + (b.val - 256) < 512 := by omega
  simp only [dif_pos (hb _), dif_pos h5, B.dy_apply]
  rfl

theorem dq_apply (a : Fin 256) (b : Fin 512) : B.dq (ix2 a b) = (B.row a).dq b := by
  unfold dq
  pointwise [k0_pay56, k0_pay53, k0_pay52, k0_pay51, k0_pay50, k0_pay38, k0_pay37]
  simp only [B.dy_apply]
  rfl

end Blocks

end Cert.KernelTailBackIdeal.Rows

end
-- ==== Proof.TailBackPoints.lean ====
/- The call for the tail's gradient, point by point: what a point leaves in its blocks and in the three weights that it keeps. -/
module

public import proofs.«01_k».proof.Proof.TailBackRows
public import proofs.«01_k».proof.Proof.Gen.KernelTailBackIdeal.Frame
public import Idealize.ShloMosaic.Lib.Pipeline.Value
public import Idealize.ShloMosaic.Lib.Pipeline.ValueKit

@[expose] public section

set_option maxRecDepth 16384

noncomputable section

namespace Cert.KernelTailBackIdeal.Points

open Idealize.ShloMosaic Idealize.ShloMosaic.TcCoe Idealize.SL.Sem
open Cert.KernelTailBackIdeal.Gen Cert.KernelTailBackIdeal.Rows Cert.Windows

variable (m : (ℓ : Loc nD τ sig) → Buf (Elt Ideal) ℓ) (c : Dev nD)

/-- What a point reads. -/
abbrev blocks (t : Fin cfg0.N) : Blocks where
  dh := iblk m c 0 t
  ffo := iblk m c 1 t
  go := iblk m c 2 t
  gu := iblk m c 3 t
  h1 := iblk m c 4 t
  gf := iblk m c 5 t
  mix := iblk m c 6 t
  gm := iblk m c 7 t
  p := iblk m c 8 t
  q := iblk m c 9 t
  gg := iblk m c 10 t
  wd := V m c main_v96
  wg := V m c main_v97
  wo := V m c main_v101

/-- What a point leaves, apart from the four running sums. -/
abbrev Left (t : Fin cfg0.N) (z : Vec Ideal S256x1024 .bf16 × Vec Ideal S256x5632 .bf16 × Vec Ideal S256x1024 .f32 × Vec Ideal S256x1024 .bf16
    × Vec Ideal S256x512 .bf16 × Vec Ideal S256x512 .bf16 × Vec Ideal S8x1024 .f32 × Vec Ideal S8x1024 .f32 × Vec Ideal S8x1024 .f32
    × Vec Ideal S8x1024 .f32 × Vec Ideal S2816x1024 .bf16 × Vec Ideal S1024x5632 .bf16 × Vec Ideal S1024x1024 .bf16) : Prop :=
  ∃ s0 s1 s2 s3, z = ((blocks m c t).dffo, (blocks m c t).dgu (VO0_12.read (Elt Ideal) VO0_12.junk), (blocks m c t).dh1, (blocks m c t).dmix,
    (blocks m c t).dp, (blocks m c t).dq, s0, s1, s2, s3, V m c main_v96, V m c main_v97, V m c main_v101)

/-- Equal parts make equal lists of thirteen. -/
theorem thirteen {A0 A1 A2 A3 A4 A5 A6 A7 A8 A9 A10 A11 A12 : Type} {a0 b0 : A0} {a1 b1 : A1} {a2 b2 : A2} {a3 b3 : A3} {a4 b4 : A4} {a5 b5 : A5}
    {a6 : A6} {a7 : A7} {a8 : A8} {a9 : A9} {a10 b10 : A10} {a11 b11 : A11} {a12 b12 : A12} (h0 : a0 = b0) (h1 : a1 = b1) (h2 : a2 = b2)
    (h3 : a3 = b3) (h4 : a4 = b4) (h5 : a5 = b5) (h10 : a10 = b10) (h11 : a11 = b11) (h12 : a12 = b12) :
    ∃ s0 s1 s2 s3, (a0, a1, a2, a3, a4, a5, a6, a7, a8, a9, a10, a11, a12) = (b0, b1, b2, b3, b4, b5, s0, s1, s2, s3, b10, b11, b12) := by
  subst h0 h1 h2 h3 h4 h5 h10 h11 h12; exact ⟨_, _, _, _, rfl⟩

theorem Left.of_eq {t : Fin cfg0.N} {z z' : _} (h : z = z') (h' : Left m c t z') : Left m c t z := h ▸ h'

set_option maxHeartbeats 4000000 in
/-- The first point brings the weights in. -/
theorem outs_A (t : Fin cfg0.N) (h0 : t.val % 32 = 0) : Left m c t (outsAt0 m c t.val t.isLt) := by
  refine Left.of_eq m c (outsAt0_A m c t h0 h0) (thirteen ?_ ?_ ?_ ?_ ?_ ?_ ?_ ?_ ?_)
  all_goals
    first
      | unfold out0_A_11 | unfold out0_A_12 | unfold out0_A_13 | unfold out0_A_14 | unfold out0_A_15 | unfold out0_A_16
      | unfold sout0_A_0 | unfold sout0_A_1 | unfold sout0_A_2
    try unfold kernelRun0_A
    try dsimp only
    try sl_unfold_words
    try simp only [ld_win, ld_cov, st_put, st_whole, View.writes_nil, Memref.IsWhole.read_unread]
    try simp only [window_whole, put_whole]
    try rfl

set_option maxHeartbeats 4000000 in
/-- A later point finds the weights. -/
theorem outs_B (t s : Fin cfg0.N) (h0 : ¬t.val % 32 = 0) (h : Left m c s (outsAt0 m c (t.val - 1) (Nat.lt_of_le_of_lt (Nat.sub_le _ _) t.isLt))) :
    Left m c t (outsAt0 m c t.val t.isLt) := by
  obtain ⟨r0, r1, r2, r3, h⟩ := h
  have h' := outsAt0_B m c t h0 h0
  rw [h] at h'
  refine Left.of_eq m c h' ?_
  dsimp only
  refine thirteen ?_ ?_ ?_ ?_ ?_ ?_ rfl rfl rfl
  all_goals
    generalize (Memref.isWhole_whole cc0_scratch0) = p0
    generalize (Memref.isWhole_whole cc0_scratch1) = p1
    generalize (Memref.isWhole_whole cc0_scratch2) = p2
    revert p0 p1 p2
    change ∀ (p0 : scM0_0.IsWhole) (p1 : scM0_1.IsWhole) (p2 : scM0_2.IsWhole), _
    generalize scM0_0 = s0
    generalize scM0_1 = s1
    generalize scM0_2 = s2
    intro p0 p1 p2
    first
      | unfold out0_B_11 | unfold out0_B_12 | unfold out0_B_13 | unfold out0_B_14 | unfold out0_B_15 | unfold out0_B_16
    try unfold kernelRun0_B
    try dsimp only
    try sl_unfold_words
    try simp only [ld_win, ld_cov, st_put, st_whole, View.writes_nil, Memref.IsWhole.read_unread]
    try simp only [window_whole, put_whole]
    try rfl

/-- So every point leaves the same functions of its blocks and of the weights. -/
theorem outs (n : ℕ) (h : n < cfg0.N) : Left m c ⟨n, h⟩ (outsAt0 m c n h) := by
  induction n with
  | zero => exact outs_A m c ⟨0, h⟩ rfl
  | succ n ih =>
    have hN := lt_of_lt_of_eq h (show cfg0.N = 32 from N_0)
    exact outs_B m c ⟨n + 1, h⟩ ⟨n, by omega⟩ (by dsimp only; omega) (ih _)

end Cert.KernelTailBackIdeal.Points

end
-- ==== Proof.TailBackReference.lean ====
/- The reference's gradient of a layer's tail, one token at a time, where the arguments are real numbers. -/
module

public import proofs.«01_k».proof.Proof.TailBack
public import proofs.«01_k».proof.Proof.Gen.ReferenceTailBackIdeal.Run
public import Idealize.ShloMosaic.Lib.Pointwise

@[expose] public section

set_option maxRecDepth 16384

noncomputable section

namespace Cert.ReferenceTailBackIdeal.Rows

open Idealize.ShloMosaic Idealize.ShloMosaic.TcCoe Idealize.SL.Sem
open Cert.ReferenceTailBackIdeal.Value Cert.Tail

variable (V0 : Valuation τ sig (Elt Ideal))

/-- The arguments. -/
abbrev a0 : FVec Ideal S8192x512 .f32 := V0 (Proc.devRef .tc main_arg0)
abbrev a1 : FVec Ideal S8192x512 .f32 := V0 (Proc.devRef .tc main_arg1)
abbrev a2 : FVec Ideal S1024 .f32 := V0 (Proc.devRef .tc main_arg2)
abbrev a3 : FVec Ideal S1024x1024 .f32 := V0 (Proc.devRef .tc main_arg3)
abbrev a4 : FVec Ideal S8192x1024 .f32 := V0 (Proc.devRef .tc main_arg4)
abbrev a5 : FVec Ideal S1024 .f32 := V0 (Proc.devRef .tc main_arg5)
abbrev a6 : FVec Ideal S1024 .f32 := V0 (Proc.devRef .tc main_arg6)
abbrev a7 : FVec Ideal S1024x5632 .f32 := V0 (Proc.devRef .tc main_arg7)
abbrev a8 : FVec Ideal S2816x1024 .f32 := V0 (Proc.devRef .tc main_arg8)
abbrev a9 : FVec Ideal S1024 .f32 := V0 (Proc.devRef .tc main_arg9)
abbrev a10 : FVec Ideal S8192x1024 .f32 := V0 (Proc.devRef .tc main_arg10)

/-- What token `a` reads on the way forward, and what its gradient reads. -/
def row (a : Fin 8192) : Row where
  p b := a0 V0 (ix2 a b)
  q b := a1 V0 (ix2 a b)
  gg b := a2 V0 (ix1 b)
  h b := a4 V0 (ix2 a b)
  gm b := a5 V0 (ix1 b)
  gf b := a6 V0 (ix1 b)
  go b := a9 V0 (ix1 b)
  wo k b := a3 V0 (ix2 k b)
  wg k b := a7 V0 (ix2 k b)
  wd k b := a8 V0 (ix2 k b)
def brow (a : Fin 8192) : Back := (row V0 a).back fun b => a10 V0 (ix2 a b)

/-- The stages on the way forward. -/
abbrev mixR : FVec Ideal S8192x1024 .f32 := res_main_v54 V0
abbrev h1R : FVec Ideal S8192x1024 .f32 := res_main_v71 V0
abbrev guR : FVec Ideal S8192x5632 .f32 := res_main_v88 V0
abbrev ffoR : FVec Ideal S8192x1024 .f32 := res_main_v93 V0
abbrev sigR : FVec Ideal S8192x2816 .f32 := res_main_v90_2 V0
abbrev actR : FVec Ideal S8192x2816 .f32 := res_main_v90_0 V0

theorem mix_apply (a : Fin 8192) (b : Fin 1024) : mixR V0 (ix2 a b) = (row V0 a).mix b := by
  unfold mixR
  pointwise [res_main_v54, res_main_v0, res_main_v8, res_main_v9, res_main_v15, res_main_v18, res_main_v26, res_main_v27, res_main_v33, res_main_v43,
    res_main_v44, res_main_v50]
  refine Finset.sum_congr rfl fun l _ => congrArg₂ (· * ·) ?_ rfl
  unfold Row.y yRow
  by_cases h : l.val < 256
  · simp only [dif_pos h, row, rms]
  by_cases h1 : l.val < 512
  · simp only [dif_neg h, dif_pos h1, dif_pos (show l.val - 256 < 256 by omega), row, rms]
  simp only [dif_neg h, dif_neg h1, dif_neg (show ¬ l.val - 256 < 256 by omega), Nat.sub_sub, row, rms]

theorem h1_apply (a : Fin 8192) (b : Fin 1024) : h1R V0 (ix2 a b) = (row V0 a).h1 b := by
  unfold h1R
  pointwise [res_main_v71, res_main_v62, res_main_v61, res_main_v68]
  unfold Row.h1 rms
  simp only [← mix_apply V0]
  rfl

theorem gu_apply (a : Fin 8192) (b : Fin 5632) : guR V0 (ix2 a b) = (row V0 a).gu b := by
  unfold guR
  pointwise [res_main_v88, res_main_v79, res_main_v78, res_main_v85]
  unfold Row.gu prod Row.hn rms
  simp only [← h1_apply V0]
  rfl

theorem sig_apply (a : Fin 8192) (l : Fin 2816) : sigR V0 (ix2 a l) = Ideal.logistic ((row V0 a).gu ⟨l.val, by omega⟩) := by
  unfold sigR
  pointwise [res_main_v90_2, res_main_v89]
  simp only [← gu_apply V0]
  rfl

theorem act_apply (a : Fin 8192) (l : Fin 2816) : actR V0 (ix2 a l)
    = (row V0 a).gu ⟨l.val, by omega⟩ * Ideal.logistic ((row V0 a).gu ⟨l.val, by omega⟩) := by
  unfold actR
  pointwise [res_main_v90_0, res_main_v89]
  exact congrArg₂ (· * ·) (gu_apply V0 a _) (sig_apply V0 a l)

theorem ffo_apply (a : Fin 8192) (b : Fin 1024) : ffoR V0 (ix2 a b) = (row V0 a).ffo b := by
  unfold ffoR
  pointwise [res_main_v93, res_main_v91]
  exact Finset.sum_congr rfl fun l _ => congrArg₂ (· * ·) (congrArg₂ (· * ·) (act_apply V0 a l) (gu_apply V0 a _)) rfl

variable (H : ∀ a, (brow V0 a).Finite)
include H

/-- The stages on the way back. -/
abbrev dffoR : FVec Ideal S8192x1024 .f32 := res_main_v128 V0
abbrev dffR : FVec Ideal S8192x2816 .f32 := res_main_v129 V0
abbrev dguR : FVec Ideal S8192x5632 .f32 := res_main_v135 V0
abbrev dmixR : FVec Ideal S8192x1024 .f32 := res_main_v169 V0
abbrev dyR : FVec Ideal S8192x1024 .f32 := res_main_v170 V0

theorem dffo_apply (a : Fin 8192) (b : Fin 1024) : dffoR V0 (ix2 a b) = (brow V0 a).dffo b := by
  refine Eq.trans ?_ (rule_eq d1024_coe (by norm_num) (H a).dh (H a).ffo (H a).go b)
  unfold dffoR
  pointwise [res_main_v128, res_main_v124, res_main_v114, res_main_v107, res_main_v101, res_main_v100]
  simp only [ffo_apply V0, Fin.sum_univ_one]
  rfl

theorem dff_apply (a : Fin 8192) (l : Fin 2816) : dffR V0 (ix2 a l) = (brow V0 a).dff l := by
  unfold dffR
  pointwise [res_main_v129]
  exact Finset.sum_congr rfl fun k _ => congrArg₂ (· * ·) (dffo_apply V0 H a k) rfl

theorem dgu_apply (a : Fin 8192) (b : Fin 5632) : dguR V0 (ix2 a b) = (brow V0 a).dgu b := by
  unfold dguR Back.dgu
  pointwise [res_main_v135, res_main_v131, res_main_v91, res_main_v89]
  by_cases h : b.val < 2816
  · rw [dif_pos h]
    refine (congrArg₂ (· + ·) (dif_neg fun hc => absurd (hc (1 : Fin 2)).1 (by show ¬2816 ≤ b.val; omega)) (dif_pos ?_)).trans ?_
    · intro (k : Fin 2)
      fin_cases k
      · exact ⟨Nat.zero_le _, Nat.mod_one _, by show (a.val - 0) / 1 < 8192; omega⟩
      · exact ⟨Nat.zero_le _, Nat.mod_one _, by show (b.val - 0) / 1 < 2816; omega⟩
    refine (zero_add _).trans (Eq.trans ?_ (gateBack_eq (((H a).dff ⟨b.val, h⟩).mul ((H a).gu _)) ((H a).gu _)))
    exact congrArg₂ (· + ·) (congrArg₂ (· * ·) (congrArg₂ (· * ·) (dff_apply V0 H a _) (gu_apply V0 a _)) (sig_apply V0 a _))
      (congrArg₂ (· * ·) (congrArg₂ (· * ·) (gu_apply V0 a _) (congrArg₂ (· * ·) (dff_apply V0 H a _) (gu_apply V0 a _)))
        (congrArg₂ (· * ·) (sig_apply V0 a _) (congrArg₂ (· - ·) rfl (sig_apply V0 a _))))
  · rw [dif_neg h]
    refine (congrArg₂ (· + ·) (dif_pos ?_) (dif_neg fun hc => absurd (hc (1 : Fin 2)).2.2 (by show ¬(b.val - 0) / 1 < 2816; omega))).trans ?_
    · intro (k : Fin 2)
      fin_cases k
      · exact ⟨Nat.zero_le _, Nat.mod_one _, by show (a.val - 0) / 1 < 8192; omega⟩
      · exact ⟨by show 2816 ≤ b.val; omega, Nat.mod_one _, by show (b.val - 2816) / 1 < 2816; omega⟩
    refine (add_zero _).trans ?_
    exact (congrArg₂ (· * ·) (act_apply V0 a _) (dff_apply V0 H a _)).trans (mul_comm _ _)

/-- The first sum's gradient, which the reference returns as it is. -/
abbrev dh1R : FVec Ideal S8192x1024 .f32 :=
  addf (shapeCast _ (V0 (Proc.devRef .tc main_arg10)) Facts₀.shapeCasts_S8192x1024_S8192x1024)
    (addf (addf (mulf (res_main_v138 V0) (broadcastInDim S8192x1024 ![0, 1] Facts₀.bcast_S8192x1_S8192x1024_0_1 (res_main_v79 V0)))
      (mulf (res_main_v71 V0) (res_main_v148 V0))) (mulf (res_main_v148 V0) (res_main_v71 V0)))

theorem dhn_apply (a : Fin 8192) (b : Fin 1024) : (res_main_v138 V0 : FVec Ideal S8192x1024 .f32) (ix2 a b) = (brow V0 a).dhn b * (brow V0 a).gf b := by
  pointwise [res_main_v138, res_main_v85]
  exact congrArg₂ (· * ·) (Finset.sum_congr rfl fun l _ => congrArg₂ (· * ·) (dgu_apply V0 H a l) rfl) rfl

theorem dh1_apply (a : Fin 8192) (b : Fin 1024) : dh1R V0 (ix2 a b) = (brow V0 a).dh1 b := by
  refine Eq.trans ?_ (congrArg₂ (· + ·) rfl (rule_eq d1024_coe (by norm_num) (H a).dhn (H a).h1 (H a).gf b))
  unfold dh1R
  pointwise [res_main_v148, res_main_v79, res_main_v78]
  simp only [h1_apply V0, dhn_apply V0 H, Fin.sum_univ_one]
  rfl

theorem dmix_apply (a : Fin 8192) (b : Fin 1024) : dmixR V0 (ix2 a b) = (brow V0 a).dmix b := by
  have h155 (k : Fin 1024) : (res_main_v155 V0 : FVec Ideal S8192x1024 .f32) (ix2 a k) = (brow V0 a).dh1 k * (brow V0 a).gm k := by
    refine Eq.trans ?_ (congrArg₂ (· * ·) (dh1_apply V0 H a k) rfl)
    unfold dh1R
    pointwise [res_main_v155, res_main_v68]
    rfl
  refine Eq.trans ?_ (rule_eq d1024_coe (by norm_num) (H a).dh1 (H a).mix (H a).gm b)
  unfold dmixR
  pointwise [res_main_v169, res_main_v165, res_main_v62, res_main_v61]
  simp only [mix_apply V0, h155, Fin.sum_univ_one]
  rfl

theorem dy_apply (a : Fin 8192) (b : Fin 1024) : dyR V0 (ix2 a b) = (brow V0 a).dy b := by
  unfold dyR
  pointwise [res_main_v170]
  exact Finset.sum_congr rfl fun k _ => congrArg₂ (· * ·) (dmix_apply V0 H a k) rfl

/-- The gradients of the first two mixers' outputs. -/
def dp0R : FVec Ideal S8192x256 .f32 :=
  addf (addf (mulf (res_main_v208 V0) (broadcastInDim S8192x256 ![0, 1] Facts₀.bcast_S8192x1_S8192x256_0_1 (res_main_v9 V0)))
    (mulf (res_main_v0 V0) (res_main_v218 V0))) (mulf (res_main_v218 V0) (res_main_v0 V0))
def dp1R : FVec Ideal S8192x256 .f32 :=
  addf (addf (mulf (res_main_v191 V0) (broadcastInDim S8192x256 ![0, 1] Facts₀.bcast_S8192x1_S8192x256_0_1 (res_main_v27 V0)))
    (mulf (res_main_v18 V0) (res_main_v201 V0))) (mulf (res_main_v201 V0) (res_main_v18 V0))

/-- The gradients of the mixers' outputs, which the reference returns narrowed. -/
abbrev dpR : FVec Ideal S8192x512 .f32 :=
  addf (pad S8192x512 ![0, 256] ![0, 0] ![0, 0] (dp1R V0) (constant S_ .f32 0x00000000#32) Facts₀.pads_S8192x256_S8192x512_000_25600 Facts₀.h_S_)
    (pad S8192x512 ![0, 0] ![0, 256] ![0, 0] (dp0R V0) (constant S_ .f32 0x00000000#32) Facts₀.pads_S8192x256_S8192x512_000_02560 Facts₀.h_S_)
abbrev dqR : FVec Ideal S8192x512 .f32 :=
  addf (addf (mulf (res_main_v175 V0) (broadcastInDim S8192x512 ![0, 1] Facts₀.bcast_S8192x1_S8192x512_0_1 (res_main_v44 V0)))
    (mulf (V0 (Proc.devRef .tc main_arg1)) (res_main_v185 V0))) (mulf (res_main_v185 V0) (V0 (Proc.devRef .tc main_arg1)))

theorem dp0_apply (a : Fin 8192) (b : Fin 256) : dp0R V0 (ix2 a b) = back (n := 256) d256 (fun k => (brow V0 a).dy ⟨k.val, by omega⟩)
    (fun k => (brow V0 a).p ⟨k.val, by omega⟩) (fun k => (brow V0 a).gg ⟨k.val, by omega⟩) b := by
  refine Eq.trans ?_ (rule_eq d256_coe (by norm_num) (fun k => (H a).dy _) (fun k => (H a).p _) (fun k => (H a).gg _) b)
  pointwise [dp0R, res_main_v208, res_main_v218, res_main_v0, res_main_v8, res_main_v9, res_main_v15]
  simp only [dy_apply V0 H, Fin.sum_univ_one]
  rfl

theorem dp1_apply (a : Fin 8192) (b : Fin 256) : dp1R V0 (ix2 a b) = back (n := 256) d256 (fun k => (brow V0 a).dy ⟨256 + k.val, by omega⟩)
    (fun k => (brow V0 a).p ⟨256 + k.val, by omega⟩) (fun k => (brow V0 a).gg ⟨256 + k.val, by omega⟩) b := by
  refine Eq.trans ?_ (rule_eq d256_coe (by norm_num) (fun k => (H a).dy _) (fun k => (H a).p _) (fun k => (H a).gg _) b)
  pointwise [dp1R, res_main_v191, res_main_v201, res_main_v18, res_main_v26, res_main_v27, res_main_v33]
  simp only [dy_apply V0 H, Fin.sum_univ_one]
  rfl

theorem dp_apply (a : Fin 8192) (b : Fin 512) : dpR V0 (ix2 a b) = (brow V0 a).dp b := by
  unfold dpR Back.dp
  pointwise
  by_cases h : b.val < 256
  · rw [dif_neg (by omega), dif_pos h, dif_pos h]
    exact (zero_add _).trans (dp0_apply V0 H a ⟨b.val, h⟩)
  · rw [dif_pos (by omega), dif_neg h, dif_neg h]
    exact (add_zero _).trans (dp1_apply V0 H a ⟨b.val - 256, by omega⟩)

theorem dq_apply (a : Fin 8192) (b : Fin 512) : dqR V0 (ix2 a b) = (brow V0 a).dq b := by
  refine Eq.trans ?_ (rule_eq d512_coe (by norm_num) (fun k => (H a).dy _) (H a).q (fun k => (H a).gg _) b)
  unfold dqR
  pointwise [res_main_v175, res_main_v185, res_main_v44, res_main_v43, res_main_v50]
  simp only [dy_apply V0 H, Fin.sum_univ_one]
  rfl

end Cert.ReferenceTailBackIdeal.Rows

end
-- ==== Proof.TailBackValue.lean ====
/- The gradient of a layer's tail: what the call leaves, token by token, is what the reference computes. -/
module

public import proofs.«01_k».proof.Defs
public import proofs.«01_k».proof.Proof.Finite
public import proofs.«01_k».proof.Proof.TailBackHost
public import proofs.«01_k».proof.Proof.TailBackPoints
public import proofs.«01_k».proof.Proof.TailBackReference
public import proofs.«01_k».proof.Proof.Gen.KernelTailBack.Frame
public import proofs.«01_k».proof.Proof.Gen.Pre_finite_tail
public import Idealize.ShloMosaic.Lib.Pointwise
public import Idealize.ShloMosaic.Lib.Pipeline.ValueKit

@[expose] public section

set_option maxRecDepth 16384

noncomputable section

namespace Cert.KernelTailBackIdeal.Points

open Idealize.ShloMosaic Idealize.ShloMosaic.TcCoe Idealize.SL.Sem
open Cert.KernelTailBackIdeal.Gen Cert.KernelTailBackIdeal.Rows Cert.Tail

/-- Which block each window is on at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0] ∧ win0_7.index t = ![0, 0]
    ∧ win0_8.index t = ![t.val, 0] ∧ win0_9.index t = ![t.val, 0] ∧ win0_10.index t = ![0, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] ∧ t.val < 32 :=
  (by decide +kernel : ∀ t : Fin grid0.N, _)

variable (m : (ℓ : Loc nD τ sig) → Buf (Elt Ideal) ℓ) (c : Dev nD)

/-- What a block holds of its array. -/
theorem read0 (t : Fin cfg0.N) (a : Fin 256) (b : Fin 1024) (h : t.val * 256 + a.val < 8192) : (iblk m c 0 t : FVec Ideal S256x1024 .f32) (ix2 a b)
    = (V m c main_arg10 : FVec Ideal S8192x1024 .f32) (ix2 ⟨t.val * 256 + a.val, h⟩ b) := by
  blk_ext [iblk, idx t]
theorem read1 (t : Fin cfg0.N) (a : Fin 256) (b : Fin 1024) (h : t.val * 256 + a.val < 8192) : (iblk m c 1 t : FVec Ideal S256x1024 .bf16) (ix2 a b)
    = (V m c main_v93 : FVec Ideal S8192x1024 .bf16) (ix2 ⟨t.val * 256 + a.val, h⟩ b) := by
  blk_ext [iblk, idx t]
theorem read2 (t : Fin cfg0.N) (a : Fin 1) (b : Fin 1024) : (iblk m c 2 t : FVec Ideal S1x1024 .f32) (ix2 a b)
    = (V m c main_v94 : FVec Ideal S1x1024 .f32) (ix2 a b) := by
  blk_ext [iblk, idx t]
theorem read3 (t : Fin cfg0.N) (a : Fin 256) (b : Fin 5632) (h : t.val * 256 + a.val < 8192) : (iblk m c 3 t : FVec Ideal S256x5632 .bf16) (ix2 a b)
    = (V m c main_v95 : FVec Ideal S8192x5632 .bf16) (ix2 ⟨t.val * 256 + a.val, h⟩ b) := by
  blk_ext [iblk, idx t]
theorem read4 (t : Fin cfg0.N) (a : Fin 256) (b : Fin 1024) (h : t.val * 256 + a.val < 8192) : (iblk m c 4 t : FVec Ideal S256x1024 .f32) (ix2 a b)
    = (V m c main_v59 : FVec Ideal S8192x1024 .f32) (ix2 ⟨t.val * 256 + a.val, h⟩ b) := by
  blk_ext [iblk, idx t]
theorem read5 (t : Fin cfg0.N) (a : Fin 1) (b : Fin 1024) : (iblk m c 5 t : FVec Ideal S1x1024 .f32) (ix2 a b)
    = (V m c main_v98 : FVec Ideal S1x1024 .f32) (ix2 a b) := by
  blk_ext [iblk, idx t]
theorem read6 (t : Fin cfg0.N) (a : Fin 256) (b : Fin 1024) (h : t.val * 256 + a.val < 8192) : (iblk m c 6 t : FVec Ideal S256x1024 .bf16) (ix2 a b)
    = (V m c main_v99 : FVec Ideal S8192x1024 .bf16) (ix2 ⟨t.val * 256 + a.val, h⟩ b) := by
  blk_ext [iblk, idx t]
theorem read7 (t : Fin cfg0.N) (a : Fin 1) (b : Fin 1024) : (iblk m c 7 t : FVec Ideal S1x1024 .f32) (ix2 a b)
    = (V m c main_v100 : FVec Ideal S1x1024 .f32) (ix2 a b) := by
  blk_ext [iblk, idx t]
theorem read8 (t : Fin cfg0.N) (a : Fin 256) (b : Fin 512) (h : t.val * 256 + a.val < 8192) : (iblk m c 8 t : FVec Ideal S256x512 .f32) (ix2 a b)
    = (V m c main_arg0 : FVec Ideal S8192x512 .f32) (ix2 ⟨t.val * 256 + a.val, h⟩ b) := by
  blk_ext [iblk, idx t]
theorem read9 (t : Fin cfg0.N) (a : Fin 256) (b : Fin 512) (h : t.val * 256 + a.val < 8192) : (iblk m c 9 t : FVec Ideal S256x512 .f32) (ix2 a b)
    = (V m c main_arg1 : FVec Ideal S8192x512 .f32) (ix2 ⟨t.val * 256 + a.val, h⟩ b) := by
  blk_ext [iblk, idx t]
theorem read10 (t : Fin cfg0.N) (a : Fin 1) (b : Fin 1024) : (iblk m c 10 t : FVec Ideal S1x1024 .f32) (ix2 a b)
    = (V m c main_v102 : FVec Ideal S1x1024 .f32) (ix2 a b) := by
  blk_ext [iblk, idx t]

/-- Row `a` of the blocks at point `t` is token `256 t + a`. -/
theorem row_eq (t : Fin cfg0.N) (a : Fin 256) (h : t.val * 256 + a.val < 8192) : (blocks m c t).row a = btoken m c ⟨t.val * 256 + a.val, h⟩ := by
  simp only [Blocks.row, btoken, Row.back, Back.mk.injEq]
  exact ⟨funext fun b => (read0 m c t a b h).trans (congrFun (V_main_arg10 m c) _), funext fun b => (read1 m c t a b h).trans (give_ffo m c _ b),
    funext fun b => (read2 m c t 0 b).trans (give_go m c 0 b), funext fun b => (read3 m c t a b h).trans (give_gu m c _ b),
    funext fun k => funext fun b => give_wd m c k b, funext fun k => funext fun b => give_wg m c k b,
    funext fun b => (read4 m c t a b h).trans (give_h1 m c _ b), funext fun b => (read5 m c t 0 b).trans (give_gf m c 0 b),
    funext fun b => (read6 m c t a b h).trans (give_mix m c _ b), funext fun b => (read7 m c t 0 b).trans (give_gm m c 0 b),
    funext fun k => funext fun b => give_wo m c k b,
    funext fun b => (read8 m c t a b h).trans (congrFun (V_main_arg0 m c) _), funext fun b => (read9 m c t a b h).trans (congrFun (V_main_arg1 m c) _),
    funext fun b => (read10 m c t 0 b).trans (give_gg m c 0 b)⟩

/-- An array whose row `a` is a function of what token `a`'s gradient reads. -/
abbrev rows {n : ℕ} (f : Back → Fin n → EReal) : (⟨2, ![8192, n]⟩ : Shape).Idx → EReal := fun j => f (btoken m c (j 0)) (j 1)

/-- A row of a block, in the array. -/
theorem at_row {n : ℕ} (f : Back → Fin n → EReal) (t : Fin cfg0.N) (a : Fin 256) (b : Fin n) (j : (⟨2, ![8192, n]⟩ : Shape).Idx) (h : t.val * 256 + a.val < 8192)
    (hj : j = ix2 ⟨t.val * 256 + a.val, h⟩ b) : f ((blocks m c t).row a) b = rows m c f j := by
  subst hj
  rw [row_eq m c t a h]
  rfl

/-- The six arrays that the call leaves block by block. -/
theorem final11 : (dats m 0 c).arrAt 11 cfg0.N = (rows m c Back.dffo : FVec Ideal S8192x1024 .bf16) := by
  refine (dats m 0 c).arrAt_eq_of_covers 11 _ (by decide +kernel) fun t _ y => ?_
  have ht := (idx t).2.2.2.2.2.2.2.2.2.2.2.2.2.2.2.2.2
  obtain ⟨s0, s1, s2, s3, e⟩ := outs m c t.val t.isLt
  blk_simp
  rw [after0_11, e]
  idx_vars y
  exact (Blocks.dffo_apply (blocks m c t) y0 y1).trans (at_row m c Back.dffo t y0 y1 _ (by omega) (by blk_ext [idx t]))

theorem final12 : (dats m 0 c).arrAt 12 cfg0.N = (rows m c Back.dgu : FVec Ideal S8192x5632 .bf16) := by
  refine (dats m 0 c).arrAt_eq_of_covers 12 _ (by decide +kernel) fun t _ y => ?_
  have ht := (idx t).2.2.2.2.2.2.2.2.2.2.2.2.2.2.2.2.2
  obtain ⟨s0, s1, s2, s3, e⟩ := outs m c t.val t.isLt
  blk_simp
  rw [after0_12, e]
  idx_vars y
  exact (Blocks.dgu_apply (blocks m c t) _ y0 y1).trans (at_row m c Back.dgu t y0 y1 _ (by omega) (by blk_ext [idx t]))

theorem final13 : (dats m 0 c).arrAt 13 cfg0.N = (rows m c Back.dh1 : FVec Ideal S8192x1024 .f32) := by
  refine (dats m 0 c).arrAt_eq_of_covers 13 _ (by decide +kernel) fun t _ y => ?_
  have ht := (idx t).2.2.2.2.2.2.2.2.2.2.2.2.2.2.2.2.2
  obtain ⟨s0, s1, s2, s3, e⟩ := outs m c t.val t.isLt
  blk_simp
  rw [after0_13, e]
  idx_vars y
  exact (Blocks.dh1_apply (blocks m c t) y0 y1).trans (at_row m c Back.dh1 t y0 y1 _ (by omega) (by blk_ext [idx t]))

theorem final14 : (dats m 0 c).arrAt 14 cfg0.N = (rows m c Back.dmix : FVec Ideal S8192x1024 .bf16) := by
  refine (dats m 0 c).arrAt_eq_of_covers 14 _ (by decide +kernel) fun t _ y => ?_
  have ht := (idx t).2.2.2.2.2.2.2.2.2.2.2.2.2.2.2.2.2
  obtain ⟨s0, s1, s2, s3, e⟩ := outs m c t.val t.isLt
  blk_simp
  rw [after0_14, e]
  idx_vars y
  exact (Blocks.dmix_apply (blocks m c t) y0 y1).trans (at_row m c Back.dmix t y0 y1 _ (by omega) (by blk_ext [idx t]))

theorem final15 : (dats m 0 c).arrAt 15 cfg0.N = (rows m c Back.dp : FVec Ideal S8192x512 .bf16) := by
  refine (dats m 0 c).arrAt_eq_of_covers 15 _ (by decide +kernel) fun t _ y => ?_
  have ht := (idx t).2.2.2.2.2.2.2.2.2.2.2.2.2.2.2.2.2
  obtain ⟨s0, s1, s2, s3, e⟩ := outs m c t.val t.isLt
  blk_simp
  rw [after0_15, e]
  idx_vars y
  exact (Blocks.dp_apply (blocks m c t) y0 y1).trans (at_row m c Back.dp t y0 y1 _ (by omega) (by blk_ext [idx t]))

theorem final16 : (dats m 0 c).arrAt 16 cfg0.N = (rows m c Back.dq : FVec Ideal S8192x512 .bf16) := by
  refine (dats m 0 c).arrAt_eq_of_covers 16 _ (by decide +kernel) fun t _ y => ?_
  have ht := (idx t).2.2.2.2.2.2.2.2.2.2.2.2.2.2.2.2.2
  obtain ⟨s0, s1, s2, s3, e⟩ := outs m c t.val t.isLt
  blk_simp
  rw [after0_16, e]
  idx_vars y
  exact (Blocks.dq_apply (blocks m c t) y0 y1).trans (at_row m c Back.dq t y0 y1 _ (by omega) (by blk_ext [idx t]))

/-- Arguments of which every entry is finite are real numbers. -/
theorem btoken_finite [Cert.Pre_finite_tail.Facts] (h : Cert.Pre_KernelTailBackIdeal_finite_tail m) (a : Fin 8192) : (btoken m c a).Finite := by
  obtain ⟨h0, h1, h2, h3, h4, h5, h6, h7, h8, h9, h10⟩ := h c
  exact Row.back_finite (token m c a) _ (fun b => Mixer.finite_entry (a0 m c) _ _ h0 _) (fun b => Mixer.finite_entry (a1 m c) _ _ h1 _)
    (fun b => Mixer.finite_entry (a2 m c) _ _ h2 _) (fun b => Mixer.finite_entry (a4 m c) _ _ h4 _) (fun b => Mixer.finite_entry (a5 m c) _ _ h5 _)
    (fun b => Mixer.finite_entry (a6 m c) _ _ h6 _) (fun b => Mixer.finite_entry (a9 m c) _ _ h9 _) (fun k b => Mixer.finite_entry (a3 m c) _ _ h3 _)
    (fun k b => Mixer.finite_entry (a7 m c) _ _ h7 _) (fun k b => Mixer.finite_entry (a8 m c) _ _ h8 _) (fun b => Mixer.finite_entry (a10 m c) _ _ h10 _)

end Cert.KernelTailBackIdeal.Points

namespace Cert.TailBackValue

open Idealize.ShloMosaic Idealize.ShloMosaic.TcCoe Idealize.SL.Sem
open Cert.KernelTailBackIdeal.Points Cert.Tail

/-- The frames of the kernel's two programs and of the reference. -/
theorem frame_kernel : Cert.quiescent_KernelTailBack (hKernelTailBack := Cert.KernelTailBack.Gen.facts) := fun m ρ _ => Cert.KernelTailBack.Gen.frame m ρ
theorem frame_ideal : Cert.quiescent_KernelTailBackIdeal (hKernelTailBackIdeal := Cert.KernelTailBackIdeal.Gen.facts) :=
  fun m ρ _ => Cert.KernelTailBackIdeal.Gen.frame m ρ
theorem frame_reference : Cert.quiescent_ReferenceTailBackIdeal (hReferenceTailBackIdeal := Cert.ReferenceTailBackIdeal.Gen.facts) := by
  intro m ρ _
  exact (θ_run Cert.ReferenceTailBackIdeal.defs _ _).mono (fun r h => ⟨fun c => (h c).2.2.2.2.2.2, sem_eq_zero_of_no_sems (by decide) r.2⟩)
    (Cert.ReferenceTailBackIdeal.Value.run (F := Ideal) m ρ)

open Cert.ReferenceTailBackIdeal in
/-- A stage of the reference whose rows are functions of what the tokens' gradients read. -/
theorem rows_eq {n : ℕ} (f : Back → Fin n → EReal) (m : (ℓ : Loc Cert.KernelTailBackIdeal.nD Cert.KernelTailBackIdeal.τ Cert.KernelTailBackIdeal.sig) → Buf (Elt Ideal) ℓ)
    (c : Dev Cert.KernelTailBackIdeal.nD) (V0 : Valuation τ sig (Elt Ideal)) (e : ∀ a, Cert.ReferenceTailBackIdeal.Rows.brow V0 a = btoken m c a)
    (x : FVec Ideal ⟨2, ![8192, n]⟩ .f32) (h : ∀ a b, x (ix2 a b) = f (Cert.ReferenceTailBackIdeal.Rows.brow V0 a) b) : x = rows m c f := by
  funext (j : (⟨2, ![8192, n]⟩ : Shape).Idx)
  have hj : ∀ (a : Fin 8192) (b : Fin n), x (ix2 a b) = f (btoken m c a) b := fun a b => (h a b).trans (by rw [e])
  exact (congrArg x (eq_ix2 j)).trans (hj (j 0) (j 1))

/-- Kernel and reference compute the same gradient of a layer's tail. -/
theorem value : Cert.algebraic_KernelTailBackIdeal_ReferenceTailBackIdeal_pre_finite_tail (hKernelTailBackIdeal := Cert.KernelTailBackIdeal.Gen.facts)
    (hReferenceTailBackIdeal := Cert.ReferenceTailBackIdeal.Gen.facts) (hPre_finite_tail := Cert.Pre_finite_tail.Gen.facts) := by
  intro m g m' g' hpre hargs
  refine ⟨fun c => rows m c Back.dffo, fun c => rows m c Back.dgu, fun c => rows m c Back.dh1, fun c => rows m c Back.dmix, fun c => rows m c Back.dp,
    fun c => rows m c Back.dq, ?_, ?_⟩
  · open Cert.KernelTailBackIdeal Cert.KernelTailBackIdeal.Gen in
    exact (θ_run _ _ _).mono (fun r h c => ⟨((h c).1 11).trans (final11 m c), ((h c).1 12).trans (final12 m c), ((h c).1 13).trans (final13 m c),
      ((h c).1 14).trans (final14 m c), ((h c).1 15).trans (final15 m c), ((h c).1 16).trans (final16 m c),
      ((h c).1 8).trans (((dats m 0 c).arrAt_in 8 rfl _).trans ((A_eq m c 8).trans (V_main_arg0 m c))),
      ((h c).1 9).trans (((dats m 0 c).arrAt_in 9 rfl _).trans ((A_eq m c 9).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 0).trans (((dats m 0 c).arrAt_in 0 rfl _).trans ((A_eq m c 0).trans (V_main_arg10 m c)))⟩) (run_main m g)
  · refine (θ_run _ _ _).mono (fun r h c => ?_) (Cert.ReferenceTailBackIdeal.Value.run m' g')
    obtain ⟨e0, e1, e2, e3, e4, e5, e6, e7, e8, e9, e10⟩ := hargs c
    have e : ∀ a, Cert.ReferenceTailBackIdeal.Rows.brow (StableHlo.launchContents m' c) a = btoken m c a := fun a => by
      have er : Cert.ReferenceTailBackIdeal.Rows.row (StableHlo.launchContents m' c) a = token m c a := by
        simp only [Cert.ReferenceTailBackIdeal.Rows.row, token, Row.mk.injEq]
        exact ⟨funext fun b => congrFun e0 _, funext fun b => congrFun e1 _, funext fun b => congrFun e2 _, funext fun b => congrFun e4 _,
          funext fun b => congrFun e5 _, funext fun b => congrFun e6 _, funext fun b => congrFun e9 _, funext fun k => funext fun b => congrFun e3 _,
          funext fun k => funext fun b => congrFun e7 _, funext fun k => funext fun b => congrFun e8 _⟩
      unfold Cert.ReferenceTailBackIdeal.Rows.brow btoken
      rw [er]
      exact congrArg (Row.back _) (funext fun b => congrFun e10 _)
    have H : ∀ a, (Cert.ReferenceTailBackIdeal.Rows.brow (StableHlo.launchContents m' c) a).Finite := fun a => by
      rw [e]
      exact @btoken_finite m c Cert.Pre_finite_tail.Gen.facts hpre a
    obtain ⟨r0, r1, r2, r3, r4, r5, hr⟩ := h c
    open Cert.ReferenceTailBackIdeal.Rows in
    exact ⟨r0.trans (rows_eq Back.dffo m c _ e (dffoR _) (dffo_apply _ H)), r1.trans (rows_eq Back.dgu m c _ e (dguR _) (dgu_apply _ H)),
      r2.trans (rows_eq Back.dh1 m c _ e (dh1R _) (dh1_apply _ H)), r3.trans (rows_eq Back.dmix m c _ e (dmixR _) (dmix_apply _ H)),
      r4.trans (rows_eq Back.dp m c _ e (dpR _) (dp_apply _ H)), r5.trans (rows_eq Back.dq m c _ e (dqR _) (dq_apply _ H)), hr⟩

end Cert.TailBackValue

end
-- ==== Proof.Step.lean ====
/-
  What one grid point of the kernel leaves in each of its buffers, as plain functions of the values it loads. The
  grid runs from the last block of rows to the first. A point reads thirteen input blocks, adds to the four running
  sums (the gradients of the convolution taps, of the pooling blocks, of the pooling scale and of the norm's gain),
  hands the first sixteen rows of two intermediate arrays to the next point, and writes its rows of the two large
  results. The first point starts the sums and the handed-on rows from zero.
-/
module

public import proofs.«01_k».proof.Proof.Gen.KernelIdeal.Frame.Runs
public import proofs.«01_k».proof.Proof.Windows

@[expose] public section

set_option maxRecDepth 16384

noncomputable section

namespace Cert.KernelIdeal.Step

open Idealize.ShloMosaic Idealize.ShloMosaic.TcCoe
open Cert.KernelIdeal.Gen Cert.Windows

variable {F : FTy → Type} [FloatOps F]

/-- Row `r` of an eight-row running sum of 256 columns. -/
def row256 (y : Vec F S8x256 .f32) (r : ℕ) (h : ∀ a, (![r, 0] : Fin 2 → ℕ) a + S1x256.size a ≤ S8x256.size a) : Vec F S1x256 .f32 :=
  VecWindow.window (s := S8x256) y ![r, 0] S1x256.size h

/-- Row 0 of the eight-row running sum of 1024 columns. -/
def row1024 (y : Vec F S8x1024 .f32) : Vec F S1x1024 .f32 :=
  VecWindow.window (s := S8x1024) y ![0, 0] ![1, 1024] inb_S8x1024_S1x1024_0_0

/-- The block number in the order of the rows: the grid walks it downwards. -/
def blockNo (i : grid0.Coords) : BitVec 32 := Scalar.subi 15#32 (BitVec.ofNat 32 (i 0).val)

/-- The cotangent of the pooled mixer before its averages. -/
def pooled (x2 : Vec F S512x512 .bf16) (x4 : Vec F S256x256 .bf16) (x5 : Vec F S1x256 .f32) : FVec F S512x256 .f32 :=
  k0_pay41 (k0_pay16 x2) x5 x4

/-- That cotangent divided by the window lengths. -/
def averaged (i : grid0.Coords) (x2 : Vec F S512x512 .bf16) (x4 : Vec F S256x256 .bf16) (x5 : Vec F S1x256 .f32) : FVec F S512x256 .f32 :=
  k0_pay42 (k0_pay16 x2) (k0_pay29 (blockNo i)) x5 x4

/-- The block of the gradient of the first 1024 projected columns. -/
def oDpa (i : grid0.Coords) (x0 : Vec F S512x1024 .f32) (x1 : Vec F S16x1024 .f32) (x2 : Vec F S512x512 .bf16) (x3 : Vec F S8x256 .f32) (x4 : Vec F S256x256 .bf16) (x5 : Vec F S1x256 .f32)
    (z0 z1 : Vec F S16x256 .f32) : Vec F S512x1024 .bf16 :=
  k0_pay44 (k0_pay11 x0) (k0_pay12 x0) (k0_pay22 i x0 x1 x2 x3) (k0_pay27 (k0_pay17 x3) (k0_pay23 x0 x2) z0)
    (pooled x2 x4 x5) (averaged i x2 x4 x5) z1

/-- That block times the first 1024 columns of the weight. -/
def prod0 (i : grid0.Coords) (x0 : Vec F S512x1024 .f32) (x1 : Vec F S16x1024 .f32) (x2 : Vec F S512x512 .bf16) (x3 : Vec F S8x256 .f32) (x4 : Vec F S256x256 .bf16) (x5 : Vec F S1x256 .f32)
    (x9 : Vec F S1024x2560 .bf16) (z0 z1 : Vec F S16x256 .f32) : FVec F S512x1024 .f32 :=
  k0_pay45 (k0_pay11 x0) (k0_pay12 x0) (k0_pay22 i x0 x1 x2 x3) (k0_pay27 (k0_pay17 x3) (k0_pay23 x0 x2) z0)
    (pooled x2 x4 x5) (averaged i x2 x4 x5) z1 (VecWindow.window (s := S1024x2560) x9 ![0, 0] S1024x1024.size inb_S1024x2560_S1024x1024_0_0)

/-- The block of the gradient of the input, with the residual added. -/
def oDh (i : grid0.Coords) (x0 : Vec F S512x1024 .f32) (x1 : Vec F S16x1024 .f32) (x2 : Vec F S512x512 .bf16) (x3 : Vec F S8x256 .f32) (x4 : Vec F S256x256 .bf16) (x5 : Vec F S1x256 .f32) (x6 : Vec F S512x512 .bf16) (x7 : Vec F S512x512 .bf16) (x8 : Vec F S512x512 .bf16) (x9 : Vec F S1024x2560 .bf16) (x10 : Vec F S512x1024 .f32) (x11 : Vec F S1x1024 .f32) (x12 : Vec F S512x1024 .f32)
    (z0 z1 : Vec F S16x256 .f32) : Vec F S512x1024 .f32 :=
  k0_pay2 (k0_pay49 (prod0 i x0 x1 x2 x3 x4 x5 x9 z0 z1)
    x6 (VecWindow.window (s := S1024x2560) x9 ![0, 1024] S1024x512.size inb_S1024x2560_S1024x512_0_1024)
    x7 (VecWindow.window (s := S1024x2560) x9 ![0, 1536] S1024x512.size inb_S1024x2560_S1024x512_0_1536)
    x8 (VecWindow.window (s := S1024x2560) x9 ![0, 2048] S1024x512.size inb_S1024x2560_S1024x512_0_2048) x10 x11)
    x12

/-- The running sum of the taps' gradient: rows 0, 1, 2 are added to. -/
def oDcw (i : grid0.Coords) (x0 : Vec F S512x1024 .f32) (x1 : Vec F S16x1024 .f32) (x2 : Vec F S512x512 .bf16)
    (y : Vec F S8x256 .f32) : Vec F S8x256 .f32 :=
  VecWindow.put (s := S8x256) (VecWindow.put (s := S8x256) (VecWindow.put (s := S8x256) y
    ![0, 0] S1x256.size (k0_pay24 (k0_pay21 i x0 x1) (k0_pay23 x0 x2) (row256 y 0 inb_S8x256_S1x256_0_0)))
    ![1, 0] S1x256.size (k0_pay25 (k0_pay20 i x0 x1) (k0_pay23 x0 x2) (row256 y 1 inb_S8x256_S1x256_1_0)))
    ![2, 0] S1x256.size (k0_pay26 (k0_pay18 x0) (k0_pay23 x0 x2) (row256 y 2 inb_S8x256_S1x256_2_0))

/-- The running sum of the pooling blocks' gradient. -/
def oDpw (i : grid0.Coords) (x0 : Vec F S512x1024 .f32) (x1 : Vec F S16x1024 .f32) (x2 : Vec F S512x512 .bf16) (x5 : Vec F S1x256 .f32)
    (y : Vec F S256x256 .f32) : Vec F S256x256 .f32 :=
  k0_pay40 (k0_pay13 x0) (k0_pay16 x2) (k0_pay29 (blockNo i)) (k0_pay30 (k0_pay10 i x1) (k0_pay13 x0)) (k0_pay31 (k0_pay10 i x1) (k0_pay13 x0))
    (k0_pay32 (k0_pay10 i x1) (k0_pay13 x0)) (k0_pay33 (k0_pay10 i x1) (k0_pay13 x0)) (iota .tc S1x256 32 [1] iota_S1x256_d1_w32) k0_pay34 k0_pay35 x5 y

/-- The running sum of the pooling scale's gradient: row 0 is added to. -/
def oDps (i : grid0.Coords) (x0 : Vec F S512x1024 .f32) (x1 : Vec F S16x1024 .f32) (x2 : Vec F S512x512 .bf16) (x4 : Vec F S256x256 .bf16)
    (y : Vec F S8x256 .f32) : Vec F S8x256 .f32 :=
  VecWindow.put (s := S8x256) y ![0, 0] S1x256.size
    (k0_pay38 (k0_pay13 x0) (k0_pay16 x2) (k0_pay29 (blockNo i)) (k0_pay30 (k0_pay10 i x1) (k0_pay13 x0)) (k0_pay31 (k0_pay10 i x1) (k0_pay13 x0))
      (k0_pay32 (k0_pay10 i x1) (k0_pay13 x0)) (k0_pay33 (k0_pay10 i x1) (k0_pay13 x0)) (iota .tc S1x256 32 [1] iota_S1x256_d1_w32) k0_pay34 k0_pay35 x4
      (row256 y 0 inb_S8x256_S1x256_0_0))

/-- The running sum of the gain's gradient: row 0 is added to. -/
def oDg (i : grid0.Coords) (x0 : Vec F S512x1024 .f32) (x1 : Vec F S16x1024 .f32) (x2 : Vec F S512x512 .bf16) (x3 : Vec F S8x256 .f32) (x4 : Vec F S256x256 .bf16) (x5 : Vec F S1x256 .f32)
    (x6 : Vec F S512x512 .bf16) (x7 : Vec F S512x512 .bf16) (x8 : Vec F S512x512 .bf16) (x9 : Vec F S1024x2560 .bf16) (x10 : Vec F S512x1024 .f32)
    (z0 z1 : Vec F S16x256 .f32) (y : Vec F S8x1024 .f32) : Vec F S8x1024 .f32 :=
  VecWindow.put (s := S8x1024) y ![0, 0] ![1, 1024]
    (k0_pay1 (k0_pay50 (prod0 i x0 x1 x2 x3 x4 x5 x9 z0 z1)
      x6 (VecWindow.window (s := S1024x2560) x9 ![0, 1024] S1024x512.size inb_S1024x2560_S1024x512_0_1024)
      x7 (VecWindow.window (s := S1024x2560) x9 ![0, 1536] S1024x512.size inb_S1024x2560_S1024x512_0_1536)
      x8 (VecWindow.window (s := S1024x2560) x9 ![0, 2048] S1024x512.size inb_S1024x2560_S1024x512_0_2048) x10)
      (row1024 y))

/-- The rows of the convolution's cotangent handed to the next point. -/
def oZ0 (x0 : Vec F S512x1024 .f32) (x2 : Vec F S512x512 .bf16) : Vec F S16x256 .f32 := k0_pay28 (k0_pay23 x0 x2)

/-- The rows of the averaged cotangent handed to the next point. -/
def oZ1 (i : grid0.Coords) (x2 : Vec F S512x512 .bf16) (x4 : Vec F S256x256 .bf16) (x5 : Vec F S1x256 .f32) : Vec F S16x256 .f32 :=
  k0_pay43 (averaged i x2 x4 x5)

/-- A row apart from the row just put reads what was there before: row 1 after row 0. -/
theorem row1_put0 {α : Type} (x : S8x256.Idx → α) (w : ((a : Fin 2) → Fin ((![1, 256] : Fin 2 → ℕ) a)) → α) (h : ∀ a, (![1, 0] : Fin 2 → ℕ) a + (![1, 256] : Fin 2 → ℕ) a ≤ S8x256.size a) :
    VecWindow.window (s := S8x256) (VecWindow.put (s := S8x256) x ![0, 0] ![1, 256] w) ![1, 0] ![1, 256] h = VecWindow.window (s := S8x256) x ![1, 0] ![1, 256] h :=
  VecWindow.window_put_of_disjoint (s := S8x256) x ![0, 0] ![1, 256] ![1, 0] ![1, 256] h w (0 : Fin 2) (.inr (by simp))

/-- Row 2 after row 0. -/
theorem row2_put0 {α : Type} (x : S8x256.Idx → α) (w : ((a : Fin 2) → Fin ((![1, 256] : Fin 2 → ℕ) a)) → α) (h : ∀ a, (![2, 0] : Fin 2 → ℕ) a + (![1, 256] : Fin 2 → ℕ) a ≤ S8x256.size a) :
    VecWindow.window (s := S8x256) (VecWindow.put (s := S8x256) x ![0, 0] ![1, 256] w) ![2, 0] ![1, 256] h = VecWindow.window (s := S8x256) x ![2, 0] ![1, 256] h :=
  VecWindow.window_put_of_disjoint (s := S8x256) x ![0, 0] ![1, 256] ![2, 0] ![1, 256] h w (0 : Fin 2) (.inr (by simp))

/-- Row 2 after row 1. -/
theorem row2_put1 {α : Type} (x : S8x256.Idx → α) (w : ((a : Fin 2) → Fin ((![1, 256] : Fin 2 → ℕ) a)) → α) (h : ∀ a, (![2, 0] : Fin 2 → ℕ) a + (![1, 256] : Fin 2 → ℕ) a ≤ S8x256.size a) :
    VecWindow.window (s := S8x256) (VecWindow.put (s := S8x256) x ![1, 0] ![1, 256] w) ![2, 0] ![1, 256] h = VecWindow.window (s := S8x256) x ![2, 0] ![1, 256] h :=
  VecWindow.window_put_of_disjoint (s := S8x256) x ![1, 0] ![1, 256] ![2, 0] ![1, 256] h w (0 : Fin 2) (.inr (by simp))

end Cert.KernelIdeal.Step

end
-- ==== Proof.StepFirst.lean ====
/-
  The first grid point: it clears the running sums and the handed-on rows, then does what every point does.
-/
module

public import proofs.«01_k».proof.Proof.Step

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Windows

variable {F : FTy → Type} [FloatOps F]

local notation "𝕄" => MT nD τ sig Unit (Elt F) ℕ (UR sig nD τ) ℕ

set_option maxHeartbeats 8000000 in
/-- The body at the first point: the inputs stay as they were and each buffer it writes holds the value stated for it. -/
theorem run_first (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S512x512 .bf16) (harg3 : arg3.IsWhole) (arg4 : Memref sig .tc .vmem S8x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S1024x2560 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S8x256 .f32) (harg16 : arg16.IsWhole) (arg17 : Memref sig .tc .vmem S256x256 .f32) (harg17 : arg17.IsWhole) (arg18 : Memref sig .tc .vmem S8x256 .f32) (harg18 : arg18.IsWhole) (arg19 : Memref sig .tc .vmem S8x1024 .f32) (harg19 : arg19.IsWhole) (arg20 : Memref sig .tc .vmem S16x256 .f32) (harg20 : arg20.IsWhole) (arg21 : Memref sig .tc .vmem S16x256 .f32) (harg21 : arg21.IsWhole) (hc0 : cond0_0 i)
    (x0 : Vec F S512x1024 .f32) (x1 : Vec F S16x1024 .f32) (x2 : Vec F S512x512 .bf16) (x3 : Vec F S8x256 .f32) (x4 : Vec F S256x256 .bf16) (x5 : Vec F S1x256 .f32) (x6 : Vec F S512x512 .bf16) (x7 : Vec F S512x512 .bf16) (x8 : Vec F S512x512 .bf16) (x9 : Vec F S1024x2560 .bf16) (x10 : Vec F S512x1024 .f32) (x11 : Vec F S1x1024 .f32) (x12 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (oDpa i x0 x1 x2 x3 x4 x5 k0_pay7 k0_pay8) ∗ owns (c : Thread nD τ) arg15 fullShare (oDh i x0 x1 x2 x3 x4 x5 x6 x7 x8 x9 x10 x11 x12 k0_pay7 k0_pay8) ∗ owns (c : Thread nD τ) arg16 fullShare (oDcw i x0 x1 x2 k0_pay3) ∗ owns (c : Thread nD τ) arg17 fullShare (oDpw i x0 x1 x2 x5 k0_pay4) ∗ owns (c : Thread nD τ) arg18 fullShare (oDps i x0 x1 x2 x4 k0_pay5) ∗ owns (c : Thread nD τ) arg19 fullShare (oDg i x0 x1 x2 x3 x4 x5 x6 x7 x8 x9 x10 k0_pay7 k0_pay8 k0_pay6) ∗ owns (c : Thread nD τ) arg20 fullShare (oZ0 x0 x2) ∗ owns (c : Thread nD τ) arg21 fullShare (oZ1 i x2 x4 x5)) -∗ K ⟨⟩))
      ⊢ wp frame (wpE (defs₀ (F := F)) Variants.none c none) E (cc0_inproj_mixers_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_inproj_mixers_bwd_eq_skeleton]; unfold cc0_inproj_mixers_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  sl_exec (disch := first | sl_exact hc0)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  isplitl [H12]
  · iexists _; isplitr
    · ipureintro; exact hf12
    · iexact H12
  isplitl [H13]
  · iexists _; isplitr; rotate_left
    · iexact H13
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H14]
  · iexists _; isplitr; rotate_left
    · iexact H14
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H15]
  · iexists _; isplitr; rotate_left
    · iexact H15
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H16]
  · iexists _; isplitr; rotate_left
    · iexact H16
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H17]
  · iexists _; isplitr; rotate_left
    · iexact H17
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H18]
  · iexists _; isplitr; rotate_left
    · iexact H18
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [HS0]
  · iexists _; isplitr; rotate_left
    · iexact HS0
    · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  iexists _; isplitr; rotate_left
  · iexact HS1
  · ipureintro; delta run_first.sl.r_1 run_first.sl.r_2 run_first.sl.r_3 run_first.sl.r_4 run_first.sl.r_6 run_first.sl.r_9 run_first.sl.r_10 run_first.sl.r_11 run_first.sl.r_12 run_first.sl.r_13 run_first.sl.r_14 run_first.sl.r_15 run_first.sl.r_16 run_first.sl.r_17 run_first.sl.r_18 run_first.sl.r_21 run_first.sl.r_22 run_first.sl.v119 run_first.sl.v143 run_first.sl.v154 run_first.sl.v161 run_first.sl.v244 run_first.sl.v57 run_first.sl.H15_3 run_first.sl.H16_1 run_first.sl.H17_1 run_first.sl.H18_1 run_first.sl.HS0_1 run_first.sl.HS1_1 run_first.sl.H15_2 run_first.sl.r run_first.sl.r_19 run_first.sl.r_20 run_first.sl.r_5 run_first.sl.r_7 run_first.sl.v0 run_first.sl.v50 run_first.sl.v64 run_first.sl.H15_1 run_first.sl.r_8 run_first.sl.v43 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done

end Cert.KernelIdeal.Step

end
-- ==== Proof.StepNext.lean ====
/-
  A later grid point: it goes on from the running sums and the rows the point before left.
-/
module

public import proofs.«01_k».proof.Proof.StepFirst

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Windows

variable {F : FTy → Type} [FloatOps F]

local notation "𝕄" => MT nD τ sig Unit (Elt F) ℕ (UR sig nD τ) ℕ

set_option maxHeartbeats 8000000 in
/-- The body at a later point: the inputs stay as they were and each buffer it writes holds the value stated for it. -/
theorem run_next (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S512x512 .bf16) (harg3 : arg3.IsWhole) (arg4 : Memref sig .tc .vmem S8x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S1024x2560 .bf16) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S8x256 .f32) (harg16 : arg16.IsWhole) (arg17 : Memref sig .tc .vmem S256x256 .f32) (harg17 : arg17.IsWhole) (arg18 : Memref sig .tc .vmem S8x256 .f32) (harg18 : arg18.IsWhole) (arg19 : Memref sig .tc .vmem S8x1024 .f32) (harg19 : arg19.IsWhole) (arg20 : Memref sig .tc .vmem S16x256 .f32) (harg20 : arg20.IsWhole) (arg21 : Memref sig .tc .vmem S16x256 .f32) (harg21 : arg21.IsWhole) (hc0 : ¬cond0_0 i)
    (x0 : Vec F S512x1024 .f32) (x1 : Vec F S16x1024 .f32) (x2 : Vec F S512x512 .bf16) (x3 : Vec F S8x256 .f32) (x4 : Vec F S256x256 .bf16) (x5 : Vec F S1x256 .f32) (x6 : Vec F S512x512 .bf16) (x7 : Vec F S512x512 .bf16) (x8 : Vec F S512x512 .bf16) (x9 : Vec F S1024x2560 .bf16) (x10 : Vec F S512x1024 .f32) (x11 : Vec F S1x1024 .f32) (x12 : Vec F S512x1024 .f32) (y15 : Vec F S8x256 .f32) (y16 : Vec F S256x256 .f32) (y17 : Vec F S8x256 .f32) (y18 : Vec F S8x1024 .f32) (z0 z1 : Vec F S16x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare y15 ∗ owns (c : Thread nD τ) arg17 fullShare y16 ∗ owns (c : Thread nD τ) arg18 fullShare y17 ∗ owns (c : Thread nD τ) arg19 fullShare y18 ∗ owns (c : Thread nD τ) arg20 fullShare z0 ∗ owns (c : Thread nD τ) arg21 fullShare z1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (oDpa i x0 x1 x2 x3 x4 x5 z0 z1) ∗ owns (c : Thread nD τ) arg15 fullShare (oDh i x0 x1 x2 x3 x4 x5 x6 x7 x8 x9 x10 x11 x12 z0 z1) ∗ owns (c : Thread nD τ) arg16 fullShare (oDcw i x0 x1 x2 y15) ∗ owns (c : Thread nD τ) arg17 fullShare (oDpw i x0 x1 x2 x5 y16) ∗ owns (c : Thread nD τ) arg18 fullShare (oDps i x0 x1 x2 x4 y17) ∗ owns (c : Thread nD τ) arg19 fullShare (oDg i x0 x1 x2 x3 x4 x5 x6 x7 x8 x9 x10 z0 z1 y18) ∗ owns (c : Thread nD τ) arg20 fullShare (oZ0 x0 x2) ∗ owns (c : Thread nD τ) arg21 fullShare (oZ1 i x2 x4 x5)) -∗ K ⟨⟩))
      ⊢ wp frame (wpE (defs₀ (F := F)) Variants.none c none) E (cc0_inproj_mixers_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_inproj_mixers_bwd_eq_skeleton]; unfold cc0_inproj_mixers_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%fs0, %hfs0, HS0⟩, ⟨%fs1, %hfs1, HS1⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg16.eq_unread hf15
  obtain rfl := harg17.eq_unread hf16
  obtain rfl := harg18.eq_unread hf17
  obtain rfl := harg19.eq_unread hf18
  obtain rfl := harg20.eq_unread hfs0
  obtain rfl := harg21.eq_unread hfs1
  sl_exec (disch := first | sl_exact hc0)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    · ipureintro; exact hf9
    · iexact H9
  isplitl [H10]
  · iexists _; isplitr
    · ipureintro; exact hf10
    · iexact H10
  isplitl [H11]
  · iexists _; isplitr
    · ipureintro; exact hf11
    · iexact H11
  isplitl [H12]
  · iexists _; isplitr
    · ipureintro; exact hf12
    · iexact H12
  isplitl [H13]
  · iexists _; isplitr; rotate_left
    · iexact H13
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H14]
  · iexists _; isplitr; rotate_left
    · iexact H14
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H15]
  · iexists _; isplitr; rotate_left
    · iexact H15
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H16]
  · iexists _; isplitr; rotate_left
    · iexact H16
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H17]
  · iexists _; isplitr; rotate_left
    · iexact H17
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [H18]
  · iexists _; isplitr; rotate_left
    · iexact H18
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  isplitl [HS0]
  · iexists _; isplitr; rotate_left
    · iexact HS0
    · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done
  iexists _; isplitr; rotate_left
  · iexact HS1
  · ipureintro; delta run_next.sl.r_1 run_next.sl.r_2 run_next.sl.r_3 run_next.sl.r_4 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_22 run_next.sl.r_23 run_next.sl.v119 run_next.sl.v50 run_next.sl.v57 run_next.sl.r run_next.sl.r_20 run_next.sl.r_21 run_next.sl.r_5 run_next.sl.v0 ; simp only [oDpa, oDh, oDcw, oDpw, oDps, oDg, oZ0, oZ1, pooled, averaged, prod0, row256, row1024, blockNo, View.read_writes_full, ld_full, View.readCov_full, ld_win, ld_cov, st_put, View.writes_nil, Memref.IsWhole.read_unread, window_whole, put_whole, row1_put0, row2_put0, row2_put1]; done

end Cert.KernelIdeal.Step

end
-- ==== Proof.Run.lean ====
/-
  The run of the whole kernel: the running sums and the handed-on rows point by point, the invariant that carries them,
  the body at every point, and from these what every run of the program ends with. Stated for any values.
-/
module

public import proofs.«01_k».proof.Proof.StepNext
public import Idealize.ShloMosaic.Lib.Claim

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one point hands to the next: the four running sums and the rows of two intermediate arrays. -/
structure Carry (F : FTy → Type) where
  /-- the taps' gradient -/
  dcw : Vec F S8x256 .f32
  /-- the pooling blocks' gradient -/
  dpw : Vec F S256x256 .f32
  /-- the pooling scale's gradient -/
  dps : Vec F S8x256 .f32
  /-- the gain's gradient -/
  dg : Vec F S8x1024 .f32
  /-- rows of the convolution's cotangent -/
  z0 : Vec F S16x256 .f32
  /-- rows of the averaged cotangent -/
  z1 : Vec F S16x256 .f32

/-- One point's step of what is handed on. -/
def next (c : Dev nD) (t : Fin cfg0.N) (p : Carry F) : Carry F where
  dcw := oDcw (grid0.coords t) (iblk m c 0 t) (iblk m c 1 t) (iblk m c 2 t) p.dcw
  dpw := oDpw (grid0.coords t) (iblk m c 0 t) (iblk m c 1 t) (iblk m c 2 t) (iblk m c 5 t) p.dpw
  dps := oDps (grid0.coords t) (iblk m c 0 t) (iblk m c 1 t) (iblk m c 2 t) (iblk m c 4 t) p.dps
  dg := oDg (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) p.z0 p.z1 p.dg
  z0 := oZ0 (iblk m c 0 t) (iblk m c 2 t)
  z1 := oZ1 (grid0.coords t) (iblk m c 2 t) (iblk m c 4 t) (iblk m c 5 t)

/-- What is handed on before point `n`: zeros before the first. -/
def carry (c : Dev nD) : (n : ℕ) → n ≤ cfg0.N → Carry F
  | 0, _ => ⟨k0_pay3, k0_pay4, k0_pay5, k0_pay6, k0_pay7, k0_pay8⟩
  | n + 1, h => next m c ⟨n, h⟩ (carry c n (Nat.le_of_succ_le h))

/-- The rows of the projected columns' gradient written at point `t`. -/
def dpaAt (c : Dev nD) (t : Fin cfg0.N) : Vec F S512x1024 .bf16 :=
  oDpa (grid0.coords t) (iblk m c 0 t) (iblk m c 1 t) (iblk m c 2 t) (iblk m c 3 t) (iblk m c 4 t) (iblk m c 5 t) (carry m c t.val t.isLt.le).z0 (carry m c t.val t.isLt.le).z1

/-- The rows of the input's gradient written at point `t`. -/
def dhAt (c : Dev nD) (t : Fin cfg0.N) : Vec F S512x1024 .f32 :=
  oDh (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (carry m c t.val t.isLt.le).z0 (carry m c t.val t.isLt.le).z1

/-- What is held between points: anything before the first, then the rows handed on. -/
def held (c : Dev nD) : (n : ℕ) → n ≤ cfg0.N → sProp 𝕄
  | 0, _ => Pipeline.ΦA spec0 c
  | n + 1, h => iprop(iprop(owns (c : Thread nD τ) scM0_0 fullShare (carry m c (n + 1) h).z0 ∗ owns (c : Thread nD τ) scM0_1 fullShare (carry m c (n + 1) h).z1) ∗ (∃ r, prngReg c r))

theorem carry_zero (c : Dev nD) (n : ℕ) (h : n ≤ cfg0.N) (hz : n = 0) : carry m c n h = ⟨k0_pay3, k0_pay4, k0_pay5, k0_pay6, k0_pay7, k0_pay8⟩ := by
  subst hz; rfl

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(iprop(owns (c : Thread nD τ) scM0_0 fullShare (carry m c n h).z0 ∗ owns (c : Thread nD τ) scM0_1 fullShare (carry m c n h).z1) ∗ (∃ r, prngReg c r)) := by
  cases n with
  | zero => exact absurd rfl hz
  | succ n => rfl

/-- The data of the run: each window's array, what the body leaves in each window at each point, and what is held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dpaAt m c t
    | ⟨14, _⟩ => dhAt m c t
    | ⟨15, _⟩ => (carry m c (t.val + 1) t.isLt).dcw
    | ⟨16, _⟩ => (carry m c (t.val + 1) t.isLt).dpw
    | ⟨17, _⟩ => (carry m c (t.val + 1) t.isLt).dps
    | ⟨18, _⟩ => (carry m c (t.val + 1) t.isLt).dg
    | ⟨_ + 19, h⟩ => absurd h (Nat.not_lt.2 (Nat.le_add_left _ _))
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = dpaAt m c t := by dsimp only [dats]
theorem after_14 (c : Dev nD) (t : Fin cfg0.N) : (dats m 0 c).after 14 t = dhAt m c t := by dsimp only [dats]
theorem after_15 (c : Dev nD) (t : Fin cfg0.N) : (dats m 0 c).after 15 t = (carry m c (t.val + 1) t.isLt).dcw := by dsimp only [dats]
theorem after_16 (c : Dev nD) (t : Fin cfg0.N) : (dats m 0 c).after 16 t = (carry m c (t.val + 1) t.isLt).dpw := by dsimp only [dats]
theorem after_17 (c : Dev nD) (t : Fin cfg0.N) : (dats m 0 c).after 17 t = (carry m c (t.val + 1) t.isLt).dps := by dsimp only [dats]
theorem after_18 (c : Dev nD) (t : Fin cfg0.N) : (dats m 0 c).after 18 t = (carry m c (t.val + 1) t.isLt).dg := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
/-- Past the first point the running sum in window 15 is what the point before left. -/
theorem before_15 (c : Dev nD) (t : Fin cfg0.N) (h0 : t.val ≠ 0) (d) :
    (dats m 0 c).before 15 t d = (carry m c t.val t.isLt.le).dcw := by
  have hN : t.val < 16 := lt_of_lt_of_eq t.isLt (show cfg0.N = 16 from N_0)
  rw [Dat.before_out_kept _ 15 rfl t h0 (Bool.eq_false_iff.mpr fun h => by have := (flush0_15 _).mp h; dsimp only at this; omega)
    (fun _ => rfl) (fun _ _ => rfl)]
  obtain ⟨n, hn⟩ := t
  cases n with
  | zero => exact absurd rfl h0
  | succ n => dsimp only [dats]; rfl
/-- Past the first point the running sum in window 16 is what the point before left. -/
theorem before_16 (c : Dev nD) (t : Fin cfg0.N) (h0 : t.val ≠ 0) (d) :
    (dats m 0 c).before 16 t d = (carry m c t.val t.isLt.le).dpw := by
  have hN : t.val < 16 := lt_of_lt_of_eq t.isLt (show cfg0.N = 16 from N_0)
  rw [Dat.before_out_kept _ 16 rfl t h0 (Bool.eq_false_iff.mpr fun h => by have := (flush0_16 _).mp h; dsimp only at this; omega)
    (fun _ => rfl) (fun _ _ => rfl)]
  obtain ⟨n, hn⟩ := t
  cases n with
  | zero => exact absurd rfl h0
  | succ n => dsimp only [dats]; rfl
/-- Past the first point the running sum in window 17 is what the point before left. -/
theorem before_17 (c : Dev nD) (t : Fin cfg0.N) (h0 : t.val ≠ 0) (d) :
    (dats m 0 c).before 17 t d = (carry m c t.val t.isLt.le).dps := by
  have hN : t.val < 16 := lt_of_lt_of_eq t.isLt (show cfg0.N = 16 from N_0)
  rw [Dat.before_out_kept _ 17 rfl t h0 (Bool.eq_false_iff.mpr fun h => by have := (flush0_17 _).mp h; dsimp only at this; omega)
    (fun _ => rfl) (fun _ _ => rfl)]
  obtain ⟨n, hn⟩ := t
  cases n with
  | zero => exact absurd rfl h0
  | succ n => dsimp only [dats]; rfl
/-- Past the first point the running sum in window 18 is what the point before left. -/
theorem before_18 (c : Dev nD) (t : Fin cfg0.N) (h0 : t.val ≠ 0) (d) :
    (dats m 0 c).before 18 t d = (carry m c t.val t.isLt.le).dg := by
  have hN : t.val < 16 := lt_of_lt_of_eq t.isLt (show cfg0.N = 16 from N_0)
  rw [Dat.before_out_kept _ 18 rfl t h0 (Bool.eq_false_iff.mpr fun h => by have := (flush0_18 _).mp h; dsimp only at this; omega)
    (fun _ => rfl) (fun _ _ => rfl)]
  obtain ⟨n, hn⟩ := t
  cases n with
  | zero => exact absurd rfl h0
  | succ n => dsimp only [dats]; rfl
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at any point: the inputs hold their blocks, the running sums what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  rw [show (dats m 0 c).Φ t.succ = held m c (t.val + 1) t.isLt from rfl, held_pos m c _ _ (Nat.succ_ne_zero _)]
  have hN : t.val < 16 := lt_of_lt_of_eq t.isLt (show cfg0.N = 16 from N_0)
  by_cases hz : t.val = 0
  · rw [held_castSucc m c t, held_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    have hc : carry m c t.val t.isLt.le = ⟨k0_pay3, k0_pay4, k0_pay5, k0_pay6, k0_pay7, k0_pay8⟩ := carry_zero m c _ _ hz
    rw [show carry m c (t.val + 1) t.isLt = next m c t ⟨k0_pay3, k0_pay4, k0_pay5, k0_pay6, k0_pay7, k0_pay8⟩ from congrArg (next m c t) hc,
      dpaAt, dhAt, hc]
    iapply (run_first c (grid0.coords t) _ _ _ _ _ _ _ _ _ _ _ _ _ _ _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    iintro ⟨H0, H1, H2, H3, H4, H5, H6, H7, H8, H9, H10, H11, H12, H13, H14, H15, H16, H17, H18, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · rw [held_castSucc m c t, held_pos m c _ _ hz]
    simp only [before_15 m c t hz, before_16 m c t hz, before_17 m c t hz, before_18 m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    rw [show carry m c (t.val + 1) t.isLt = next m c t (carry m c t.val t.isLt.le) from rfl, dpaAt, dhAt]
    iapply (run_next c (grid0.coords t) _ _ _ _ _ _ _ _ _ _ _ _ _ _ _ _ _ _ _ _ _ _ _ _ _ _ _ _ _ _ _ _ _ _ _ _ _ _ _ _ _ _ (fun h => hz (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [H17]; · iexact H17
    isplitl [H18]; · iexact H18
    isplitl [HS0]; · iexact HS0
    isplitl [HS1]; · iexact HS1
    iintro ⟨H0, H1, H2, H3, H4, H5, H6, H7, H8, H9, H10, H11, H12, H13, H14, H15, H16, H17, H18, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The table of bodies at point `t` is the body. -/
theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = held m c cfg0.N le_rfl from rfl, held_pos m c _ _ (by rw [show cfg0.N = 16 from N_0]; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- Every run of the program ends, with the pipeline's arrays as the data say, and with every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- Every run of the program ends with the pipeline's arrays as the data say. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.KernelIdeal.Step

end
-- ==== Proof.Block.lean ====
/- What one grid point's operations compute from finite blocks: each intermediate array, entry by entry, is the model's
   real number at that row of the whole sequence. -/
module

public import proofs.«01_k».proof.Proof.Step
public import proofs.«01_k».proof.Proof.Model

@[expose] public section

set_option maxRecDepth 16384

noncomputable section

namespace Cert.KernelIdeal.Block

open Idealize.ShloMosaic Idealize.ShloMosaic.TcCoe
open Cert.KernelIdeal.Gen Cert.KernelIdeal.Step Mixer

/-- The small products' weights as one block-diagonal matrix. -/
def wbd (A : Args) (a b : ℕ) : ℝ := if a / 64 = b / 64 then A.pw (a / 64) (a % 64) (b % 64) else 0

/-- The blocks a grid point reads, as the model's numbers: block `B` of the rows, and the carried rows of block `B + 1`. -/
structure Reads (A : Args) (B : ℕ) (i : grid0.Coords) (x0 : Vec Ideal S512x1024 .f32) (x1 : Vec Ideal S16x1024 .f32) (x2 : Vec Ideal S512x512 .bf16)
    (x3 : Vec Ideal S8x256 .f32) (x4 : Vec Ideal S256x256 .bf16) (x5 : Vec Ideal S1x256 .f32) (x6 x7 x8 : Vec Ideal S512x512 .bf16)
    (x9 : Vec Ideal S1024x2560 .bf16) (x10 : Vec Ideal S512x1024 .f32) (x11 : Vec Ideal S1x1024 .f32) (z0 z1 : Vec Ideal S16x256 .f32) : Prop where
  at_block : (i 0).val + B = 15
  pa (a : Fin 512) (b : Fin 1024) : x0 (ix2 a b) = ((A.P (512 * B + a) b : ℝ) : EReal)
  halo (a : Fin 16) (b : Fin 1024) : 0 < B → x1 (ix2 a b) = ((A.P (512 * B + a - 16) b : ℝ) : EReal)
  y (a : Fin 512) (b : Fin 512) : x2 (ix2 a b) = ((A.y (512 * B + a) b : ℝ) : EReal)
  taps (a : Fin 8) (b : Fin 256) : a.val < 3 → x3 (ix2 a b) = ((A.cw a b : ℝ) : EReal)
  blocks (a : Fin 256) (b : Fin 256) : x4 (ix2 a b) = ((wbd A a b : ℝ) : EReal)
  scale (a : Fin 1) (b : Fin 256) : x5 (ix2 a b) = ((A.ps b : ℝ) : EReal)
  q (a : Fin 512) (b : Fin 512) : x6 (ix2 a b) = ((A.q (512 * B + a) b : ℝ) : EReal)
  k (a : Fin 512) (b : Fin 512) : x7 (ix2 a b) = ((A.k (512 * B + a) b : ℝ) : EReal)
  v (a : Fin 512) (b : Fin 512) : x8 (ix2 a b) = ((A.v (512 * B + a) b : ℝ) : EReal)
  w (a : Fin 1024) (b : Fin 2560) : x9 (ix2 a b) = ((A.w a b : ℝ) : EReal)
  h (a : Fin 512) (b : Fin 1024) : x10 (ix2 a b) = ((A.h (512 * B + a) b : ℝ) : EReal)
  g (a : Fin 1) (b : Fin 1024) : x11 (ix2 a b) = ((A.g b : ℝ) : EReal)
  convCarry (a : Fin 16) (b : Fin 256) : z0 (ix2 a b) = ((A.dcs (512 * (B + 1) + a) b : ℝ) : EReal)
  poolCarry (a : Fin 16) (b : Fin 256) : z1 (ix2 a b) = ((A.Es (512 * (B + 1) + a) b : ℝ) : EReal)

theorem toInt_ofNat (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A choice by the number of a column. -/
theorem select_lt {α : Type} (n k : ℕ) (hn : n < 2 ^ 31) (hk : k < 2 ^ 31) (x y : α) :
    Scalar.select (IntOp.cmpi .slt (BitVec.ofNat 32 n) (BitVec.ofNat 32 k)) x y = if n < k then x else y := by
  have e : IntOp.cmpi .slt (BitVec.ofNat 32 n) (BitVec.ofNat 32 k) = BitVec.ofBool (decide (n < k)) := by
    show BitVec.ofBool (decide ((BitVec.ofNat 32 n).toInt < (BitVec.ofNat 32 k).toInt)) = _
    rw [toInt_ofNat n hn, toInt_ofNat k hk]; simp only [Nat.cast_lt]
  rw [e]
  by_cases h : n < k <;> simp [h, Scalar.select]

/-- Of four values the one for a column's group. -/
theorem select_group {α : Type} (b : Fin 256) (f : ℕ → α) :
    Scalar.select (IntOp.cmpi .slt (BitVec.ofNat 32 b.val) 64#32) (f 2)
      (Scalar.select (IntOp.cmpi .slt (BitVec.ofNat 32 b.val) 128#32) (f 4)
        (Scalar.select (IntOp.cmpi .slt (BitVec.ofNat 32 b.val) 192#32) (f 8) (f 16))) = f (Args.gw b) := by
  have hb := b.isLt
  rw [select_lt _ _ (by omega) (by norm_num), select_lt _ _ (by omega) (by norm_num), select_lt _ _ (by omega) (by norm_num)]
  by_cases h1 : b.val < 64
  · rw [if_pos h1, Args.gw, show b.val / 64 = 0 by omega]; rfl
  by_cases h2 : b.val < 128
  · rw [if_neg h1, if_pos h2, Args.gw, show b.val / 64 = 1 by omega]; rfl
  by_cases h3 : b.val < 192
  · rw [if_neg h1, if_neg h2, if_pos h3, Args.gw, show b.val / 64 = 2 by omega]; rfl
  · rw [if_neg h1, if_neg h2, if_neg h3, Args.gw, show b.val / 64 = 3 by omega]; rfl

/-- A row put into an array of rows. -/
theorem put_row {α : Type} {n k r : ℕ} (x : (⟨2, ![n, k]⟩ : Shape).Idx → α) (w : (⟨2, ![1, k]⟩ : Shape).Idx → α) (a : Fin n) (b : Fin k) :
    VecWindow.put (s := ⟨2, ![n, k]⟩) x ![r, 0] ![1, k] w (ix2 a b) = if a.val = r then w (ix2 0 b) else x (ix2 a b) := by
  unfold VecWindow.put
  by_cases h : a.val = r
  · rw [if_pos h, dif_pos (by intro d; have hb := b.isLt; fin_cases d <;> simp [h])]
    refine congrArg w (funext fun d => Fin.ext ?_)
    fin_cases d
    · show a.val - r = 0
      omega
    · show b.val - 0 = b.val
      omega
  · rw [if_neg h, dif_neg]
    intro hd
    have h0 := hd 0
    simp at h0
    omega

/-- A row taken out of an array of rows. -/
theorem window_row {α : Type} {n k r : ℕ} (hr : r < n) (x : (⟨2, ![n, k]⟩ : Shape).Idx → α)
    (h : ∀ a, (![r, 0] : Fin 2 → ℕ) a + (![1, k] : Fin 2 → ℕ) a ≤ (⟨2, ![n, k]⟩ : Shape).size a) (a : Fin 1) (b : Fin k) :
    VecWindow.window (s := ⟨2, ![n, k]⟩) x ![r, 0] ![1, k] h (ix2 a b) = x (ix2 ⟨r, hr⟩ b) := by
  refine congrArg x (funext fun d => Fin.ext ?_)
  fin_cases d
  · show r + 1 * a.val = r
    omega
  · show 0 + 1 * b.val = b.val
    omega

/-- Columns taken out of an array. -/
theorem window_cols {α : Type} {n k j q : ℕ} (hj : j + q ≤ k) (x : (⟨2, ![n, k]⟩ : Shape).Idx → α)
    (h : ∀ a, (![0, j] : Fin 2 → ℕ) a + (![n, q] : Fin 2 → ℕ) a ≤ (⟨2, ![n, k]⟩ : Shape).size a) (a : Fin n) (b : Fin q) :
    VecWindow.window (s := ⟨2, ![n, k]⟩) x ![0, j] ![n, q] h (ix2 a b) = x (ix2 a ⟨j + b.val, by omega⟩) := by
  refine congrArg x (funext fun d => Fin.ext ?_)
  fin_cases d
  · show 0 + 1 * a.val = a.val
    omega
  · show j + 1 * b.val = j + b.val
    omega

/-- A sum over 256 columns of which only one group of 64 counts. -/
theorem sum_group (F : ℕ → ℝ) (q : ℕ) (hq : q < 4) (h : ∀ x : Fin 256, x.val / 64 ≠ q → F x = 0) :
    ∑ x : Fin 256, F x = ∑ k : Fin 64, F (64 * q + k) := by
  rw [Fin.sum_univ_eq_sum_range, Fin.sum_univ_eq_sum_range (fun k => F (64 * q + k)),
    show 256 = 64 * q + 64 + (192 - 64 * q) by omega, Finset.sum_range_add, Finset.sum_range_add, Finset.sum_eq_zero, zero_add, add_eq_left]
  · refine Finset.sum_eq_zero fun x hx => ?_
    have hx := Finset.mem_range.mp hx
    exact h ⟨64 * q + 64 + x, by omega⟩ (by dsimp only; omega)
  · intro x hx
    have hx := Finset.mem_range.mp hx
    exact h ⟨x, by omega⟩ (by dsimp only; omega)

/-- A sum over the 2560 columns, part by part. -/
theorem sum_parts (F : ℕ → ℝ) : ∑ k : Fin 2560, F k
    = ∑ k : Fin 1024, F k + ∑ k : Fin 512, F (1024 + k) + ∑ k : Fin 512, F (1536 + k) + ∑ k : Fin 512, F (2048 + k) := by
  simp only [Fin.sum_univ_eq_sum_range, Fin.sum_univ_eq_sum_range (fun k => F (1024 + k)), Fin.sum_univ_eq_sum_range (fun k => F (1536 + k)),
    Fin.sum_univ_eq_sum_range (fun k => F (2048 + k))]
  rw [show 2560 = 1024 + 512 + 512 + 512 by norm_num, Finset.sum_range_add, Finset.sum_range_add, Finset.sum_range_add]

/-- The pooled columns, sixteen rows earlier (zero before the first row). -/
def pux (A : Args) (m c : ℕ) : ℝ := if m < 16 then 0 else A.pu (m - 16) c
/-- The last `n` of them. -/
def back (A : Args) (n m c : ℕ) : ℝ := ∑ j ∈ Finset.range n, pux A (m - j) c
/-- The next `n` of the divided cotangent. -/
def fwd (A : Args) (n m c : ℕ) : ℝ := ∑ j ∈ Finset.range n, A.Es (m + j) c

theorem back_double (A : Args) (n m c : ℕ) : back A n m c + back A n (m - n) c = back A (n + n) m c := by
  unfold back
  rw [Finset.sum_range_add]
  refine congrArg _ (Finset.sum_congr rfl fun j _ => ?_)
  rw [Nat.sub_sub]

theorem fwd_double (A : Args) (n m c : ℕ) : fwd A n m c + fwd A n (m + n) c = fwd A (n + n) m c := by
  unfold fwd
  rw [Finset.sum_range_add]
  refine congrArg _ (Finset.sum_congr rfl fun j _ => ?_)
  rw [Nat.add_assoc]

/-- The last `n` values that exist. -/
theorem back_eq (A : Args) (n m c : ℕ) : back A n (m + 16) c = if n ≤ 16 then ∑ j ∈ Finset.range (min (m + 1) n), A.pu (m - j) c else back A n (m + 16) c := by
  split
  · rename_i hn
    have e : n = min (m + 1) n + (n - min (m + 1) n) := by omega
    unfold back
    conv_lhs => rw [e]
    rw [Finset.sum_range_add, Finset.sum_eq_zero (s := Finset.range (n - _)), add_zero]
    · refine Finset.sum_congr rfl fun j hj => ?_
      have hj := Finset.mem_range.mp hj
      rw [pux, if_neg (by omega), show m + 16 - j - 16 = m - j by omega]
    · intro j hj
      have hj := Finset.mem_range.mp hj
      rw [pux, if_pos (by omega)]
  · rfl

/-- An array with sixteen rows below it. -/
def below (v : FVec Ideal S512x256 .f32) (z : Vec Ideal S16x256 .f32) : FVec Ideal S528x256 .f32 :=
  concatenate S528x256 0 [⟨S512x256, v⟩, ⟨S16x256, z⟩] concatenates_S512x256_S16x256_S528x256_d0
/-- Sums of 2, 4, 8 and 16 rows downwards. -/
def down2 (v : FVec Ideal S528x256 .f32) : FVec Ideal S528x256 .f32 := addf v (dynamicRotate 0 527#32 none v rotates_S528x256_d0)
def down4 (v : FVec Ideal S528x256 .f32) : FVec Ideal S528x256 .f32 := addf v (dynamicRotate 0 526#32 none v rotates_S528x256_d0)
def down8 (v : FVec Ideal S528x256 .f32) : FVec Ideal S528x256 .f32 := addf v (dynamicRotate 0 524#32 none v rotates_S528x256_d0)
def down16 (v : FVec Ideal S528x256 .f32) : FVec Ideal S528x256 .f32 := addf v (dynamicRotate 0 520#32 none v rotates_S528x256_d0)
/-- The cotangent of the pooled columns out of the four sums. -/
def spread (e2 e4 e8 e16 : FVec Ideal S528x256 .f32) (d : FVec Ideal S512x256 .f32) : FVec Ideal S512x256 .f32 :=
  have col : IVec S1x256 32 := iota .tc S1x256 32 [1] iota_S1x256_d1_w32
  have under (k : BitVec 32) : IVec S528x256 1 :=
    broadcastTo S528x256 (shapeCast S1x256 (cmpi .slt col (broadcast S1x256 k)) shapeCasts_S1x256_S1x256) broadcasts_S1x256_S528x256
  subf (extractStridedSlice S512x256 ![0, 0] (select (under 64#32) e2 (select (under 128#32) e4 (select (under 192#32) e8 e16)))
    slices_S528x256_o0_0_S512x256) d
/-- Four blocks of 256 columns side by side. -/
def side (u0 u1 u2 u3 : FVec Ideal S512x256 .f32) : FVec Ideal S512x1024 .bf16 :=
  truncf .bf16 (concatenate S512x1024 1 [⟨S512x256, u0⟩, ⟨S512x256, u1⟩, ⟨S512x256, u2⟩, ⟨S512x256, u3⟩]
    concatenates_S512x256_S512x256_S512x256_S512x256_S512x1024_d1) bitsLt_bf16_f32

theorem pay44_eq (v12 v13 v41 v80 v159 v160 : FVec Ideal S512x256 .f32) (v161 : Vec Ideal S16x256 .f32) :
    k0_pay44 v12 v13 v41 v80 v159 v160 v161 = side v41 (mulf v80 v13) (mulf v80 v12)
      (spread (down2 (below v160 v161)) (down4 (down2 (below v160 v161))) (down8 (down4 (down2 (below v160 v161))))
        (down16 (down8 (down4 (down2 (below v160 v161))))) v159) := rfl

/-- The pooled differences as the operations give them. -/
def diff (i : grid0.Coords) (x0 : Vec Ideal S512x1024 .f32) (x1 : Vec Ideal S16x1024 .f32) : FVec Ideal S512x256 .bf16 :=
  k0_pay36 (k0_pay13 x0) (k0_pay29 (blockNo i)) (k0_pay30 (k0_pay10 i x1) (k0_pay13 x0)) (k0_pay31 (k0_pay10 i x1) (k0_pay13 x0))
    (k0_pay32 (k0_pay10 i x1) (k0_pay13 x0)) (k0_pay33 (k0_pay10 i x1) (k0_pay13 x0)) (iota .tc S1x256 32 [1] iota_S1x256_d1_w32) k0_pay34 k0_pay35

theorem k0_pay12_at (x0 : Vec Ideal S512x1024 .f32) (a : Fin 512) (b : Fin 256) : k0_pay12 x0 (ix2 a b) = x0 (ix2 a ⟨512 + b.val, by omega⟩) := by
  pointwise [k0_pay12, k0_pay9]

theorem k0_pay11_at (x0 : Vec Ideal S512x1024 .f32) (a : Fin 512) (b : Fin 256) : k0_pay11 x0 (ix2 a b) = x0 (ix2 a ⟨256 + b.val, by omega⟩) := by
  pointwise [k0_pay11, k0_pay9]

namespace Reads

variable {A : Args} {B : ℕ} {i : grid0.Coords} {x0 : Vec Ideal S512x1024 .f32} {x1 : Vec Ideal S16x1024 .f32} {x2 : Vec Ideal S512x512 .bf16}
    {x3 : Vec Ideal S8x256 .f32} {x4 : Vec Ideal S256x256 .bf16} {x5 : Vec Ideal S1x256 .f32} {x6 x7 x8 : Vec Ideal S512x512 .bf16}
    {x9 : Vec Ideal S1024x2560 .bf16} {x10 : Vec Ideal S512x1024 .f32} {x11 : Vec Ideal S1x1024 .f32} {z0 z1 : Vec Ideal S16x256 .f32}
  (H : Reads A B i x0 x1 x2 x3 x4 x5 x6 x7 x8 x9 x10 x11 z0 z1)

include H

omit H in
/-- Equal rows and columns hold equal numbers. -/
theorem num {f : ℕ → ℕ → ℝ} {a b c d : ℕ} (h : a = c) (h' : b = d) : ((f a b : ℝ) : EReal) = ((f c d : ℝ) : EReal) := by rw [h, h']

theorem block_lt : B < 16 := by have := H.at_block; omega

theorem word : Scalar.subi 15#32 (BitVec.ofNat 32 (i 0).val) = BitVec.ofNat 32 B := by
  have h := H.at_block
  apply BitVec.eq_of_toNat_eq
  show (15#32 - BitVec.ofNat 32 (i 0).val).toNat = _
  rw [BitVec.toNat_sub, BitVec.toNat_ofNat, BitVec.toNat_ofNat, BitVec.toNat_ofNat]
  omega

theorem z_eq (a : Fin 512) (b : Fin 256) : k0_pay18 (F := Ideal) x0 (ix2 a b) = ((A.z (512 * B + a) b : ℝ) : EReal) := by
  pointwise [k0_pay18, k0_pay11, k0_pay12, k0_pay9]
  rw [H.pa, H.pa, ← EReal.coe_mul]; rfl

theorem dconv_eq (a : Fin 512) (b : Fin 256) : k0_pay23 (F := Ideal) x0 x2 (ix2 a b) = ((A.dconv (512 * B + a) b : ℝ) : EReal) := by
  pointwise [k0_pay23, k0_pay15, k0_pay14, k0_pay9]
  rw [H.pa, H.y, ← EReal.coe_mul, mul_comm]; rfl

theorem halo_eq (a : Fin 16) (b : Fin 1024) : k0_pay10 (F := Ideal) i x1 (ix2 a b)
    = ((if 512 * B + a.val < 16 then 0 else A.P (512 * B + a - 16) b : ℝ) : EReal) := by
  pointwise [k0_pay10]
  have ha := a.isLt
  have hB := H.block_lt
  rw [H.word]
  by_cases h : 0 < B
  · rw [H.halo a b h, if_neg (by omega),
      show Scalar.cmpi .sgt (BitVec.ofNat 32 B) 0#32 = 1#1 by clear H; interval_cases B <;> first | omega | rfl]
    rfl
  · obtain rfl : B = 0 := by omega
    rw [if_pos (by omega)]
    rfl

theorem zx_eq (a : Fin 528) (b : Fin 256) : k0_pay19 (F := Ideal) i x0 x1 (ix2 a b) = ((A.zs 16 (512 * B + a) b : ℝ) : EReal) := by
  pointwise [k0_pay19]
  split
  · rename_i h
    rw [H.halo_eq, H.halo_eq, ← EReal.coe_mul, Args.zs, Args.z]
    dsimp only
    split <;> simp
  · rename_i h
    refine (H.z_eq _ b).trans ?_
    show ((A.z (512 * B + (a.val - 16)) b : ℝ) : EReal) = _
    rw [Args.zs, if_neg (by omega), Nat.add_sub_assoc (by omega)]

theorem z1_eq (a : Fin 512) (b : Fin 256) : k0_pay20 (F := Ideal) i x0 x1 (ix2 a b) = ((A.zs 1 (512 * B + a) b : ℝ) : EReal) := by
  pointwise [k0_pay20]
  have ha := a.isLt
  refine (H.zx_eq _ b).trans ?_
  show ((A.zs 16 (512 * B + (16 + a.val + 528 - 1) % 528) b : ℝ) : EReal) = _
  rw [show (16 + a.val + 528 - 1) % 528 = a.val + 15 by omega, Args.zs, Args.zs]
  congr 1
  by_cases h : 512 * B + a.val < 1
  · rw [if_pos h, if_pos (by omega)]
  · rw [if_neg h, if_neg (by omega), show 512 * B + (a.val + 15) - 16 = 512 * B + a.val - 1 by omega]

theorem z2_eq (a : Fin 512) (b : Fin 256) : k0_pay21 (F := Ideal) i x0 x1 (ix2 a b) = ((A.zs 2 (512 * B + a) b : ℝ) : EReal) := by
  pointwise [k0_pay21]
  have ha := a.isLt
  refine (H.zx_eq _ b).trans ?_
  show ((A.zs 16 (512 * B + (16 + a.val + 528 - 2) % 528) b : ℝ) : EReal) = _
  rw [show (16 + a.val + 528 - 2) % 528 = a.val + 14 by omega, Args.zs, Args.zs]
  congr 1
  by_cases h : 512 * B + a.val < 2
  · rw [if_pos h, if_pos (by omega)]
  · rw [if_neg h, if_neg (by omega), show 512 * B + (a.val + 14) - 16 = 512 * B + a.val - 2 by omega]

theorem dgb_eq (a : Fin 512) (b : Fin 256) : k0_pay22 (F := Ideal) i x0 x1 x2 x3 (ix2 a b) = ((A.dgb (512 * B + a) b : ℝ) : EReal) := by
  pointwise [k0_pay22, k0_pay17, k0_pay15, k0_pay14]
  rw [H.y, H.taps _ _ (by decide), H.taps _ _ (by decide), H.taps _ _ (by decide), H.z_eq, H.z1_eq, H.z2_eq]
  simp only [← EReal.coe_mul, ← EReal.coe_add]
  rfl

/-- Row `a` of a block's cotangent with the next block's first rows below it. -/
theorem convExt_eq (n : ℕ) (hn : n = 1 ∨ n = 2) (a : Fin 512) (b : Fin 256) :
    (if h : (a.val + 528 - (528 - n)) % 528 < 512 then k0_pay23 (F := Ideal) x0 x2 (ix2 ⟨(a.val + 528 - (528 - n)) % 528, h⟩ b)
      else z0 (ix2 ⟨(a.val + 528 - (528 - n)) % 528 - 512, by omega⟩ b)) = ((A.dcs (512 * B + a + n) b : ℝ) : EReal) := by
  have ha := a.isLt
  have hB := H.block_lt
  have e : (a.val + 528 - (528 - n)) % 528 = a.val + n := by omega
  split
  · refine (H.dconv_eq _ b).trans ?_
    rw [Args.dcs, if_pos (by omega)]
    exact num (by dsimp only; omega) rfl
  · refine (H.convCarry _ b).trans ?_
    exact num (by dsimp only; omega) rfl

theorem dz_eq (a : Fin 512) (b : Fin 256) : k0_pay27 (F := Ideal) (k0_pay17 x3) (k0_pay23 x0 x2) z0 (ix2 a b) = ((A.dz (512 * B + a) b : ℝ) : EReal) := by
  pointwise [k0_pay27, k0_pay17]
  have h1 := H.convExt_eq 1 (.inl rfl) a b
  have h2 := H.convExt_eq 2 (.inr rfl) a b
  norm_num only at h1 h2
  rw [h1, h2, H.taps _ _ (by decide), H.taps _ _ (by decide), H.taps _ _ (by decide), H.dconv_eq]
  simp only [← EReal.coe_mul, ← EReal.coe_add]
  refine congrArg _ ?_
  show A.cw 2 b * A.dconv (512 * B + a) b + A.cw 1 b * A.dcs (512 * B + a + 1) b + A.cw 0 b * A.dcs (512 * B + a + 2) b = _
  rw [Args.dz]
  ring

theorem count_eq (a : Fin 512) (b : Fin 256) : k0_pay29 (F := Ideal) (blockNo i) (ix2 a b) = ((Args.cnt (512 * B + a) b : ℝ) : EReal) := by
  pointwise [k0_pay29]
  have ha := a.isLt
  have hB := H.block_lt
  have e : IntOp.addi (Scalar.addi (Scalar.muli (blockNo i) 512#32) 1#32) (BitVec.ofNat 32 a.val) = BitVec.ofNat 32 (512 * B + a.val + 1) := by
    rw [blockNo, H.word]
    apply BitVec.eq_of_toNat_eq
    show (BitVec.ofNat 32 B * 512#32 + 1#32 + BitVec.ofNat 32 a.val).toNat = _
    simp only [BitVec.toNat_add, BitVec.toNat_mul, BitVec.toNat_ofNat]
    omega
  have hg : Args.gw b ≤ 16 := by
    have hb := b.isLt
    have : b.val / 64 + 1 ≤ 4 := by omega
    exact (Nat.pow_le_pow_right (by norm_num) this).trans (by norm_num)
  rw [e, select_group b (fun n => BitVec.ofNat 32 n)]
  show min (((BitVec.ofNat 32 (512 * B + a.val + 1)).toInt : ℝ) : EReal) (((BitVec.ofNat 32 (Args.gw b)).toInt : ℝ) : EReal) = _
  rw [toInt_ofNat _ (by omega), toInt_ofNat _ (by omega), ← (EReal.coe_strictMono.monotone.map_min), Args.cnt, Nat.cast_min]
  norm_num

theorem puExt_eq (a : Fin 528) (b : Fin 256) : (if h : a.val < 16 then k0_pay10 (F := Ideal) i x1 (ix2 ⟨a.val, h⟩ ⟨768 + b.val, by omega⟩)
    else x0 (ix2 ⟨a.val - 16, by omega⟩ ⟨768 + b.val, by omega⟩)) = ((pux A (512 * B + a) b : ℝ) : EReal) := by
  unfold pux
  split
  · exact H.halo_eq _ _
  · rename_i h
    refine (H.pa _ _).trans ?_
    rw [if_neg (by omega), Nat.add_sub_assoc (by omega)]
    rfl

theorem back2_eq (a : Fin 528) (b : Fin 256) (h : 1 ≤ a.val) :
    k0_pay30 (F := Ideal) (k0_pay10 i x1) (k0_pay13 x0) (ix2 a b) = ((back A 2 (512 * B + a) b : ℝ) : EReal) := by
  have ha := a.isLt
  have e1 := H.puExt_eq a b
  have e2 := H.puExt_eq ⟨(a.val + 528 - 1) % 528, by omega⟩ b
  pointwise [k0_pay30, k0_pay13, k0_pay9]
  refine (congrArg₂ (· + ·) e1 e2).trans ?_
  rw [← EReal.coe_add]
  show ((pux A (512 * B + a) b + pux A (512 * B + (a.val + 528 - 1) % 528) b : ℝ) : EReal) = _
  rw [back, Finset.sum_range_succ, Finset.sum_range_one, show 512 * B + (a.val + 528 - 1) % 528 = 512 * B + a - 1 by omega]
  rfl

theorem back4_eq (a : Fin 528) (b : Fin 256) (h : 3 ≤ a.val) :
    k0_pay31 (F := Ideal) (k0_pay10 i x1) (k0_pay13 x0) (ix2 a b) = ((back A 4 (512 * B + a) b : ℝ) : EReal) := by
  have ha := a.isLt
  pointwise [k0_pay31]
  refine (congrArg₂ (· + ·) (H.back2_eq a b (by omega)) (H.back2_eq ⟨(a.val + 528 - 2) % 528, by omega⟩ b (by dsimp only; omega))).trans ?_
  rw [← EReal.coe_add, ← back_double A 2]
  exact congrArg (fun n => ((back A 2 (512 * B + a) b + back A 2 n b : ℝ) : EReal)) (by dsimp only; omega)

theorem back8_eq (a : Fin 528) (b : Fin 256) (h : 7 ≤ a.val) :
    k0_pay32 (F := Ideal) (k0_pay10 i x1) (k0_pay13 x0) (ix2 a b) = ((back A 8 (512 * B + a) b : ℝ) : EReal) := by
  have ha := a.isLt
  pointwise [k0_pay32]
  refine (congrArg₂ (· + ·) (H.back4_eq a b (by omega)) (H.back4_eq ⟨(a.val + 528 - 4) % 528, by omega⟩ b (by dsimp only; omega))).trans ?_
  rw [← EReal.coe_add, ← back_double A 4]
  exact congrArg (fun n => ((back A 4 (512 * B + a) b + back A 4 n b : ℝ) : EReal)) (by dsimp only; omega)

theorem back16_eq (a : Fin 528) (b : Fin 256) (h : 15 ≤ a.val) :
    k0_pay33 (F := Ideal) (k0_pay10 i x1) (k0_pay13 x0) (ix2 a b) = ((back A 16 (512 * B + a) b : ℝ) : EReal) := by
  have ha := a.isLt
  pointwise [k0_pay33]
  refine (congrArg₂ (· + ·) (H.back8_eq a b (by omega)) (H.back8_eq ⟨(a.val + 528 - 8) % 528, by omega⟩ b (by dsimp only; omega))).trans ?_
  rw [← EReal.coe_add, ← back_double A 8]
  exact congrArg (fun n => ((back A 8 (512 * B + a) b + back A 8 n b : ℝ) : EReal)) (by dsimp only; omega)

omit H in
theorem gw_le (b : Fin 256) : Args.gw b ≤ 16 := by
  have hb := b.isLt
  have : b.val / 64 + 1 ≤ 4 := by omega
  exact (Nat.pow_le_pow_right (by norm_num) this).trans (by norm_num)

theorem pu_eq (a : Fin 512) (b : Fin 256) : k0_pay13 (F := Ideal) x0 (ix2 a b) = ((A.pu (512 * B + a) b : ℝ) : EReal) := by
  pointwise [k0_pay13, k0_pay9]
  exact H.pa _ _

theorem diff_eq (a : Fin 512) (b : Fin 256) : diff i x0 x1 (ix2 a b) = ((A.D (512 * B + a) b : ℝ) : EReal) := by
  have ha := a.isLt
  have e2 := H.back2_eq ⟨16 + a.val, by omega⟩ b (by dsimp only; omega)
  have e4 := H.back4_eq ⟨16 + a.val, by omega⟩ b (by dsimp only; omega)
  have e8 := H.back8_eq ⟨16 + a.val, by omega⟩ b (by dsimp only; omega)
  have e16 := H.back16_eq ⟨16 + a.val, by omega⟩ b (by dsimp only; omega)
  pointwise [diff, k0_pay36, k0_pay34, k0_pay35]
  refine (congrArg₂ (· - ·) (congrArg₂ Ideal.div (Eq.trans (congrArg₂ (Scalar.select _) e2 (congrArg₂ (Scalar.select _) e4 (congrArg₂ (Scalar.select _) e8 e16)))
    (select_group b (fun n => ((back A n (512 * B + (16 + a.val)) b : ℝ) : EReal)))) (H.count_eq a b)) (H.pu_eq a b)).trans ?_
  rw [div_coe _ _ (Args.cnt_ne _ _), ← EReal.coe_sub, show 512 * B + (16 + a.val) = 512 * B + a.val + 16 by omega, back_eq, if_pos (gw_le b)]
  rfl

theorem dys_eq (a : Fin 512) (b : Fin 256) : k0_pay39 (F := Ideal) (k0_pay16 x2) x5 (ix2 a b) = ((A.dys (512 * B + a) b : ℝ) : EReal) := by
  pointwise [k0_pay39, k0_pay16, k0_pay14]
  rw [H.y, H.scale, ← EReal.coe_mul]; rfl

theorem dd_eq (a : Fin 512) (b : Fin 256) : pooled (F := Ideal) x2 x4 x5 (ix2 a b) = ((A.dd (512 * B + a) b : ℝ) : EReal) := by
  pointwise [pooled, k0_pay41, k0_pay37]
  simp only [H.dys_eq, H.blocks, ← EReal.coe_mul]
  rw [coe_sum, sum_group (fun x => A.dys (512 * B + a) x * wbd A b x) (b.val / 64) (by omega), Args.dd]
  · refine congrArg _ (Finset.sum_congr rfl fun k _ => ?_)
    have hk := k.isLt
    rw [wbd, if_pos (by omega), show (64 * (b.val / 64) + k.val) % 64 = k by omega]
  · intro x hx
    rw [wbd, if_neg (Ne.symm hx), mul_zero]

theorem e_eq (a : Fin 512) (b : Fin 256) : averaged (F := Ideal) i x2 x4 x5 (ix2 a b) = ((A.E (512 * B + a) b : ℝ) : EReal) := by
  pointwise [averaged, k0_pay42]
  refine (congrArg₂ Ideal.div (H.dd_eq a b) (H.count_eq a b)).trans ?_
  rw [div_coe _ _ (Args.cnt_ne _ _)]
  rfl

theorem eExt_eq (a : Fin 528) (b : Fin 256) : below (averaged (F := Ideal) i x2 x4 x5) z1 (ix2 a b) = ((A.Es (512 * B + a) b : ℝ) : EReal) := by
  have hB := H.block_lt
  pointwise [below]
  split
  · refine (H.e_eq _ _).trans ?_
    rw [Args.Es, if_pos (by omega)]
  · refine (H.poolCarry _ _).trans ?_
    exact num (by dsimp only; omega) rfl

theorem fwd2_eq (a : Fin 528) (b : Fin 256) (h : a.val < 527) :
    down2 (below (averaged (F := Ideal) i x2 x4 x5) z1) (ix2 a b) = ((fwd A 2 (512 * B + a) b : ℝ) : EReal) := by
  pointwise [down2]
  refine (congrArg₂ (· + ·) (H.eExt_eq a b) (H.eExt_eq ⟨(a.val + 528 - 527) % 528, by omega⟩ b)).trans ?_
  rw [← EReal.coe_add, fwd, Finset.sum_range_succ, Finset.sum_range_one]
  exact congrArg (fun n => ((A.Es (512 * B + a) b + A.Es n b : ℝ) : EReal)) (by dsimp only; omega)

theorem fwd4_eq (a : Fin 528) (b : Fin 256) (h : a.val < 525) :
    down4 (down2 (below (averaged (F := Ideal) i x2 x4 x5) z1)) (ix2 a b) = ((fwd A 4 (512 * B + a) b : ℝ) : EReal) := by
  pointwise [down4]
  refine (congrArg₂ (· + ·) (H.fwd2_eq a b (by omega)) (H.fwd2_eq ⟨(a.val + 528 - 526) % 528, by omega⟩ b (by dsimp only; omega))).trans ?_
  rw [← EReal.coe_add, ← fwd_double A 2]
  exact congrArg (fun n => ((fwd A 2 (512 * B + a) b + fwd A 2 n b : ℝ) : EReal)) (by dsimp only; omega)

theorem fwd8_eq (a : Fin 528) (b : Fin 256) (h : a.val < 521) :
    down8 (down4 (down2 (below (averaged (F := Ideal) i x2 x4 x5) z1))) (ix2 a b) = ((fwd A 8 (512 * B + a) b : ℝ) : EReal) := by
  pointwise [down8]
  refine (congrArg₂ (· + ·) (H.fwd4_eq a b (by omega)) (H.fwd4_eq ⟨(a.val + 528 - 524) % 528, by omega⟩ b (by dsimp only; omega))).trans ?_
  rw [← EReal.coe_add, ← fwd_double A 4]
  exact congrArg (fun n => ((fwd A 4 (512 * B + a) b + fwd A 4 n b : ℝ) : EReal)) (by dsimp only; omega)

theorem fwd16_eq (a : Fin 528) (b : Fin 256) (h : a.val < 513) :
    down16 (down8 (down4 (down2 (below (averaged (F := Ideal) i x2 x4 x5) z1)))) (ix2 a b) = ((fwd A 16 (512 * B + a) b : ℝ) : EReal) := by
  pointwise [down16]
  refine (congrArg₂ (· + ·) (H.fwd8_eq a b (by omega)) (H.fwd8_eq ⟨(a.val + 528 - 520) % 528, by omega⟩ b (by dsimp only; omega))).trans ?_
  rw [← EReal.coe_add, ← fwd_double A 8]
  exact congrArg (fun n => ((fwd A 8 (512 * B + a) b + fwd A 8 n b : ℝ) : EReal)) (by dsimp only; omega)

theorem dpu_eq (a : Fin 512) (b : Fin 256) :
    spread (down2 (below (averaged (F := Ideal) i x2 x4 x5) z1)) (down4 (down2 (below (averaged (F := Ideal) i x2 x4 x5) z1)))
      (down8 (down4 (down2 (below (averaged (F := Ideal) i x2 x4 x5) z1)))) (down16 (down8 (down4 (down2 (below (averaged (F := Ideal) i x2 x4 x5) z1)))))
      (pooled x2 x4 x5) (ix2 a b) = ((A.dpu (512 * B + a) b : ℝ) : EReal) := by
  have ha := a.isLt
  have e2 := H.fwd2_eq ⟨a.val, by omega⟩ b (by dsimp only; omega)
  have e4 := H.fwd4_eq ⟨a.val, by omega⟩ b (by dsimp only; omega)
  have e8 := H.fwd8_eq ⟨a.val, by omega⟩ b (by dsimp only; omega)
  have e16 := H.fwd16_eq ⟨a.val, by omega⟩ b (by dsimp only; omega)
  pointwise [spread]
  refine (congrArg₂ (· - ·) (Eq.trans (congrArg₂ (Scalar.select _) e2 (congrArg₂ (Scalar.select _) e4 (congrArg₂ (Scalar.select _) e8 e16)))
    (select_group b (fun n => ((fwd A n (512 * B + a.val) b : ℝ) : EReal)))) (H.dd_eq a b)).trans ?_
  rw [← EReal.coe_sub]
  rfl

theorem dpa_eq (a : Fin 512) (b : Fin 1024) : oDpa (F := Ideal) i x0 x1 x2 x3 x4 x5 z0 z1 (ix2 a b) = ((A.dpa (512 * B + a) b : ℝ) : EReal) := by
  have c0 (t c : ℕ) (h1 : c < 256) : A.dgb t c = A.dpa t c := by rw [Args.dpa, if_pos h1]
  have c1 (t c : ℕ) (h1 : ¬c < 256) (h2 : c - 256 < 256) : A.dz t (c - 256) * A.P t (512 + (c - 256)) = A.dpa t c := by
    rw [Args.dpa, if_neg h1, if_pos (by omega)]
  have c2 (t c : ℕ) (h1 : ¬c < 256) (h2 : ¬c - 256 < 256) (h3 : c - 256 - 256 < 256) :
      A.dz t (c - 256 - 256) * A.P t (256 + (c - 256 - 256)) = A.dpa t c := by
    rw [Args.dpa, if_neg h1, if_neg (by omega), if_pos (by omega), Nat.sub_sub]
  have c3 (t c : ℕ) (h1 : ¬c < 256) (h2 : ¬c - 256 < 256) (h3 : ¬c - 256 - 256 < 256) : A.dpu t (c - 256 - 256 - 256) = A.dpa t c := by
    rw [Args.dpa, if_neg h1, if_neg (by omega), if_neg (by omega), Nat.sub_sub, Nat.sub_sub]
  rw [oDpa, pay44_eq]
  pointwise [side]
  split
  · rename_i h1
    exact (H.dgb_eq a _).trans (congrArg _ (c0 _ _ h1))
  rename_i h1
  split
  · rename_i h2
    exact (congrArg₂ (· * ·) (H.dz_eq a _) ((k0_pay12_at _ a _).trans (H.pa a _))).trans ((EReal.coe_mul _ _).symm.trans (congrArg _ (c1 _ _ h1 h2)))
  rename_i h2
  split
  · rename_i h3
    exact (congrArg₂ (· * ·) (H.dz_eq a _) ((k0_pay11_at _ a _).trans (H.pa a _))).trans ((EReal.coe_mul _ _).symm.trans (congrArg _ (c2 _ _ h1 h2 h3)))
  rename_i h3
  exact (H.dpu_eq a _).trans (congrArg _ (c3 _ _ h1 h2 h3))

theorem rs_eq (a : Fin 512) (b : Fin 1) : k0_pay47 (F := Ideal) x10 (ix2 a b) = ((A.rs (512 * B + a) : ℝ) : EReal) := by
  pointwise [k0_pay47]
  simp only [H.h, ← EReal.coe_mul]
  rw [coe_sum, c1024, ceps, div_coe _ _ (by norm_num), ← EReal.coe_add]
  exact rsqrt_coe _ (A.ms_pos _)

theorem xh_eq (a : Fin 512) (b : Fin 1024) : k0_pay48 (F := Ideal) x10 (ix2 a b) = ((A.xh (512 * B + a) b : ℝ) : EReal) := by
  pointwise [k0_pay48]
  rw [H.h, H.rs_eq, ← EReal.coe_mul]
  rfl

/-- The product of the projection's cotangent with the weight, summed part by part. -/
def products (i : grid0.Coords) (x0 : Vec Ideal S512x1024 .f32) (x1 : Vec Ideal S16x1024 .f32) (x2 : Vec Ideal S512x512 .bf16)
    (x3 : Vec Ideal S8x256 .f32) (x4 : Vec Ideal S256x256 .bf16) (x5 : Vec Ideal S1x256 .f32) (x6 x7 x8 : Vec Ideal S512x512 .bf16)
    (x9 : Vec Ideal S1024x2560 .bf16) (z0 z1 : Vec Ideal S16x256 .f32) : FVec Ideal S512x1024 .f32 :=
  k0_pay46 (prod0 i x0 x1 x2 x3 x4 x5 x9 z0 z1)
    x6 (VecWindow.window (s := S1024x2560) x9 ![0, 1024] S1024x512.size inb_S1024x2560_S1024x512_0_1024)
    x7 (VecWindow.window (s := S1024x2560) x9 ![0, 1536] S1024x512.size inb_S1024x2560_S1024x512_0_1536)
    x8 (VecWindow.window (s := S1024x2560) x9 ![0, 2048] S1024x512.size inb_S1024x2560_S1024x512_0_2048)

theorem dxn_eq (a : Fin 512) (b : Fin 1024) : products i x0 x1 x2 x3 x4 x5 x6 x7 x8 x9 z0 z1 (ix2 a b) = ((A.dxn (512 * B + a) b : ℝ) : EReal) := by
  have w0 (k : Fin 1024) : VecWindow.window (s := S1024x2560) x9 ![0, 0] S1024x1024.size inb_S1024x2560_S1024x1024_0_0 (ix2 b k) = ((A.w b k : ℝ) : EReal) :=
    (window_cols (by norm_num) x9 _ b k).trans ((H.w _ _).trans (num rfl (Nat.zero_add _)))
  have w1 (k : Fin 512) : VecWindow.window (s := S1024x2560) x9 ![0, 1024] S1024x512.size inb_S1024x2560_S1024x512_0_1024 (ix2 b k) = ((A.w b (1024 + k) : ℝ) : EReal) :=
    (window_cols (by norm_num) x9 _ b k).trans (H.w _ _)
  have w2 (k : Fin 512) : VecWindow.window (s := S1024x2560) x9 ![0, 1536] S1024x512.size inb_S1024x2560_S1024x512_0_1536 (ix2 b k) = ((A.w b (1536 + k) : ℝ) : EReal) :=
    (window_cols (by norm_num) x9 _ b k).trans (H.w _ _)
  have w3 (k : Fin 512) : VecWindow.window (s := S1024x2560) x9 ![0, 2048] S1024x512.size inb_S1024x2560_S1024x512_0_2048 (ix2 b k) = ((A.w b (2048 + k) : ℝ) : EReal) :=
    (window_cols (by norm_num) x9 _ b k).trans (H.w _ _)
  have d (k : Fin 1024) := H.dpa_eq a k
  unfold oDpa at d
  pointwise [products, k0_pay46, prod0, k0_pay45]
  simp only [d, w0, w1, w2, w3, H.q, H.k, H.v, ← EReal.coe_mul, coe_sum, ← EReal.coe_add]
  rw [Args.dxn, sum_parts (fun k => A.dp (512 * B + a) k * A.w b k)]
  refine congrArg _ (congrArg₂ _ (congrArg₂ _ (congrArg₂ _ ?_ ?_) ?_) ?_) <;> refine Finset.sum_congr rfl fun k _ => ?_ <;> have hk := k.isLt
  · rw [Args.dp, if_pos hk]
  · rw [Args.dp, if_neg (by omega), if_pos (by omega), Nat.add_sub_cancel_left]
  · rw [Args.dp, if_neg (by omega), if_neg (by omega), if_pos (by omega), Nat.add_sub_cancel_left]
  · rw [Args.dp, if_neg (by omega), if_neg (by omega), if_neg (by omega), Nat.add_sub_cancel_left]

theorem dh_eq (x12 : Vec Ideal S512x1024 .f32) (a : Fin 512) (b : Fin 1024) :
    oDh (F := Ideal) i x0 x1 x2 x3 x4 x5 x6 x7 x8 x9 x10 x11 x12 z0 z1 (ix2 a b) = x12 (ix2 a b) + ((A.dhr (512 * B + a) b : ℝ) : EReal) := by
  have d (b : Fin 1024) := H.dxn_eq a b
  unfold products at d
  pointwise [oDh, k0_pay2, k0_pay49]
  simp only [d, H.rs_eq, H.xh_eq, H.g, ← EReal.coe_mul, coe_sum]
  rw [c1024, div_coe _ _ (by norm_num), ← EReal.coe_mul, ← EReal.coe_sub, ← EReal.coe_mul]
  rfl

/-- The taps' running sums after the point. -/
theorem dcw_eq (y : Vec Ideal S8x256 .f32) (r : ℕ → ℕ → ℝ) (a : Fin 8) (b : Fin 256) (ha : a.val < 3) (hy : y (ix2 a b) = ((r a b : ℝ) : EReal)) :
    oDcw (F := Ideal) i x0 x1 x2 y (ix2 a b)
      = ((r a b + ∑ x : Fin 512, A.dconv (512 * B + x) b * A.zs (2 - a) (512 * B + x) b : ℝ) : EReal) := by
  have z0 (t c : ℕ) : A.zs 0 t c = A.z t c := by rw [Args.zs, if_neg (by omega), Nat.sub_zero]
  refine (put_row _ _ a b).trans ?_
  split
  · rename_i h2
    obtain rfl : a = 2 := Fin.ext h2
    pointwise [k0_pay26]
    rw [row256, show ∀ h, VecWindow.window (s := S8x256) y ![2, 0] S1x256.size h (ix2 0 b) = y (ix2 2 b) from fun h => window_row (by norm_num) y h 0 b, hy]
    simp only [H.dconv_eq, H.z_eq, ← EReal.coe_mul, coe_sum, ← EReal.coe_add]
    simp only [← z0]
    rfl
  refine (put_row _ _ a b).trans ?_
  split
  · rename_i h1
    obtain rfl : a = 1 := Fin.ext h1
    pointwise [k0_pay25]
    rw [row256, show ∀ h, VecWindow.window (s := S8x256) y ![1, 0] S1x256.size h (ix2 0 b) = y (ix2 1 b) from fun h => window_row (by norm_num) y h 0 b, hy]
    simp only [H.dconv_eq, H.z1_eq, ← EReal.coe_mul, coe_sum, ← EReal.coe_add]
    rfl
  refine (put_row _ _ a b).trans ?_
  split
  · rename_i h0
    obtain rfl : a = 0 := Fin.ext h0
    pointwise [k0_pay24]
    rw [row256, show ∀ h, VecWindow.window (s := S8x256) y ![0, 0] S1x256.size h (ix2 0 b) = y (ix2 0 b) from fun h => window_row (by norm_num) y h 0 b, hy]
    simp only [H.dconv_eq, H.z2_eq, ← EReal.coe_mul, coe_sum, ← EReal.coe_add]
    rfl
  · omega

/-- The small products' running sums after the point. -/
theorem dpw_eq (y : Vec Ideal S256x256 .f32) (r : ℝ) (a b : Fin 256) (hy : y (ix2 a b) = ((r : ℝ) : EReal)) :
    oDpw (F := Ideal) i x0 x1 x2 x5 y (ix2 a b) = ((r + ∑ x : Fin 512, A.D (512 * B + x) a * A.dys (512 * B + x) b : ℝ) : EReal) := by
  have d (a : Fin 512) (b : Fin 256) := H.diff_eq a b
  unfold diff at d
  pointwise [oDpw, k0_pay40]
  simp only [hy, d, H.dys_eq, ← EReal.coe_mul, coe_sum, ← EReal.coe_add]

/-- The pool scale's running sums after the point. -/
theorem dps_eq (y : Vec Ideal S8x256 .f32) (r : ℝ) (b : Fin 256) (hy : y (ix2 0 b) = ((r : ℝ) : EReal)) :
    oDps (F := Ideal) i x0 x1 x2 x4 y (ix2 0 b) = ((r + ∑ x : Fin 512, A.po (512 * B + x) b * A.y (512 * B + x) (256 + b) : ℝ) : EReal) := by
  have d (a : Fin 512) (b : Fin 256) := H.diff_eq a b
  unfold diff at d
  refine (put_row _ _ 0 b).trans ((if_pos rfl).trans ?_)
  pointwise [k0_pay38, k0_pay37, k0_pay16, k0_pay14]
  rw [row256, show ∀ h, VecWindow.window (s := S8x256) y ![0, 0] S1x256.size h (ix2 0 b) = y (ix2 0 b) from fun h => window_row (by norm_num) y h 0 b, hy]
  simp only [d, H.y, H.blocks, ← EReal.coe_mul, coe_sum, ← EReal.coe_add]
  refine congrArg (fun e => ((r + e : ℝ) : EReal)) (Finset.sum_congr rfl fun x _ => ?_)
  rw [mul_comm, sum_group (fun k => A.D (512 * B + x) k * wbd A k b) (b.val / 64) (by omega), Args.po]
  · refine congrArg (· * _) (Finset.sum_congr rfl fun k _ => ?_)
    have hk := k.isLt
    rw [wbd, if_pos (by omega), show (64 * (b.val / 64) + k.val) % 64 = k by omega, show (64 * (b.val / 64) + k.val) / 64 = b.val / 64 by omega]
  · intro k hk
    rw [wbd, if_neg hk, mul_zero]

/-- The gain's running sums after the point. -/
theorem dg_eq (y : Vec Ideal S8x1024 .f32) (r : ℝ) (b : Fin 1024) (hy : y (ix2 0 b) = ((r : ℝ) : EReal)) :
    oDg (F := Ideal) i x0 x1 x2 x3 x4 x5 x6 x7 x8 x9 x10 z0 z1 y (ix2 0 b)
      = ((r + ∑ x : Fin 512, A.xh (512 * B + x) b * A.dxn (512 * B + x) b : ℝ) : EReal) := by
  have d (a : Fin 512) (b : Fin 1024) := H.dxn_eq a b
  unfold products at d
  refine (put_row _ _ 0 b).trans ((if_pos rfl).trans ?_)
  pointwise [k0_pay1, k0_pay50]
  rw [row1024, show ∀ h, VecWindow.window (s := S8x1024) y ![0, 0] ![1, 1024] h (ix2 0 b) = y (ix2 0 b) from fun h => window_row (by norm_num) y h 0 b, hy]
  simp only [d, H.xh_eq, ← EReal.coe_mul, coe_sum, ← EReal.coe_add]
  refine congrArg (fun e => ((r + e : ℝ) : EReal)) (Finset.sum_congr rfl fun x _ => mul_comm _ _)

theorem z0_eq (a : Fin 16) (b : Fin 256) : oZ0 (F := Ideal) x0 x2 (ix2 a b) = ((A.dcs (512 * B + a) b : ℝ) : EReal) := by
  have hB := H.block_lt
  pointwise [oZ0, k0_pay28]
  refine (H.dconv_eq _ _).trans ?_
  rw [Args.dcs, if_pos (by omega)]

theorem z1out_eq (a : Fin 16) (b : Fin 256) : oZ1 (F := Ideal) i x2 x4 x5 (ix2 a b) = ((A.Es (512 * B + a) b : ℝ) : EReal) := by
  have hB := H.block_lt
  pointwise [oZ1, k0_pay43]
  refine (H.e_eq _ _).trans ?_
  rw [Args.Es, if_pos (by omega)]

end Reads

end Cert.KernelIdeal.Block

end
-- ==== Proof.Entry.lean ====
/- The arrays the grid reads, out of finite arguments: the projection, the padded taps, the block-diagonal weight and the copies. -/
module

public import proofs.«01_k».proof.Proof.Run
public import proofs.«01_k».proof.Proof.Block
public import proofs.«01_k».proof.Proof.Given
public import Idealize.ShloMosaic.Lib.Pipeline.ValueKit
public import Idealize.ShloMosaic.Lib.StableHlo.ReadAt

@[expose] public section

set_option maxRecDepth 16384

noncomputable section

namespace Cert.KernelIdeal.Entry

open Idealize.ShloMosaic Idealize.ShloMosaic.TcCoe
open Cert.KernelIdeal.Gen Cert.KernelIdeal.Step Cert.KernelIdeal.Block Mixer

variable {A : Args} {m : (ℓ : Loc nD τ sig) → Buf (Elt Ideal) ℓ} {c : Dev nD}

/-- The kernel's arguments as the model's numbers. -/
abbrev GivenAt (A : Args) (m : (ℓ : Loc nD τ sig) → Buf (Elt Ideal) ℓ) (c : Dev nD) : Prop :=
  Given A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- One where two group numbers agree, zero elsewhere. -/
theorem same_group (p q : ℕ) (hp : p < 4) (hq : q < 4) :
    (FloatOps.uitofp (F := Ideal) .f32 (IntOp.cmpi .eq (IntOp.addi (BitVec.ofNat 32 p) 0#32) (BitVec.ofNat 32 q)) : EReal) = if p = q then 1 else 0 := by
  have e : IntOp.cmpi .eq (IntOp.addi (BitVec.ofNat 32 p) 0#32) (BitVec.ofNat 32 q) = BitVec.ofBool (decide (p = q)) := by
    interval_cases p <;> interval_cases q <;> decide
  rw [e]
  by_cases h : p = q
  · rw [if_pos h, decide_eq_true h]
    show (((BitVec.ofBool true).toNat : ℝ) : EReal) = 1
    simp
  · rw [if_neg h, decide_eq_false h]
    show (((BitVec.ofBool false).toNat : ℝ) : EReal) = 0
    simp

variable (H : GivenAt A m c)
include H

theorem proj_eq (a : Fin 8192) (b : Fin 1024) : (V m c main_v14 : FVec Ideal S8192x1024 .f32) (ix2 a b) = ((A.P a b : ℝ) : EReal) := by
  dsimp only [V, V0, List.flatten_cons, List.flatten_nil, List.cons_append, List.nil_append]
  after_reads_at
  have hh : ∀ x : Fin 1024, m (c, Proc.tc.devRef main_arg0) (ix2 a x) = ((A.h a x : ℝ) : EReal) := H.h a
  have hg : ∀ x : Fin 1024, m (c, Proc.tc.devRef main_arg1) (ix1 x) = ((A.g x : ℝ) : EReal) := H.g
  have hw : ∀ x : Fin 1024, m (c, Proc.tc.devRef main_arg2) (ix2 x ⟨b.val, by omega⟩) = ((A.w x b : ℝ) : EReal) := fun x => H.w x _
  simp only [hh, hg, hw, ← EReal.coe_mul, coe_sum]
  rw [c1024, ceps, div_coe _ _ (by norm_num), ← EReal.coe_add, show Ideal.rsqrt (((∑ k : Fin 1024, A.h a k * A.h a k) / 1024 + eps : ℝ) : EReal) = ((A.rs a : ℝ) : EReal) from rsqrt_coe _ (A.ms_pos a)]
  simp only [← EReal.coe_mul, coe_sum]
  rfl

theorem taps_eq (a : Fin 8) (b : Fin 256) (ha : a.val < 3) : (V m c main_v15 : FVec Ideal S8x256 .f32) (ix2 a b) = ((A.cw a b : ℝ) : EReal) := by
  dsimp only [V, V0, List.flatten_cons, List.flatten_nil, List.cons_append, List.nil_append]
  after_reads_at
  exact (dif_pos ha).trans (H.cw ⟨a.val, ha⟩ b)

theorem blocks_eq (a b : Fin 256) : (V m c main_v28 : FVec Ideal S256x256 .bf16) (ix2 a b) = ((wbd A a b : ℝ) : EReal) := by
  dsimp only [V, V0, List.flatten_cons, List.flatten_nil, List.cons_append, List.nil_append]
  after_reads_at
  have ha := a.isLt
  have hb := b.isLt
  refine (congrArg₂ (fun x y : EReal => x * y) (same_group (a.val / 64) (b.val / 64) (by omega) (by omega)) (H.pw _ _ _)).trans ?_
  rw [wbd]
  split
  · exact one_mul _
  · exact zero_mul _

theorem scale_eq (a : Fin 1) (b : Fin 256) : (V m c main_v29 : FVec Ideal S1x256 .f32) (ix2 a b) = ((A.ps b : ℝ) : EReal) := by
  dsimp only [V, V0, List.flatten_cons, List.flatten_nil, List.cons_append, List.nil_append]
  after_reads_at
  exact H.ps _

theorem weight_eq (a : Fin 1024) (b : Fin 2560) : (V m c main_v30 : FVec Ideal S1024x2560 .bf16) (ix2 a b) = ((A.w a b : ℝ) : EReal) := by
  dsimp only [V, V0, List.flatten_cons, List.flatten_nil, List.cons_append, List.nil_append]
  after_reads_at
  exact H.w _ _

theorem gain_eq (a : Fin 1) (b : Fin 1024) : (V m c main_v31 : FVec Ideal S1x1024 .f32) (ix2 a b) = ((A.g b : ℝ) : EReal) := by
  dsimp only [V, V0, List.flatten_cons, List.flatten_nil, List.cons_append, List.nil_append]
  after_reads_at
  exact H.g _

omit H

/-- Which block each window is on at a point. -/
theorem idx : ∀ t : Fin cfg0.N, win0_0.index t = ![15 - t.val, 0] ∧ win0_1.index t = ![(15 - t.val) * 32 - 1, 0] ∧ win0_2.index t = ![15 - t.val, 0]
    ∧ win0_3.index t = ![0, 0] ∧ win0_4.index t = ![0, 0] ∧ win0_5.index t = ![0, 0] ∧ win0_6.index t = ![15 - t.val, 0] ∧ win0_7.index t = ![15 - t.val, 0]
    ∧ win0_8.index t = ![15 - t.val, 0] ∧ win0_9.index t = ![0, 0] ∧ win0_10.index t = ![15 - t.val, 0] ∧ win0_11.index t = ![0, 0]
    ∧ win0_12.index t = ![15 - t.val, 0] ∧ win0_13.index t = ![15 - t.val, 0] ∧ win0_14.index t = ![15 - t.val, 0] ∧ win0_15.index t = ![0, 0]
    ∧ win0_16.index t = ![0, 0] ∧ win0_17.index t = ![0, 0] ∧ win0_18.index t = ![0, 0] ∧ (grid0.coords t 0).val = t.val ∧ t.val < 16 :=
  (by decide +kernel : ∀ t : Fin grid0.N, _)

theorem read0 (t : Fin cfg0.N) (a : Fin 512) (b : Fin 1024) :
    (iblk m c 0 t : Vec Ideal S512x1024 .f32) (ix2 a b) = (V m c main_v14 : FVec Ideal S8192x1024 .f32) (ix2 ⟨512 * (15 - t.val) + a.val, by omega⟩ b) := by
  blk_ext [iblk, idx t]
theorem read1 (t : Fin cfg0.N) (a : Fin 16) (b : Fin 1024) :
    (iblk m c 1 t : Vec Ideal S16x1024 .f32) (ix2 a b) = (V m c main_v14 : FVec Ideal S8192x1024 .f32) (ix2 ⟨16 * ((15 - t.val) * 32 - 1) + a.val, by omega⟩ b) := by
  blk_ext [iblk, idx t]
theorem read2 (t : Fin cfg0.N) (a : Fin 512) (b : Fin 512) :
    (iblk m c 2 t : Vec Ideal S512x512 .bf16) (ix2 a b) = (m ((c : Thread nD τ).loc main_arg6) : FVec Ideal S8192x512 .bf16) (ix2 ⟨512 * (15 - t.val) + a.val, by omega⟩ b) := by
  blk_ext [iblk, V, idx t]
theorem read3 (t : Fin cfg0.N) (a : Fin 8) (b : Fin 256) :
    (iblk m c 3 t : Vec Ideal S8x256 .f32) (ix2 a b) = (V m c main_v15 : FVec Ideal S8x256 .f32) (ix2 a b) := by
  blk_ext [iblk, idx t]
theorem read4 (t : Fin cfg0.N) (a : Fin 256) (b : Fin 256) :
    (iblk m c 4 t : Vec Ideal S256x256 .bf16) (ix2 a b) = (V m c main_v28 : FVec Ideal S256x256 .bf16) (ix2 a b) := by
  blk_ext [iblk, idx t]
theorem read5 (t : Fin cfg0.N) (a : Fin 1) (b : Fin 256) :
    (iblk m c 5 t : Vec Ideal S1x256 .f32) (ix2 a b) = (V m c main_v29 : FVec Ideal S1x256 .f32) (ix2 a b) := by
  blk_ext [iblk, idx t]
theorem read6 (t : Fin cfg0.N) (a : Fin 512) (b : Fin 512) :
    (iblk m c 6 t : Vec Ideal S512x512 .bf16) (ix2 a b) = (m ((c : Thread nD τ).loc main_arg7) : FVec Ideal S8192x512 .bf16) (ix2 ⟨512 * (15 - t.val) + a.val, by omega⟩ b) := by
  blk_ext [iblk, V, idx t]
theorem read7 (t : Fin cfg0.N) (a : Fin 512) (b : Fin 512) :
    (iblk m c 7 t : Vec Ideal S512x512 .bf16) (ix2 a b) = (m ((c : Thread nD τ).loc main_arg8) : FVec Ideal S8192x512 .bf16) (ix2 ⟨512 * (15 - t.val) + a.val, by omega⟩ b) := by
  blk_ext [iblk, V, idx t]
theorem read8 (t : Fin cfg0.N) (a : Fin 512) (b : Fin 512) :
    (iblk m c 8 t : Vec Ideal S512x512 .bf16) (ix2 a b) = (m ((c : Thread nD τ).loc main_arg9) : FVec Ideal S8192x512 .bf16) (ix2 ⟨512 * (15 - t.val) + a.val, by omega⟩ b) := by
  blk_ext [iblk, V, idx t]
theorem read9 (t : Fin cfg0.N) (a : Fin 1024) (b : Fin 2560) :
    (iblk m c 9 t : Vec Ideal S1024x2560 .bf16) (ix2 a b) = (V m c main_v30 : FVec Ideal S1024x2560 .bf16) (ix2 a b) := by
  blk_ext [iblk, idx t]
theorem read10 (t : Fin cfg0.N) (a : Fin 512) (b : Fin 1024) :
    (iblk m c 10 t : Vec Ideal S512x1024 .f32) (ix2 a b) = (m ((c : Thread nD τ).loc main_arg0) : FVec Ideal S8192x1024 .f32) (ix2 ⟨512 * (15 - t.val) + a.val, by omega⟩ b) := by
  blk_ext [iblk, V, idx t]
theorem read11 (t : Fin cfg0.N) (a : Fin 1) (b : Fin 1024) :
    (iblk m c 11 t : Vec Ideal S1x1024 .f32) (ix2 a b) = (V m c main_v31 : FVec Ideal S1x1024 .f32) (ix2 a b) := by
  blk_ext [iblk, idx t]
theorem read12 (t : Fin cfg0.N) (a : Fin 512) (b : Fin 1024) :
    (iblk m c 12 t : Vec Ideal S512x1024 .f32) (ix2 a b) = (m ((c : Thread nD τ).loc main_arg10) : FVec Ideal S8192x1024 .f32) (ix2 ⟨512 * (15 - t.val) + a.val, by omega⟩ b) := by
  blk_ext [iblk, V, idx t]

include H

/-- What a point reads, given the rows carried from the block after it. -/
theorem reads (t : Fin cfg0.N) (z0 z1 : Vec Ideal S16x256 .f32)
    (h0 : ∀ (a : Fin 16) (b : Fin 256), z0 (ix2 a b) = ((A.dcs (512 * (15 - t.val + 1) + a) b : ℝ) : EReal))
    (h1 : ∀ (a : Fin 16) (b : Fin 256), z1 (ix2 a b) = ((A.Es (512 * (15 - t.val + 1) + a) b : ℝ) : EReal)) :
    Reads A (15 - t.val) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) z0 z1 where
  at_block := by
    obtain ⟨-, -, -, -, -, -, -, -, -, -, -, -, -, -, -, -, -, -, -, e, h⟩ := idx t
    omega
  pa a b := (read0 t a b).trans (proj_eq H _ _)
  halo a b hB := (read1 t a b).trans ((proj_eq H _ _).trans (Reads.num (by dsimp only; omega) rfl))
  y a b := (read2 t a b).trans (H.y _ _)
  taps a b ha := (read3 t a b).trans (taps_eq H _ _ ha)
  blocks a b := (read4 t a b).trans (blocks_eq H _ _)
  scale a b := (read5 t a b).trans (scale_eq H _ _)
  q a b := (read6 t a b).trans (H.q _ _)
  k a b := (read7 t a b).trans (H.k _ _)
  v a b := (read8 t a b).trans (H.v _ _)
  w a b := (read9 t a b).trans (weight_eq H _ _)
  h a b := (read10 t a b).trans (H.h _ _)
  g a b := (read11 t a b).trans (gain_eq H _ _)
  convCarry := h0
  poolCarry := h1

end Cert.KernelIdeal.Entry

end
-- ==== Proof.Cumsum.lean ====
/- A host's sum over windows that run down the rows of a matrix of finite entries: the running sums from the top and from the bottom. -/
module

public import proofs.«01_k».proof.Proof.Model
public import Idealize.ShloMosaic.Lib.Pipeline.ValueKit

@[expose] public section

noncomputable section

namespace Mixer

open Idealize.ShloMosaic

theorem foldl_add {n : ℕ} (f : Fin n → EReal) : ∀ (l : List (Fin n)) (v : EReal), l.foldl (fun r k => r + f k) v = v + (l.map f).sum
  | [], v => by simp
  | k :: l, v => by
    simp only [List.foldl_cons, List.map_cons, List.sum_cons]
    rw [foldl_add f l, add_assoc]

/-- The window of a row `t`: the rows `t - l, t - l + 1, …`, those outside the matrix counted as zero. -/
theorem window_sum {N C l r : ℕ} {u : Shape} (x : FVec Ideal ⟨2, ![N, C]⟩ .f32) (f : ℕ → ℕ → ℝ) (hx : ∀ a b, x (ix2 a b) = ((f a.val b.val : ℝ) : EReal))
    (init : FVec Ideal u .f32) (hi : ∀ i, init i = 0)
    (h : (⟨2, ![N, C]⟩ : Shape).ReduceWindows ![N, 1] ![1, 1] ![l, 0] ![r, 0] ⟨2, ![N, C]⟩) (hu : 0 < u.numel) (t : Fin N) (c : Fin C) :
    Host.reduceWindowAdd ![N, 1] ![1, 1] ![l, 0] ![r, 0] x init h hu (ix2 t c)
      = ((∑ n ∈ Finset.range N, (if l ≤ t + n ∧ t + n - l < N then f (t + n - l) c else 0) : ℝ) : EReal) := by
  unfold Host.reduceWindowAdd
  rw [Ideal.hostReduceWindowAdd_def, hi]
  unfold Ideal.hostReduceWindowAdd Host.reduceWindow
  dsimp only
  rw [foldl_add, zero_add, ← List.ofFn_eq_map, List.sum_ofFn]
  rw [← (Shape.rowMajor (⟨2, ![N, 1]⟩ : Shape)).sum_comp]
  simp only [Equiv.symm_apply_apply]
  rw [sum_idx2, Finset.sum_range, ← coe_sum]
  refine Finset.sum_congr rfl fun n _ => ?_
  rw [Fin.sum_univ_one]
  by_cases hc : l ≤ t.val + n.val ∧ t.val + n.val - l < N
  · rw [if_pos hc]
    have key : ∀ a : Fin 2, (![l, 0] : Fin 2 → ℕ) a ≤ (ix2 t c a).val * (![1, 1] : Fin 2 → ℕ) a + (ix2 n (0 : Fin 1) a).val
        ∧ (ix2 t c a).val * (![1, 1] : Fin 2 → ℕ) a + (ix2 n (0 : Fin 1) a).val - (![l, 0] : Fin 2 → ℕ) a < (![N, C] : Fin 2 → ℕ) a := by
      intro a
      match a with
      | ⟨0, _⟩ => show l ≤ t.val * 1 + n.val ∧ t.val * 1 + n.val - l < N; rwa [Nat.mul_one]
      | ⟨1, _⟩ => show 0 ≤ c.val * 1 + 0 ∧ c.val * 1 + 0 - 0 < C; exact ⟨Nat.zero_le _, by have := c.isLt; omega⟩
    refine (dif_pos key).trans ?_
    refine Eq.trans (congrArg x (funext fun a => Fin.ext ?_)) (hx ⟨t.val + n.val - l, hc.2⟩ c)
    match a with
    | ⟨0, _⟩ => show t.val * 1 + n.val - l = t.val + n.val - l; rw [Nat.mul_one]
    | ⟨1, _⟩ => show c.val * 1 + 0 - 0 = c.val; omega
  · rw [if_neg hc]
    refine (dif_neg fun key => hc ?_).trans rfl
    have := key 0
    have h' : l ≤ t.val * 1 + n.val ∧ t.val * 1 + n.val - l < N := this
    rwa [Nat.mul_one] at h'

/-- The running sum from the top. -/
theorem cumsum_down {N C : ℕ} {u : Shape} (x : FVec Ideal ⟨2, ![N + 1, C]⟩ .f32) (f : ℕ → ℕ → ℝ) (hx : ∀ a b, x (ix2 a b) = ((f a.val b.val : ℝ) : EReal))
    (init : FVec Ideal u .f32) (hi : ∀ i, init i = 0)
    (h : (⟨2, ![N + 1, C]⟩ : Shape).ReduceWindows ![N + 1, 1] ![1, 1] ![N, 0] ![0, 0] ⟨2, ![N + 1, C]⟩) (hu : 0 < u.numel) (t : Fin (N + 1)) (c : Fin C) :
    Host.reduceWindowAdd ![N + 1, 1] ![1, 1] ![N, 0] ![0, 0] x init h hu (ix2 t c) = ((∑ j ∈ Finset.range (t + 1), f j c : ℝ) : EReal) := by
  rw [window_sum x f hx init hi h hu t c]
  congr 1
  rw [← Finset.sum_filter]
  have := t.isLt
  refine Finset.sum_nbij' (fun n => t + n - N) (fun j => N - t + j) ?_ ?_ ?_ ?_ ?_
  · intro n hn
    simp only [Finset.mem_filter, Finset.mem_range] at hn ⊢
    omega
  · intro j hj
    simp only [Finset.mem_filter, Finset.mem_range] at hj ⊢
    omega
  · intro n hn
    simp only [Finset.mem_filter, Finset.mem_range] at hn ⊢
    omega
  · intro j hj
    simp only [Finset.mem_range] at hj ⊢
    omega
  · intro n _
    rfl

/-- The running sum from the bottom. -/
theorem cumsum_up {N C r : ℕ} {u : Shape} (x : FVec Ideal ⟨2, ![N, C]⟩ .f32) (f : ℕ → ℕ → ℝ) (hx : ∀ a b, x (ix2 a b) = ((f a.val b.val : ℝ) : EReal))
    (init : FVec Ideal u .f32) (hi : ∀ i, init i = 0)
    (h : (⟨2, ![N, C]⟩ : Shape).ReduceWindows ![N, 1] ![1, 1] ![0, 0] ![r, 0] ⟨2, ![N, C]⟩) (hu : 0 < u.numel) (t : Fin N) (c : Fin C) :
    Host.reduceWindowAdd ![N, 1] ![1, 1] ![0, 0] ![r, 0] x init h hu (ix2 t c) = ((∑ n ∈ Finset.range (N - t), f (t + n) c : ℝ) : EReal) := by
  rw [window_sum x f hx init hi h hu t c]
  congr 1
  rw [← Finset.sum_filter]
  refine Finset.sum_congr ?_ fun n _ => by simp
  ext n
  simp only [Finset.mem_filter, Finset.mem_range]
  omega

/-- The difference of two running sums from the top is the sum of the last rows. -/
theorem down_sub (f : ℕ → ℝ) (t g : ℕ) (hg : 0 < g) :
    (∑ j ∈ Finset.range (t + 1), f j) - (if t < g then 0 else ∑ j ∈ Finset.range (t - g + 1), f j) = ∑ j ∈ Finset.range (min (t + 1) g), f (t - j) := by
  by_cases h : t < g
  · rw [if_pos h, sub_zero, min_eq_left (by omega)]
    rw [← Finset.sum_range_reflect]
    exact Finset.sum_congr rfl fun j _ => congrArg f (by omega)
  · rw [if_neg h, min_eq_right (by omega), ← Finset.sum_range_reflect (fun j => f (t - j)), sub_eq_iff_eq_add, add_comm (∑ j ∈ Finset.range g, _)]
    have e : t + 1 = (t - g + 1) + g := by omega
    rw [e, Finset.sum_range_add]
    congr 1
    refine Finset.sum_congr rfl fun j hj => congrArg f ?_
    have := Finset.mem_range.1 hj
    omega

/-- The running sum from the bottom of a row less the row `g` below, rows past the last counted as zero, is the sum of `g` rows. -/
theorem up_sub (f : ℕ → ℝ) (N t g : ℕ) (hf : ∀ s, N ≤ s → f s = 0) (ht : t < N) :
    ∑ n ∈ Finset.range (N - t), (-f (t + n + g) + f (t + n)) = ∑ j ∈ Finset.range g, f (t + j) := by
  rw [Finset.sum_add_distrib, Finset.sum_neg_distrib, neg_add_eq_sub, sub_eq_iff_eq_add]
  have e : ∑ n ∈ Finset.range (N - t), f (t + n) = ∑ n ∈ Finset.range (g + (N - t)), f (t + n) := by
    rw [add_comm g, Finset.sum_range_add]
    refine (left_eq_add).2 (Finset.sum_eq_zero fun n _ => hf _ (by omega))
  rw [e, Finset.sum_range_add]
  congr 1
  exact Finset.sum_congr rfl fun n _ => congrArg f (by omega)

end Mixer

end
-- ==== Proof.Forward.lean ====
/- The first half of a layer forward, as plain sums: the normed input, its projection, and the two mixers that read the projection's first
   columns (a gated short convolution and a windowed mean). -/
module

public import proofs.«01_k».proof.Proof.TailBack
public import proofs.«01_k».proof.Proof.Cumsum

@[expose] public section

noncomputable section

namespace Cert.Forward

open Idealize.ShloMosaic Mixer Cert.Tail

/-- What the half layer reads. -/
structure In where
  h : Fin 8192 → Fin 1024 → EReal
  g : Fin 1024 → EReal
  w : Fin 1024 → Fin 2560 → EReal
  cw : Fin 3 → Fin 256 → EReal
  pw : Fin 4 → Fin 64 → Fin 64 → EReal
  ps : Fin 256 → EReal

namespace In

variable (r : In)

/-- The normed input. -/
def xn (t : Fin 8192) : Fin 1024 → EReal := rms d1024 (r.h t) r.g
/-- The projection. -/
def pr (t : Fin 8192) : Fin 2560 → EReal := prod (r.xn t) r.w
/-- The same, by numbers. -/
def P (t c : ℕ) : EReal := if h : t < 8192 ∧ c < 2560 then r.pr ⟨t, h.1⟩ ⟨c, h.2⟩ else 0
/-- The gated product that the convolution reads. -/
def z (t c : ℕ) : EReal := r.P t (256 + c) * r.P t (512 + c)
/-- The same, `n` rows earlier (zero before the first row). -/
def zs (n t c : ℕ) : EReal := if t < n then 0 else r.z (t - n) c
/-- The short convolution. -/
def conv (t : ℕ) (c : Fin 256) : EReal := r.cw 2 c * r.z t c + r.cw 1 c * r.zs 1 t c + r.cw 0 c * r.zs 2 t c
/-- The mean of the last rows less the row itself. -/
def D (t c : ℕ) : EReal :=
  Ideal.div (∑ j ∈ Finset.range (min (t + 1) (Args.gw c)), r.P (t - j) (768 + c)) ((Args.cnt t c : ℝ) : EReal) - r.P t (768 + c)
/-- A group's small product. -/
def po (t : ℕ) (c : Fin 256) : EReal :=
  ∑ k : Fin 64, r.D t (64 * (c.val / 64) + k) * r.pw ⟨c.val / 64, by omega⟩ k ⟨c.val % 64, by omega⟩
/-- The two mixers' outputs side by side. -/
def yab (t : ℕ) (c : Fin 512) : EReal :=
  if h : c.val < 256 then r.P t c * r.conv t ⟨c.val, h⟩ else r.po t ⟨c.val - 256, by omega⟩ * r.ps ⟨c.val - 256, by omega⟩

theorem P_of (t : Fin 8192) (c : Fin 2560) : r.P t c = r.pr t c := dif_pos ⟨t.isLt, c.isLt⟩

/-- The pooled columns, sixteen rows earlier (zero before the first row). -/
def pux (m c : ℕ) : EReal := if m < 16 then 0 else r.P (m - 16) (768 + c)
/-- The last `n` of them. -/
def back (n m c : ℕ) : EReal := ∑ j ∈ Finset.range n, r.pux (m - j) c

theorem back_double (n m c : ℕ) : r.back n m c + r.back n (m - n) c = r.back (n + n) m c := by
  unfold back
  rw [Finset.sum_range_add]
  refine congrArg _ (Finset.sum_congr rfl fun j _ => ?_)
  rw [Nat.sub_sub]

/-- The last `n` values that exist. -/
theorem back_eq (n m c : ℕ) (hn : n ≤ 16) : r.back n (m + 16) c = ∑ j ∈ Finset.range (min (m + 1) n), r.P (m - j) (768 + c) := by
  have e : n = min (m + 1) n + (n - min (m + 1) n) := by omega
  unfold back
  conv_lhs => rw [e]
  rw [Finset.sum_range_add, Finset.sum_eq_zero (s := Finset.range (n - _)), add_zero]
  · refine Finset.sum_congr rfl fun j hj => ?_
    have hj := Finset.mem_range.mp hj
    rw [pux, if_neg (by omega), show m + 16 - j - 16 = m - j by omega]
  · intro j hj
    have hj := Finset.mem_range.mp hj
    rw [pux, if_pos (by omega)]

/-- What has to be a real number: the gains, and the weights of the columns that are pooled. -/
structure Finite : Prop where
  g : ∀ k, IsReal (r.g k)
  w : ∀ (k : Fin 1024) (c : Fin 256), IsReal (r.w k ⟨768 + c.val, by omega⟩)

end In

/-- A square is not negative. -/
theorem square_nonneg (x : EReal) : 0 ≤ x * x := by
  induction x using EReal.rec with
  | bot => exact le_top
  | top => exact le_top
  | coe y => exact (EReal.coe_mul y y) ▸ EReal.coe_nonneg.2 (mul_self_nonneg y)

/-- A norm is a real number whatever the row is: an infinite entry makes the root's reciprocal zero. -/
theorem rms_real {x g : Fin 1024 → EReal} (hg : ∀ k, IsReal (g k)) (b : Fin 1024) : IsReal (rms d1024 x g b) := by
  by_cases hx : ∀ k, IsReal (x k)
  · exact IsReal.rms d1024_coe (by norm_num) hx hg b
  · obtain ⟨k, hk⟩ := not_forall.1 hx
    have hs : x k * x k = ⊤ := by
      generalize x k = y at hk
      induction y using EReal.rec with
      | bot => rfl
      | top => rfl
      | coe y => exact absurd ⟨y, rfl⟩ hk
    have ht : ∑ k, x k * x k = ⊤ :=
      top_le_iff.1 (hs ▸ Finset.single_le_sum (f := fun k => x k * x k) (fun i _ => square_nonneg _) (Finset.mem_univ k))
    refine ⟨0, ?_⟩
    have hd : Ideal.div ⊤ d1024 + Tail.eps = ⊤ := by
      rw [d1024_coe, Ideal.div, if_neg (by norm_num), ← EReal.coe_inv, EReal.top_mul_coe_of_pos (by norm_num), eps_coe, EReal.top_add_coe]
    rw [rms, ht, hd, show Ideal.rsqrt ⊤ = 0 from rfl, mul_zero, zero_mul]
    rfl

namespace In

variable {r : In} (H : r.Finite)
include H

theorem pool_real (t : Fin 8192) (c : Fin 256) : IsReal (r.P t (768 + c)) := by
  have e : r.P t (768 + c) = r.pr t ⟨768 + c.val, by omega⟩ := r.P_of t ⟨768 + c.val, by omega⟩
  rw [e]
  exact IsReal.sum fun k => (rms_real H.g k).mul (H.w k c)

theorem pool_coe (t : ℕ) (ht : t < 8192) (c : Fin 256) : r.P t (768 + c) = (((r.P t (768 + c)).toReal : ℝ) : EReal) := by
  obtain ⟨y, hy⟩ := pool_real H ⟨t, ht⟩ c
  have hy : r.P t (768 + c) = y := hy
  rw [hy]; rfl

/-- The difference of two running sums, over the count, less the row itself. -/
theorem diff_of (t g : ℕ) (c : Fin 256) (ht : t < 8192) (hg : Args.gw c = g) {X M U : EReal} {Y : ¬t < g → EReal}
    (hX : X = ((∑ j ∈ Finset.range (t + 1), (r.P j (768 + c)).toReal : ℝ) : EReal))
    (hY : ∀ h, Y h = ((∑ j ∈ Finset.range (t - g + 1), (r.P j (768 + c)).toReal : ℝ) : EReal))
    (hM : M = ((Args.cnt t c : ℝ) : EReal)) (hU : U = r.P t (768 + c)) :
    Ideal.div (X - if h : t < g then 0 else Y h) M - U = r.D t c := by
  have e : (if h : t < g then 0 else Y h) = ((if t < g then 0 else ∑ j ∈ Finset.range (t - g + 1), (r.P j (768 + c)).toReal : ℝ) : EReal) := by
    by_cases h : t < g
    · rw [dif_pos h, if_pos h]; rfl
    · rw [dif_neg h, if_neg h, hY h]
  rw [e, hX, hM, hU, ← EReal.coe_sub, down_sub (fun j => (r.P j (768 + c)).toReal) t g (hg ▸ Args.gw_pos c), ← coe_sum, D, hg]
  refine congrArg (fun x => Ideal.div x _ - _) (Finset.sum_congr rfl fun j _ => ?_)
  exact (pool_coe H (t - j) (by omega) c).symm

end In

end Cert.Forward

end
-- ==== Proof.ForwardRows.lean ====
/- The forward call's steps on a block of tokens, entry by entry: the normed input, its projection, and the two mixers. -/
module

public import proofs.«01_k».proof.Proof.Forward
public import proofs.«01_k».proof.Proof.Block
public import proofs.«01_k».proof.Proof.Gen.KernelForwardIdeal.Skeleton
public import proofs.«01_k».proof.Proof.Windows
public import Idealize.ShloMosaic.Lib.Pointwise
public import Idealize.ShloMosaic.Lib.Pipeline.ValueKit

@[expose] public section

set_option maxRecDepth 16384

noncomputable section

namespace Cert.KernelForwardIdeal.Rows

open Idealize.ShloMosaic Idealize.ShloMosaic.TcCoe
open Cert.KernelForwardIdeal.Gen Cert.Forward Cert.Tail Cert.Windows Mixer
open Cert.KernelIdeal.Block (select_group toInt_ofNat)

/-- The weight's columns that the mixers' projection takes, and those of queries, keys and values. -/
abbrev wMix (x : FVec Ideal S1024x2560 .bf16) : FVec Ideal S1024x1024 .bf16 :=
  VecWindow.window (s := S1024x2560) x ![0, 0] ![1024, 1024] inb_S1024x2560_S1024x1024_0_0
abbrev wQkv (x : FVec Ideal S1024x2560 .bf16) : FVec Ideal S1024x1536 .bf16 :=
  VecWindow.window (s := S1024x2560) x ![0, 1024] ![1024, 1536] inb_S1024x2560_S1024x1536_0_1024

/-- A block of tokens, its gains and weights, as the half layer's numbers. -/
structure Reads (r : In) (B : ℕ) (x0 : FVec Ideal S512x1024 .f32) (x1 : FVec Ideal S1x1024 .f32) (x2 : FVec Ideal S1024x2560 .bf16) : Prop where
  block_lt : B < 16
  h (a : Fin 512) (b : Fin 1024) : x0 (ix2 a b) = r.h ⟨512 * B + a, by omega⟩ b
  g (a : Fin 1) (b : Fin 1024) : x1 (ix2 a b) = r.g b
  w (a : Fin 1024) (b : Fin 2560) : x2 (ix2 a b) = r.w a b

namespace Reads

variable {r : In} {B : ℕ} {x0 : FVec Ideal S512x1024 .f32} {x1 : FVec Ideal S1x1024 .f32} {x2 : FVec Ideal S1024x2560 .bf16} (H : Reads r B x0 x1 x2)
include H

theorem xn (a : Fin 512) (b : Fin 1024) : k0_pay3 (F := Ideal) x0 x1 (ix2 a b) = r.xn ⟨512 * B + a, by have := H.block_lt; omega⟩ b := by
  pointwise [k0_pay3]
  simp only [H.h, H.g]
  rfl

theorem P_at (a : Fin 512) (c : ℕ) (hc : c < 2560) : r.P (512 * B + a) c = r.pr ⟨512 * B + a, by have := H.block_lt; omega⟩ ⟨c, hc⟩ :=
  r.P_of ⟨512 * B + a, by have := H.block_lt; omega⟩ ⟨c, hc⟩

theorem mix (a : Fin 512) (b : Fin 1024) : k0_pay4 (F := Ideal) x0 x1 (wMix x2) (ix2 a b) = r.P (512 * B + a) b := by
  rw [H.P_at a b (by omega)]
  pointwise [k0_pay4]
  unfold In.pr prod
  exact Finset.sum_congr rfl fun k _ => congrArg₂ (· * ·) (H.xn a k) (((window_cols x2 0 _ k b (by omega)).trans (H.w _ _)).trans
    (congrArg (r.w k) (Fin.ext (Nat.zero_add b.val))))

theorem qkv' (a : Fin 512) (b : Fin 1536) : k0_pay5 (F := Ideal) x0 x1 (wQkv x2) (ix2 a b) = r.P (512 * B + a) (1024 + b) := by
  rw [H.P_at a (1024 + b) (by omega)]
  pointwise [k0_pay5]
  exact Finset.sum_congr rfl fun k _ => congrArg₂ (· * ·) (H.xn a k) ((window_cols x2 1024 _ k b (by omega)).trans (H.w _ _))

theorem qkv (a : Fin 512) (b : Fin 1536) : k0_pay6 (F := Ideal) x0 x1 (wQkv x2) (ix2 a b) = r.P (512 * B + a) (1024 + b) := by
  pointwise [k0_pay6]
  exact H.qkv' a b

theorem kv (b : Fin 1024) (a : Fin 512) : k0_pay7 (F := Ideal) x0 x1 (wQkv x2) (ix2 b a) = r.P (512 * B + a) (1536 + b) := by
  pointwise [k0_pay7]
  exact (H.qkv' a _).trans (congrArg (r.P _) (by dsimp only; omega))

theorem last (a : Fin 16) (b : Fin 1024) : k0_pay1 (F := Ideal) (k0_pay4 x0 x1 (wMix x2)) (ix2 a b) = r.P (512 * B + 496 + a) b := by
  pointwise [k0_pay1]
  exact (H.mix _ b).trans (congrArg (fun n => r.P n b) (by dsimp only; omega))

end Reads

/-- A block of the projection, the rows before it and the mixers' weights, as the half layer's numbers. -/
structure Mixes (r : In) (B : ℕ) (X : FVec Ideal S512x1024 .f32) (z : FVec Ideal S16x1024 .f32) (x3 : FVec Ideal S8x256 .f32)
    (x4 : FVec Ideal S256x256 .bf16) (x5 : FVec Ideal S1x256 .f32) : Prop where
  block_lt : B < 16
  pa (a : Fin 512) (b : Fin 1024) : X (ix2 a b) = r.P (512 * B + a) b
  halo (a : Fin 16) (b : Fin 1024) : z (ix2 a b) = if 512 * B + a.val < 16 then 0 else r.P (512 * B + a - 16) b
  taps (a : Fin 8) (b : Fin 256) (ha : a.val < 3) : x3 (ix2 a b) = r.cw ⟨a.val, ha⟩ b
  blocks (a b : Fin 256) : x4 (ix2 a b) = if a.val / 64 = b.val / 64 then r.pw ⟨a.val / 64, by omega⟩ ⟨a.val % 64, by omega⟩ ⟨b.val % 64, by omega⟩ else 0
  scale (a : Fin 1) (b : Fin 256) : x5 (ix2 a b) = r.ps b

/-- The block with the sixteen rows before it above, and sums of 2, 4, 8 and 16 rows. -/
def above (v : FVec Ideal S512x256 .f32) (z : FVec Ideal S16x256 .f32) : FVec Ideal S528x256 .f32 :=
  concatenate S528x256 0 [⟨S16x256, z⟩, ⟨S512x256, v⟩] concatenates_S16x256_S512x256_S528x256_d0
def up1 (v : FVec Ideal S528x256 .f32) : FVec Ideal S528x256 .f32 := dynamicRotate 0 1#32 none v rotates_S528x256_d0
def up2 (v : FVec Ideal S528x256 .f32) : FVec Ideal S528x256 .f32 := dynamicRotate 0 2#32 none v rotates_S528x256_d0
def sum2 (v : FVec Ideal S528x256 .f32) : FVec Ideal S528x256 .f32 := addf v (up1 v)
def sum4 (v : FVec Ideal S528x256 .f32) : FVec Ideal S528x256 .f32 := addf v (up2 v)
def sum8 (v : FVec Ideal S528x256 .f32) : FVec Ideal S528x256 .f32 := addf v (dynamicRotate 0 4#32 none v rotates_S528x256_d0)
def sum16 (v : FVec Ideal S528x256 .f32) : FVec Ideal S528x256 .f32 := addf v (dynamicRotate 0 8#32 none v rotates_S528x256_d0)

/-- The convolution's gated product and its rows above. -/
def gated (X : FVec Ideal S512x1024 .f32) : FVec Ideal S512x256 .f32 :=
  mulf (extractStridedSlice S512x256 ![0, 256] X slices_S512x1024_o0_256_S512x256) (extractStridedSlice S512x256 ![0, 512] X slices_S512x1024_o0_512_S512x256)
def gatedAbove (z : FVec Ideal S16x1024 .f32) : FVec Ideal S16x256 .f32 :=
  mulf (extractStridedSlice S16x256 ![0, 256] z slices_S16x1024_o0_256_S16x256) (extractStridedSlice S16x256 ![0, 512] z slices_S16x1024_o0_512_S16x256)
/-- A tap spread over the rows. -/
def tap2 (x3 : FVec Ideal S8x256 .f32) : FVec Ideal S512x256 .f32 :=
  broadcastTo S512x256 (extractStridedSlice S1x256 ![2, 0] (shapeCast S8x256 x3 shapeCasts_S8x256_S8x256) slices_S8x256_o2_0_S1x256) broadcasts_S1x256_S512x256
def tap1 (x3 : FVec Ideal S8x256 .f32) : FVec Ideal S512x256 .f32 :=
  broadcastTo S512x256 (extractStridedSlice S1x256 ![1, 0] (shapeCast S8x256 x3 shapeCasts_S8x256_S8x256) slices_S8x256_o1_0_S1x256) broadcasts_S1x256_S512x256
def tap0 (x3 : FVec Ideal S8x256 .f32) : FVec Ideal S512x256 .f32 :=
  broadcastTo S512x256 (extractStridedSlice S1x256 ![0, 0] (shapeCast S8x256 x3 shapeCasts_S8x256_S8x256) slices_S8x256_o0_0_S1x256) broadcasts_S1x256_S512x256
/-- The rows from the seventeenth on. -/
def tail (v : FVec Ideal S528x256 .f32) : FVec Ideal S512x256 .f32 := extractStridedSlice S512x256 ![16, 0] v slices_S528x256_o16_0_S512x256

theorem pay9_eq (X : FVec Ideal S512x1024 .f32) (z : FVec Ideal S16x1024 .f32) (x3 : FVec Ideal S8x256 .f32) : k0_pay9 (F := Ideal) X z x3
    = mulf (extractStridedSlice S512x256 ![0, 0] X slices_S512x1024_o0_0_S512x256)
        (addf (addf (mulf (tap2 x3) (gated X)) (mulf (tap1 x3) (tail (up1 (above (gated X) (gatedAbove z)))))) (mulf (tap0 x3) (tail (up2 (above (gated X) (gatedAbove z)))))) := rfl

/-- The number of rows a window holds. -/
def count (v67 : FVec Ideal S512x1 .f32) (v70 v72 : IVec S1x256 1) (v77 : IVec S1x256 32) : FVec Ideal S512x256 .f32 :=
  minimumf (broadcastTo S512x256 v67 broadcasts_S512x1_S512x256)
    (broadcastTo S512x256 (sitofp .f32 (select v70 (broadcast S1x256 2#32) (select v72 (broadcast S1x256 4#32) v77))) broadcasts_S1x256_S512x256)
/-- Of the four sums the one for a column's group. -/
def pick (e2 e4 e8 e16 : FVec Ideal S528x256 .f32) : FVec Ideal S528x256 .f32 :=
  have col : IVec S1x256 32 := iota .tc S1x256 32 [1] iota_S1x256_d1_w32
  have under (k : BitVec 32) : IVec S528x256 1 :=
    broadcastTo S528x256 (shapeCast S1x256 (cmpi .slt col (broadcast S1x256 k)) shapeCasts_S1x256_S1x256) broadcasts_S1x256_S528x256
  select (under 64#32) e2 (select (under 128#32) e4 (select (under 192#32) e8 e16))
/-- The pooled differences. -/
def diff (v37 : FVec Ideal S512x256 .f32) (u : FVec Ideal S528x256 .f32) (n : FVec Ideal S512x256 .f32) : FVec Ideal S512x256 .bf16 :=
  truncf .bf16 (subf (divf (tail (pick (sum2 u) (sum4 (sum2 u)) (sum8 (sum4 (sum2 u))) (sum16 (sum8 (sum4 (sum2 u)))))) n) v37) bitsLt_bf16_f32
/-- The small products, scaled. -/
def pooled (d : FVec Ideal S512x256 .bf16) (x4 : FVec Ideal S256x256 .bf16) (x5 : FVec Ideal S1x256 .f32) : FVec Ideal S512x256 .f32 :=
  mulf (matmul dot_S512x256_S256x256_S512x256_1_0_0_1_n_n none d (shapeCast S256x256 x4 shapeCasts_S256x256_S256x256) (constant S512x256 .f32 0x00000000#32))
    (broadcastTo S512x256 (shapeCast S1x256 x5 shapeCasts_S1x256_S1x256) broadcasts_S1x256_S512x256)
/-- Two blocks of 256 columns side by side. -/
def side (u0 u1 : FVec Ideal S512x256 .f32) : FVec Ideal S512x512 .f32 :=
  concatenate S512x512 1 [⟨S512x256, u0⟩, ⟨S512x256, u1⟩] concatenates_S512x256_S512x256_S512x512_d1

theorem pay15_eq (v37 v60 : FVec Ideal S512x256 .f32) (v61 : FVec Ideal S16x256 .f32) (v67 : FVec Ideal S512x1 .f32) (v70 v72 : IVec S1x256 1) (v77 : IVec S1x256 32)
    (x4 : FVec Ideal S256x256 .bf16) (x5 : FVec Ideal S1x256 .f32) :
    k0_pay15 (F := Ideal) v37 v60 v61 v67 v70 v72 v77 x4 x5 = side v60 (pooled (diff v37 (above v37 v61) (count v67 v70 v72 v77)) x4 x5) := rfl

/-- The two mixers' outputs of a block. -/
def outB (i : grid0.Coords) (X : FVec Ideal S512x1024 .f32) (z : FVec Ideal S16x1024 .f32) (x3 : FVec Ideal S8x256 .f32) (x4 : FVec Ideal S256x256 .bf16)
    (x5 : FVec Ideal S1x256 .f32) : FVec Ideal S512x512 .f32 :=
  k0_pay15 (k0_pay8 X) (k0_pay9 X z x3) (k0_pay10 z) (k0_pay11 (F := Ideal) (BitVec.ofNat 32 (i 0).val)) k0_pay12 k0_pay13 k0_pay14 x4 x5

/-- A sum over 256 columns of which only one group of 64 counts. -/
theorem sum_group (F : Fin 256 → EReal) (q : ℕ) (hq : q < 4) (h : ∀ x : Fin 256, x.val / 64 ≠ q → F x = 0) :
    ∑ x : Fin 256, F x = ∑ k : Fin 64, F ⟨64 * q + k, by omega⟩ := by
  obtain ⟨G, hG⟩ : ∃ G : ℕ → EReal, ∀ x : Fin 256, F x = G x := ⟨fun n => if h : n < 256 then F ⟨n, h⟩ else 0, fun x => by
    dsimp only
    rw [dif_pos x.isLt]⟩
  have h' : ∀ n : ℕ, n < 256 → n / 64 ≠ q → G n = 0 := fun n hn hd => (hG ⟨n, hn⟩).symm.trans (h ⟨n, hn⟩ hd)
  rw [Finset.sum_congr rfl fun (k : Fin 64) _ => hG ⟨64 * q + k, by omega⟩, Finset.sum_congr rfl fun x _ => hG x]
  rw [Fin.sum_univ_eq_sum_range, Fin.sum_univ_eq_sum_range (fun k => G (64 * q + k)),
    show 256 = 64 * q + 64 + (192 - 64 * q) by omega, Finset.sum_range_add, Finset.sum_range_add, Finset.sum_eq_zero (s := Finset.range (64 * q)), zero_add,
    Finset.sum_eq_zero (s := Finset.range (192 - 64 * q)), add_zero]
  · intro x hx
    have hx := Finset.mem_range.mp hx
    exact h' _ (by omega) (by omega)
  · intro x hx
    have hx := Finset.mem_range.mp hx
    exact h' _ (by omega) (by omega)

theorem gw_le (b : Fin 256) : Args.gw b ≤ 16 := Cert.KernelIdeal.Block.Reads.gw_le b

namespace Mixes

variable {r : In} {B : ℕ} {X : FVec Ideal S512x1024 .f32} {z : FVec Ideal S16x1024 .f32} {x3 : FVec Ideal S8x256 .f32} {x4 : FVec Ideal S256x256 .bf16}
  {x5 : FVec Ideal S1x256 .f32} (H : Mixes r B X z x3 x4 x5)
include H

theorem gated_eq (a : Fin 512) (b : Fin 256) : gated X (ix2 a b) = r.z (512 * B + a) b := by
  pointwise [gated]
  exact congrArg₂ (· * ·) (H.pa _ _) (H.pa _ _)

theorem gatedAbove_eq (a : Fin 16) (b : Fin 256) : gatedAbove z (ix2 a b) = if 512 * B + a.val < 16 then 0 else r.z (512 * B + a - 16) b := by
  pointwise [gatedAbove]
  refine (congrArg₂ (· * ·) (H.halo _ _) (H.halo _ _)).trans ?_
  by_cases h : 512 * B + a.val < 16
  · simp only [if_pos h]; exact zero_mul _
  · simp only [if_neg h]; rfl

theorem zx (a : Fin 528) (b : Fin 256) : above (gated X) (gatedAbove z) (ix2 a b) = r.zs 16 (512 * B + a) b := by
  pointwise [above]
  unfold In.zs
  split
  · rename_i h
    exact H.gatedAbove_eq ⟨a.val, h⟩ b
  · rename_i h
    have e : 512 * B + (a.val - 16) = 512 * B + a.val - 16 := by omega
    exact (H.gated_eq _ b).trans ((congrArg (fun n => r.z n b) e).trans (if_neg (by omega)).symm)

theorem z1 (a : Fin 512) (b : Fin 256) : tail (up1 (above (gated X) (gatedAbove z))) (ix2 a b) = r.zs 1 (512 * B + a) b := by
  have ha := a.isLt
  pointwise [tail, up1]
  refine (H.zx _ b).trans ?_
  show r.zs 16 (512 * B + (16 + a.val + 528 - 1) % 528) b = _
  rw [show (16 + a.val + 528 - 1) % 528 = a.val + 15 by omega, In.zs, In.zs]
  by_cases h : 512 * B + a.val < 1
  · rw [if_pos h, if_pos (by omega)]
  · rw [if_neg h, if_neg (by omega), show 512 * B + (a.val + 15) - 16 = 512 * B + a.val - 1 by omega]

theorem z2 (a : Fin 512) (b : Fin 256) : tail (up2 (above (gated X) (gatedAbove z))) (ix2 a b) = r.zs 2 (512 * B + a) b := by
  have ha := a.isLt
  pointwise [tail, up2]
  refine (H.zx _ b).trans ?_
  show r.zs 16 (512 * B + (16 + a.val + 528 - 2) % 528) b = _
  rw [show (16 + a.val + 528 - 2) % 528 = a.val + 14 by omega, In.zs, In.zs]
  by_cases h : 512 * B + a.val < 2
  · rw [if_pos h, if_pos (by omega)]
  · rw [if_neg h, if_neg (by omega), show 512 * B + (a.val + 14) - 16 = 512 * B + a.val - 2 by omega]

theorem tap2_eq (a : Fin 512) (b : Fin 256) : tap2 x3 (ix2 a b) = r.cw 2 b := by
  pointwise [tap2]
  exact H.taps 2 b (by decide)
theorem tap1_eq (a : Fin 512) (b : Fin 256) : tap1 x3 (ix2 a b) = r.cw 1 b := by
  pointwise [tap1]
  exact H.taps 1 b (by decide)
theorem tap0_eq (a : Fin 512) (b : Fin 256) : tap0 x3 (ix2 a b) = r.cw 0 b := by
  pointwise [tap0]
  exact H.taps 0 b (by decide)

theorem ya (a : Fin 512) (b : Fin 256) : k0_pay9 (F := Ideal) X z x3 (ix2 a b) = r.P (512 * B + a) b * r.conv (512 * B + a) b := by
  rw [pay9_eq]
  pointwise
  refine congrArg₂ (· * ·) (H.pa a ⟨b.val, by omega⟩) ?_
  exact congrArg₂ (· + ·) (congrArg₂ (· + ·) (congrArg₂ (· * ·) (H.tap2_eq a b) (H.gated_eq a b)) (congrArg₂ (· * ·) (H.tap1_eq a b) (H.z1 a b)))
    (congrArg₂ (· * ·) (H.tap0_eq a b) (H.z2 a b))

theorem pu (a : Fin 512) (b : Fin 256) : k0_pay8 (F := Ideal) X (ix2 a b) = r.P (512 * B + a) (768 + b) := by
  pointwise [k0_pay8]
  exact H.pa _ _

theorem pux (a : Fin 528) (b : Fin 256) : above (k0_pay8 X) (k0_pay10 z) (ix2 a b) = r.pux (512 * B + a) b := by
  pointwise [above, k0_pay10]
  unfold In.pux
  split
  · exact H.halo _ _
  · rename_i h
    have e : 512 * B + (a.val - 16) = 512 * B + a.val - 16 := by omega
    exact (H.pu _ b).trans ((congrArg (fun n => r.P n (768 + b)) e).trans (if_neg (by omega)).symm)

theorem back2 (a : Fin 528) (b : Fin 256) (h : 1 ≤ a.val) : sum2 (above (k0_pay8 X) (k0_pay10 z)) (ix2 a b) = r.back 2 (512 * B + a) b := by
  have ha := a.isLt
  pointwise [sum2, up1]
  refine (congrArg₂ (· + ·) (H.pux a b) (H.pux ⟨(a.val + 528 - 1) % 528, by omega⟩ b)).trans ?_
  show r.pux (512 * B + a) b + r.pux (512 * B + (a.val + 528 - 1) % 528) b = _
  rw [In.back, Finset.sum_range_succ, Finset.sum_range_one, show 512 * B + (a.val + 528 - 1) % 528 = 512 * B + a - 1 by omega]
  rfl

theorem back4 (a : Fin 528) (b : Fin 256) (h : 3 ≤ a.val) : sum4 (sum2 (above (k0_pay8 X) (k0_pay10 z))) (ix2 a b) = r.back 4 (512 * B + a) b := by
  have ha := a.isLt
  pointwise [sum4, up2]
  refine (congrArg₂ (· + ·) (H.back2 a b (by omega)) (H.back2 ⟨(a.val + 528 - 2) % 528, by omega⟩ b (by dsimp only; omega))).trans ?_
  rw [← r.back_double 2]
  exact congrArg (fun n => r.back 2 (512 * B + a) b + r.back 2 n b) (by dsimp only; omega)

theorem back8 (a : Fin 528) (b : Fin 256) (h : 7 ≤ a.val) : sum8 (sum4 (sum2 (above (k0_pay8 X) (k0_pay10 z)))) (ix2 a b) = r.back 8 (512 * B + a) b := by
  have ha := a.isLt
  pointwise [sum8]
  refine (congrArg₂ (· + ·) (H.back4 a b (by omega)) (H.back4 ⟨(a.val + 528 - 4) % 528, by omega⟩ b (by dsimp only; omega))).trans ?_
  rw [← r.back_double 4]
  exact congrArg (fun n => r.back 4 (512 * B + a) b + r.back 4 n b) (by dsimp only; omega)

theorem back16 (a : Fin 528) (b : Fin 256) (h : 15 ≤ a.val) :
    sum16 (sum8 (sum4 (sum2 (above (k0_pay8 X) (k0_pay10 z))))) (ix2 a b) = r.back 16 (512 * B + a) b := by
  have ha := a.isLt
  pointwise [sum16]
  refine (congrArg₂ (· + ·) (H.back8 a b (by omega)) (H.back8 ⟨(a.val + 528 - 8) % 528, by omega⟩ b (by dsimp only; omega))).trans ?_
  rw [← r.back_double 8]
  exact congrArg (fun n => r.back 8 (512 * B + a) b + r.back 8 n b) (by dsimp only; omega)

/-- The running sums in the form the difference takes them. -/
theorem picked (a : Fin 512) (b : Fin 256) :
    tail (pick (sum2 (above (k0_pay8 X) (k0_pay10 z))) (sum4 (sum2 (above (k0_pay8 X) (k0_pay10 z)))) (sum8 (sum4 (sum2 (above (k0_pay8 X) (k0_pay10 z)))))
      (sum16 (sum8 (sum4 (sum2 (above (k0_pay8 X) (k0_pay10 z))))))) (ix2 a b)
      = ∑ j ∈ Finset.range (min (512 * B + a.val + 1) (Args.gw b)), r.P (512 * B + a - j) (768 + b) := by
  have e2 := H.back2 ⟨16 + a.val, by omega⟩ b (by dsimp only; omega)
  have e4 := H.back4 ⟨16 + a.val, by omega⟩ b (by dsimp only; omega)
  have e8 := H.back8 ⟨16 + a.val, by omega⟩ b (by dsimp only; omega)
  have e16 := H.back16 ⟨16 + a.val, by omega⟩ b (by dsimp only; omega)
  pointwise [tail, pick]
  refine (Eq.trans (congrArg₂ (Scalar.select _) e2 (congrArg₂ (Scalar.select _) e4 (congrArg₂ (Scalar.select _) e8 e16)))
    (select_group b (fun n => r.back n (512 * B + (16 + a.val)) b))).trans ?_
  rw [show 512 * B + (16 + a.val) = 512 * B + a.val + 16 by omega, r.back_eq _ _ _ (gw_le b)]

/-- The count. -/
theorem count_eq (i : grid0.Coords) (hi : (i 0).val = B) (a : Fin 512) (b : Fin 256) :
    count (k0_pay11 (F := Ideal) (BitVec.ofNat 32 (i 0).val)) k0_pay12 k0_pay13 k0_pay14 (ix2 a b) = ((Args.cnt (512 * B + a) b : ℝ) : EReal) := by
  pointwise [count, k0_pay11, k0_pay12, k0_pay13, k0_pay14]
  have ha := a.isLt
  have hB := H.block_lt
  have e : IntOp.addi (Scalar.addi (Scalar.muli (BitVec.ofNat 32 (i 0).val) 512#32) 1#32) (BitVec.ofNat 32 a.val) = BitVec.ofNat 32 (512 * B + a.val + 1) := by
    rw [hi]
    apply BitVec.eq_of_toNat_eq
    show (BitVec.ofNat 32 B * 512#32 + 1#32 + BitVec.ofNat 32 a.val).toNat = _
    simp only [BitVec.toNat_add, BitVec.toNat_mul, BitVec.toNat_ofNat]
    omega
  have hg := gw_le b
  rw [e, select_group b (fun n => BitVec.ofNat 32 n)]
  show min (((BitVec.ofNat 32 (512 * B + a.val + 1)).toInt : ℝ) : EReal) (((BitVec.ofNat 32 (Args.gw b)).toInt : ℝ) : EReal) = _
  rw [toInt_ofNat _ (by omega), toInt_ofNat _ (by omega), ← (EReal.coe_strictMono.monotone.map_min), Args.cnt, Nat.cast_min]
  norm_num

theorem diff_eq (i : grid0.Coords) (hi : (i 0).val = B) (a : Fin 512) (b : Fin 256) :
    diff (k0_pay8 X) (above (k0_pay8 X) (k0_pay10 z)) (count (k0_pay11 (F := Ideal) (BitVec.ofNat 32 (i 0).val)) k0_pay12 k0_pay13 k0_pay14) (ix2 a b)
      = r.D (512 * B + a) b :=
  congrArg₂ (· - ·) (congrArg₂ Ideal.div (H.picked a b) (H.count_eq i hi a b)) (H.pu a b)

theorem yb (i : grid0.Coords) (hi : (i 0).val = B) (a : Fin 512) (b : Fin 256) :
    pooled (diff (k0_pay8 X) (above (k0_pay8 X) (k0_pay10 z)) (count (k0_pay11 (F := Ideal) (BitVec.ofNat 32 (i 0).val)) k0_pay12 k0_pay13 k0_pay14)) x4 x5 (ix2 a b)
      = r.po (512 * B + a) b * r.ps b := by
  pointwise [pooled]
  refine congrArg₂ (· * ·) ?_ (H.scale 0 b)
  simp only [H.diff_eq i hi, H.blocks]
  rw [sum_group _ (b.val / 64) (by omega), In.po]
  · refine Finset.sum_congr rfl fun k _ => ?_
    have hk := k.isLt
    rw [if_pos (by dsimp only; omega)]
    have e1 : (64 * (b.val / 64) + k.val) / 64 = b.val / 64 := by omega
    have e2 : (64 * (b.val / 64) + k.val) % 64 = k.val := by omega
    exact congrArg (fun x : EReal => r.D (512 * B + a) (64 * (b.val / 64) + k) * x)
      (congrArg₂ (fun p q => r.pw p q ⟨b.val % 64, by omega⟩) (Fin.ext e1) (Fin.ext e2))
  · intro x hx
    rw [if_neg hx, mul_zero]

theorem out (i : grid0.Coords) (hi : (i 0).val = B) (a : Fin 512) (b : Fin 512) : outB i X z x3 x4 x5 (ix2 a b) = r.yab (512 * B + a) b := by
  unfold outB
  rw [pay15_eq]
  pointwise [side]
  unfold In.yab
  split
  · exact H.ya a _
  · exact H.yb i hi a _

end Mixes

end Cert.KernelForwardIdeal.Rows

end
-- ==== Proof.ForwardPoints.lean ====
/- The forward call, point by point: what a point leaves in its blocks, and the last rows that it keeps for the next one. -/
module

public import proofs.«01_k».proof.Proof.ForwardRows
public import proofs.«01_k».proof.Proof.Gen.KernelForwardIdeal.Frame
public import Idealize.ShloMosaic.Lib.Pipeline.Value
public import Idealize.ShloMosaic.Lib.Pipeline.ValueKit

@[expose] public section

set_option maxRecDepth 16384

noncomputable section

namespace Cert.KernelForwardIdeal.Points

open Idealize.ShloMosaic Idealize.ShloMosaic.TcCoe Idealize.SL.Sem
open Cert.KernelForwardIdeal.Gen Cert.KernelForwardIdeal.Rows Cert.Windows

variable (m : (ℓ : Loc nD τ sig) → Buf (Elt Ideal) ℓ) (c : Dev nD)

/-- A block of the projection's first columns. -/
abbrev mixB (t : Fin cfg0.N) : FVec Ideal S512x1024 .f32 := k0_pay4 (iblk m c 0 t) (iblk m c 1 t) (wMix (iblk m c 2 t))

/-- What a point leaves, out of its blocks and of the rows kept before it. -/
abbrev left (t : Fin cfg0.N) (z : FVec Ideal S16x1024 .f32) : Vec Ideal S512x1024 .bf16 × Vec Ideal S512x1024 .f32 × Vec Ideal S512x1536 .bf16
    × Vec Ideal S1024x512 .bf16 × Vec Ideal S512x512 .f32 × Vec Ideal S16x1024 .f32 :=
  (k0_pay3 (iblk m c 0 t) (iblk m c 1 t), mixB m c t, k0_pay6 (iblk m c 0 t) (iblk m c 1 t) (wQkv (iblk m c 2 t)),
    k0_pay7 (iblk m c 0 t) (iblk m c 1 t) (wQkv (iblk m c 2 t)), outB (grid0.coords t) (mixB m c t) z (iblk m c 3 t) (iblk m c 4 t) (iblk m c 5 t),
    k0_pay1 (mixB m c t))

/-- Equal parts make equal lists of six. -/
theorem six {A0 A1 A2 A3 A4 A5 : Type} {a0 b0 : A0} {a1 b1 : A1} {a2 b2 : A2} {a3 b3 : A3} {a4 b4 : A4} {a5 b5 : A5} (h0 : a0 = b0) (h1 : a1 = b1)
    (h2 : a2 = b2) (h3 : a3 = b3) (h4 : a4 = b4) (h5 : a5 = b5) : (a0, a1, a2, a3, a4, a5) = (b0, b1, b2, b3, b4, b5) := by
  subst h0 h1 h2 h3 h4 h5; rfl

/-- The first point has zeros before it. -/
theorem outs_A (t : Fin cfg0.N) (h0 : t.val % 16 = 0) : outsAt0 m c t.val t.isLt = left m c t k0_pay2 := by
  refine (outsAt0_A m c t h0).trans (six ?_ ?_ ?_ ?_ ?_ ?_)
  all_goals
    first
      | unfold out0_A_6 | unfold out0_A_7 | unfold out0_A_8 | unfold out0_A_9 | unfold out0_A_10 | unfold sout0_A_0
    try unfold kernelRun0_A
    try dsimp only
    try sl_unfold_words
    try simp only [ld_win, ld_cov, st_put, st_whole, View.writes_nil, Memref.IsWhole.read_unread]
    try simp only [window_whole, put_whole]
    try rfl

/-- A later point finds the rows that the one before it kept. -/
theorem outs_B (t : Fin cfg0.N) (h0 : ¬t.val % 16 = 0) :
    outsAt0 m c t.val t.isLt = left m c t (outsAt0 m c (t.val - 1) (Nat.lt_of_le_of_lt (Nat.sub_le _ _) t.isLt)).2.2.2.2.2 := by
  refine (outsAt0_B m c t h0).trans ?_
  generalize (outsAt0 m c (t.val - 1) (Nat.lt_of_le_of_lt (Nat.sub_le _ _) t.isLt)).2.2.2.2.2 = z
  refine six ?_ ?_ ?_ ?_ ?_ ?_
  all_goals
    generalize (Memref.isWhole_whole cc0_scratch0) = p0
    revert p0
    change ∀ (p0 : scM0_0.IsWhole), _
    generalize scM0_0 = s0
    intro p0
    first
      | unfold out0_B_6 | unfold out0_B_7 | unfold out0_B_8 | unfold out0_B_9 | unfold out0_B_10 | unfold sout0_B_0
    try unfold kernelRun0_B
    try dsimp only
    try sl_unfold_words
    try simp only [ld_win, ld_cov, st_put, st_whole, View.writes_nil, Memref.IsWhole.read_unread]
    try simp only [window_whole, put_whole]
    try rfl

end Cert.KernelForwardIdeal.Points

end
-- ==== Proof.Ref.lean ====
/- The intermediate arrays of the reference out of finite arguments, entry by entry as the model's numbers: the projection, the
   convolution and the pooled differences. -/
module

public import proofs.«01_k».proof.Proof.Gen.ReferenceIdeal.Run
public import proofs.«01_k».proof.Proof.Given
public import proofs.«01_k».proof.Proof.Cumsum
public import Idealize.ShloMosaic.Lib.Pipeline.ValueKit
public import Idealize.ShloMosaic.Lib.StableHlo.ReadAt

@[expose] public section

set_option maxRecDepth 16384

noncomputable section

namespace Cert.ReferenceIdeal.Model

open Idealize.ShloMosaic Idealize.ShloMosaic.TcCoe
open Cert.ReferenceIdeal Cert.ReferenceIdeal.Gen Cert.ReferenceIdeal.Value Mixer

variable {A : Args} {V : Valuation τ sig (Elt Ideal)}

/-- The reference's arguments as the model's numbers. -/
abbrev GivenIn (A : Args) (V : Valuation τ sig (Elt Ideal)) : Prop :=
  Given A (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

theorem dite_coe (p : Prop) [Decidable p] (x : p → EReal) (y : ℝ) (hx : ∀ h, x h = ((y : ℝ) : EReal)) :
    (if h : p then x h else 0) = ((if p then y else 0 : ℝ) : EReal) := by
  by_cases h : p
  · rw [dif_pos h, if_pos h, hx h]
  · rw [dif_neg h, if_neg h]
    rfl

theorem zero_dite_coe (p : Prop) [Decidable p] (x : ¬p → EReal) (y : ℝ) (hx : ∀ h, x h = ((y : ℝ) : EReal)) :
    (if h : p then 0 else x h) = ((if p then 0 else y : ℝ) : EReal) := by
  by_cases h : p
  · rw [dif_pos h, if_pos h]
    rfl
  · rw [dif_neg h, if_neg h, hx h]

theorem mul_coe {x y : EReal} {a b : ℝ} (hx : x = (a : EReal)) (hy : y = (b : EReal)) : x * y = ((a * b : ℝ) : EReal) := by
  rw [hx, hy, EReal.coe_mul]

theorem add_coe {x y : EReal} {a b : ℝ} (hx : x = (a : EReal)) (hy : y = (b : EReal)) : x + y = ((a + b : ℝ) : EReal) := by
  rw [hx, hy, EReal.coe_add]

theorem mul_coe_comm {x y : EReal} {a b : ℝ} (hx : x = (a : EReal)) (hy : y = (b : EReal)) : x * y = ((b * a : ℝ) : EReal) := by
  rw [hx, hy, mul_comm b, EReal.coe_mul]

theorem neg_coe {x : EReal} {a : ℝ} (hx : x = (a : EReal)) : -x = ((-a : ℝ) : EReal) := by
  rw [hx, EReal.coe_neg]

theorem sum_coe {n : ℕ} {f : Fin n → EReal} {g : Fin n → ℝ} (h : ∀ k, f k = ((g k : ℝ) : EReal)) : ∑ k, f k = ((∑ k, g k : ℝ) : EReal) :=
  (Finset.sum_congr rfl fun k _ => h k).trans (coe_sum _ _)

theorem real_eq {x : EReal} {a b : ℝ} (h : x = (a : EReal)) (e : a = b) : x = (b : EReal) := e ▸ h

/-- The number of rows a window of `w` rows counts at row `t`. -/
theorem count_word (t w : ℕ) (ht : t < 8192) (hw : w ≤ 16) :
    (FloatOps.sitofp (F := Ideal) FTy.f32 (IntOp.minsi (IntOp.addi (BitVec.ofNat 32 t) 1#32) (BitVec.ofNat 32 w)) : EReal) = ((min (t + 1) w : ℕ) : ℝ) := by
  have e : IntOp.minsi (IntOp.addi (BitVec.ofNat 32 t) 1#32) (BitVec.ofNat 32 w) = BitVec.ofNat 32 (min (t + 1) w) := by
    have e1 : IntOp.addi (BitVec.ofNat 32 t) 1#32 = BitVec.ofNat 32 (t + 1) := by
      apply BitVec.eq_of_toNat_eq
      show (BitVec.ofNat 32 t + 1#32).toNat = _
      simp only [BitVec.toNat_add, BitVec.toNat_ofNat]
      omega
    rw [e1]
    unfold IntOp.minsi
    have hs : (BitVec.ofNat 32 (t + 1)).slt (BitVec.ofNat 32 w) = decide (t + 1 < w) := by
      rw [BitVec.slt, BitVec.toInt_eq_toNat_of_lt, BitVec.toInt_eq_toNat_of_lt]
      · simp only [BitVec.toNat_ofNat]
        rw [Nat.mod_eq_of_lt (by omega), Nat.mod_eq_of_lt (by omega)]
        exact decide_eq_decide.2 Nat.cast_lt
      · simp only [BitVec.toNat_ofNat]; omega
      · simp only [BitVec.toNat_ofNat]; omega
    rw [hs]
    by_cases h : t + 1 < w
    · rw [if_pos (decide_eq_true h), min_eq_left h.le]
    · rw [if_neg (by simpa using h), min_eq_right (by omega)]
  rw [e]
  show (((BitVec.ofNat 32 (min (t + 1) w)).toInt : ℝ) : EReal) = _
  rw [BitVec.toInt_eq_toNat_of_lt (by simp only [BitVec.toNat_ofNat]; omega), BitVec.toNat_ofNat, Nat.mod_eq_of_lt (by omega)]
  norm_num

theorem gw_of (i c : ℕ) (h1 : 64 * i ≤ c) (h2 : c < 64 * i + 64) : Args.gw c = 2 ^ (i + 1) := by
  rw [Args.gw, show c / 64 = i by omega]

theorem diff_of (A : Args) (t g c : ℕ) (hg : Args.gw c = g) {X M U : EReal} {Y : ¬t < g → EReal}
    (hX : X = ((∑ j ∈ Finset.range (t + 1), A.pu j c : ℝ) : EReal)) (hY : ∀ h, Y h = ((∑ j ∈ Finset.range (t - g + 1), A.pu j c : ℝ) : EReal))
    (hM : M = ((Args.cnt t c : ℝ) : EReal)) (hU : U = ((A.pu t c : ℝ) : EReal)) :
    Ideal.div (X - if h : t < g then 0 else Y h) M - U = ((A.D t c : ℝ) : EReal) := by
  rw [zero_dite_coe _ _ _ hY, hX, hM, hU, ← EReal.coe_sub, down_sub (fun j => A.pu j c) t g (hg ▸ Args.gw_pos c), div_coe _ _ (Args.cnt_ne t c), ← EReal.coe_sub,
    Args.D, hg]

theorem group_dot (A : Args) (t i c : ℕ) (hc : c < 64) {f : Fin 64 → EReal}
    (hf : ∀ k : Fin 64, f k = ((A.D t (64 * i + k) * A.pw i k c : ℝ) : EReal)) : ∑ k, f k = ((A.po t (64 * i + c) : ℝ) : EReal) := by
  rw [sum_coe hf, Args.po, show (64 * i + c) / 64 = i by omega, show (64 * i + c) % 64 = c by omega]

theorem group_dot_back (A : Args) (t i c : ℕ) (hc : c < 64) {f : Fin 64 → EReal}
    (hf : ∀ k : Fin 64, f k = ((A.dys t (64 * i + k) * A.pw i c k : ℝ) : EReal)) : ∑ k, f k = ((A.dd t (64 * i + c) : ℝ) : EReal) := by
  rw [sum_coe hf, Args.dd, show (64 * i + c) / 64 = i by omega, show (64 * i + c) % 64 = c by omega]

theorem gw_group (i c : ℕ) (hc : c < 64) : Args.gw (64 * i + c) = 2 ^ (i + 1) := by
  rw [Args.gw, show (64 * i + c) / 64 = i by omega]

/-- One number placed in its group of columns, the groups added up. -/
theorem sum_groups (c : ℕ) (hc : c < 256) (y : ℝ) :
    ((((if 192 ≤ c ∧ c - 192 < 64 then y else 0) + if 128 ≤ c ∧ c - 128 < 64 then y else 0) + if 64 ≤ c ∧ c - 64 < 64 then y else 0)
      + if c < 64 then y else 0) = y := by
  rcases (by omega : c < 64 ∨ (64 ≤ c ∧ c < 128) ∨ (128 ≤ c ∧ c < 192) ∨ 192 ≤ c) with h | h | h | h
  · rw [if_neg (by omega), if_neg (by omega), if_neg (by omega), if_pos h]; ring
  · rw [if_neg (by omega), if_neg (by omega), if_pos (by omega), if_neg (by omega)]; ring
  · rw [if_neg (by omega), if_pos (by omega), if_neg (by omega), if_neg (by omega)]; ring
  · rw [if_pos (by omega), if_neg (by omega), if_neg (by omega), if_neg (by omega)]; ring

/-- Two numbers placed in their group of columns, the groups added up. -/
theorem sum_group_pairs (c : ℕ) (hc : c < 256) (x3 x2 x1 x0 x y : ℝ) (h3 : 192 ≤ c → x3 = x) (h2 : 128 ≤ c → c < 192 → x2 = x) (h1 : 64 ≤ c → c < 128 → x1 = x)
    (h0 : c < 64 → x0 = x) :
    ((((((((if 192 ≤ c ∧ c - 192 < 64 then x3 else 0) + if 192 ≤ c ∧ c - 192 < 64 then y else 0) + if 128 ≤ c ∧ c - 128 < 64 then x2 else 0)
      + if 128 ≤ c ∧ c - 128 < 64 then y else 0) + if 64 ≤ c ∧ c - 64 < 64 then x1 else 0) + if 64 ≤ c ∧ c - 64 < 64 then y else 0)
      + if c < 64 then x0 else 0) + if c < 64 then y else 0) = x + y := by
  rcases (by omega : c < 64 ∨ (64 ≤ c ∧ c < 128) ∨ (128 ≤ c ∧ c < 192) ∨ 192 ≤ c) with h | h | h | h
  · rw [h0 h, if_neg (by omega), if_neg (by omega), if_neg (by omega), if_neg (by omega), if_neg (by omega), if_neg (by omega), if_pos h, if_pos h]; ring
  · rw [h1 h.1 h.2, if_neg (by omega), if_neg (by omega), if_neg (by omega), if_neg (by omega), if_pos (by omega), if_pos (by omega), if_neg (by omega), if_neg (by omega)]; ring
  · rw [h2 h.1 h.2, if_neg (by omega), if_neg (by omega), if_pos (by omega), if_pos (by omega), if_neg (by omega), if_neg (by omega), if_neg (by omega), if_neg (by omega)]; ring
  · rw [h3 h, if_pos (by omega), if_pos (by omega), if_neg (by omega), if_neg (by omega), if_neg (by omega), if_neg (by omega), if_neg (by omega), if_neg (by omega)]; ring

theorem add_three (x : EReal) {a b c : EReal} {p q r s : ℝ} (ha : a = ((p : ℝ) : EReal)) (hb : b = ((q : ℝ) : EReal)) (hc : c = ((r : ℝ) : EReal)) (e : p + q + r = s) :
    x + a + b + c = x + ((s : ℝ) : EReal) := by
  rw [ha, hb, hc, ← e, EReal.coe_add, EReal.coe_add, add_assoc, add_assoc, add_assoc]

theorem norm_back (A : Args) (t c : ℕ) : A.dxn t c * A.g c * A.rs t
      + A.h t c * ((∑ k : Fin 1024, A.h t k * (A.dxn t k * A.g k)) * (-(1/2) * (A.rs t / A.ms t)) / 1024)
      + (∑ k : Fin 1024, A.h t k * (A.dxn t k * A.g k)) * (-(1/2) * (A.rs t / A.ms t)) / 1024 * A.h t c = A.dhr t c := by
  have hs : ∑ k : Fin 1024, A.dxn t k * A.g k * A.xh t k = A.rs t * ∑ k : Fin 1024, A.h t k * (A.dxn t k * A.g k) := by
    rw [Finset.mul_sum]
    exact Finset.sum_congr rfl fun k _ => by rw [Args.xh]; ring
  have hr : A.rs t / A.ms t = A.rs t * (A.rs t * A.rs t) := by
    rw [Args.rs, ← mul_inv, Real.mul_self_sqrt (A.ms_pos t).le, div_eq_mul_inv]
  rw [Args.dhr, hs, hr, Args.xh]
  ring

/-- An array and the model's gradient of the projection's input. -/
def plus (A : Args) (x : FVec Ideal S8192x1024 .f32) : FVec Ideal S8192x1024 .f32 := fun j => x j + ((A.dhr (j 0).val (j 1).val : ℝ) : EReal)

variable (H : GivenIn A V)
include H

theorem arg0 (a : Fin 8192) (b : Fin 1024) : (V (Proc.devRef .tc main_arg0) : FVec Ideal S8192x1024 .f32) (ix2 a b) = ((A.h a b : ℝ) : EReal) := H.h a b
theorem arg1 (a : Fin 1024) : (V (Proc.devRef .tc main_arg1) : FVec Ideal S1024 .f32) (ix1 a) = ((A.g a : ℝ) : EReal) := H.g a
theorem arg2 (a : Fin 1024) (b : Fin 2560) : (V (Proc.devRef .tc main_arg2) : FVec Ideal S1024x2560 .f32) (ix2 a b) = ((A.w a b : ℝ) : EReal) := H.w a b

theorem v6 (t : Fin 8192) (a : Fin 1) : (res_main_v6 V : FVec Ideal S8192x1 .f32) (ix2 t a) = ((A.ms t : ℝ) : EReal) := by
  unfold res_main_v6
  clean_types
  pointwise
  simp only [arg0 H, ← EReal.coe_mul, coe_sum]
  rw [c1024, ceps, div_coe _ _ (by norm_num), ← EReal.coe_add]
  rfl

theorem v7 (t : Fin 8192) (a : Fin 1) : (res_main_v7 V : FVec Ideal S8192x1 .f32) (ix2 t a) = ((A.rs t : ℝ) : EReal) := by
  unfold res_main_v7
  clean_types
  pointwise
  exact (congrArg Ideal.rsqrt (v6 H t a)).trans (rsqrt_coe _ (A.ms_pos t))

theorem v12 (t : Fin 8192) (c : Fin 1024) : (res_main_v12 V : FVec Ideal S8192x1024 .f32) (ix2 t c) = ((A.xh t c : ℝ) : EReal) := by
  unfold res_main_v12
  clean_types
  pointwise
  exact mul_coe (arg0 H t c) (v7 H t 0)

theorem v13 (a : Fin 1) (c : Fin 1024) : (res_main_v13 V : FVec Ideal S1x1024 .f32) (ix2 a c) = ((A.g c : ℝ) : EReal) := by
  unfold res_main_v13
  clean_types
  pointwise
  exact H.g c

theorem v16 (t : Fin 8192) (c : Fin 2560) : (res_main_v16 V : FVec Ideal S8192x2560 .f32) (ix2 t c) = ((A.P t c : ℝ) : EReal) := by
  unfold res_main_v16
  clean_types
  pointwise
  exact sum_coe fun k => mul_coe (mul_coe (v12 H t k) (v13 H 0 k)) (arg2 H k c)

theorem v21 (t : Fin 8192) (c : Fin 256) : (res_main_v21 V : FVec Ideal S8192x256 .f32) (ix2 t c) = ((A.P t c : ℝ) : EReal) := by
  unfold res_main_v21
  clean_types
  pointwise
  exact v16 H t _

theorem v22 (t : Fin 8192) (c : Fin 256) : (res_main_v22 V : FVec Ideal S8192x256 .f32) (ix2 t c) = ((A.P t (256 + c) : ℝ) : EReal) := by
  unfold res_main_v22
  clean_types
  pointwise
  exact v16 H t _

theorem v23 (t : Fin 8192) (c : Fin 256) : (res_main_v23 V : FVec Ideal S8192x256 .f32) (ix2 t c) = ((A.P t (512 + c) : ℝ) : EReal) := by
  unfold res_main_v23
  clean_types
  pointwise
  exact v16 H t _

theorem v24 (t : Fin 8192) (c : Fin 256) : (res_main_v24 V : FVec Ideal S8192x256 .f32) (ix2 t c) = ((A.pu t c : ℝ) : EReal) := by
  unfold res_main_v24
  clean_types
  pointwise
  exact v16 H t _

theorem v25 (t : Fin 8192) (c : Fin 256) : (res_main_v25 V : FVec Ideal S8192x256 .f32) (ix2 t c) = ((A.z t c : ℝ) : EReal) := by
  unfold res_main_v25
  clean_types
  pointwise
  exact mul_coe (v22 H t c) (v23 H t c)

theorem v28 (a : Fin 1) (c : Fin 256) : (res_main_v28 V : FVec Ideal S1x256 .f32) (ix2 a c) = ((A.cw 2 c : ℝ) : EReal) := by
  unfold res_main_v28
  clean_types
  pointwise
  exact H.cw 2 c

theorem v37 (a : Fin 1) (c : Fin 256) : (res_main_v37 V : FVec Ideal S1x256 .f32) (ix2 a c) = ((A.cw 1 c : ℝ) : EReal) := by
  unfold res_main_v37
  clean_types
  pointwise
  exact H.cw 1 c

theorem v47 (a : Fin 1) (c : Fin 256) : (res_main_v47 V : FVec Ideal S1x256 .f32) (ix2 a c) = ((A.cw 0 c : ℝ) : EReal) := by
  unfold res_main_v47
  clean_types
  pointwise
  exact H.cw 0 c

theorem v35 (t : Fin 8192) (c : Fin 256) : (res_main_v35 V : FVec Ideal S8192x256 .f32) (ix2 t c) = ((A.zs 1 t c : ℝ) : EReal) := by
  unfold res_main_v35
  clean_types
  pointwise
  exact zero_dite_coe _ _ _ fun h => v25 H _ c

theorem v45 (t : Fin 8192) (c : Fin 256) : (res_main_v45 V : FVec Ideal S8192x256 .f32) (ix2 t c) = ((A.zs 2 t c : ℝ) : EReal) := by
  unfold res_main_v45
  clean_types
  pointwise
  exact zero_dite_coe _ _ _ fun h => v25 H _ c

theorem v50 (t : Fin 8192) (c : Fin 256) : (res_main_v50 V : FVec Ideal S8192x256 .f32) (ix2 t c) = ((A.conv t c : ℝ) : EReal) := by
  unfold res_main_v50
  clean_types
  pointwise
  exact add_coe (add_coe (mul_coe (v28 H 0 c) (v25 H t c)) (mul_coe (v37 H 0 c) (v35 H t c))) (mul_coe (v47 H 0 c) (v45 H t c))

theorem v52 (t : Fin 8192) (c : Fin 256) : (res_main_v52 V : FVec Ideal S8192x256 .f32) (ix2 t c) = ((∑ j ∈ Finset.range (t + 1), A.pu j c : ℝ) : EReal) := by
  unfold res_main_v52
  clean_types
  exact cumsum_down (N := 8191) (res_main_v24 V) A.pu (v24 H) _ (fun i => by pointwise) _ _ t c

omit H in
theorem v53 (t : Fin 8192) : (res_main_v53 V : IVec S8192 32) (ix1 t) = BitVec.ofNat 32 t := by
  unfold res_main_v53
  clean_types
  pointwise

omit H in
theorem v59 (t : Fin 8192) (a : Fin 1) (c : Fin 64) : (res_main_v59 V : FVec Ideal S8192x1 .f32) (ix2 t a) = ((Args.cnt t c : ℝ) : EReal) := by
  unfold res_main_v59
  clean_types
  pointwise
  rw [v53 t, Args.cnt, gw_of 0 _ (by omega) (by omega)]
  exact count_word t 2 t.isLt (by norm_num)

theorem v72 (a b : Fin 64) : (res_main_v72 V : FVec Ideal S64x64 .f32) (ix2 a b) = ((A.pw 0 a b : ℝ) : EReal) := by
  unfold res_main_v72
  clean_types
  pointwise
  exact H.pw 0 a b

theorem v70 (t : Fin 8192) (c : Fin 64) : (res_main_v70 V : FVec Ideal S8192x64 .f32) (ix2 t c) = ((A.D t c : ℝ) : EReal) := by
  unfold res_main_v70
  clean_types
  pointwise
  exact diff_of A t 2 c (gw_of 0 _ (by omega) (by omega)) ((v52 H t _).trans (congrArg (fun c => (((∑ j ∈ Finset.range (t.val + 1), A.pu j c) : ℝ) : EReal)) (by first | rfl | omega | (dsimp only; omega))))
    (fun h => (v52 H _ _).trans (congrArg (fun c => (((∑ j ∈ Finset.range (t.val - 2 + 1), A.pu j c) : ℝ) : EReal)) (by first | rfl | omega | (dsimp only; omega)))) (v59 t 0 c)
    ((v24 H t _).trans (congrArg (fun c => (((A.pu t c) : ℝ) : EReal)) (by first | rfl | omega | (dsimp only; omega))))

omit H in
theorem v79 (t : Fin 8192) (a : Fin 1) (c : Fin 64) : (res_main_v79 V : FVec Ideal S8192x1 .f32) (ix2 t a) = ((Args.cnt t (64 * 1 + c) : ℝ) : EReal) := by
  unfold res_main_v79
  clean_types
  pointwise
  rw [v53 t, Args.cnt, gw_of 1 _ (by omega) (by omega)]
  exact count_word t 4 t.isLt (by norm_num)

theorem v92 (a b : Fin 64) : (res_main_v92 V : FVec Ideal S64x64 .f32) (ix2 a b) = ((A.pw 1 a b : ℝ) : EReal) := by
  unfold res_main_v92
  clean_types
  pointwise
  exact H.pw 1 a b

theorem v90 (t : Fin 8192) (c : Fin 64) : (res_main_v90 V : FVec Ideal S8192x64 .f32) (ix2 t c) = ((A.D t (64 * 1 + c) : ℝ) : EReal) := by
  unfold res_main_v90
  clean_types
  pointwise
  exact diff_of A t 4 (64 * 1 + c) (gw_of 1 _ (by omega) (by omega)) ((v52 H t _).trans (congrArg (fun c => (((∑ j ∈ Finset.range (t.val + 1), A.pu j c) : ℝ) : EReal)) (by first | rfl | omega | (dsimp only; omega))))
    (fun h => (v52 H _ _).trans (congrArg (fun c => (((∑ j ∈ Finset.range (t.val - 4 + 1), A.pu j c) : ℝ) : EReal)) (by first | rfl | omega | (dsimp only; omega)))) (v79 t 0 c)
    ((v24 H t _).trans (congrArg (fun c => (((A.pu t c) : ℝ) : EReal)) (by first | rfl | omega | (dsimp only; omega))))

omit H in
theorem v99 (t : Fin 8192) (a : Fin 1) (c : Fin 64) : (res_main_v99 V : FVec Ideal S8192x1 .f32) (ix2 t a) = ((Args.cnt t (64 * 2 + c) : ℝ) : EReal) := by
  unfold res_main_v99
  clean_types
  pointwise
  rw [v53 t, Args.cnt, gw_of 2 _ (by omega) (by omega)]
  exact count_word t 8 t.isLt (by norm_num)

theorem v112 (a b : Fin 64) : (res_main_v112 V : FVec Ideal S64x64 .f32) (ix2 a b) = ((A.pw 2 a b : ℝ) : EReal) := by
  unfold res_main_v112
  clean_types
  pointwise
  exact H.pw 2 a b

theorem v110 (t : Fin 8192) (c : Fin 64) : (res_main_v110 V : FVec Ideal S8192x64 .f32) (ix2 t c) = ((A.D t (64 * 2 + c) : ℝ) : EReal) := by
  unfold res_main_v110
  clean_types
  pointwise
  exact diff_of A t 8 (64 * 2 + c) (gw_of 2 _ (by omega) (by omega)) ((v52 H t _).trans (congrArg (fun c => (((∑ j ∈ Finset.range (t.val + 1), A.pu j c) : ℝ) : EReal)) (by first | rfl | omega | (dsimp only; omega))))
    (fun h => (v52 H _ _).trans (congrArg (fun c => (((∑ j ∈ Finset.range (t.val - 8 + 1), A.pu j c) : ℝ) : EReal)) (by first | rfl | omega | (dsimp only; omega)))) (v99 t 0 c)
    ((v24 H t _).trans (congrArg (fun c => (((A.pu t c) : ℝ) : EReal)) (by first | rfl | omega | (dsimp only; omega))))

omit H in
theorem v119 (t : Fin 8192) (a : Fin 1) (c : Fin 64) : (res_main_v119 V : FVec Ideal S8192x1 .f32) (ix2 t a) = ((Args.cnt t (64 * 3 + c) : ℝ) : EReal) := by
  unfold res_main_v119
  clean_types
  pointwise
  rw [v53 t, Args.cnt, gw_of 3 _ (by omega) (by omega)]
  exact count_word t 16 t.isLt (by norm_num)

theorem v132 (a b : Fin 64) : (res_main_v132 V : FVec Ideal S64x64 .f32) (ix2 a b) = ((A.pw 3 a b : ℝ) : EReal) := by
  unfold res_main_v132
  clean_types
  pointwise
  exact H.pw 3 a b

theorem v130 (t : Fin 8192) (c : Fin 64) : (res_main_v130 V : FVec Ideal S8192x64 .f32) (ix2 t c) = ((A.D t (64 * 3 + c) : ℝ) : EReal) := by
  unfold res_main_v130
  clean_types
  pointwise
  exact diff_of A t 16 (64 * 3 + c) (gw_of 3 _ (by omega) (by omega)) ((v52 H t _).trans (congrArg (fun c => (((∑ j ∈ Finset.range (t.val + 1), A.pu j c) : ℝ) : EReal)) (by first | rfl | omega | (dsimp only; omega))))
    (fun h => (v52 H _ _).trans (congrArg (fun c => (((∑ j ∈ Finset.range (t.val - 16 + 1), A.pu j c) : ℝ) : EReal)) (by first | rfl | omega | (dsimp only; omega)))) (v119 t 0 c)
    ((v24 H t _).trans (congrArg (fun c => (((A.pu t c) : ℝ) : EReal)) (by first | rfl | omega | (dsimp only; omega))))

theorem v134 (t : Fin 8192) (c : Fin 256) : (res_main_v134 V : FVec Ideal S8192x256 .f32) (ix2 t c) = ((A.po t c : ℝ) : EReal) := by
  unfold res_main_v134
  clean_types
  pointwise
  split
  · refine (group_dot A t 0 (c.val) (by omega) fun k => mul_coe (real_eq (v70 H t k) (congrArg (A.D t) (by omega : k.val = 64 * 0 + k.val))) (v72 H k _)).trans (congrArg (fun n => ((A.po t n : ℝ) : EReal)) (by omega))
  · skip
    split
    · refine (group_dot A t 1 (c.val - 64) (by omega) fun k => mul_coe (v90 H t k) (v92 H k _)).trans (congrArg (fun n => ((A.po t n : ℝ) : EReal)) (by omega))
    · skip
      split
      · refine (group_dot A t 2 (c.val - 64 - 64) (by omega) fun k => mul_coe (v110 H t k) (v112 H k _)).trans (congrArg (fun n => ((A.po t n : ℝ) : EReal)) (by omega))
      · skip
        refine (group_dot A t 3 (c.val - 64 - 64 - 64) (by omega) fun k => mul_coe (v130 H t k) (v132 H k _)).trans (congrArg (fun n => ((A.po t n : ℝ) : EReal)) (by omega))

theorem v135 (a : Fin 1) (c : Fin 256) : (res_main_v135 V : FVec Ideal S1x256 .f32) (ix2 a c) = ((A.ps c : ℝ) : EReal) := by
  unfold res_main_v135
  clean_types
  pointwise
  exact H.ps c

theorem v140 (t : Fin 8192) (c : Fin 512) : (res_main_v140 V : FVec Ideal S8192x512 .f32) (ix2 t c) = ((A.y t c : ℝ) : EReal) := by
  unfold res_main_v140
  clean_types
  pointwise
  exact H.y t c

theorem v142 (t : Fin 8192) (c : Fin 256) : (res_main_v142 V : FVec Ideal S8192x256 .f32) (ix2 t c) = ((A.y t c : ℝ) : EReal) := by
  unfold res_main_v142
  clean_types
  pointwise
  exact v140 H t _

theorem v143 (t : Fin 8192) (c : Fin 256) : (res_main_v143 V : FVec Ideal S8192x256 .f32) (ix2 t c) = ((A.y t (256 + c) : ℝ) : EReal) := by
  unfold res_main_v143
  clean_types
  pointwise
  exact v140 H t _

theorem v148 (t : Fin 8192) (c : Fin 256) : (res_main_v148 V : FVec Ideal S8192x256 .f32) (ix2 t c) = ((A.dys t c : ℝ) : EReal) := by
  unfold res_main_v148
  clean_types
  pointwise
  exact mul_coe (v143 H t c) (v135 H 0 c)

theorem v150 (t : Fin 8192) (c : Fin 64) : (res_main_v150 V : FVec Ideal S8192x64 .f32) (ix2 t c) = ((A.dys t c : ℝ) : EReal) := by
  unfold res_main_v150
  clean_types
  pointwise
  exact (v148 H t _).trans (congrArg (fun c => ((A.dys t c : ℝ) : EReal)) (by first | rfl | omega | (dsimp only; omega)))

theorem v210 (t : Fin 8192) (c : Fin 64) : (res_main_v210 V : FVec Ideal S8192x64 .f32) (ix2 t c) = ((A.dd t c : ℝ) : EReal) := by
  unfold res_main_v210
  clean_types
  pointwise
  exact real_eq (group_dot_back A t 0 c c.isLt fun k => mul_coe (real_eq (v150 H t k) (congrArg (A.dys t) (by omega : k.val = 64 * 0 + k.val))) (v72 H c k)) (congrArg (A.dd t) (by omega))

theorem v218 (t : Fin 8192) (c : Fin 64) : (res_main_v218 V : FVec Ideal S8192x64 .f32) (ix2 t c) = ((A.E t c : ℝ) : EReal) := by
  unfold res_main_v218
  clean_types
  pointwise
  rw [v210 H t c, v59 t 0 c, div_coe _ _ (Args.cnt_ne _ _), Args.E]

theorem v219 (t : Fin 8192) (c : Fin 64) : (res_main_v219 V : FVec Ideal S8192x64 .f32) (ix2 t c) = ((-A.E t c : ℝ) : EReal) := by
  unfold res_main_v219
  clean_types
  pointwise
  exact neg_coe (v218 H t c)

theorem v151 (t : Fin 8192) (c : Fin 64) : (res_main_v151 V : FVec Ideal S8192x64 .f32) (ix2 t c) = ((A.dys t (64 * 1 + c) : ℝ) : EReal) := by
  unfold res_main_v151
  clean_types
  pointwise
  exact (v148 H t _).trans (congrArg (fun c => ((A.dys t c : ℝ) : EReal)) (by first | rfl | omega | (dsimp only; omega)))

theorem v191 (t : Fin 8192) (c : Fin 64) : (res_main_v191 V : FVec Ideal S8192x64 .f32) (ix2 t c) = ((A.dd t (64 * 1 + c) : ℝ) : EReal) := by
  unfold res_main_v191
  clean_types
  pointwise
  exact real_eq (group_dot_back A t 1 c c.isLt fun k => mul_coe (v151 H t k) (v92 H c k)) (congrArg (A.dd t) (by omega))

theorem v199 (t : Fin 8192) (c : Fin 64) : (res_main_v199 V : FVec Ideal S8192x64 .f32) (ix2 t c) = ((A.E t (64 * 1 + c) : ℝ) : EReal) := by
  unfold res_main_v199
  clean_types
  pointwise
  rw [v191 H t c, v79 t 0 c, div_coe _ _ (Args.cnt_ne _ _), Args.E]

theorem v200 (t : Fin 8192) (c : Fin 64) : (res_main_v200 V : FVec Ideal S8192x64 .f32) (ix2 t c) = ((-A.E t (64 * 1 + c) : ℝ) : EReal) := by
  unfold res_main_v200
  clean_types
  pointwise
  exact neg_coe (v199 H t c)

theorem v152 (t : Fin 8192) (c : Fin 64) : (res_main_v152 V : FVec Ideal S8192x64 .f32) (ix2 t c) = ((A.dys t (64 * 2 + c) : ℝ) : EReal) := by
  unfold res_main_v152
  clean_types
  pointwise
  exact (v148 H t _).trans (congrArg (fun c => ((A.dys t c : ℝ) : EReal)) (by first | rfl | omega | (dsimp only; omega)))

theorem v172 (t : Fin 8192) (c : Fin 64) : (res_main_v172 V : FVec Ideal S8192x64 .f32) (ix2 t c) = ((A.dd t (64 * 2 + c) : ℝ) : EReal) := by
  unfold res_main_v172
  clean_types
  pointwise
  exact real_eq (group_dot_back A t 2 c c.isLt fun k => mul_coe (v152 H t k) (v112 H c k)) (congrArg (A.dd t) (by omega))

theorem v180 (t : Fin 8192) (c : Fin 64) : (res_main_v180 V : FVec Ideal S8192x64 .f32) (ix2 t c) = ((A.E t (64 * 2 + c) : ℝ) : EReal) := by
  unfold res_main_v180
  clean_types
  pointwise
  rw [v172 H t c, v99 t 0 c, div_coe _ _ (Args.cnt_ne _ _), Args.E]

theorem v181 (t : Fin 8192) (c : Fin 64) : (res_main_v181 V : FVec Ideal S8192x64 .f32) (ix2 t c) = ((-A.E t (64 * 2 + c) : ℝ) : EReal) := by
  unfold res_main_v181
  clean_types
  pointwise
  exact neg_coe (v180 H t c)

theorem v153 (t : Fin 8192) (c : Fin 64) : (res_main_v153 V : FVec Ideal S8192x64 .f32) (ix2 t c) = ((A.dys t (64 * 3 + c) : ℝ) : EReal) := by
  unfold res_main_v153
  clean_types
  pointwise
  exact (v148 H t _).trans (congrArg (fun c => ((A.dys t c : ℝ) : EReal)) (by first | rfl | omega | (dsimp only; omega)))

theorem v156 (t : Fin 8192) (c : Fin 64) : (res_main_v156 V : FVec Ideal S8192x64 .f32) (ix2 t c) = ((A.dd t (64 * 3 + c) : ℝ) : EReal) := by
  unfold res_main_v156
  clean_types
  pointwise
  exact real_eq (group_dot_back A t 3 c c.isLt fun k => mul_coe (v153 H t k) (v132 H c k)) (congrArg (A.dd t) (by omega))

theorem v162 (t : Fin 8192) (c : Fin 64) : (res_main_v162 V : FVec Ideal S8192x64 .f32) (ix2 t c) = ((A.E t (64 * 3 + c) : ℝ) : EReal) := by
  unfold res_main_v162
  clean_types
  pointwise
  rw [v156 H t c, v119 t 0 c, div_coe _ _ (Args.cnt_ne _ _), Args.E]

theorem v163 (t : Fin 8192) (c : Fin 64) : (res_main_v163 V : FVec Ideal S8192x64 .f32) (ix2 t c) = ((-A.E t (64 * 3 + c) : ℝ) : EReal) := by
  unfold res_main_v163
  clean_types
  pointwise
  exact neg_coe (v162 H t c)

theorem v229 (t : Fin 8192) (c : Fin 256) : (res_main_v229 V : FVec Ideal S8192x256 .f32) (ix2 t c) = ((A.dconv t c : ℝ) : EReal) := by
  unfold res_main_v229
  clean_types
  pointwise
  exact mul_coe (v21 H t c) (v142 H t c)

theorem v232 (t : Fin 8192) (c : Fin 256) : (res_main_v232 V : FVec Ideal S8192x256 .f32) (ix2 t c) = ((A.cw 0 c * A.dconv t c : ℝ) : EReal) := by
  unfold res_main_v232
  clean_types
  pointwise
  exact mul_coe (v47 H 0 c) (v229 H t c)

theorem v243 (t : Fin 8192) (c : Fin 256) : (res_main_v243 V : FVec Ideal S8192x256 .f32) (ix2 t c) = ((A.cw 1 c * A.dconv t c : ℝ) : EReal) := by
  unfold res_main_v243
  clean_types
  pointwise
  exact mul_coe (v37 H 0 c) (v229 H t c)

theorem v257 (t : Fin 8192) (c : Fin 256) : (res_main_v257 V : FVec Ideal S8192x256 .f32) (ix2 t c) = ((A.dz t c : ℝ) : EReal) := by
  unfold res_main_v257
  clean_types
  pointwise
  refine real_eq (add_coe (add_coe (dite_coe _ _ (A.cw 0 c * A.dconv (2 + t) c) fun h => v232 H _ c) (dite_coe _ _ (A.cw 1 c * A.dconv (1 + t) c) fun h => v243 H _ c)) (mul_coe (v28 H 0 c) (v229 H t c))) ?_
  simp only [Args.dz, Args.dcs, show (2 + t.val) = t.val + 2 by omega, show (1 + t.val) = t.val + 1 by omega,
    show (t.val + 2 < 8192) = (t.val < 8190) from propext (by omega), show (t.val + 1 < 8192) = (t.val < 8191) from propext (by omega), mul_ite, mul_zero]

/-- What the running sum from the bottom adds up: in each group of columns, the row less the row a window below. -/
def steps (V : Valuation τ sig (Elt Ideal)) : FVec Ideal S8192x256 .f32 :=
  addf (addf (addf (addf (addf (addf (addf (pad S8192x256 ![0, 192] ![0, 0] ![0, 0] (pad S8192x64 ![0, 0] ![16, 0] ![0, 0] (extractStridedSlice S8176x64 ![16, 0] (res_main_v163 V) slices_S8192x64_S8176x64_16_0) (constant (F := Ideal) S_ .f32 0x00000000#32) pads_S8176x64_S8192x64_0160_000 h_S_) (constant (F := Ideal) S_ .f32 0x00000000#32) pads_S8192x64_S8192x256_000_19200 h_S_) (pad S8192x256 ![0, 192] ![0, 0] ![0, 0] (res_main_v162 V) (constant (F := Ideal) S_ .f32 0x00000000#32) pads_S8192x64_S8192x256_000_19200 h_S_)) (pad S8192x256 ![0, 128] ![0, 64] ![0, 0] (pad S8192x64 ![0, 0] ![8, 0] ![0, 0] (extractStridedSlice S8184x64 ![8, 0] (res_main_v181 V) slices_S8192x64_S8184x64_8_0) (constant (F := Ideal) S_ .f32 0x00000000#32) pads_S8184x64_S8192x64_080_000 h_S_) (constant (F := Ideal) S_ .f32 0x00000000#32) pads_S8192x64_S8192x256_000_128640 h_S_)) (pad S8192x256 ![0, 128] ![0, 64] ![0, 0] (res_main_v180 V) (constant (F := Ideal) S_ .f32 0x00000000#32) pads_S8192x64_S8192x256_000_128640 h_S_)) (pad S8192x256 ![0, 64] ![0, 128] ![0, 0] (pad S8192x64 ![0, 0] ![4, 0] ![0, 0] (extractStridedSlice S8188x64 ![4, 0] (res_main_v200 V) slices_S8192x64_S8188x64_4_0) (constant (F := Ideal) S_ .f32 0x00000000#32) pads_S8188x64_S8192x64_040_000 h_S_) (constant (F := Ideal) S_ .f32 0x00000000#32) pads_S8192x64_S8192x256_000_641280 h_S_)) (pad S8192x256 ![0, 64] ![0, 128] ![0, 0] (res_main_v199 V) (constant (F := Ideal) S_ .f32 0x00000000#32) pads_S8192x64_S8192x256_000_641280 h_S_)) (pad S8192x256 ![0, 0] ![0, 192] ![0, 0] (pad S8192x64 ![0, 0] ![2, 0] ![0, 0] (extractStridedSlice S8190x64 ![2, 0] (res_main_v219 V) slices_S8192x64_S8190x64_2_0) (constant (F := Ideal) S_ .f32 0x00000000#32) pads_S8190x64_S8192x64_020_000 h_S_) (constant (F := Ideal) S_ .f32 0x00000000#32) pads_S8192x64_S8192x256_000_01920 h_S_)) (pad S8192x256 ![0, 0] ![0, 192] ![0, 0] (res_main_v218 V) (constant (F := Ideal) S_ .f32 0x00000000#32) pads_S8192x64_S8192x256_000_01920 h_S_)

theorem steps_eq (t : Fin 8192) (c : Fin 256) : steps V (ix2 t c) = ((-A.Es (t + Args.gw c) c + A.Es t c : ℝ) : EReal) := by
  unfold steps
  clean_types
  pointwise
  refine real_eq (add_coe (add_coe (add_coe (add_coe (add_coe (add_coe (add_coe (dite_coe _ _ (if t.val < 8176 ∧ c.val - 192 < 64 then -A.E (16 + t) c else 0) fun h => dite_coe _ _ _ fun h2 => (v163 H _ _).trans (congrArg (fun n => ((-A.E (16 + t) n : ℝ) : EReal)) (by first | rfl | omega | (dsimp only; omega))))
    (dite_coe _ _ (A.E t c) fun h => (v162 H _ _).trans (congrArg (fun n => ((A.E t n : ℝ) : EReal)) (by first | rfl | omega | (dsimp only; omega)))))
    (dite_coe _ _ (if t.val < 8184 ∧ c.val - 128 < 64 then -A.E (8 + t) c else 0) fun h => dite_coe _ _ _ fun h2 => (v181 H _ _).trans (congrArg (fun n => ((-A.E (8 + t) n : ℝ) : EReal)) (by first | rfl | omega | (dsimp only; omega)))))
    (dite_coe _ _ (A.E t c) fun h => (v180 H _ _).trans (congrArg (fun n => ((A.E t n : ℝ) : EReal)) (by first | rfl | omega | (dsimp only; omega)))))
    (dite_coe _ _ (if t.val < 8188 ∧ c.val - 64 < 64 then -A.E (4 + t) c else 0) fun h => dite_coe _ _ _ fun h2 => (v200 H _ _).trans (congrArg (fun n => ((-A.E (4 + t) n : ℝ) : EReal)) (by first | rfl | omega | (dsimp only; omega)))))
    (dite_coe _ _ (A.E t c) fun h => (v199 H _ _).trans (congrArg (fun n => ((A.E t n : ℝ) : EReal)) (by first | rfl | omega | (dsimp only; omega)))))
    (dite_coe _ _ (if t.val < 8190 ∧ c.val < 64 then -A.E (2 + t) c else 0) fun h => dite_coe _ _ _ fun h2 => (v219 H _ _).trans (congrArg (fun n => ((-A.E (2 + t) n : ℝ) : EReal)) (by first | rfl | omega | (dsimp only; omega)))))
    (dite_coe _ _ (A.E t c) fun h => (v218 H _ _).trans (congrArg (fun n => ((A.E t n : ℝ) : EReal)) (by first | rfl | omega | (dsimp only; omega))))) ?_
  rw [sum_group_pairs c c.isLt _ _ _ _ (-A.Es (t + Args.gw c) c) (A.E t c), Args.Es, Args.Es, if_pos t.isLt]
  · intro h
    rw [gw_of 3 c (by omega) (by omega), Args.Es, Nat.add_comm 16]
    simp only [show (t.val < 8176 ∧ c.val - 192 < 64) = (t.val + 2 ^ (3 + 1) < 8192) from propext (by omega)]
    split <;> simp
  · intro h h'
    rw [gw_of 2 c (by omega) (by omega), Args.Es, Nat.add_comm 8]
    simp only [show (t.val < 8184 ∧ c.val - 128 < 64) = (t.val + 2 ^ (2 + 1) < 8192) from propext (by omega)]
    split <;> simp
  · intro h h'
    rw [gw_of 1 c (by omega) (by omega), Args.Es, Nat.add_comm 4]
    simp only [show (t.val < 8188 ∧ c.val - 64 < 64) = (t.val + 2 ^ (1 + 1) < 8192) from propext (by omega)]
    split <;> simp
  · intro h
    rw [gw_of 0 c (by omega) (by omega), Args.Es, Nat.add_comm 2]
    simp only [show (t.val < 8190 ∧ c.val < 64) = (t.val + 2 ^ (0 + 1) < 8192) from propext (by omega)]
    split <;> simp

theorem back (t : Fin 8192) (c : Fin 256) : (Host.reduceWindowAdd ![8192, 1] ![1, 1] ![0, 0] ![8191, 0] (steps V) (broadcastInDim S_ ![] bcast_S_S_ (constant (F := Ideal) S_ .f32 0x00000000#32))
      reduceWindows_S8192x256_S8192x256_w8192s1p0_8191_w1s1p0_0 h_S_ : FVec Ideal S8192x256 .f32) (ix2 t c)
    = ((∑ j ∈ Finset.range (Args.gw c), A.Es (t + j) c : ℝ) : EReal) :=
  real_eq (cumsum_up (steps V) (fun t c => -A.Es (t + Args.gw c) c + A.Es t c) (steps_eq H) _ (fun i => by pointwise) _ _ t c)
    (up_sub (fun s => A.Es s c) 8192 t (Args.gw c) (fun s hs => if_neg (by omega)) t.isLt)

theorem v274 (t : Fin 8192) (c : Fin 2560) : (res_main_v274 V : FVec Ideal S8192x2560 .f32) (ix2 t c) = ((A.dp t c : ℝ) : EReal) := by
  unfold res_main_v274
  clean_types
  pointwise
  have hqkv : 1024 ≤ c.val → c.val < 1536 → A.dp t c = A.q t (c - 1024) := fun h1 h2 => by rw [Args.dp, if_neg (by omega), if_pos h2]
  have hk : 1536 ≤ c.val → c.val < 2048 → A.dp t c = A.k t (c - 1536) := fun h1 h2 => by rw [Args.dp, if_neg (by omega), if_neg (by omega), if_pos h2]
  have hv : 2048 ≤ c.val → A.dp t c = A.v t (c - 2048) := fun h1 => by rw [Args.dp, if_neg (by omega), if_neg (by omega), if_neg (by omega)]
  refine real_eq (add_coe (add_coe (add_coe (add_coe (dite_coe _ _ (A.dp t c) fun h => ?_)
    (dite_coe _ _ (A.dpu t (c - 768)) fun h => ?_))
    (dite_coe _ _ (A.P t (256 + (c - 512)) * A.dz t (c - 512)) fun h => mul_coe (v22 H t _) (v257 H t _)))
    (dite_coe _ _ (A.dz t (c - 256) * A.P t (512 + (c - 256))) fun h => mul_coe (v257 H t _) (v23 H t _)))
    (dite_coe _ _ (A.y t c * A.conv t c) fun h => mul_coe (v142 H t _) (v50 H t _))) ?_
  · split
    · exact (H.q t _).trans (congrArg _ (hqkv h.1 (by omega)).symm)
    · split
      · exact (H.k t _).trans (congrArg _ ((hk (by omega) (by omega)).trans (congrArg (A.k t) (by first | rfl | omega | (dsimp only; omega)))).symm)
      · exact (H.v t _).trans (congrArg _ ((hv (by omega)).trans (congrArg (A.v t) (by first | rfl | omega | (dsimp only; omega)))).symm)
  · exact real_eq (add_coe (real_eq (add_coe (add_coe (add_coe (dite_coe _ _ (-A.dd t (c - 768)) fun h2 => neg_coe ((v156 H _ _).trans (congrArg (fun n => ((A.dd t n : ℝ) : EReal)) (by first | rfl | omega | (dsimp only; omega))))) (dite_coe _ _ (-A.dd t (c - 768)) fun h2 => neg_coe ((v172 H _ _).trans (congrArg (fun n => ((A.dd t n : ℝ) : EReal)) (by first | rfl | omega | (dsimp only; omega)))))) (dite_coe _ _ (-A.dd t (c - 768)) fun h2 => neg_coe ((v191 H _ _).trans (congrArg (fun n => ((A.dd t n : ℝ) : EReal)) (by first | rfl | omega | (dsimp only; omega)))))) (dite_coe _ _ (-A.dd t (c - 768)) fun h2 => neg_coe ((v210 H _ _).trans (congrArg (fun n => ((A.dd t n : ℝ) : EReal)) (by first | rfl | omega | (dsimp only; omega)))))) (sum_groups _ (by omega) _)) (back H t _)) (by rw [Args.dpu]; ring)
  · rcases (by omega : c.val < 256 ∨ (256 ≤ c.val ∧ c.val < 512) ∨ (512 ≤ c.val ∧ c.val < 768) ∨ (768 ≤ c.val ∧ c.val < 1024) ∨ 1024 ≤ c.val) with h | h | h | h | h
    · rw [if_neg (by omega), if_neg (by omega), if_neg (by omega), if_neg (by omega), if_pos h, Args.dp, if_pos (by omega), Args.dpa, if_pos h, Args.dgb]; ring
    · rw [if_neg (by omega), if_neg (by omega), if_neg (by omega), if_pos (by omega), if_neg (by omega), Args.dp, if_pos (by omega), Args.dpa, if_neg (by omega), if_pos h.2]; ring
    · rw [if_neg (by omega), if_neg (by omega), if_pos (by omega), if_neg (by omega), if_neg (by omega), Args.dp, if_pos (by omega), Args.dpa, if_neg (by omega), if_neg (by omega), if_pos h.2]; ring
    · rw [if_neg (by omega), if_pos (by omega), if_neg (by omega), if_neg (by omega), if_neg (by omega), Args.dp, if_pos (by omega), Args.dpa, if_neg (by omega), if_neg (by omega), if_neg (by omega)]; ring
    · rw [if_pos (by omega), if_neg (by omega), if_neg (by omega), if_neg (by omega), if_neg (by omega)]; ring

theorem v275 (t : Fin 8192) (c : Fin 1024) : (res_main_v275 V : FVec Ideal S8192x1024 .f32) (ix2 t c) = ((A.dxn t c : ℝ) : EReal) := by
  unfold res_main_v275
  clean_types
  pointwise
  exact sum_coe fun k => mul_coe (v274 H t k) (arg2 H c k)

theorem v280 (t : Fin 8192) (c : Fin 1024) : (res_main_v280 V : FVec Ideal S8192x1024 .f32) (ix2 t c) = ((A.dxn t c * A.g c : ℝ) : EReal) := by
  unfold res_main_v280
  clean_types
  pointwise
  exact mul_coe (v275 H t c) (v13 H 0 c)

theorem v292 (t : Fin 8192) (c : Fin 1024) : (res_main_v292 V : FVec Ideal S8192x1024 .f32) (ix2 t c) = (((∑ k : Fin 1024, A.h t k * (A.dxn t k * A.g k)) * (-(1/2) * (A.rs t / A.ms t)) / 1024 : ℝ) : EReal) := by
  unfold res_main_v292
  clean_types
  pointwise
  rw [Fin.sum_univ_one, sum_coe fun k => mul_coe (arg0 H t k) (v280 H t k), v7 H t 0, v6 H t 0, cmhalf, c1024, div_coe _ _ (A.ms_pos t).ne', ← EReal.coe_mul,
    ← EReal.coe_mul, div_coe _ _ (by norm_num)]

theorem result298 : (truncf .bf16 (extractStridedSlice S8192x1024 ![0, 0] (res_main_v274 V) slices_S8192x2560_S8192x1024_0_0) bitsLt_bf16_f32 : FVec Ideal S8192x1024 .bf16) = fun j => ((A.dpa (j 0).val (j 1).val : ℝ) : EReal) := by
  refine funext fun j => ?_
  obtain ⟨t, c, rfl⟩ : ∃ t c, j = ix2 t c := ⟨j 0, j 1, eq_ix2 j⟩
  clean_types
  pointwise
  refine (v274 H t _).trans (congrArg _ ?_)
  exact if_pos c.isLt

theorem result296 : (addf (addf (addf (V (Proc.devRef .tc main_arg10)) (mulf (res_main_v280 V) (broadcastInDim S8192x1024 ![0, 1] bcast_S8192x1_S8192x1024_0_1 (res_main_v7 V)))) (mulf (V (Proc.devRef .tc main_arg0)) (res_main_v292 V))) (mulf (res_main_v292 V) (V (Proc.devRef .tc main_arg0))) : FVec Ideal S8192x1024 .f32) = plus A (V (Proc.devRef .tc main_arg10)) := by
  refine funext fun j => ?_
  obtain ⟨t, c, rfl⟩ : ∃ t c, j = ix2 t c := ⟨j 0, j 1, eq_ix2 j⟩
  clean_types
  pointwise
  exact add_three _ (mul_coe (v280 H t c) (v7 H t 0)) (mul_coe (arg0 H t c) (v292 H t c)) (mul_coe (v292 H t c) (arg0 H t c)) (norm_back A t c)

theorem result264 : (addf (addf (pad S3x256 ![0, 0] ![2, 0] ![0, 0] (broadcastInDim S1x256 ![1] bcast_S256_S1x256_1 (Host.reduceAdd (shapeCast _ (Host.reduceAdd (mulf (res_main_v229 V) (res_main_v45 V)) (constant (F := Ideal) S_ .f32 0x00000000#32) reducesTo_S8192x256_S256_d0 h_S_) shapeCasts_S256_S1x256) (constant (F := Ideal) S_ .f32 0x00000000#32) reducesTo_S1x256_S256_d0 h_S_)) (constant (F := Ideal) S_ .f32 0x00000000#32) pads_S1x256_S3x256_020_000 h_S_) (pad S3x256 ![1, 0] ![1, 0] ![0, 0] (broadcastInDim S1x256 ![1] bcast_S256_S1x256_1 (Host.reduceAdd (shapeCast _ (Host.reduceAdd (mulf (res_main_v229 V) (res_main_v35 V)) (constant (F := Ideal) S_ .f32 0x00000000#32) reducesTo_S8192x256_S256_d0 h_S_) shapeCasts_S256_S1x256) (constant (F := Ideal) S_ .f32 0x00000000#32) reducesTo_S1x256_S256_d0 h_S_)) (constant (F := Ideal) S_ .f32 0x00000000#32) pads_S1x256_S3x256_110_000 h_S_)) (pad S3x256 ![2, 0] ![0, 0] ![0, 0] (broadcastInDim S1x256 ![1] bcast_S256_S1x256_1 (Host.reduceAdd (shapeCast _ (Host.reduceAdd (mulf (res_main_v229 V) (res_main_v25 V)) (constant (F := Ideal) S_ .f32 0x00000000#32) reducesTo_S8192x256_S256_d0 h_S_) shapeCasts_S256_S1x256) (constant (F := Ideal) S_ .f32 0x00000000#32) reducesTo_S1x256_S256_d0 h_S_)) (constant (F := Ideal) S_ .f32 0x00000000#32) pads_S1x256_S3x256_200_000 h_S_) : FVec Ideal S3x256 .f32) = fun j => ((A.dcw (j 0).val (j 1).val : ℝ) : EReal) := by
  refine funext fun j => ?_
  obtain ⟨t, c, rfl⟩ : ∃ t c, j = ix2 t c := ⟨j 0, j 1, eq_ix2 j⟩
  clean_types
  pointwise
  refine real_eq (add_coe (add_coe (dite_coe _ _ (A.dcw 0 c) fun h => ?_) (dite_coe _ _ (A.dcw 1 c) fun h => ?_)) (dite_coe _ _ (A.dcw 2 c) fun h => ?_)) ?_
  · rw [Fin.sum_univ_one, Args.dcw]
    exact sum_coe fun k => mul_coe (v229 H k c) (v45 H k c)
  · rw [Fin.sum_univ_one, Args.dcw]
    exact sum_coe fun k => mul_coe (v229 H k c) (v35 H k c)
  · rw [Fin.sum_univ_one, Args.dcw]
    exact sum_coe fun k => mul_coe (v229 H k c) (real_eq (v25 H k c) (by rw [Args.zs, if_neg (by omega)]; rfl))
  · fin_cases t <;> simp

theorem result213 : (addf (addf (addf (pad S4x64x64 ![3, 0, 0] ![0, 0, 0] ![0, 0, 0] (broadcastInDim S1x64x64 ![1, 2] bcast_S64x64_S1x64x64_1_2 (transpose S64x64 [1, 0] (Host.dotGeneral (φ₁ := .f32) (φ₂ := .f32) dot_S8192x64_S8192x64_S64x64_0_0_1_1_n_n none (res_main_v153 V) (res_main_v130 V)) transposes_S64x64_S64x64_1_0)) (constant (F := Ideal) S_ .f32 0x00000000#32) pads_S1x64x64_S4x64x64_300_000_000 h_S_) (pad S4x64x64 ![2, 0, 0] ![1, 0, 0] ![0, 0, 0] (broadcastInDim S1x64x64 ![1, 2] bcast_S64x64_S1x64x64_1_2 (transpose S64x64 [1, 0] (Host.dotGeneral (φ₁ := .f32) (φ₂ := .f32) dot_S8192x64_S8192x64_S64x64_0_0_1_1_n_n none (res_main_v152 V) (res_main_v110 V)) transposes_S64x64_S64x64_1_0)) (constant (F := Ideal) S_ .f32 0x00000000#32) pads_S1x64x64_S4x64x64_210_000_000 h_S_)) (pad S4x64x64 ![1, 0, 0] ![2, 0, 0] ![0, 0, 0] (broadcastInDim S1x64x64 ![1, 2] bcast_S64x64_S1x64x64_1_2 (transpose S64x64 [1, 0] (Host.dotGeneral (φ₁ := .f32) (φ₂ := .f32) dot_S8192x64_S8192x64_S64x64_0_0_1_1_n_n none (res_main_v151 V) (res_main_v90 V)) transposes_S64x64_S64x64_1_0)) (constant (F := Ideal) S_ .f32 0x00000000#32) pads_S1x64x64_S4x64x64_120_000_000 h_S_)) (pad S4x64x64 ![0, 0, 0] ![3, 0, 0] ![0, 0, 0] (broadcastInDim S1x64x64 ![1, 2] bcast_S64x64_S1x64x64_1_2 (transpose S64x64 [1, 0] (Host.dotGeneral (φ₁ := .f32) (φ₂ := .f32) dot_S8192x64_S8192x64_S64x64_0_0_1_1_n_n none (res_main_v150 V) (res_main_v70 V)) transposes_S64x64_S64x64_1_0)) (constant (F := Ideal) S_ .f32 0x00000000#32) pads_S1x64x64_S4x64x64_030_000_000 h_S_) : FVec Ideal S4x64x64 .f32) = fun j => ((A.dpw (j 0).val (j 1).val (j 2).val : ℝ) : EReal) := by
  refine funext fun j => ?_
  obtain ⟨i, a, b, rfl⟩ : ∃ i a b, j = ix3 i a b := ⟨j 0, j 1, j 2, eq_ix3 j⟩
  clean_types
  pointwise
  refine real_eq (add_coe (add_coe (add_coe (dite_coe _ _ (A.dpw 3 a b) fun h => ?_) (dite_coe _ _ (A.dpw 2 a b) fun h => ?_)) (dite_coe _ _ (A.dpw 1 a b) fun h => ?_))
    (dite_coe _ _ (A.dpw 0 a b) fun h => ?_)) ?_
  · exact sum_coe fun k => mul_coe_comm (v153 H k b) (v130 H k a)
  · exact sum_coe fun k => mul_coe_comm (v152 H k b) (v110 H k a)
  · exact sum_coe fun k => mul_coe_comm (v151 H k b) (v90 H k a)
  · exact sum_coe fun k => mul_coe_comm (real_eq (v150 H k b) (congrArg (A.dys k) (by omega : b.val = 64 * 0 + b.val))) (real_eq (v70 H k a) (congrArg (A.D k) (by omega : a.val = 64 * 0 + a.val)))
  · fin_cases i <;> simp

theorem result149 : (Host.reduceAdd (shapeCast _ (Host.reduceAdd (mulf (res_main_v134 V) (res_main_v143 V)) (constant (F := Ideal) S_ .f32 0x00000000#32) reducesTo_S8192x256_S256_d0 h_S_) shapeCasts_S256_S1x256) (constant (F := Ideal) S_ .f32 0x00000000#32) reducesTo_S1x256_S256_d0 h_S_ : FVec Ideal S256 .f32) = fun j => ((A.dps (j 0).val : ℝ) : EReal) := by
  refine funext fun j => ?_
  obtain ⟨c, rfl⟩ : ∃ c, j = ix1 c := ⟨j 0, eq_ix1 j⟩
  clean_types
  pointwise
  rw [Fin.sum_univ_one, Args.dps]
  exact sum_coe fun k => mul_coe (v134 H k c) (v143 H k c)

theorem result281 : (Host.reduceAdd (shapeCast _ (Host.reduceAdd (mulf (res_main_v12 V) (res_main_v275 V)) (constant (F := Ideal) S_ .f32 0x00000000#32) reducesTo_S8192x1024_S1024_d0 h_S_) shapeCasts_S1024_S1x1024) (constant (F := Ideal) S_ .f32 0x00000000#32) reducesTo_S1x1024_S1024_d0 h_S_ : FVec Ideal S1024 .f32) = fun j => ((A.dg (j 0).val : ℝ) : EReal) := by
  refine funext fun j => ?_
  obtain ⟨c, rfl⟩ : ∃ c, j = ix1 c := ⟨j 0, eq_ix1 j⟩
  clean_types
  pointwise
  rw [Fin.sum_univ_one, Args.dg]
  exact sum_coe fun k => mul_coe (v12 H k c) (v275 H k c)

end Cert.ReferenceIdeal.Model

end
-- ==== Proof.ForwardReference.lean ====
/- The reference's half layer, entry by entry: the normed input, the projection, the convolution out of shifted rows, and the windowed means
   out of differences of running sums. -/
module

public import proofs.«01_k».proof.Proof.Forward
public import proofs.«01_k».proof.Proof.Ref
public import proofs.«01_k».proof.Proof.Gen.ReferenceForwardIdeal.Run
public import Idealize.ShloMosaic.Lib.Pointwise
public import Idealize.ShloMosaic.Lib.Pipeline.ValueKit

@[expose] public section

set_option maxRecDepth 16384

noncomputable section

namespace Cert.ReferenceForwardIdeal.Rows

open Idealize.ShloMosaic Idealize.ShloMosaic.TcCoe
open Cert.ReferenceForwardIdeal Cert.ReferenceForwardIdeal.Gen Cert.ReferenceForwardIdeal.Value Cert.Forward Cert.Tail Mixer

/-- The arguments as the half layer's numbers. -/
def given (a0 : FVec Ideal S8192x1024 .f32) (a1 : FVec Ideal S1024 .f32) (a2 : FVec Ideal S1024x2560 .f32) (a3 : FVec Ideal S3x256 .f32)
    (a4 : FVec Ideal S4x64x64 .f32) (a5 : FVec Ideal S256 .f32) : In where
  h t b := a0 (ix2 t b)
  g b := a1 (ix1 b)
  w k b := a2 (ix2 k b)
  cw k b := a3 (ix2 k b)
  pw i k b := a4 (ix3 i k b)
  ps b := a5 (ix1 b)

/-- The reference's stages: the normed input and the projection. -/
def xnR (a0 : FVec Ideal S8192x1024 .f32) (a1 : FVec Ideal S1024 .f32) : FVec Ideal S8192x1024 .f32 :=
  mulf (mulf a0 (broadcastInDim S8192x1024 ![0, 1] bcast_S8192x1_S8192x1024_0_1 (Host.rsqrt (addf (Host.divf (broadcastInDim S8192x1 ![0] bcast_S8192_S8192x1_0
    (Host.reduceAdd (mulf a0 a0) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 a1))
def projR (a0 : FVec Ideal S8192x1024 .f32) (a1 : FVec Ideal S1024 .f32) (a2 : FVec Ideal S1024x2560 .f32) : FVec Ideal S8192x2560 .f32 :=
  Host.dotGeneral dot_S8192x1024_S1024x2560_S8192x2560_1_0_0_1_n_n none (xnR a0 a1) a2
/-- The gated product, its rows one and two earlier, and the taps. -/
def zR (p : FVec Ideal S8192x2560 .f32) : FVec Ideal S8192x256 .f32 :=
  mulf (extractStridedSlice S8192x256 ![0, 256] p slices_S8192x2560_S8192x256_0_256) (extractStridedSlice S8192x256 ![0, 512] p slices_S8192x2560_S8192x256_0_512)
def z1R (z : FVec Ideal S8192x256 .f32) : FVec Ideal S8192x256 .f32 :=
  concatenate S8192x256 0 [⟨S1x256, (broadcastInDim S1x256 ![] bcast_S_S1x256 (constant S_ .f32 0x00000000#32))⟩,
    ⟨S8191x256, (extractStridedSlice S8191x256 ![0, 0] z slices_S8192x256_S8191x256_0_0)⟩] concatenates_S1x256_S8191x256_S8192x256_d0
def z2R (z : FVec Ideal S8192x256 .f32) : FVec Ideal S8192x256 .f32 :=
  concatenate S8192x256 0 [⟨S2x256, (broadcastInDim S2x256 ![] bcast_S_S2x256 (constant S_ .f32 0x00000000#32))⟩,
    ⟨S8190x256, (extractStridedSlice S8190x256 ![0, 0] z slices_S8192x256_S8190x256_0_0)⟩] concatenates_S2x256_S8190x256_S8192x256_d0
def spreadR (x : FVec Ideal S1x256 .f32) : FVec Ideal S8192x256 .f32 :=
  broadcastInDim S8192x256 ![0, 1] bcast_S1x256_S8192x256_0_1 (broadcastInDim S1x256 ![1] bcast_S256_S1x256_1 (shapeCast S256 x shapeCasts_S1x256_S256))
def yaR (p : FVec Ideal S8192x2560 .f32) (z : FVec Ideal S8192x256 .f32) (a3 : FVec Ideal S3x256 .f32) : FVec Ideal S8192x256 .f32 :=
  mulf (extractStridedSlice S8192x256 ![0, 0] p slices_S8192x2560_S8192x256_0_0)
    (addf (addf (mulf (spreadR (extractStridedSlice S1x256 ![2, 0] a3 slices_S3x256_S1x256_2_0)) z)
      (mulf (spreadR (extractStridedSlice S1x256 ![1, 0] a3 slices_S3x256_S1x256_1_0)) (z1R z)))
      (mulf (spreadR (extractStridedSlice S1x256 ![0, 0] a3 slices_S3x256_S1x256_0_0)) (z2R z)))
/-- The pooled columns and their running sums. -/
def puR (p : FVec Ideal S8192x2560 .f32) : FVec Ideal S8192x256 .f32 := extractStridedSlice S8192x256 ![0, 768] p slices_S8192x2560_S8192x256_0_768
def cumR (u : FVec Ideal S8192x256 .f32) : FVec Ideal S8192x256 .f32 :=
  Host.reduceWindowAdd ![8192, 1] ![1, 1] ![8191, 0] ![0, 0] u (broadcastInDim S_ ![] bcast_S_S_ (constant S_ .f32 0x00000000#32))
    reduceWindows_S8192x256_S8192x256_w8192s1p8191_0_w1s1p0_0 h_S_
/-- Rows of 64 columns, two, four, eight and sixteen earlier. -/
def early2 (x : FVec Ideal S8192x64 .f32) : FVec Ideal S8192x64 .f32 :=
  concatenate S8192x64 0 [⟨S2x64, (broadcastInDim S2x64 ![] bcast_S_S2x64 (constant S_ .f32 0x00000000#32))⟩,
    ⟨S8190x64, (extractStridedSlice S8190x64 ![0, 0] x slices_S8192x64_S8190x64_0_0)⟩] concatenates_S2x64_S8190x64_S8192x64_d0
def early4 (x : FVec Ideal S8192x64 .f32) : FVec Ideal S8192x64 .f32 :=
  concatenate S8192x64 0 [⟨S4x64, (broadcastInDim S4x64 ![] bcast_S_S4x64 (constant S_ .f32 0x00000000#32))⟩,
    ⟨S8188x64, (extractStridedSlice S8188x64 ![0, 0] x slices_S8192x64_S8188x64_0_0)⟩] concatenates_S4x64_S8188x64_S8192x64_d0
def early8 (x : FVec Ideal S8192x64 .f32) : FVec Ideal S8192x64 .f32 :=
  concatenate S8192x64 0 [⟨S8x64, (broadcastInDim S8x64 ![] bcast_S_S8x64 (constant S_ .f32 0x00000000#32))⟩,
    ⟨S8184x64, (extractStridedSlice S8184x64 ![0, 0] x slices_S8192x64_S8184x64_0_0)⟩] concatenates_S8x64_S8184x64_S8192x64_d0
def early16 (x : FVec Ideal S8192x64 .f32) : FVec Ideal S8192x64 .f32 :=
  concatenate S8192x64 0 [⟨S16x64, (broadcastInDim S16x64 ![] bcast_S_S16x64 (constant S_ .f32 0x00000000#32))⟩,
    ⟨S8176x64, (extractStridedSlice S8176x64 ![0, 0] x slices_S8192x64_S8176x64_0_0)⟩] concatenates_S16x64_S8176x64_S8192x64_d0
/-- A group's pooled differences times its weight. -/
def groupR (x y : FVec Ideal S8192x64 .f32) (n : BitVec 32) (u : FVec Ideal S8192x64 .f32) (k : FVec Ideal S1x64x64 .f32) : FVec Ideal S8192x64 .f32 :=
  Host.dotGeneral dot_S8192x64_S64x64_S8192x64_1_0_0_1_n_n none
    (subf (Host.divf (subf x y) (broadcastInDim S8192x64 ![0, 1] bcast_S8192x1_S8192x64_0_1 (broadcastInDim S8192x1 ![0] bcast_S8192_S8192x1_0
      (sitofp .f32 (minsi (addi (iotaInDim S8192 32 0) (broadcastInDim S8192 ![] bcast_S_S8192 (constantI S_ 32 1#32))) (broadcastInDim S8192 ![] bcast_S_S8192 (constantI S_ 32 n))))))) u)
    (shapeCast S64x64 k shapeCasts_S1x64x64_S64x64)
def group0 (s u : FVec Ideal S8192x256 .f32) (a4 : FVec Ideal S4x64x64 .f32) : FVec Ideal S8192x64 .f32 :=
  groupR (extractStridedSlice S8192x64 ![0, 0] s slices_S8192x256_S8192x64_0_0) (early2 (extractStridedSlice S8192x64 ![0, 0] s slices_S8192x256_S8192x64_0_0)) 2#32
    (extractStridedSlice S8192x64 ![0, 0] u slices_S8192x256_S8192x64_0_0) (extractStridedSlice S1x64x64 ![0, 0, 0] a4 slices_S4x64x64_S1x64x64_0_0_0)
def group1 (s u : FVec Ideal S8192x256 .f32) (a4 : FVec Ideal S4x64x64 .f32) : FVec Ideal S8192x64 .f32 :=
  groupR (extractStridedSlice S8192x64 ![0, 64] s slices_S8192x256_S8192x64_0_64) (early4 (extractStridedSlice S8192x64 ![0, 64] s slices_S8192x256_S8192x64_0_64)) 4#32
    (extractStridedSlice S8192x64 ![0, 64] u slices_S8192x256_S8192x64_0_64) (extractStridedSlice S1x64x64 ![1, 0, 0] a4 slices_S4x64x64_S1x64x64_1_0_0)
def group2 (s u : FVec Ideal S8192x256 .f32) (a4 : FVec Ideal S4x64x64 .f32) : FVec Ideal S8192x64 .f32 :=
  groupR (extractStridedSlice S8192x64 ![0, 128] s slices_S8192x256_S8192x64_0_128) (early8 (extractStridedSlice S8192x64 ![0, 128] s slices_S8192x256_S8192x64_0_128)) 8#32
    (extractStridedSlice S8192x64 ![0, 128] u slices_S8192x256_S8192x64_0_128) (extractStridedSlice S1x64x64 ![2, 0, 0] a4 slices_S4x64x64_S1x64x64_2_0_0)
def group3 (s u : FVec Ideal S8192x256 .f32) (a4 : FVec Ideal S4x64x64 .f32) : FVec Ideal S8192x64 .f32 :=
  groupR (extractStridedSlice S8192x64 ![0, 192] s slices_S8192x256_S8192x64_0_192) (early16 (extractStridedSlice S8192x64 ![0, 192] s slices_S8192x256_S8192x64_0_192)) 16#32
    (extractStridedSlice S8192x64 ![0, 192] u slices_S8192x256_S8192x64_0_192) (extractStridedSlice S1x64x64 ![3, 0, 0] a4 slices_S4x64x64_S1x64x64_3_0_0)
/-- The four groups side by side, and the two mixers side by side. -/
def groupsR (d0 d1 d2 d3 : FVec Ideal S8192x64 .f32) : FVec Ideal S8192x256 .f32 :=
  concatenate S8192x256 1 [⟨S8192x64, d0⟩, ⟨S8192x64, d1⟩, ⟨S8192x64, d2⟩, ⟨S8192x64, d3⟩] concatenates_S8192x64_S8192x64_S8192x64_S8192x64_S8192x256_d1
def ybR (d : FVec Ideal S8192x256 .f32) (a5 : FVec Ideal S256 .f32) : FVec Ideal S8192x256 .f32 :=
  mulf d (broadcastInDim S8192x256 ![0, 1] bcast_S1x256_S8192x256_0_1 (broadcastInDim S1x256 ![1] bcast_S256_S1x256_1 a5))
def sideR (x y : FVec Ideal S8192x256 .f32) : FVec Ideal S8192x512 .f32 :=
  concatenate S8192x512 1 [⟨S8192x256, x⟩, ⟨S8192x256, y⟩] concatenates_S8192x256_S8192x256_S8192x512_d1
def yabR (p : FVec Ideal S8192x2560 .f32) (a3 : FVec Ideal S3x256 .f32) (a4 : FVec Ideal S4x64x64 .f32) (a5 : FVec Ideal S256 .f32) : FVec Ideal S8192x512 .f32 :=
  sideR (yaR p (zR p) a3) (ybR (groupsR (group0 (cumR (puR p)) (puR p) a4) (group1 (cumR (puR p)) (puR p) a4) (group2 (cumR (puR p)) (puR p) a4)
    (group3 (cumR (puR p)) (puR p) a4)) a5)

theorem res_eq (m : (ℓ : Loc nD τ sig) → Buf (Elt Ideal) ℓ) (c : Dev nD) : res_main_v125 m c
    = yabR (projR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) := rfl

variable (a0 : FVec Ideal S8192x1024 .f32) (a1 : FVec Ideal S1024 .f32) (a2 : FVec Ideal S1024x2560 .f32) (a3 : FVec Ideal S3x256 .f32)
  (a4 : FVec Ideal S4x64x64 .f32) (a5 : FVec Ideal S256 .f32)

theorem xn_eq (t : Fin 8192) (b : Fin 1024) : xnR a0 a1 (ix2 t b) = (given a0 a1 a2 a3 a4 a5).xn t b := by
  pointwise [xnR]
  rfl

theorem proj_eq (t : Fin 8192) (b : Fin 2560) : projR a0 a1 a2 (ix2 t b) = (given a0 a1 a2 a3 a4 a5).P t b := by
  rw [In.P_of]
  pointwise [projR]
  exact Finset.sum_congr rfl fun k _ => congrArg₂ (· * ·) (xn_eq a0 a1 a2 a3 a4 a5 t k) rfl

variable {r : In} {p : FVec Ideal S8192x2560 .f32} (hp : ∀ (t : Fin 8192) (b : Fin 2560), p (ix2 t b) = r.P t b)
include hp

theorem z_eq (t : Fin 8192) (b : Fin 256) : zR p (ix2 t b) = r.z t b := by
  pointwise [zR]
  exact congrArg₂ (· * ·) (hp _ _) (hp _ _)

theorem z1_eq (t : Fin 8192) (b : Fin 256) : z1R (zR p) (ix2 t b) = r.zs 1 t b := by
  pointwise [z1R]
  unfold In.zs
  split
  · rfl
  · exact z_eq hp _ b

theorem z2_eq (t : Fin 8192) (b : Fin 256) : z2R (zR p) (ix2 t b) = r.zs 2 t b := by
  pointwise [z2R]
  unfold In.zs
  split
  · rfl
  · exact z_eq hp _ b

theorem ya_eq (h3 : ∀ (k : Fin 3) (b : Fin 256), a3 (ix2 k b) = r.cw k b) (t : Fin 8192) (b : Fin 256) :
    yaR p (zR p) a3 (ix2 t b) = r.P t b * r.conv t b := by
  pointwise [yaR, spreadR]
  refine congrArg₂ (· * ·) (hp t ⟨b.val, by omega⟩) ?_
  exact congrArg₂ (· + ·) (congrArg₂ (· + ·) (congrArg₂ (· * ·) (h3 2 b) (z_eq hp t b)) (congrArg₂ (· * ·) (h3 1 b) (z1_eq hp t b)))
    (congrArg₂ (· * ·) (h3 0 b) (z2_eq hp t b))

theorem pu_eq (t : Fin 8192) (b : Fin 256) : puR p (ix2 t b) = r.P t (768 + b) := by
  pointwise [puR]
  exact hp _ _

variable (H : r.Finite)
include H

theorem cum_eq (t : Fin 8192) (b : Fin 256) :
    cumR (puR p) (ix2 t b) = ((∑ j ∈ Finset.range (t + 1), (r.P j (768 + b)).toReal : ℝ) : EReal) :=
  cumsum_down (N := 8191) (puR p) (fun t b => (r.P t (768 + b)).toReal) (fun t b => (pu_eq hp t b).trans (In.pool_coe H t t.isLt b)) _ (fun i => by pointwise) _ _ t b

/-- A group, given that its rows of running sums were moved down by the group's window. -/
theorem group_eq (i : Fin 4) (g : ℕ) (hg : g = 2 ^ (i.val + 1)) {x y u : FVec Ideal S8192x64 .f32} {k : FVec Ideal S1x64x64 .f32}
    (hx : ∀ (t : Fin 8192) (b : Fin 64), x (ix2 t b) = cumR (puR p) (ix2 t ⟨64 * i + b, by omega⟩))
    (hy : ∀ (t : Fin 8192) (b : Fin 64), y (ix2 t b) = if h : t.val < g then 0 else x (ix2 ⟨t.val - g, by omega⟩ b))
    (hu : ∀ (t : Fin 8192) (b : Fin 64), u (ix2 t b) = puR p (ix2 t ⟨64 * i + b, by omega⟩))
    (hk : ∀ a b : Fin 64, k (ix3 0 a b) = r.pw i a b) (t : Fin 8192) (b : Fin 64) (c : Fin 256) (hc : c.val = 64 * i.val + b.val) :
    groupR x y (BitVec.ofNat 32 g) u k (ix2 t b) = r.po t c := by
  have hi := i.isLt
  have hw : g ≤ 16 := by
    rw [hg]
    exact (Nat.pow_le_pow_right (by norm_num) (by omega : i.val + 1 ≤ 4)).trans (by norm_num)
  have e1 : c.val / 64 = i.val := by omega
  have e2 : c.val % 64 = b.val := by omega
  pointwise [groupR]
  unfold In.po
  refine Finset.sum_congr rfl fun l _ => ?_
  have hl := l.isLt
  have hgw : Args.gw (64 * i.val + l.val) = g := by rw [Args.gw, show (64 * i.val + l.val) / 64 = i.val by omega, hg]
  refine congrArg₂ (· * ·) ?_ ((hk l b).trans (congrArg₂ (fun q s => r.pw q l s) (Fin.ext e1.symm) (Fin.ext e2.symm)))
  rw [e1]
  refine Eq.trans ?_ (In.diff_of H t.val g ⟨64 * i.val + l.val, by omega⟩ t.isLt hgw ((hx t l).trans (cum_eq hp H t _)) (Y := fun h => x (ix2 ⟨t.val - g, by omega⟩ l))
    (fun h => (hx _ l).trans (cum_eq hp H _ _)) ((Cert.ReferenceIdeal.Model.count_word t.val g t.isLt hw).trans ?_) ((hu t l).trans (pu_eq hp t _)))
  · exact congrArg (fun q => Ideal.div (x (ix2 t l) - q) _ - u (ix2 t l)) (hy t l)
  · show _ = ((Args.cnt t.val (64 * i.val + l.val) : ℝ) : EReal)
    rw [Args.cnt, hgw]

theorem groups_eq (h4 : ∀ (i : Fin 4) (k b : Fin 64), a4 (ix3 i k b) = r.pw i k b) (t : Fin 8192) (b : Fin 256) :
    groupsR (group0 (cumR (puR p)) (puR p) a4) (group1 (cumR (puR p)) (puR p) a4) (group2 (cumR (puR p)) (puR p) a4)
      (group3 (cumR (puR p)) (puR p) a4) (ix2 t b) = r.po t b := by
  have hb := b.isLt
  pointwise [groupsR]
  split
  on_goal 2 => split
  on_goal 3 => split
  on_goal 4 => refine group_eq hp H 3 16 rfl ?_ ?_ ?_ ?_ t _ b (by simp; omega)
  on_goal 3 => refine group_eq hp H 2 8 rfl ?_ ?_ ?_ ?_ t _ b (by simp; omega)
  on_goal 2 => refine group_eq hp H 1 4 rfl ?_ ?_ ?_ ?_ t _ b (by simp; omega)
  on_goal 1 => refine group_eq hp H 0 2 rfl ?_ ?_ ?_ ?_ t _ b (by simp)
  all_goals
    intro a b
    pointwise [early2, early4, early8, early16]
  all_goals exact h4 _ a b

theorem yab_eq (h3 : ∀ (k : Fin 3) (b : Fin 256), a3 (ix2 k b) = r.cw k b) (h4 : ∀ (i : Fin 4) (k b : Fin 64), a4 (ix3 i k b) = r.pw i k b)
    (h5 : ∀ b : Fin 256, a5 (ix1 b) = r.ps b) (t : Fin 8192) (b : Fin 512) : yabR p a3 a4 a5 (ix2 t b) = r.yab t b := by
  pointwise [yabR, sideR]
  unfold In.yab
  split
  · exact ya_eq a3 hp h3 t _
  · pointwise [ybR]
    exact congrArg₂ (· * ·) (groups_eq a4 hp H h4 t _) (h5 _)

end Cert.ReferenceForwardIdeal.Rows

end
-- ==== Proof.ForwardHost.lean ====
/- What the forward call is given, out of the arguments, and what each of its points reads. -/
module

public import proofs.«01_k».proof.Proof.Entry
public import proofs.«01_k».proof.Proof.ForwardPoints
public import proofs.«01_k».proof.Proof.ForwardReference
public import Idealize.ShloMosaic.Lib.StableHlo.ReadAt

@[expose] public section

set_option maxRecDepth 16384

noncomputable section

namespace Cert.KernelForwardIdeal.Points

open Idealize.ShloMosaic Idealize.ShloMosaic.TcCoe Idealize.SL.Sem
open Cert.KernelForwardIdeal.Gen Cert.KernelForwardIdeal.Rows Cert.Forward

variable (m : (ℓ : Loc nD τ sig) → Buf (Elt Ideal) ℓ) (c : Dev nD)

/-- The arguments as the half layer's numbers. -/
abbrev half : In := Cert.ReferenceForwardIdeal.Rows.given (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

theorem gain_eq (a : Fin 1) (b : Fin 1024) : (V m c main_v0 : FVec Ideal S1x1024 .f32) (ix2 a b) = (half m c).g b := by
  dsimp only [V, List.flatten_cons, List.flatten_nil, List.cons_append, List.nil_append]
  after_reads_at
  rfl

theorem weight_eq (a : Fin 1024) (b : Fin 2560) : (V m c main_v1 : FVec Ideal S1024x2560 .bf16) (ix2 a b) = (half m c).w a b := by
  dsimp only [V, List.flatten_cons, List.flatten_nil, List.cons_append, List.nil_append]
  after_reads_at
  rfl

theorem taps_eq (a : Fin 8) (b : Fin 256) (ha : a.val < 3) : (V m c main_v2 : FVec Ideal S8x256 .f32) (ix2 a b) = (half m c).cw ⟨a.val, ha⟩ b := by
  dsimp only [V, List.flatten_cons, List.flatten_nil, List.cons_append, List.nil_append]
  after_reads_at
  exact dif_pos ha

theorem blocks_eq (a b : Fin 256) : (V m c main_v15 : FVec Ideal S256x256 .bf16) (ix2 a b) = if a.val / 64 = b.val / 64 then
    (half m c).pw ⟨a.val / 64, by omega⟩ ⟨a.val % 64, by omega⟩ ⟨b.val % 64, by omega⟩ else 0 := by
  dsimp only [V, List.flatten_cons, List.flatten_nil, List.cons_append, List.nil_append]
  after_reads_at
  have ha := a.isLt
  have hb := b.isLt
  refine (congrArg (fun x : EReal => x * _) (Cert.KernelIdeal.Entry.same_group (a.val / 64) (b.val / 64) (by omega) (by omega))).trans ?_
  split
  · exact one_mul _
  · exact zero_mul _

theorem scale_eq (a : Fin 1) (b : Fin 256) : (V m c main_v16 : FVec Ideal S1x256 .f32) (ix2 a b) = (half m c).ps b := by
  dsimp only [V, List.flatten_cons, List.flatten_nil, List.cons_append, List.nil_append]
  after_reads_at
  rfl

/-- Which block each window is on at a point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![0, t.val] ∧ win0_10.index t = ![t.val, 0] ∧ (grid0.coords t 0).val = t.val ∧ t.val < 16 :=
  (by decide +kernel : ∀ t : Fin grid0.N, _)

/-- What a block holds of its array. -/
theorem read0 (t : Fin cfg0.N) (a : Fin 512) (b : Fin 1024) (h : 512 * t.val + a.val < 8192) : (iblk m c 0 t : FVec Ideal S512x1024 .f32) (ix2 a b)
    = (V m c main_arg0 : FVec Ideal S8192x1024 .f32) (ix2 ⟨512 * t.val + a.val, h⟩ b) := by
  blk_ext [iblk, idx t]
theorem read1 (t : Fin cfg0.N) (a : Fin 1) (b : Fin 1024) : (iblk m c 1 t : FVec Ideal S1x1024 .f32) (ix2 a b)
    = (V m c main_v0 : FVec Ideal S1x1024 .f32) (ix2 a b) := by
  blk_ext [iblk, idx t]
theorem read2 (t : Fin cfg0.N) (a : Fin 1024) (b : Fin 2560) : (iblk m c 2 t : FVec Ideal S1024x2560 .bf16) (ix2 a b)
    = (V m c main_v1 : FVec Ideal S1024x2560 .bf16) (ix2 a b) := by
  blk_ext [iblk, idx t]
theorem read3 (t : Fin cfg0.N) (a : Fin 8) (b : Fin 256) : (iblk m c 3 t : FVec Ideal S8x256 .f32) (ix2 a b)
    = (V m c main_v2 : FVec Ideal S8x256 .f32) (ix2 a b) := by
  blk_ext [iblk, idx t]
theorem read4 (t : Fin cfg0.N) (a b : Fin 256) : (iblk m c 4 t : FVec Ideal S256x256 .bf16) (ix2 a b)
    = (V m c main_v15 : FVec Ideal S256x256 .bf16) (ix2 a b) := by
  blk_ext [iblk, idx t]
theorem read5 (t : Fin cfg0.N) (a : Fin 1) (b : Fin 256) : (iblk m c 5 t : FVec Ideal S1x256 .f32) (ix2 a b)
    = (V m c main_v16 : FVec Ideal S1x256 .f32) (ix2 a b) := by
  blk_ext [iblk, idx t]

theorem point_lt (t : Fin cfg0.N) : t.val < 16 := (idx t).2.2.2.2.2.2.2.2.2.2.2.2
theorem point_at (t : Fin cfg0.N) : (grid0.coords t 0).val = t.val := (idx t).2.2.2.2.2.2.2.2.2.2.2.1

theorem reads (t : Fin cfg0.N) : Reads (half m c) t.val (iblk m c 0 t) (iblk m c 1 t) (iblk m c 2 t) where
  block_lt := point_lt t
  h a b := (read0 m c t a b (by have := point_lt t; omega)).trans (congrFun (V_main_arg0 m c) _)
  g a b := (read1 m c t a b).trans (gain_eq m c a b)
  w a b := (read2 m c t a b).trans (weight_eq m c a b)

theorem mixes (t : Fin cfg0.N) (z : FVec Ideal S16x1024 .f32)
    (hz : ∀ (a : Fin 16) (b : Fin 1024), z (ix2 a b) = if 512 * t.val + a.val < 16 then 0 else (half m c).P (512 * t.val + a - 16) b) :
    Mixes (half m c) t.val (mixB m c t) z (iblk m c 3 t) (iblk m c 4 t) (iblk m c 5 t) where
  block_lt := point_lt t
  pa a b := (reads m c t).mix a b
  halo := hz
  taps a b ha := (read3 m c t a b).trans (taps_eq m c a b ha)
  blocks a b := (read4 m c t a b).trans (blocks_eq m c a b)
  scale a b := (read5 m c t a b).trans (scale_eq m c a b)

/-- The rows that a point keeps for the next one. -/
theorem kept (n : ℕ) (h : n < cfg0.N) : (outsAt0 m c n h).2.2.2.2.2 = k0_pay1 (mixB m c ⟨n, h⟩) := by
  by_cases h0 : n % 16 = 0
  · rw [outs_A m c ⟨n, h⟩ h0]
  · rw [outs_B m c ⟨n, h⟩ h0]

/-- A point leaves what its blocks and the rows before them make. -/
theorem outs (t : Fin cfg0.N) : ∃ z, outsAt0 m c t.val t.isLt = left m c t z
    ∧ Mixes (half m c) t.val (mixB m c t) z (iblk m c 3 t) (iblk m c 4 t) (iblk m c 5 t) := by
  have ht := point_lt t
  by_cases h0 : t.val % 16 = 0
  · refine ⟨_, outs_A m c t h0, mixes m c t _ fun a b => ?_⟩
    rw [if_pos (by have := a.isLt; omega)]
    pointwise [k0_pay2]
  · have hs : t.val - 1 < cfg0.N := Nat.lt_of_le_of_lt (Nat.sub_le _ _) t.isLt
    refine ⟨_, outs_B m c t h0, mixes m c t _ fun a b => ?_⟩
    rw [kept m c (t.val - 1) hs, if_neg (by omega)]
    exact ((reads m c ⟨t.val - 1, hs⟩).last a b).trans (congrArg (fun n => (half m c).P n b) (by dsimp only; omega))

end Cert.KernelForwardIdeal.Points

end
-- ==== Proof.ForwardValue.lean ====
/- The first half of a layer forward: what the call leaves is what the reference computes. -/
module

public import proofs.«01_k».proof.Defs
public import proofs.«01_k».proof.Proof.Finite
public import proofs.«01_k».proof.Proof.ForwardHost
public import proofs.«01_k».proof.Proof.Gen.KernelForward.Frame
public import proofs.«01_k».proof.Proof.Gen.Pre_finite_fwd
public import Idealize.ShloMosaic.Lib.Pointwise
public import Idealize.ShloMosaic.Lib.Pipeline.ValueKit

@[expose] public section

set_option maxRecDepth 16384

noncomputable section

namespace Cert.KernelForwardIdeal.Points

open Idealize.ShloMosaic Idealize.ShloMosaic.TcCoe Idealize.SL.Sem
open Cert.KernelForwardIdeal.Gen Cert.KernelForwardIdeal.Rows Cert.Forward

variable (m : (ℓ : Loc nD τ sig) → Buf (Elt Ideal) ℓ) (c : Dev nD)

/-- An array by its entries. -/
abbrev table {n k : ℕ} (f : Fin n → Fin k → EReal) : (⟨2, ![n, k]⟩ : Shape).Idx → EReal := fun j => f (j 0) (j 1)

theorem at_entry {n k : ℕ} (f : Fin n → Fin k → EReal) (a : Fin n) (b : Fin k) (j : (⟨2, ![n, k]⟩ : Shape).Idx) (hj : j = ix2 a b) : f a b = table f j := by
  subst hj
  rfl

theorem table_eq {n k : ℕ} (f : Fin n → Fin k → EReal) (x : (⟨2, ![n, k]⟩ : Shape).Idx → EReal) (h : ∀ a b, x (ix2 a b) = f a b) : x = table f := by
  funext j
  exact (congrArg x (eq_ix2 j)).trans (h (j 0) (j 1))

/-- The five arrays that the call leaves. -/
abbrev xnA : FVec Ideal S8192x1024 .bf16 := table fun a b => (half m c).xn a b
abbrev mixA : FVec Ideal S8192x1024 .f32 := table fun a b => (half m c).P a b
abbrev qkvA : FVec Ideal S8192x1536 .bf16 := table fun a b => (half m c).P a (1024 + b)
abbrev kvA : FVec Ideal S1024x8192 .bf16 := table fun a b => (half m c).P b (1536 + a)
abbrev yabA : FVec Ideal S8192x512 .f32 := table fun a b => (half m c).yab a b

theorem final6 : (dats m 0 c).arrAt 6 cfg0.N = xnA m c := by
  refine (dats m 0 c).arrAt_eq_of_covers 6 _ (by decide +kernel) fun t _ y => ?_
  have ht := point_lt t
  obtain ⟨z, e, hz⟩ := outs m c t
  blk_simp
  rw [after0_6, e]
  idx_vars y
  exact ((reads m c t).xn y0 y1).trans (at_entry (fun a b => (half m c).xn a b) ⟨512 * t.val + y0, by omega⟩ y1 _ (by blk_ext [idx t]))

theorem final7 : (dats m 0 c).arrAt 7 cfg0.N = mixA m c := by
  refine (dats m 0 c).arrAt_eq_of_covers 7 _ (by decide +kernel) fun t _ y => ?_
  have ht := point_lt t
  obtain ⟨z, e, hz⟩ := outs m c t
  blk_simp
  rw [after0_7, e]
  idx_vars y
  exact ((reads m c t).mix y0 y1).trans (at_entry (fun (a : Fin 8192) (b : Fin 1024) => (half m c).P a b) ⟨512 * t.val + y0, by omega⟩ y1 _ (by blk_ext [idx t]))

theorem final8 : (dats m 0 c).arrAt 8 cfg0.N = qkvA m c := by
  refine (dats m 0 c).arrAt_eq_of_covers 8 _ (by decide +kernel) fun t _ y => ?_
  have ht := point_lt t
  obtain ⟨z, e, hz⟩ := outs m c t
  blk_simp
  rw [after0_8, e]
  idx_vars y
  exact ((reads m c t).qkv y0 y1).trans (at_entry (fun (a : Fin 8192) (b : Fin 1536) => (half m c).P a (1024 + b)) ⟨512 * t.val + y0, by omega⟩ y1 _ (by blk_ext [idx t]))

theorem final9 : (dats m 0 c).arrAt 9 cfg0.N = kvA m c := by
  refine (dats m 0 c).arrAt_eq_of_covers 9 _ (by decide +kernel) fun t _ y => ?_
  have ht := point_lt t
  obtain ⟨z, e, hz⟩ := outs m c t
  blk_simp
  rw [after0_9, e]
  idx_vars y
  exact ((reads m c t).kv y0 y1).trans (at_entry (fun (a : Fin 1024) (b : Fin 8192) => (half m c).P b (1536 + a)) y0 ⟨512 * t.val + y1, by omega⟩ _ (by blk_ext [idx t]))

theorem final10 : (dats m 0 c).arrAt 10 cfg0.N = yabA m c := by
  refine (dats m 0 c).arrAt_eq_of_covers 10 _ (by decide +kernel) fun t _ y => ?_
  have ht := point_lt t
  obtain ⟨z, e, hz⟩ := outs m c t
  blk_simp
  rw [after0_10, e]
  idx_vars y
  exact (hz.out (grid0.coords t) (point_at t) y0 y1).trans
    (at_entry (fun (a : Fin 8192) (b : Fin 512) => (half m c).yab a b) ⟨512 * t.val + y0, by omega⟩ y1 _ (by blk_ext [idx t]))

/-- Finite gains and pooling columns are real numbers. -/
theorem half_finite [Cert.Pre_finite_fwd.Facts] (h : Cert.Pre_KernelForwardIdeal_finite_fwd m) : (half m c).Finite := by
  obtain ⟨h0, h1⟩ := h c
  refine ⟨fun k => Mixer.finite_entry _ _ _ h0 (ix1 k), fun k b => ?_⟩
  obtain ⟨y, hy⟩ := Mixer.finite_entry _ _ _ h1 (ix2 k b)
  refine ⟨y, Eq.trans ?_ hy⟩
  pointwise
  rfl

end Cert.KernelForwardIdeal.Points

namespace Cert.ForwardValue

open Idealize.ShloMosaic Idealize.ShloMosaic.TcCoe Idealize.SL.Sem
open Cert.KernelForwardIdeal.Points Cert.Forward

/-- The frames of the kernel's two programs and of the reference. -/
theorem frame_kernel : Cert.quiescent_KernelForward (hKernelForward := Cert.KernelForward.Gen.facts) := fun m ρ _ => Cert.KernelForward.Gen.frame m ρ
theorem frame_ideal : Cert.quiescent_KernelForwardIdeal (hKernelForwardIdeal := Cert.KernelForwardIdeal.Gen.facts) :=
  fun m ρ _ => Cert.KernelForwardIdeal.Gen.frame m ρ
theorem frame_reference : Cert.quiescent_ReferenceForwardIdeal (hReferenceForwardIdeal := Cert.ReferenceForwardIdeal.Gen.facts) := by
  intro m ρ _
  exact (θ_run Cert.ReferenceForwardIdeal.defs _ _).mono (fun r h => ⟨fun c => (h c).2.2.2.2.2, sem_eq_zero_of_no_sems (by decide) r.2⟩)
    (Cert.ReferenceForwardIdeal.Value.run (F := Ideal) m ρ)

open Cert.ReferenceForwardIdeal Cert.ReferenceForwardIdeal.Gen Cert.ReferenceForwardIdeal.Rows in
/-- The reference's five arrays. -/
theorem reference_eq (a0 : FVec Ideal S8192x1024 .f32) (a1 : FVec Ideal S1024 .f32) (a2 : FVec Ideal S1024x2560 .f32) (a3 : FVec Ideal S3x256 .f32)
    (a4 : FVec Ideal S4x64x64 .f32) (a5 : FVec Ideal S256 .f32) (H : (given a0 a1 a2 a3 a4 a5).Finite) :
    (truncf .bf16 (xnR a0 a1) bitsLt_bf16_f32 = table fun a b => (given a0 a1 a2 a3 a4 a5).xn a b)
    ∧ (extractStridedSlice S8192x1024 ![0, 0] (projR a0 a1 a2) slices_S8192x2560_S8192x1024_0_0 = table fun a b => (given a0 a1 a2 a3 a4 a5).P a b)
    ∧ (truncf .bf16 (extractStridedSlice S8192x1536 ![0, 1024] (projR a0 a1 a2) slices_S8192x2560_S8192x1536_0_1024) bitsLt_bf16_f32
        = table fun a b => (given a0 a1 a2 a3 a4 a5).P a (1024 + b))
    ∧ (truncf .bf16 (transpose S1024x8192 [1, 0] (extractStridedSlice S8192x1024 ![0, 512] (extractStridedSlice S8192x1536 ![0, 1024] (projR a0 a1 a2)
        slices_S8192x2560_S8192x1536_0_1024) slices_S8192x1536_S8192x1024_0_512) transposes_S8192x1024_S1024x8192_1_0) bitsLt_bf16_f32
        = table fun a b => (given a0 a1 a2 a3 a4 a5).P b (1536 + a))
    ∧ yabR (projR a0 a1 a2) a3 a4 a5 = table fun a b => (given a0 a1 a2 a3 a4 a5).yab a b := by
  have hp := proj_eq a0 a1 a2 a3 a4 a5
  refine ⟨table_eq _ _ fun a b => ?_, table_eq _ _ fun a b => ?_, table_eq _ _ fun a b => ?_, table_eq _ _ fun a b => ?_, table_eq _ _ fun a b => ?_⟩
  · exact xn_eq a0 a1 a2 a3 a4 a5 a b
  · pointwise
    exact hp _ _
  · pointwise
    exact hp _ _
  · pointwise
    exact (hp _ _).trans (congrArg (In.P _ _) (by dsimp only; omega))
  · exact yab_eq a3 a4 a5 hp H (fun _ _ => rfl) (fun _ _ _ => rfl) (fun _ => rfl) a b

/-- Kernel and reference compute the same first half of a layer. -/
theorem value : Cert.algebraic_KernelForwardIdeal_ReferenceForwardIdeal_pre_finite_fwd (hKernelForwardIdeal := Cert.KernelForwardIdeal.Gen.facts)
    (hReferenceForwardIdeal := Cert.ReferenceForwardIdeal.Gen.facts) (hPre_finite_fwd := Cert.Pre_finite_fwd.Gen.facts) := by
  intro m g m' g' hpre hargs
  refine ⟨fun c => xnA m c, fun c => mixA m c, fun c => qkvA m c, fun c => kvA m c, fun c => yabA m c, ?_, ?_⟩
  · open Cert.KernelForwardIdeal Cert.KernelForwardIdeal.Gen in
    exact (θ_run _ _ _).mono (fun r h c => ⟨((h c).1 6).trans (final6 m c), ((h c).1 7).trans (final7 m c), ((h c).1 8).trans (final8 m c),
      ((h c).1 9).trans (final9 m c), ((h c).1 10).trans (final10 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m g)
  · refine (θ_run _ _ _).mono (fun r h c => ?_) (Cert.ReferenceForwardIdeal.Value.run m' g')
    obtain ⟨e0, e1, e2, e3, e4, e5⟩ := hargs c
    have er : Cert.ReferenceForwardIdeal.Rows.given (m' (c.tc.loc Cert.ReferenceForwardIdeal.main_arg0)) (m' (c.tc.loc Cert.ReferenceForwardIdeal.main_arg1))
        (m' (c.tc.loc Cert.ReferenceForwardIdeal.main_arg2)) (m' (c.tc.loc Cert.ReferenceForwardIdeal.main_arg3)) (m' (c.tc.loc Cert.ReferenceForwardIdeal.main_arg4))
        (m' (c.tc.loc Cert.ReferenceForwardIdeal.main_arg5)) = half m c := by
      simp only [Cert.ReferenceForwardIdeal.Rows.given, In.mk.injEq]
      exact ⟨funext fun t => funext fun b => congrFun e0 _, funext fun b => congrFun e1 _, funext fun k => funext fun b => congrFun e2 _,
        funext fun k => funext fun b => congrFun e3 _, funext fun i => funext fun k => funext fun b => congrFun e4 _, funext fun b => congrFun e5 _⟩
    obtain ⟨w0, w1, w2, w3, w4⟩ := reference_eq _ _ _ _ _ _ (er ▸ @half_finite m c Cert.Pre_finite_fwd.Gen.facts hpre)
    rw [er] at w0 w1 w2 w3 w4
    obtain ⟨r0, r1, r2, r3, r4, hr⟩ := h c
    exact ⟨r0.trans w0, r1.trans w1, r2.trans w2, r3.trans w3, r4.trans ((Cert.ReferenceForwardIdeal.Rows.res_eq m' c).trans w4), hr⟩

end Cert.ForwardValue

end
-- ==== Proof.Rows.lean ====
/- A sum accumulated over consecutive grid points, each of which adds up one block of rows, is the sum over all those rows. -/
module

public import Idealize.ShloMosaic.PureOps.Ideal
public import Idealize.ShloMosaic.Lib.Pipeline.Value
public import Idealize.ShloMosaic.Lib.Pipeline.ValueKit.Acc

@[expose] public section

namespace Cert.Rows

open Idealize.ShloMosaic Finset

/-- The first point starts from `Z` and adds its block of `R` rows, each later one adds its own to what the point before left:
    after `j + 1` points the rows of `j + 1` blocks have been added. -/
theorem acc_rows {N : ℕ} {ι : Type} (R e b : ℕ) (a : (n : ℕ) → n < N → ι → EReal) (g : (n : ℕ) → n < N → (ι → EReal) → ι → EReal)
    (f : ι → ℕ → EReal)
    (ha : ∀ (h : b < N) (i : ι), a b h i = ∑ x : Fin R, f i x.val)
    (hg : ∀ (n : ℕ) (h : n < N) (acc : ι → EReal) (i : ι), b < n → n ≤ b + e → g n h acc i = acc i + ∑ x : Fin R, f i ((n - b) * R + x.val))
    (h : b + e < N) (i : ι) : Pipeline.accAt a g b e h i = ∑ l ∈ range ((e + 1) * R), f i l := by
  rw [Pipeline.accAt_add_apply a g (fun _ => 0) (fun n i => ∑ x : Fin R, f i ((n - b) * R + x.val)) b e
    (fun h i => by rw [ha h i]; simp) (fun n h acc i => hg n h acc i) e le_rfl h i, zero_add, ← Finset.sum_range_range_mul_add]
  refine Finset.sum_congr rfl fun s _ => ?_
  rw [Nat.add_sub_cancel_left]
  exact Fin.sum_univ_eq_sum_range (fun x => f i (s * R + x)) R

/-- Row `l` of a product of two columns, nothing past the last row. -/
noncomputable def prodRow {n : ℕ} (x y : Fin n → EReal) (l : ℕ) : EReal := if h : l < n then x ⟨l, h⟩ * y ⟨l, h⟩ else 0

theorem prodRow_val {n : ℕ} (x y : Fin n → EReal) (l : Fin n) : prodRow x y l.val = x l * y l := dif_pos l.isLt

theorem sum_prodRow {n : ℕ} (x y : Fin n → EReal) : ∑ l ∈ range n, prodRow x y l = ∑ l : Fin n, x l * y l := by
  rw [← Fin.sum_univ_eq_sum_range]
  exact Finset.sum_congr rfl fun l _ => prodRow_val x y l

end Cert.Rows
-- ==== Proof.WeightIn.lean ====
/- The gradient of the first products' weights: one sum over all tokens for each of the four groups of columns, which the call adds
   up in eight blocks of 1024 rows. -/
module

public import proofs.«01_k».proof.Defs
public import proofs.«01_k».proof.Proof.Rows
public import proofs.«01_k».proof.Proof.Windows
public import proofs.«01_k».proof.Proof.Gen.KernelIn.Frame
public import proofs.«01_k».proof.Proof.Gen.KernelInIdeal.Value
public import proofs.«01_k».proof.Proof.Gen.ReferenceInIdeal.Run
public import Idealize.ShloMosaic.Lib.Pointwise
public import Idealize.ShloMosaic.Lib.Pipeline.ValueKit

@[expose] public section

set_option maxRecDepth 16384

noncomputable section

namespace Cert.KernelInIdeal.Sum

open Idealize.ShloMosaic Idealize.ShloMosaic.TcCoe Idealize.SL.Sem
open Cert.KernelInIdeal.Gen Cert.KernelInIdeal.Value Cert.Rows Cert.Windows

variable {F : FTy → Type} [FloatOps F]

/-- The sum over a block of rows, added to the four groups of columns of `acc`; the array `base` lies under them. -/
def body (base acc : FVec F S1024x2560 .f32) (x0 x1 : Vec F S1024x1024 .bf16) (x2 x3 x4 : Vec F S1024x512 .bf16) : FVec F S1024x2560 .f32 :=
  VecWindow.put (s := S1024x2560)
    (VecWindow.put (s := S1024x2560)
      (VecWindow.put (s := S1024x2560)
        (VecWindow.put (s := S1024x2560) base ![0, 0] ![1024, 1024]
          (k0_pay3 x0 (VecWindow.window (s := S1024x2560) acc ![0, 0] ![1024, 1024] inb_S1024x2560_S1024x1024_0_0) x1))
        ![0, 1024] ![1024, 512]
        (k0_pay4 x0 (VecWindow.window (s := S1024x2560) acc ![0, 1024] ![1024, 512] inb_S1024x2560_S1024x512_0_1024) x2))
      ![0, 1536] ![1024, 512]
      (k0_pay5 x0 (VecWindow.window (s := S1024x2560) acc ![0, 1536] ![1024, 512] inb_S1024x2560_S1024x512_0_1536) x3))
    ![0, 2048] ![1024, 512]
    (k0_pay1 x0 (k0_pay6 (VecWindow.window (s := S1024x2560) acc ![0, 2048] ![1024, 512] inb_S1024x2560_S1024x512_0_2048)) x4 (constant S1024x512 .f32 0x00000000#32))

/-- A window of columns apart from the columns just put. -/
theorem apart {α : Type} {n w : ℕ} (x : S1024x2560.Idx → α) (o o' : ℕ) (y : (⟨2, ![1024, w]⟩ : Shape).Idx → α)
    (h : ∀ a, (![0, o'] : Fin 2 → ℕ) a + (![1024, n] : Fin 2 → ℕ) a ≤ S1024x2560.size a) (ho : o + w ≤ o') :
    VecWindow.window (s := S1024x2560) (VecWindow.put (s := S1024x2560) x ![0, o] ![1024, w] y) ![0, o'] ![1024, n] h
      = VecWindow.window (s := S1024x2560) x ![0, o'] ![1024, n] h :=
  VecWindow.window_put_of_disjoint (s := S1024x2560) x ![0, o] ![1024, w] ![0, o'] ![1024, n] h y (1 : Fin 2) (.inr ho)

/-- What a point other than the first leaves. -/
theorem out_B (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2560 .f32) (harg6 : arg6.IsWhole) (hc0 : ¬cond0_0 i)
    (x0 : Vec F S1024x1024 .bf16) (x1 : Vec F S1024x1024 .bf16) (x2 : Vec F S1024x512 .bf16) (x3 : Vec F S1024x512 .bf16) (x4 : Vec F S1024x512 .bf16) (xo5 : Vec F S1024x2560 .f32) :
    out0_B_5 c i arg1 harg1 arg2 harg2 arg3 harg3 arg4 harg4 arg5 harg5 arg6 harg6 hc0 x0 x1 x2 x3 x4 xo5 = body (VO0_5.read (Elt F) VO0_5.junk) xo5 x0 x1 x2 x3 x4 := by
  unfold out0_B_5 kernelRun0_B
  dsimp only
  try sl_unfold_words
  simp only [ld_win, st_put, View.writes_nil, Memref.IsWhole.read_unread]
  simp only [window_whole]
  rfl

/-- What the first point leaves: the zeros are put first. -/
theorem out_A (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2560 .f32) (harg6 : arg6.IsWhole) (hc0 : cond0_0 i)
    (x0 : Vec F S1024x1024 .bf16) (x1 : Vec F S1024x1024 .bf16) (x2 : Vec F S1024x512 .bf16) (x3 : Vec F S1024x512 .bf16) (x4 : Vec F S1024x512 .bf16) :
    out0_A_5 c i arg1 harg1 arg2 harg2 arg3 harg3 arg4 harg4 arg5 harg5 arg6 harg6 hc0 x0 x1 x2 x3 x4 = body k0_pay2 k0_pay2 x0 x1 x2 x3 x4 := by
  unfold out0_A_5 kernelRun0_A
  dsimp only
  try sl_unfold_words
  simp only [ld_win, ld_cov, st_put, View.writes_nil, Memref.IsWhole.read_unread]
  simp only [window_whole, put_whole]
  rw [apart, apart, apart, apart, apart, apart]
  · rfl
  all_goals omega

/-- Column `b` of the four arrays side by side. -/
def beside {R : ℕ} (x1 : Fin R → Fin 1024 → EReal) (x2 x3 x4 : Fin R → Fin 512 → EReal) (b : Fin 2560) (l : Fin R) : EReal :=
  if h : b.val < 1024 then x1 l ⟨b.val, h⟩
  else if h1 : b.val < 1536 then x2 l ⟨b.val - 1024, by omega⟩
  else if h2 : b.val < 2048 then x3 l ⟨b.val - 1536, by omega⟩
  else x4 l ⟨b.val - 2048, by omega⟩

theorem pay3_apply (x : Vec Ideal S1024x1024 .bf16) (acc : Vec Ideal S1024x1024 .f32) (y : Vec Ideal S1024x1024 .bf16) (a b : Fin 1024) :
    k0_pay3 x acc y (ix2 a b) = acc (ix2 a b) + ∑ l : Fin 1024, x (ix2 l a) * y (ix2 l b) := by
  pointwise [k0_pay3]

theorem pay4_apply (x : Vec Ideal S1024x1024 .bf16) (acc : Vec Ideal S1024x512 .f32) (y : Vec Ideal S1024x512 .bf16) (a : Fin 1024) (b : Fin 512) :
    k0_pay4 x acc y (ix2 a b) = acc (ix2 a b) + ∑ l : Fin 1024, x (ix2 l a) * y (ix2 l b) := by
  pointwise [k0_pay4]

theorem pay5_apply (x : Vec Ideal S1024x1024 .bf16) (acc : Vec Ideal S1024x512 .f32) (y : Vec Ideal S1024x512 .bf16) (a : Fin 1024) (b : Fin 512) :
    k0_pay5 x acc y (ix2 a b) = acc (ix2 a b) + ∑ l : Fin 1024, x (ix2 l a) * y (ix2 l b) := by
  pointwise [k0_pay5]

theorem pay6_apply (x : Vec Ideal S1024x1024 .bf16) (acc : Vec Ideal S1024x512 .f32) (y : Vec Ideal S1024x512 .bf16) (a : Fin 1024) (b : Fin 512) :
    k0_pay1 x (k0_pay6 acc) y (constant S1024x512 .f32 0x00000000#32) (ix2 a b) = acc (ix2 a b) + ∑ l : Fin 1024, x (ix2 l a) * y (ix2 l b) := by
  pointwise [k0_pay1, k0_pay6]

theorem zero_apply (a : Fin 1024) (b : Fin 2560) : k0_pay2 (F := Ideal) (ix2 a b) = 0 := by
  pointwise [k0_pay2]

/-- An entry of what a point leaves. -/
theorem body_apply (base acc : FVec Ideal S1024x2560 .f32) (x0 x1 : FVec Ideal S1024x1024 .bf16) (x2 x3 x4 : FVec Ideal S1024x512 .bf16) (a : Fin 1024) (b : Fin 2560) :
    body (F := Ideal) base acc x0 x1 x2 x3 x4 (ix2 a b) = acc (ix2 a b)
      + ∑ l : Fin 1024, x0 (ix2 l a) * beside (fun l b => x1 (ix2 l b)) (fun l b => x2 (ix2 l b)) (fun l b => x3 (ix2 l b)) (fun l b => x4 (ix2 l b)) b l := by
  unfold body beside
  by_cases h : b.val < 1024
  · simp only [dif_pos h]
    refine (put_cols_out _ _ _ _ _ (by omega)).trans ?_
    refine (put_cols_out _ _ _ _ _ (by omega)).trans ?_
    refine (put_cols_out _ _ _ _ _ (by omega)).trans ?_
    refine (put_cols_in _ _ _ _ _ (by omega)).trans ?_
    refine (pay3_apply _ _ _ _ _).trans ?_
    refine congrArg₂ (· + ·) ((window_cols _ _ _ _ _ (by dsimp only; omega)).trans (congrArg acc (congrArg (ix2 a) (Fin.ext ?_)))) rfl
    dsimp only; omega
  by_cases h1 : b.val < 1536
  · simp only [dif_neg h, dif_pos h1]
    refine (put_cols_out _ _ _ _ _ (by omega)).trans ?_
    refine (put_cols_out _ _ _ _ _ (by omega)).trans ?_
    refine (put_cols_in _ _ _ _ _ (by omega)).trans ?_
    refine (pay4_apply _ _ _ _ _).trans ?_
    refine congrArg₂ (· + ·) ((window_cols _ _ _ _ _ (by dsimp only; omega)).trans (congrArg acc (congrArg (ix2 a) (Fin.ext ?_)))) rfl
    dsimp only; omega
  by_cases h2 : b.val < 2048
  · simp only [dif_neg h, dif_neg h1, dif_pos h2]
    refine (put_cols_out _ _ _ _ _ (by omega)).trans ?_
    refine (put_cols_in _ _ _ _ _ (by omega)).trans ?_
    refine (pay5_apply _ _ _ _ _).trans ?_
    refine congrArg₂ (· + ·) ((window_cols _ _ _ _ _ (by dsimp only; omega)).trans (congrArg acc (congrArg (ix2 a) (Fin.ext ?_)))) rfl
    dsimp only; omega
  simp only [dif_neg h, dif_neg h1, dif_neg h2]
  refine (put_cols_in _ _ _ _ _ (by omega)).trans ?_
  refine (pay6_apply _ _ _ _ _).trans ?_
  refine congrArg₂ (· + ·) ((window_cols _ _ _ _ _ (by dsimp only; omega)).trans (congrArg acc (congrArg (ix2 a) (Fin.ext ?_)))) rfl
  dsimp only; omega

/-- Which block each window is on at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ t.val < 8 :=
  (by decide +kernel : ∀ t : Fin grid0.N, _)

section Sums

variable (m : (ℓ : Loc nD τ sig) → Buf (Elt Ideal) ℓ) (c : Dev nD)

/-- The arrays of the product. -/
abbrev arg0 : FVec Ideal S8192x1024 .bf16 := m ((c : Thread nD τ).loc main_arg0)
abbrev arg1 : FVec Ideal S8192x1024 .bf16 := m ((c : Thread nD τ).loc main_arg1)
abbrev arg2 : FVec Ideal S8192x512 .bf16 := m ((c : Thread nD τ).loc main_arg2)
abbrev arg3 : FVec Ideal S8192x512 .bf16 := m ((c : Thread nD τ).loc main_arg3)
abbrev arg4 : FVec Ideal S8192x512 .bf16 := m ((c : Thread nD τ).loc main_arg4)

/-- Their blocks at a point. -/
abbrev blk0 (t : Fin cfg0.N) : FVec Ideal S1024x1024 .bf16 := iblk m c 0 t
abbrev blk1 (t : Fin cfg0.N) : FVec Ideal S1024x1024 .bf16 := iblk m c 1 t
abbrev blk2 (t : Fin cfg0.N) : FVec Ideal S1024x512 .bf16 := iblk m c 2 t
abbrev blk3 (t : Fin cfg0.N) : FVec Ideal S1024x512 .bf16 := iblk m c 3 t
abbrev blk4 (t : Fin cfg0.N) : FVec Ideal S1024x512 .bf16 := iblk m c 4 t

/-- Column `b` of the second to fifth arrays side by side. -/
abbrev col (b : Fin 2560) : Fin 8192 → EReal :=
  beside (fun l b => arg1 m c (ix2 l b)) (fun l b => arg2 m c (ix2 l b)) (fun l b => arg3 m c (ix2 l b)) (fun l b => arg4 m c (ix2 l b)) b

/-- One row's part of an entry. -/
def rowOf (a : Fin 1024) (b : Fin 2560) : ℕ → EReal := prodRow (fun l : Fin 8192 => arg0 m c (ix2 l a)) (col m c b)

theorem read0 (t : Fin cfg0.N) (a : Fin 1024) (b : Fin 1024) (h : t.val * 1024 + a.val < 8192) : blk0 m c t (ix2 a b) = arg0 m c (ix2 ⟨t.val * 1024 + a.val, h⟩ b) := by
  blk_ext [iblk, V, idx t]
theorem read1 (t : Fin cfg0.N) (a : Fin 1024) (b : Fin 1024) (h : t.val * 1024 + a.val < 8192) : blk1 m c t (ix2 a b) = arg1 m c (ix2 ⟨t.val * 1024 + a.val, h⟩ b) := by
  blk_ext [iblk, V, idx t]
theorem read2 (t : Fin cfg0.N) (a : Fin 1024) (b : Fin 512) (h : t.val * 1024 + a.val < 8192) : blk2 m c t (ix2 a b) = arg2 m c (ix2 ⟨t.val * 1024 + a.val, h⟩ b) := by
  blk_ext [iblk, V, idx t]
theorem read3 (t : Fin cfg0.N) (a : Fin 1024) (b : Fin 512) (h : t.val * 1024 + a.val < 8192) : blk3 m c t (ix2 a b) = arg3 m c (ix2 ⟨t.val * 1024 + a.val, h⟩ b) := by
  blk_ext [iblk, V, idx t]
theorem read4 (t : Fin cfg0.N) (a : Fin 1024) (b : Fin 512) (h : t.val * 1024 + a.val < 8192) : blk4 m c t (ix2 a b) = arg4 m c (ix2 ⟨t.val * 1024 + a.val, h⟩ b) := by
  blk_ext [iblk, V, idx t]

/-- What a point adds. -/
theorem added (t : Fin cfg0.N) (a : Fin 1024) (b : Fin 2560) :
    ∑ l : Fin 1024, blk0 m c t (ix2 l a) * beside (fun l b => blk1 m c t (ix2 l b)) (fun l b => blk2 m c t (ix2 l b)) (fun l b => blk3 m c t (ix2 l b)) (fun l b => blk4 m c t (ix2 l b)) b l
    = ∑ l ∈ Finset.range 1024, rowOf m c a b (t.val * 1024 + l) := by
  have ht := (idx t).2.2.2.2.2
  rw [← Fin.sum_univ_eq_sum_range (fun l => rowOf m c a b (t.val * 1024 + l))]
  refine Finset.sum_congr rfl fun l _ => ?_
  have hl : t.val * 1024 + l.val < 8192 := by omega
  unfold rowOf prodRow
  rw [dif_pos hl]
  refine congrArg₂ (· * ·) (read0 m c t l a hl) ?_
  unfold col beside
  simp only [read1 m c t l _ hl, read2 m c t l _ hl, read3 m c t l _ hl, read4 m c t l _ hl]

/-- What the first `n + 1` points leave. -/
theorem fold (n : ℕ) (h : n < cfg0.N) (a : Fin 1024) (b : Fin 2560) :
    (outsAt0 m c n h : FVec Ideal S1024x2560 .f32) (ix2 a b) = ∑ l ∈ Finset.range ((n + 1) * 1024), rowOf m c a b l := by
  have h8 := (idx ⟨n, h⟩).2.2.2.2.2
  induction n with
  | zero =>
    refine (congrFun ((outsAt0_A m c ⟨0, h⟩ rfl).trans (out_A ..)) _).trans ?_
    refine (body_apply k0_pay2 k0_pay2 (blk0 m c ⟨0, h⟩) (blk1 m c ⟨0, h⟩) (blk2 m c ⟨0, h⟩) (blk3 m c ⟨0, h⟩) (blk4 m c ⟨0, h⟩) a b).trans ?_
    rw [zero_apply, zero_add, added]
    simp
  | succ n ih =>
    dsimp only at h8
    refine (congrFun ((outsAt0_B m c ⟨n + 1, h⟩ (by dsimp only; omega)).trans (out_B ..)) _).trans ?_
    refine (body_apply _ (outsAt0 m c n _) (blk0 m c ⟨n + 1, h⟩) (blk1 m c ⟨n + 1, h⟩) (blk2 m c ⟨n + 1, h⟩) (blk3 m c ⟨n + 1, h⟩) (blk4 m c ⟨n + 1, h⟩) a b).trans ?_
    rw [ih (by omega) (by dsimp only; omega), added, show (n + 1 + 1) * 1024 = (n + 1) * 1024 + 1024 by omega, Finset.sum_range_add]

/-- The array that the call leaves. -/
abbrev left : FVec Ideal S1024x2560 .f32 := outsAt0 m c t0_7.val t0_7.isLt

theorem final : (dats m 0 c).arrAt 5 cfg0.N = left m c := by
  refine (dats m 0 c).arrAt_eq_of_after_last 5 t0_7 (by decide +kernel) _ fun j => ?_
  blk_simp
  rw [after0_5]

/-- Its entries. -/
theorem left_apply (a : Fin 1024) (b : Fin 2560) : left m c (ix2 a b) = ∑ l : Fin 8192, arg0 m c (ix2 l a) * col m c b l := by
  refine (fold m c 7 t0_7.isLt a b).trans ?_
  exact sum_prodRow _ _

end Sums

end Cert.KernelInIdeal.Sum

namespace Cert.WeightIn

open Idealize.ShloMosaic Idealize.ShloMosaic.TcCoe Idealize.SL.Sem

open Cert.ReferenceInIdeal in
/-- The reference's product, transposed: the same sum, each product's factors the other way round. -/
theorem reference_apply (x y1 : FVec Ideal S8192x1024 .bf16) (y2 y3 y4 : FVec Ideal S8192x512 .bf16) (a : Fin 1024) (b : Fin 2560) :
    transpose S1024x2560 [1, 0] (Host.dotGeneral (φ₁ := .f32) (φ₂ := .f32) dot_S8192x2560_S8192x1024_S2560x1024_0_0_1_1_n_n none
      (extf .f32 (concatenate S8192x2560 1 [⟨S8192x1024, y1⟩, ⟨S8192x512, y2⟩, ⟨S8192x512, y3⟩, ⟨S8192x512, y4⟩]
        Facts₀.concatenates_S8192x1024_S8192x512_S8192x512_S8192x512_S8192x2560_d1 : FVec Ideal S8192x2560 .bf16) Facts₀.bitsLt_bf16_f32)
      (extf .f32 x Facts₀.bitsLt_bf16_f32)) Facts₀.transposes_S2560x1024_S1024x2560_1_0 (ix2 a b)
      = ∑ l : Fin 8192, x (ix2 l a) * Cert.KernelInIdeal.Sum.beside (fun l b => y1 (ix2 l b)) (fun l b => y2 (ix2 l b)) (fun l b => y3 (ix2 l b)) (fun l b => y4 (ix2 l b)) b l := by
  pointwise
  refine Finset.sum_congr rfl fun l _ => (mul_comm _ _).trans ?_
  unfold Cert.KernelInIdeal.Sum.beside
  refine congrArg₂ (· * ·) rfl ?_
  by_cases h : b.val < 1024
  · rw [dif_pos h, dif_pos h]
  rw [dif_neg h, dif_neg h]
  by_cases h1 : b.val < 1536
  · rw [dif_pos h1, dif_pos (by omega)]
  rw [dif_neg h1, dif_neg (by omega)]
  by_cases h2 : b.val < 2048
  · rw [dif_pos h2, dif_pos (by omega)]
    exact congrArg y3 (congrArg (ix2 l) (Fin.ext (by dsimp only; omega)))
  rw [dif_neg h2, dif_neg (by omega)]
  exact congrArg y4 (congrArg (ix2 l) (Fin.ext (by dsimp only; omega)))

/-- The frames of the kernel's two programs and of the reference. -/
theorem frame_kernel : Cert.quiescent_KernelIn (hKernelIn := Cert.KernelIn.Gen.facts) := fun m ρ _ => Cert.KernelIn.Gen.frame m ρ
theorem frame_ideal : Cert.quiescent_KernelInIdeal (hKernelInIdeal := Cert.KernelInIdeal.Gen.facts) := fun m ρ _ => Cert.KernelInIdeal.Gen.frame m ρ
theorem frame_reference : Cert.quiescent_ReferenceInIdeal (hReferenceInIdeal := Cert.ReferenceInIdeal.Gen.facts) := by
  intro m ρ _
  exact (θ_run Cert.ReferenceInIdeal.defs _ _).mono (fun r h => ⟨fun c => (h c).2, sem_eq_zero_of_no_sems (by decide) r.2⟩)
    (Cert.ReferenceInIdeal.Value.run (F := Ideal) m ρ)

/-- Kernel and reference compute the same weight gradient. -/
theorem value : Cert.algebraic_KernelInIdeal_ReferenceInIdeal (hKernelInIdeal := Cert.KernelInIdeal.Gen.facts)
    (hReferenceInIdeal := Cert.ReferenceInIdeal.Gen.facts) := by
  intro m g m' g' _ hargs
  refine ⟨fun c => Cert.KernelInIdeal.Sum.left m c, (θ_run _ _ _).mono (fun r h c => ⟨(h c).1.trans (Cert.KernelInIdeal.Sum.final m c), (h c).2⟩) (Cert.KernelInIdeal.Value.run_blocks m g), ?_⟩
  refine (θ_run _ _ _).mono (fun r h c => ⟨(h c).1.trans ?_, (h c).2⟩) (Cert.ReferenceInIdeal.Value.run m' g')
  rw [(hargs c).1, (hargs c).2.1, (hargs c).2.2.1, (hargs c).2.2.2.1, (hargs c).2.2.2.2]
  funext j
  idx_vars j
  exact (reference_apply _ _ _ _ _ _ _).trans (Cert.KernelInIdeal.Sum.left_apply m c _ _).symm

end Cert.WeightIn

end
-- ==== Proof.WeightOut.lean ====
/- The gradient of the output projection's weight: one sum over all tokens, which the call adds up in four blocks of 2048 rows.
   There is one block of columns, number 0. -/
module

public import proofs.«01_k».proof.Defs
public import proofs.«01_k».proof.Proof.Rows
public import proofs.«01_k».proof.Proof.Gen.KernelOut.Frame
public import proofs.«01_k».proof.Proof.Gen.KernelOutIdeal.Value
public import proofs.«01_k».proof.Proof.Gen.ReferenceOutIdeal.Run
public import Idealize.ShloMosaic.Lib.Pointwise
public import Idealize.ShloMosaic.Lib.Pipeline.ValueKit

@[expose] public section

set_option maxRecDepth 16384

noncomputable section

namespace Cert.KernelOutIdeal.Sum

open Idealize.ShloMosaic Idealize.ShloMosaic.TcCoe Idealize.SL.Sem
open Cert.KernelOutIdeal.Gen Cert.KernelOutIdeal.Value Cert.Rows

/-- Which block each window is on at a point. -/
theorem idx : ∀ t : Fin cfg0.N, win0_0.index t = ![t.val % 4, 0] ∧ win0_1.index t = ![t.val % 4, t.val / 4] ∧ t.val < 4 :=
  (by decide +kernel : ∀ t : Fin grid0.N, _)

variable (m : (ℓ : Loc nD τ sig) → Buf (Elt Ideal) ℓ) (c : Dev nD)

/-- The two arrays of the product. -/
abbrev arg0 : FVec Ideal S8192x1024 .bf16 := m ((c : Thread nD τ).loc main_arg0)
abbrev arg1 : FVec Ideal S8192x1024 .bf16 := m ((c : Thread nD τ).loc main_arg1)

/-- Their blocks at a point, and the array that the call leaves. -/
abbrev blk0 (t : Fin cfg0.N) : FVec Ideal S2048x1024 .bf16 := iblk m c 0 t
abbrev blk1 (t : Fin cfg0.N) : FVec Ideal S2048x1024 .bf16 := iblk m c 1 t
abbrev left : FVec Ideal S1024x1024 .f32 := G2 m c

/-- A column of the second array by its number. -/
def col1 (j : ℕ) (l : Fin 8192) : EReal := if h : j < 1024 then arg1 m c (ix2 l ⟨j, h⟩) else 0

theorem col1_of {j : ℕ} (h : j < 1024) (l : Fin 8192) : col1 m c j l = arg1 m c (ix2 l ⟨j, h⟩) := dif_pos h

/-- One row's part of an entry of block `q` of the columns. -/
def rowOf (q : ℕ) (i : S1024x1024.Idx) : ℕ → EReal :=
  prodRow (fun l : Fin 8192 => arg0 m c (ix2 l (i 0))) (col1 m c (q * 1024 + (i 1).val))

theorem read0 (t : Fin cfg0.N) (a : Fin 2048) (b : Fin 1024) :
    blk0 m c t (ix2 a b) = arg0 m c (ix2 ⟨t.val % 4 * 2048 + a.val, by omega⟩ b) := by
  blk_ext [iblk, V, idx t]

theorem read1 (t : Fin cfg0.N) (a : Fin 2048) (b : Fin 1024) (h : t.val / 4 * 1024 + b.val < 1024) :
    blk1 m c t (ix2 a b) = arg1 m c (ix2 ⟨t.val % 4 * 2048 + a.val, by omega⟩ ⟨t.val / 4 * 1024 + b.val, h⟩) := by
  blk_ext [iblk, V, idx t]

theorem pay_apply (acc : Vec Ideal S1024x1024 .f32) (x : Vec Ideal S2048x1024 .bf16) (y : Vec Ideal S2048x1024 .bf16) (a : Fin 1024) (b : Fin 1024) :
    k0_pay2 acc x y (ix2 a b) = acc (ix2 a b) + ∑ l : Fin 2048, x (ix2 l a) * y (ix2 l b) := by
  pointwise [k0_pay2]

theorem zero_apply (a : Fin 1024) (b : Fin 1024) : k0_pay1 (F := Ideal) (ix2 a b) = 0 := by
  pointwise [k0_pay1]

/-- What a point adds. -/
theorem added (q s n : ℕ) (h : n < cfg0.N) (hn : n = 4 * q + s) (hs : s < 4) (i : S1024x1024.Idx) :
    ∑ l : Fin 2048, blk0 m c ⟨n, h⟩ (ix2 l (i 0)) * blk1 m c ⟨n, h⟩ (ix2 l (i 1))
    = ∑ l : Fin 2048, rowOf m c q i (s * 2048 + l.val) := by
  have hN := (idx ⟨n, h⟩).2.2
  have h1 : (i 1).val < 1024 := (i 1).isLt
  dsimp only at hN
  obtain rfl : q = n / 4 := by omega
  obtain rfl : s = n % 4 := by omega
  refine Finset.sum_congr rfl fun l _ => ?_
  refine (congrArg₂ (· * ·) (read0 m c ⟨n, h⟩ l (i 0)) (read1 m c ⟨n, h⟩ l (i 1) (by dsimp only; omega))).trans ?_
  unfold rowOf prodRow
  rw [dif_pos (by omega)]
  exact congrArg₂ (· * ·) rfl (col1_of m c (show n / 4 * 1024 + (i 1).val < 1024 by omega) _).symm

/-- The whole run of a block of columns. -/
theorem fold (q : ℕ) (h : 4 * q + 3 < cfg0.N) (i : S1024x1024.Idx) :
    Pipeline.accAt (reset2 m c) (step2 m c) (4 * q) 3 h i = ∑ l ∈ Finset.range ((3 + 1) * 2048), rowOf m c q i l := by
  refine acc_rows 2048 3 (4 * q) _ _ (rowOf m c q) (fun h i => ?_) (fun n h acc i h1 h2 => ?_) h i
  · have e := added m c q 0 (4 * q) h rfl (by omega) i
    simp only [Nat.zero_mul, Nat.zero_add] at e
    rw [← e]
    idx_vars i
    unfold reset2
    rw [pay_apply, zero_apply, zero_add]
  · rw [← added m c q (n - 4 * q) n h (by omega) (by omega) i]
    idx_vars i
    unfold step2
    rw [pay_apply]

/-- Its entries. -/
theorem left_apply (a : Fin 1024) (b : Fin 1024) :
    left m c (ix2 a b) = ∑ l : Fin 8192, arg0 m c (ix2 l a) * arg1 m c (ix2 l b) := by
  have hN : cfg0.N = 4 := N_0
  have hb : b.val < 1024 := b.isLt
  have ha : a.val < 1024 := a.isLt
  have hr : run2Of (ix2 a b) = b.val / 1024 := by
    show _ * (a.val / 1024 - 0) + _ * (b.val / 1024 - 0) = _
    omega
  show (if h : 4 * run2Of (ix2 a b) + 3 < cfg0.N then _ else _) = _
  rw [dif_pos (by rw [hr, hN]; omega), fold, show (3 + 1) * 2048 = 8192 from rfl]
  unfold rowOf
  rw [sum_prodRow]
  refine Finset.sum_congr rfl fun l _ => ?_
  rw [hr]
  have h0 : (loc2Of (ix2 a b) 0 : Fin 1024) = a := Fin.ext (show a.val % 1024 = a.val by omega)
  have h1 : (loc2Of (ix2 a b) 1).val = b.val % 1024 := rfl
  rw [h0, col1_of m c (by rw [h1]; omega)]
  congr 3
  exact Fin.ext (by show b.val / 1024 * 1024 + b.val % 1024 = b.val; omega)

end Cert.KernelOutIdeal.Sum

namespace Cert.WeightOut

open Idealize.ShloMosaic Idealize.ShloMosaic.TcCoe Idealize.SL.Sem

/-- The reference's product, transposed: the same sum, each product's factors the other way round. -/
theorem reference_apply (x : FVec Ideal Cert.ReferenceOutIdeal.S8192x1024 .bf16) (y : FVec Ideal Cert.ReferenceOutIdeal.S8192x1024 .bf16) (a : Fin 1024) (b : Fin 1024) :
    transpose Cert.ReferenceOutIdeal.S1024x1024 [1, 0] (Host.dotGeneral (φ₁ := .f32) (φ₂ := .f32) Cert.ReferenceOutIdeal.dot_S8192x1024_S8192x1024_S1024x1024_0_0_1_1_n_n none
      (extf .f32 y Cert.ReferenceOutIdeal.Facts₀.bitsLt_bf16_f32) (extf .f32 x Cert.ReferenceOutIdeal.Facts₀.bitsLt_bf16_f32)) Cert.ReferenceOutIdeal.Facts₀.transposes_S1024x1024_S1024x1024_1_0 (ix2 a b)
      = ∑ l : Fin 8192, x (ix2 l a) * y (ix2 l b) := by
  pointwise
  exact Finset.sum_congr rfl fun l _ => mul_comm _ _

/-- The frames of the kernel's two programs and of the reference. -/
theorem frame_kernel : Cert.quiescent_KernelOut (hKernelOut := Cert.KernelOut.Gen.facts) := fun m ρ _ => Cert.KernelOut.Gen.frame m ρ
theorem frame_ideal : Cert.quiescent_KernelOutIdeal (hKernelOutIdeal := Cert.KernelOutIdeal.Gen.facts) := fun m ρ _ => Cert.KernelOutIdeal.Gen.frame m ρ
theorem frame_reference : Cert.quiescent_ReferenceOutIdeal (hReferenceOutIdeal := Cert.ReferenceOutIdeal.Gen.facts) := by
  intro m ρ _
  exact (θ_run Cert.ReferenceOutIdeal.defs _ _).mono (fun r h => ⟨fun c => (h c).2, sem_eq_zero_of_no_sems (by decide) r.2⟩)
    (Cert.ReferenceOutIdeal.Value.run (F := Ideal) m ρ)

/-- Kernel and reference compute the same weight gradient. -/
theorem value : Cert.algebraic_KernelOutIdeal_ReferenceOutIdeal (hKernelOutIdeal := Cert.KernelOutIdeal.Gen.facts)
    (hReferenceOutIdeal := Cert.ReferenceOutIdeal.Gen.facts) := by
  intro m g m' g' _ hargs
  refine ⟨fun c => Cert.KernelOutIdeal.Value.G2 m c, Cert.KernelOutIdeal.Value.run m g, ?_⟩
  refine (θ_run _ _ _).mono (fun r h c => ⟨(h c).1.trans ?_, (h c).2⟩) (Cert.ReferenceOutIdeal.Value.run m' g')
  rw [(hargs c).1, (hargs c).2]
  funext j
  idx_vars j
  exact (reference_apply _ _ _ _).trans (Cert.KernelOutIdeal.Sum.left_apply m c _ _).symm

end Cert.WeightOut

end
-- ==== Proof.WeightGateUp.lean ====
/- The gradient of the gate and up weights: one sum over all tokens, which the call adds up in four blocks of 2048 rows for
   each block of 1408 columns. -/
module

public import proofs.«01_k».proof.Defs
public import proofs.«01_k».proof.Proof.Rows
public import proofs.«01_k».proof.Proof.Gen.KernelGateUp.Frame
public import proofs.«01_k».proof.Proof.Gen.KernelGateUpIdeal.Value
public import proofs.«01_k».proof.Proof.Gen.ReferenceGateUpIdeal.Run
public import Idealize.ShloMosaic.Lib.Pointwise
public import Idealize.ShloMosaic.Lib.Pipeline.ValueKit

@[expose] public section

set_option maxRecDepth 16384

noncomputable section

namespace Cert.KernelGateUpIdeal.Sum

open Idealize.ShloMosaic Idealize.ShloMosaic.TcCoe Idealize.SL.Sem
open Cert.KernelGateUpIdeal.Gen Cert.KernelGateUpIdeal.Value Cert.Rows

/-- Which block each window is on at a point. -/
theorem idx : ∀ t : Fin cfg0.N, win0_0.index t = ![t.val % 4, 0] ∧ win0_1.index t = ![t.val % 4, t.val / 4] ∧ t.val < 16 :=
  (by decide +kernel : ∀ t : Fin grid0.N, _)

variable (m : (ℓ : Loc nD τ sig) → Buf (Elt Ideal) ℓ) (c : Dev nD)

/-- The two arrays of the product. -/
abbrev arg0 : FVec Ideal S8192x1024 .bf16 := m ((c : Thread nD τ).loc main_arg0)
abbrev arg1 : FVec Ideal S8192x5632 .bf16 := m ((c : Thread nD τ).loc main_arg1)

/-- Their blocks at a point, and the array that the call leaves. -/
abbrev blk0 (t : Fin cfg0.N) : FVec Ideal S2048x1024 .bf16 := iblk m c 0 t
abbrev blk1 (t : Fin cfg0.N) : FVec Ideal S2048x1408 .bf16 := iblk m c 1 t
abbrev left : FVec Ideal S1024x5632 .f32 := G2 m c

/-- A column of the second array by its number. -/
def col1 (j : ℕ) (l : Fin 8192) : EReal := if h : j < 5632 then arg1 m c (ix2 l ⟨j, h⟩) else 0

theorem col1_of {j : ℕ} (h : j < 5632) (l : Fin 8192) : col1 m c j l = arg1 m c (ix2 l ⟨j, h⟩) := dif_pos h

/-- One row's part of an entry of block `q` of the columns. -/
def rowOf (q : ℕ) (i : S1024x1408.Idx) : ℕ → EReal :=
  prodRow (fun l : Fin 8192 => arg0 m c (ix2 l (i 0))) (col1 m c (q * 1408 + (i 1).val))

theorem read0 (t : Fin cfg0.N) (a : Fin 2048) (b : Fin 1024) :
    blk0 m c t (ix2 a b) = arg0 m c (ix2 ⟨t.val % 4 * 2048 + a.val, by omega⟩ b) := by
  blk_ext [iblk, V, idx t]

theorem read1 (t : Fin cfg0.N) (a : Fin 2048) (b : Fin 1408) (h : t.val / 4 * 1408 + b.val < 5632) :
    blk1 m c t (ix2 a b) = arg1 m c (ix2 ⟨t.val % 4 * 2048 + a.val, by omega⟩ ⟨t.val / 4 * 1408 + b.val, h⟩) := by
  blk_ext [iblk, V, idx t]

theorem pay_apply (acc : Vec Ideal S1024x1408 .f32) (x : Vec Ideal S2048x1024 .bf16) (y : Vec Ideal S2048x1408 .bf16) (a : Fin 1024) (b : Fin 1408) :
    k0_pay2 acc x y (ix2 a b) = acc (ix2 a b) + ∑ l : Fin 2048, x (ix2 l a) * y (ix2 l b) := by
  pointwise [k0_pay2]

theorem zero_apply (a : Fin 1024) (b : Fin 1408) : k0_pay1 (F := Ideal) (ix2 a b) = 0 := by
  pointwise [k0_pay1]

/-- What a point adds. -/
theorem added (q s n : ℕ) (h : n < cfg0.N) (hn : n = 4 * q + s) (hs : s < 4) (i : S1024x1408.Idx) :
    ∑ l : Fin 2048, blk0 m c ⟨n, h⟩ (ix2 l (i 0)) * blk1 m c ⟨n, h⟩ (ix2 l (i 1))
    = ∑ l : Fin 2048, rowOf m c q i (s * 2048 + l.val) := by
  have hN := (idx ⟨n, h⟩).2.2
  have h1 : (i 1).val < 1408 := (i 1).isLt
  dsimp only at hN
  obtain rfl : q = n / 4 := by omega
  obtain rfl : s = n % 4 := by omega
  refine Finset.sum_congr rfl fun l _ => ?_
  refine (congrArg₂ (· * ·) (read0 m c ⟨n, h⟩ l (i 0)) (read1 m c ⟨n, h⟩ l (i 1) (by dsimp only; omega))).trans ?_
  unfold rowOf prodRow
  rw [dif_pos (by omega)]
  exact congrArg₂ (· * ·) rfl (col1_of m c (show n / 4 * 1408 + (i 1).val < 5632 by omega) _).symm

/-- The whole run of a block of columns. -/
theorem fold (q : ℕ) (h : 4 * q + 3 < cfg0.N) (i : S1024x1408.Idx) :
    Pipeline.accAt (reset2 m c) (step2 m c) (4 * q) 3 h i = ∑ l ∈ Finset.range ((3 + 1) * 2048), rowOf m c q i l := by
  refine acc_rows 2048 3 (4 * q) _ _ (rowOf m c q) (fun h i => ?_) (fun n h acc i h1 h2 => ?_) h i
  · have e := added m c q 0 (4 * q) h rfl (by omega) i
    simp only [Nat.zero_mul, Nat.zero_add] at e
    rw [← e]
    idx_vars i
    unfold reset2
    rw [pay_apply, zero_apply, zero_add]
  · rw [← added m c q (n - 4 * q) n h (by omega) (by omega) i]
    idx_vars i
    unfold step2
    rw [pay_apply]

/-- Its entries. -/
theorem left_apply (a : Fin 1024) (b : Fin 5632) :
    left m c (ix2 a b) = ∑ l : Fin 8192, arg0 m c (ix2 l a) * arg1 m c (ix2 l b) := by
  have hN : cfg0.N = 16 := N_0
  have hb : b.val < 5632 := b.isLt
  have ha : a.val < 1024 := a.isLt
  have hr : run2Of (ix2 a b) = b.val / 1408 := by
    show _ * (a.val / 1024 - 0) + _ * (b.val / 1408 - 0) = _
    omega
  show (if h : 4 * run2Of (ix2 a b) + 3 < cfg0.N then _ else _) = _
  rw [dif_pos (by rw [hr, hN]; omega), fold, show (3 + 1) * 2048 = 8192 from rfl]
  unfold rowOf
  rw [sum_prodRow]
  refine Finset.sum_congr rfl fun l _ => ?_
  rw [hr]
  have h0 : (loc2Of (ix2 a b) 0 : Fin 1024) = a := Fin.ext (show a.val % 1024 = a.val by omega)
  have h1 : (loc2Of (ix2 a b) 1).val = b.val % 1408 := rfl
  rw [h0, col1_of m c (by rw [h1]; omega)]
  congr 3
  exact Fin.ext (by show b.val / 1408 * 1408 + b.val % 1408 = b.val; omega)

end Cert.KernelGateUpIdeal.Sum

namespace Cert.WeightGateUp

open Idealize.ShloMosaic Idealize.ShloMosaic.TcCoe Idealize.SL.Sem

/-- The reference's product, transposed: the same sum, each product's factors the other way round. -/
theorem reference_apply (x : FVec Ideal Cert.ReferenceGateUpIdeal.S8192x1024 .bf16) (y : FVec Ideal Cert.ReferenceGateUpIdeal.S8192x5632 .bf16) (a : Fin 1024) (b : Fin 5632) :
    transpose Cert.ReferenceGateUpIdeal.S1024x5632 [1, 0] (Host.dotGeneral (φ₁ := .f32) (φ₂ := .f32) Cert.ReferenceGateUpIdeal.dot_S8192x5632_S8192x1024_S5632x1024_0_0_1_1_n_n none
      (extf .f32 y Cert.ReferenceGateUpIdeal.Facts₀.bitsLt_bf16_f32) (extf .f32 x Cert.ReferenceGateUpIdeal.Facts₀.bitsLt_bf16_f32)) Cert.ReferenceGateUpIdeal.Facts₀.transposes_S5632x1024_S1024x5632_1_0 (ix2 a b)
      = ∑ l : Fin 8192, x (ix2 l a) * y (ix2 l b) := by
  pointwise
  exact Finset.sum_congr rfl fun l _ => mul_comm _ _

/-- The frames of the kernel's two programs and of the reference. -/
theorem frame_kernel : Cert.quiescent_KernelGateUp (hKernelGateUp := Cert.KernelGateUp.Gen.facts) := fun m ρ _ => Cert.KernelGateUp.Gen.frame m ρ
theorem frame_ideal : Cert.quiescent_KernelGateUpIdeal (hKernelGateUpIdeal := Cert.KernelGateUpIdeal.Gen.facts) := fun m ρ _ => Cert.KernelGateUpIdeal.Gen.frame m ρ
theorem frame_reference : Cert.quiescent_ReferenceGateUpIdeal (hReferenceGateUpIdeal := Cert.ReferenceGateUpIdeal.Gen.facts) := by
  intro m ρ _
  exact (θ_run Cert.ReferenceGateUpIdeal.defs _ _).mono (fun r h => ⟨fun c => (h c).2, sem_eq_zero_of_no_sems (by decide) r.2⟩)
    (Cert.ReferenceGateUpIdeal.Value.run (F := Ideal) m ρ)

/-- Kernel and reference compute the same weight gradient. -/
theorem value : Cert.algebraic_KernelGateUpIdeal_ReferenceGateUpIdeal (hKernelGateUpIdeal := Cert.KernelGateUpIdeal.Gen.facts)
    (hReferenceGateUpIdeal := Cert.ReferenceGateUpIdeal.Gen.facts) := by
  intro m g m' g' _ hargs
  refine ⟨fun c => Cert.KernelGateUpIdeal.Value.G2 m c, Cert.KernelGateUpIdeal.Value.run m g, ?_⟩
  refine (θ_run _ _ _).mono (fun r h c => ⟨(h c).1.trans ?_, (h c).2⟩) (Cert.ReferenceGateUpIdeal.Value.run m' g')
  rw [(hargs c).1, (hargs c).2]
  funext j
  idx_vars j
  exact (reference_apply _ _ _ _).trans (Cert.KernelGateUpIdeal.Sum.left_apply m c _ _).symm

end Cert.WeightGateUp

end
-- ==== Proof.WeightDown.lean ====
/- The gradient of the feed-forward's second weight: one sum over all tokens, which the call adds up in four blocks of 2048 rows
   for each half of the weight's rows. -/
module

public import proofs.«01_k».proof.Defs
public import proofs.«01_k».proof.Proof.Rows
public import proofs.«01_k».proof.Proof.Gen.KernelDown.Frame
public import proofs.«01_k».proof.Proof.Gen.KernelDownIdeal.Value
public import proofs.«01_k».proof.Proof.Gen.ReferenceDownIdeal.Run
public import Idealize.ShloMosaic.Lib.Pointwise
public import Idealize.ShloMosaic.Lib.Pipeline.ValueKit

@[expose] public section

set_option maxRecDepth 16384

noncomputable section

namespace Cert.KernelDownIdeal.Sum

open Idealize.ShloMosaic Idealize.ShloMosaic.TcCoe Idealize.SL.Sem
open Cert.KernelDownIdeal.Gen Cert.KernelDownIdeal.Value Cert.Rows

/-- Which block each window is on at a point. -/
theorem idx : ∀ t : Fin cfg0.N, win0_0.index t = ![t.val % 4, t.val / 4] ∧ win0_1.index t = ![t.val % 4, 0] ∧ t.val < 8 :=
  (by decide +kernel : ∀ t : Fin grid0.N, _)

variable (m : (ℓ : Loc nD τ sig) → Buf (Elt Ideal) ℓ) (c : Dev nD)

/-- The two arrays of the product. -/
abbrev arg0 : FVec Ideal S8192x2816 .bf16 := m ((c : Thread nD τ).loc main_arg0)
abbrev arg1 : FVec Ideal S8192x1024 .bf16 := m ((c : Thread nD τ).loc main_arg1)

/-- Their blocks at a point, and the array that the call leaves. -/
abbrev blk0 (t : Fin cfg0.N) : FVec Ideal S2048x1408 .bf16 := iblk m c 0 t
abbrev blk1 (t : Fin cfg0.N) : FVec Ideal S2048x1024 .bf16 := iblk m c 1 t
abbrev left : FVec Ideal S2816x1024 .f32 := G2 m c

/-- A column of the first array by its number. -/
def col0 (j : ℕ) (l : Fin 8192) : EReal := if h : j < 2816 then arg0 m c (ix2 l ⟨j, h⟩) else 0

theorem col0_of {j : ℕ} (h : j < 2816) (l : Fin 8192) : col0 m c j l = arg0 m c (ix2 l ⟨j, h⟩) := dif_pos h

/-- One row's part of an entry of block `q` of the weight's rows. -/
def rowOf (q : ℕ) (i : S1408x1024.Idx) : ℕ → EReal :=
  prodRow (col0 m c (q * 1408 + (i 0).val)) (fun l : Fin 8192 => arg1 m c (ix2 l (i 1)))

theorem read0 (t : Fin cfg0.N) (a : Fin 2048) (b : Fin 1408) (h : t.val / 4 * 1408 + b.val < 2816) :
    blk0 m c t (ix2 a b) = arg0 m c (ix2 ⟨t.val % 4 * 2048 + a.val, by omega⟩ ⟨t.val / 4 * 1408 + b.val, h⟩) := by
  blk_ext [iblk, V, idx t]

theorem read1 (t : Fin cfg0.N) (a : Fin 2048) (b : Fin 1024) :
    blk1 m c t (ix2 a b) = arg1 m c (ix2 ⟨t.val % 4 * 2048 + a.val, by omega⟩ b) := by
  blk_ext [iblk, V, idx t]

theorem pay_apply (acc : Vec Ideal S1408x1024 .f32) (x : Vec Ideal S2048x1408 .bf16) (y : Vec Ideal S2048x1024 .bf16) (a : Fin 1408) (b : Fin 1024) :
    k0_pay2 acc x y (ix2 a b) = acc (ix2 a b) + ∑ l : Fin 2048, x (ix2 l a) * y (ix2 l b) := by
  pointwise [k0_pay2]

theorem zero_apply (a : Fin 1408) (b : Fin 1024) : k0_pay1 (F := Ideal) (ix2 a b) = 0 := by
  pointwise [k0_pay1]

/-- What a point adds. -/
theorem added (q s n : ℕ) (h : n < cfg0.N) (hn : n = 4 * q + s) (hs : s < 4) (i : S1408x1024.Idx) :
    ∑ l : Fin 2048, blk0 m c ⟨n, h⟩ (ix2 l (i 0)) * blk1 m c ⟨n, h⟩ (ix2 l (i 1))
    = ∑ l : Fin 2048, rowOf m c q i (s * 2048 + l.val) := by
  have hN := (idx ⟨n, h⟩).2.2
  have h1 : (i 0).val < 1408 := (i 0).isLt
  dsimp only at hN
  obtain rfl : q = n / 4 := by omega
  obtain rfl : s = n % 4 := by omega
  refine Finset.sum_congr rfl fun l _ => ?_
  refine (congrArg₂ (· * ·) (read0 m c ⟨n, h⟩ l (i 0) (by dsimp only; omega)) (read1 m c ⟨n, h⟩ l (i 1))).trans ?_
  unfold rowOf prodRow
  rw [dif_pos (by omega)]
  exact congrArg₂ (· * ·) (col0_of m c (show n / 4 * 1408 + (i 0).val < 2816 by omega) _).symm rfl

/-- The whole run of a block. -/
theorem fold (q : ℕ) (h : 4 * q + 3 < cfg0.N) (i : S1408x1024.Idx) :
    Pipeline.accAt (reset2 m c) (step2 m c) (4 * q) 3 h i = ∑ l ∈ Finset.range ((3 + 1) * 2048), rowOf m c q i l := by
  refine acc_rows 2048 3 (4 * q) _ _ (rowOf m c q) (fun h i => ?_) (fun n h acc i h1 h2 => ?_) h i
  · have e := added m c q 0 (4 * q) h rfl (by omega) i
    simp only [Nat.zero_mul, Nat.zero_add] at e
    rw [← e]
    idx_vars i
    unfold reset2
    rw [pay_apply, zero_apply, zero_add]
  · rw [← added m c q (n - 4 * q) n h (by omega) (by omega) i]
    idx_vars i
    unfold step2
    rw [pay_apply]

/-- Its entries. -/
theorem left_apply (a : Fin 2816) (b : Fin 1024) :
    left m c (ix2 a b) = ∑ l : Fin 8192, arg0 m c (ix2 l a) * arg1 m c (ix2 l b) := by
  have hN : cfg0.N = 8 := N_0
  have hb : b.val < 1024 := b.isLt
  have ha : a.val < 2816 := a.isLt
  have hr : run2Of (ix2 a b) = a.val / 1408 := by
    show _ * (a.val / 1408 - 0) + _ * (b.val / 1024 - 0) = _
    omega
  show (if h : 4 * run2Of (ix2 a b) + 3 < cfg0.N then _ else _) = _
  rw [dif_pos (by rw [hr, hN]; omega), fold, show (3 + 1) * 2048 = 8192 from rfl]
  unfold rowOf
  rw [sum_prodRow]
  refine Finset.sum_congr rfl fun l _ => ?_
  rw [hr]
  have h0 : (loc2Of (ix2 a b) 0).val = a.val % 1408 := rfl
  have h1 : (loc2Of (ix2 a b) 1 : Fin 1024) = b := Fin.ext (show b.val % 1024 = b.val by omega)
  rw [h1, col0_of m c (by rw [h0]; omega)]
  congr 3
  exact Fin.ext (by show a.val / 1408 * 1408 + a.val % 1408 = a.val; omega)

end Cert.KernelDownIdeal.Sum

namespace Cert.WeightDown

open Idealize.ShloMosaic Idealize.ShloMosaic.TcCoe Idealize.SL.Sem

/-- The reference's product, transposed: the same sum, each product's factors the other way round. -/
theorem reference_apply (x : FVec Ideal Cert.ReferenceDownIdeal.S8192x2816 .bf16) (y : FVec Ideal Cert.ReferenceDownIdeal.S8192x1024 .bf16) (a : Fin 2816) (b : Fin 1024) :
    transpose Cert.ReferenceDownIdeal.S2816x1024 [1, 0] (Host.dotGeneral (φ₁ := .f32) (φ₂ := .f32) Cert.ReferenceDownIdeal.dot_S8192x1024_S8192x2816_S1024x2816_0_0_1_1_n_n none
      (extf .f32 y Cert.ReferenceDownIdeal.Facts₀.bitsLt_bf16_f32) (extf .f32 x Cert.ReferenceDownIdeal.Facts₀.bitsLt_bf16_f32)) Cert.ReferenceDownIdeal.Facts₀.transposes_S1024x2816_S2816x1024_1_0 (ix2 a b)
      = ∑ l : Fin 8192, x (ix2 l a) * y (ix2 l b) := by
  pointwise
  exact Finset.sum_congr rfl fun l _ => mul_comm _ _

/-- The frames of the kernel's two programs and of the reference. -/
theorem frame_kernel : Cert.quiescent_KernelDown (hKernelDown := Cert.KernelDown.Gen.facts) := fun m ρ _ => Cert.KernelDown.Gen.frame m ρ
theorem frame_ideal : Cert.quiescent_KernelDownIdeal (hKernelDownIdeal := Cert.KernelDownIdeal.Gen.facts) := fun m ρ _ => Cert.KernelDownIdeal.Gen.frame m ρ
theorem frame_reference : Cert.quiescent_ReferenceDownIdeal (hReferenceDownIdeal := Cert.ReferenceDownIdeal.Gen.facts) := by
  intro m ρ _
  exact (θ_run Cert.ReferenceDownIdeal.defs _ _).mono (fun r h => ⟨fun c => (h c).2, sem_eq_zero_of_no_sems (by decide) r.2⟩)
    (Cert.ReferenceDownIdeal.Value.run (F := Ideal) m ρ)

/-- Kernel and reference compute the same weight gradient. -/
theorem value : Cert.algebraic_KernelDownIdeal_ReferenceDownIdeal (hKernelDownIdeal := Cert.KernelDownIdeal.Gen.facts)
    (hReferenceDownIdeal := Cert.ReferenceDownIdeal.Gen.facts) := by
  intro m g m' g' _ hargs
  refine ⟨fun c => Cert.KernelDownIdeal.Value.G2 m c, Cert.KernelDownIdeal.Value.run m g, ?_⟩
  refine (θ_run _ _ _).mono (fun r h c => ⟨(h c).1.trans ?_, (h c).2⟩) (Cert.ReferenceDownIdeal.Value.run m' g')
  rw [(hargs c).1, (hargs c).2]
  funext j
  idx_vars j
  exact (reference_apply _ _ _ _).trans (Cert.KernelDownIdeal.Sum.left_apply m c _ _).symm

end Cert.WeightDown

end
-- ==== Proof.Result.lean ====
/- The six results of the call out of finite arguments: the two written block by block, and the four running sums after
   the last point, read through the slices that follow. -/
module

public import proofs.«01_k».proof.Proof.Entry

@[expose] public section

set_option maxRecDepth 16384

noncomputable section

namespace Cert.KernelIdeal.Result

open Idealize.ShloMosaic Idealize.ShloMosaic.TcCoe
open Idealize.ShloMosaic.Pipeline (Dat)
open Cert.KernelIdeal.Gen Cert.KernelIdeal.Step Cert.KernelIdeal.Block Cert.KernelIdeal.Entry Mixer

/-- The sum over the last `n` blocks of rows. -/
def part (n : ℕ) (f : ℕ → ℝ) : ℝ := ∑ t ∈ Finset.range (512 * n), f (8192 - 512 * n + t)

theorem part_succ (n : ℕ) (hn : n < 16) (f : ℕ → ℝ) : part n f + ∑ x : Fin 512, f (512 * (15 - n) + x) = part (n + 1) f := by
  unfold part
  rw [Fin.sum_univ_eq_sum_range (fun x => f (512 * (15 - n) + x)), show 512 * (n + 1) = 512 + 512 * n by ring, Finset.sum_range_add, add_comm]
  refine congrArg₂ _ (Finset.sum_congr rfl fun x _ => congrArg f (by omega)) (Finset.sum_congr rfl fun x _ => congrArg f (by omega))

theorem part_all (f : ℕ → ℝ) : part 16 f = ∑ t : Fin 8192, f t := by
  rw [Fin.sum_univ_eq_sum_range f]
  unfold part
  exact Finset.sum_congr rfl fun x _ => congrArg f (by omega)

/-- What is handed on after `n` points, as the model's numbers. -/
structure Holds (A : Args) (n : ℕ) (p : Carry Ideal) : Prop where
  dcw (a : Fin 8) (b : Fin 256) (h : a.val < 3) : p.dcw (ix2 a b) = ((part n (fun t => A.dconv t b * A.zs (2 - a) t b) : ℝ) : EReal)
  dpw (a b : Fin 256) : p.dpw (ix2 a b) = ((part n (fun t => A.D t a * A.dys t b) : ℝ) : EReal)
  dps (b : Fin 256) : p.dps (ix2 0 b) = ((part n (fun t => A.po t b * A.y t (256 + b)) : ℝ) : EReal)
  dg (b : Fin 1024) : p.dg (ix2 0 b) = ((part n (fun t => A.xh t b * A.dxn t b) : ℝ) : EReal)
  z0 (a : Fin 16) (b : Fin 256) : p.z0 (ix2 a b) = ((A.dcs (512 * (16 - n) + a) b : ℝ) : EReal)
  z1 (a : Fin 16) (b : Fin 256) : p.z1 (ix2 a b) = ((A.Es (512 * (16 - n) + a) b : ℝ) : EReal)

theorem holds_zero (A : Args) : Holds A 0 (⟨k0_pay3 (F := Ideal), k0_pay4 (F := Ideal), k0_pay5 (F := Ideal), k0_pay6 (F := Ideal), k0_pay7 (F := Ideal), k0_pay8 (F := Ideal)⟩ : Carry Ideal) where
  dcw a b h := by pointwise [k0_pay3]; simp [part]
  dpw a b := by pointwise [k0_pay4]; simp [part]
  dps b := by pointwise [k0_pay5]; simp [part]
  dg b := by pointwise [k0_pay6]; simp [part]
  z0 a b := by pointwise [k0_pay7]; rw [Args.dcs, if_neg (by omega)]; simp
  z1 a b := by pointwise [k0_pay8]; rw [Args.Es, if_neg (by omega)]; simp

variable {A : Args} {m : (ℓ : Loc nD τ sig) → Buf (Elt Ideal) ℓ} {c : Dev nD}
variable (H : GivenAt A m c)
include H

theorem reads_of (t : Fin cfg0.N) {p : Carry Ideal} (h : Holds A t.val p) :
    Reads A (15 - t.val) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) p.z0 p.z1 := by
  have ht : t.val < 16 := lt_of_lt_of_eq t.isLt (show cfg0.N = 16 from N_0)
  have e : 15 - t.val + 1 = 16 - t.val := by omega
  exact reads H t _ _ (fun a b => by rw [e]; exact h.z0 a b) (fun a b => by rw [e]; exact h.z1 a b)

theorem holds_next (t : Fin cfg0.N) {p : Carry Ideal} (h : Holds A t.val p) : Holds A (t.val + 1) (next m c t p) := by
  have ht : t.val < 16 := lt_of_lt_of_eq t.isLt (show cfg0.N = 16 from N_0)
  have e : 15 - t.val = 16 - (t.val + 1) := by omega
  have R := reads_of H t h
  refine ⟨fun a b ha => ?_, fun a b => ?_, fun b => ?_, fun b => ?_, fun a b => ?_, fun a b => ?_⟩
  · rw [← part_succ _ ht]
    exact R.dcw_eq p.dcw (fun a b => part t.val (fun t => A.dconv t b * A.zs (2 - a) t b)) a b ha (h.dcw a b ha)
  · rw [← part_succ _ ht]
    exact R.dpw_eq p.dpw _ a b (h.dpw a b)
  · rw [← part_succ _ ht]
    exact R.dps_eq p.dps _ b (h.dps b)
  · rw [← part_succ _ ht]
    exact R.dg_eq p.dg _ b (h.dg b)
  · rw [← e]
    exact R.z0_eq a b
  · rw [← e]
    exact R.z1out_eq a b

theorem holds : ∀ (n : ℕ) (hn : n ≤ cfg0.N), Holds A n (carry m c n hn)
  | 0, _ => holds_zero A
  | n + 1, hn => holds_next H ⟨n, hn⟩ (holds n (Nat.le_of_succ_le hn))

theorem dpaAt_eq (t : Fin cfg0.N) (y : S512x1024.Idx) : dpaAt m c t y = ((A.dpa ((15 - t.val) * 512 + (y 0).val) (y 1).val : ℝ) : EReal) := by
  idx_vars y
  have R := reads_of H t (holds H t.val t.isLt.le)
  exact (R.dpa_eq _ _).trans (Reads.num (by rw [Nat.mul_comm]) rfl)

/-- The gradient of the projection's mixer columns. -/
theorem final13 : (dats m 0 c).arrAt 13 (cfgs 0).N = (fun j => ((A.dpa (j 0).val (j 1).val : ℝ) : EReal) : FVec Ideal S8192x1024 .bf16) := by
  refine (dats m 0 c).arrAt_eq_of_covers 13 _ (by decide +kernel) fun t _ y => ?_
  blk_simp [idx t]
  rw [after_13]
  exact dpaAt_eq H t y

/-- What is added to an entry of the residual's cotangent. -/
def plus (A : Args) (x : FVec Ideal S8192x1024 .f32) : FVec Ideal S8192x1024 .f32 := fun j => x j + ((A.dhr (j 0).val (j 1).val : ℝ) : EReal)

theorem dhAt_eq (t : Fin cfg0.N) (y : S512x1024.Idx) (x : Vec Ideal S512x1024 .f32) (hx : iblk m c 12 t = x) :
    dhAt m c t y = x y + ((A.dhr ((15 - t.val) * 512 + (y 0).val) (y 1).val : ℝ) : EReal) := by
  subst hx
  idx_vars y
  have R := reads_of H t (holds H t.val t.isLt.le)
  refine (R.dh_eq _ _ _).trans (congrArg _ (Reads.num (by rw [Nat.mul_comm]) rfl))

/-- The gradient of the block's input. -/
theorem final14 : (dats m 0 c).arrAt 14 (cfgs 0).N = plus A (m ((c : Thread nD τ).loc main_arg10)) := by
  refine (dats m 0 c).arrAt_eq_of_covers 14 _ (by decide +kernel) fun t _ y => ?_
  blk_simp
  rw [after_14]
  refine (dhAt_eq H t y _ rfl).trans ?_
  refine congrArg₂ (fun a b : EReal => a + b) ?_ ?_
  · blk_ext [iblk, V, idx t]
  · blk_simp [idx t]

omit H
theorem final15 : (dats m 0 c).arrAt 15 (cfgs 0).N = (carry m c (t0_15.val + 1) t0_15.isLt).dcw := by
  refine (dats m 0 c).arrAt_eq_of_after_last 15 t0_15 (by decide +kernel) _ fun j => ?_
  blk_simp
  rw [after_15]

theorem final16 : (dats m 0 c).arrAt 16 (cfgs 0).N = (carry m c (t0_15.val + 1) t0_15.isLt).dpw := by
  refine (dats m 0 c).arrAt_eq_of_after_last 16 t0_15 (by decide +kernel) _ fun j => ?_
  blk_simp
  rw [after_16]

theorem final17 : (dats m 0 c).arrAt 17 (cfgs 0).N = (carry m c (t0_15.val + 1) t0_15.isLt).dps := by
  refine (dats m 0 c).arrAt_eq_of_after_last 17 t0_15 (by decide +kernel) _ fun j => ?_
  blk_simp
  rw [after_17]

theorem final18 : (dats m 0 c).arrAt 18 (cfgs 0).N = (carry m c (t0_15.val + 1) t0_15.isLt).dg := by
  refine (dats m 0 c).arrAt_eq_of_after_last 18 t0_15 (by decide +kernel) _ fun j => ?_
  blk_simp
  rw [after_18]

theorem tail33 (W : Valuation τ sig (Elt Ideal)) (a : Fin 3) (b : Fin 256) :
    (StableHlo.after hostOps1 W (Proc.devRef .tc main_v33) : FVec Ideal S3x256 .f32) (ix2 a b)
      = (W (Proc.devRef .tc main_v32_2) : FVec Ideal S8x256 .f32) (ix2 ⟨a.val, by omega⟩ b) := by
  after_reads_at

theorem tail42 (W : Valuation τ sig (Elt Ideal)) (i : Fin 4) (a b : Fin 64) :
    (StableHlo.after hostOps1 W (Proc.devRef .tc main_v42) : FVec Ideal S4x64x64 .f32) (ix3 i a b)
      = (W (Proc.devRef .tc main_v32_3) : FVec Ideal S256x256 .f32) (ix2 ⟨64 * i.val + a.val, by omega⟩ ⟨64 * i.val + b.val, by omega⟩) := by
  after_reads_at
  have hi := i.isLt
  split
  · after_reads_at
    blk_ext
  split
  · after_reads_at
    blk_ext
  split
  · after_reads_at
    blk_ext
  · after_reads_at
    blk_ext

theorem tail44 (W : Valuation τ sig (Elt Ideal)) (b : Fin 256) :
    (StableHlo.after hostOps1 W (Proc.devRef .tc main_v44) : FVec Ideal S256 .f32) (ix1 b)
      = (W (Proc.devRef .tc main_v32_4) : FVec Ideal S8x256 .f32) (ix2 0 b) := by
  after_reads_at

theorem tail46 (W : Valuation τ sig (Elt Ideal)) (b : Fin 1024) :
    (StableHlo.after hostOps1 W (Proc.devRef .tc main_v46) : FVec Ideal S1024 .f32) (ix1 b)
      = (W (Proc.devRef .tc main_v32_5) : FVec Ideal S8x1024 .f32) (ix2 0 b) := by
  after_reads_at

/-- The array of a window after the run. -/
theorem array_of (w : Fin 19) (W : Valuation τ sig (Elt Ideal))
    (hW : W = Pipeline.withArrays (cfgs 0).spec c (V0 m c) (fun w => (dats m 0 c).arrAt w (cfgs 0).N)) :
    W (Proc.devRef .tc (Pipeline.arrRef spec0 w)) = (dats m 0 c).arrAt w (cfgs 0).N := by
  subst hW
  exact Pipeline.withArrays_arr_shared spec0 c (V0 m c) _ ((dats m 0 c).arrAt_sharedIn sharedIn0 (V0 m c) (A_eq m c) _) w

include H

theorem last_holds : Holds A 16 (carry m c (t0_15.val + 1) t0_15.isLt) := holds H 16 t0_15.isLt

/-- The gradient of the taps. -/
theorem out33 : (Pipeline.afterTail₀ cfgs (dats m) 0 (V0 m) [hostOps1] c main_v33 : FVec Ideal S3x256 .f32)
    = fun j => ((A.dcw (j 0).val (j 1).val : ℝ) : EReal) := by
  funext j
  idx_vars j
  unfold Pipeline.afterTail₀
  refine (tail33 _ _ _).trans ?_
  refine (congrFun ((array_of 15 _ rfl).trans final15) _).trans (((last_holds H).dcw _ _ (by dsimp only; omega)).trans ?_)
  rw [part_all]
  rfl

/-- The gradient of the small products' weights. -/
theorem out42 : (Pipeline.afterTail₀ cfgs (dats m) 0 (V0 m) [hostOps1] c main_v42 : FVec Ideal S4x64x64 .f32)
    = fun j => ((A.dpw (j 0).val (j 1).val (j 2).val : ℝ) : EReal) := by
  funext j
  idx_vars j
  unfold Pipeline.afterTail₀
  refine (tail42 _ _ _ _).trans ?_
  refine (congrFun ((array_of 16 _ rfl).trans final16) _).trans (((last_holds H).dpw _ _).trans ?_)
  rw [part_all]
  rfl

/-- The gradient of the pool's scale. -/
theorem out44 : (Pipeline.afterTail₀ cfgs (dats m) 0 (V0 m) [hostOps1] c main_v44 : FVec Ideal S256 .f32)
    = fun j => ((A.dps (j 0).val : ℝ) : EReal) := by
  funext j
  idx_vars j
  unfold Pipeline.afterTail₀
  refine (tail44 _ _).trans ?_
  refine (congrFun ((array_of 17 _ rfl).trans final17) _).trans (((last_holds H).dps _).trans ?_)
  rw [part_all]
  rfl

/-- The gradient of the normalisation's scale. -/
theorem out46 : (Pipeline.afterTail₀ cfgs (dats m) 0 (V0 m) [hostOps1] c main_v46 : FVec Ideal S1024 .f32)
    = fun j => ((A.dg (j 0).val : ℝ) : EReal) := by
  funext j
  idx_vars j
  unfold Pipeline.afterTail₀
  refine (tail46 _ _).trans ?_
  refine (congrFun ((array_of 18 _ rfl).trans final18) _).trans (((last_holds H).dg _).trans ?_)
  rw [part_all]
  rfl

end Cert.KernelIdeal.Result

end
-- ==== Proof.Value.lean ====
/- The call and its reference end with equal results, out of finite arguments. -/
module

public import proofs.«01_k».proof.Defs
public import proofs.«01_k».proof.Proof.Finite
public import proofs.«01_k».proof.Proof.Result
public import proofs.«01_k».proof.Proof.Ref
public import proofs.«01_k».proof.Proof.Gen.KernelIdeal
public import proofs.«01_k».proof.Proof.Gen.ReferenceIdeal
public import proofs.«01_k».proof.Proof.Gen.Pre_finite

@[expose] public section

set_option maxRecDepth 65536
set_option maxHeartbeats 4000000

noncomputable section

namespace Cert.Value

open Idealize.ShloMosaic Idealize.ShloMosaic.TcCoe Idealize.SL.Sem Mixer
open Cert.KernelIdeal (nD τ sig)

variable (m : (ℓ : Loc nD τ sig) → Buf (Elt Ideal) ℓ) (c : Dev nD)

/-- The arguments on one device. -/
def arrays : Arrays where
  h := m ((c.tc : Thread nD τ).loc Cert.KernelIdeal.main_arg0)
  g := m ((c.tc : Thread nD τ).loc Cert.KernelIdeal.main_arg1)
  w := m ((c.tc : Thread nD τ).loc Cert.KernelIdeal.main_arg2)
  cw := m ((c.tc : Thread nD τ).loc Cert.KernelIdeal.main_arg3)
  pw := m ((c.tc : Thread nD τ).loc Cert.KernelIdeal.main_arg4)
  ps := m ((c.tc : Thread nD τ).loc Cert.KernelIdeal.main_arg5)
  y := m ((c.tc : Thread nD τ).loc Cert.KernelIdeal.main_arg6)
  q := m ((c.tc : Thread nD τ).loc Cert.KernelIdeal.main_arg7)
  k := m ((c.tc : Thread nD τ).loc Cert.KernelIdeal.main_arg8)
  v := m ((c.tc : Thread nD τ).loc Cert.KernelIdeal.main_arg9)

theorem arrays_finite [Cert.Pre_finite.Facts] (h : Cert.Pre_KernelIdeal_finite m) : (arrays m c).Finite :=
  finite_arrays (arrays m c) (m ((c.tc : Thread nD τ).loc Cert.KernelIdeal.main_arg10)) fun f e => e ▸ h c

/-- The arguments' real numbers on one device. -/
abbrev argsAt : Args := (arrays m c).args

theorem givenAt [Cert.Pre_finite.Facts] (h : Cert.Pre_KernelIdeal_finite m) : Cert.KernelIdeal.Entry.GivenAt (argsAt m c) m c := (arrays_finite m c h).given

/-- The six results on one device. -/
def dproj (A : Args) : FVec Ideal ⟨2, ![8192, 1024]⟩ .bf16 := fun j => ((A.dpa (j 0).val (j 1).val : ℝ) : EReal)
def dhid (A : Args) (x : FVec Ideal ⟨2, ![8192, 1024]⟩ .f32) : FVec Ideal ⟨2, ![8192, 1024]⟩ .f32 := fun j => x j + ((A.dhr (j 0).val (j 1).val : ℝ) : EReal)
def dconvw (A : Args) : FVec Ideal ⟨2, ![3, 256]⟩ .f32 := fun j => ((A.dcw (j 0).val (j 1).val : ℝ) : EReal)
def dpoolw (A : Args) : FVec Ideal ⟨3, ![4, 64, 64]⟩ .f32 := fun j => ((A.dpw (j 0).val (j 1).val (j 2).val : ℝ) : EReal)
def dscale (A : Args) : FVec Ideal ⟨1, ![256]⟩ .f32 := fun j => ((A.dps (j 0).val : ℝ) : EReal)
def dgain (A : Args) : FVec Ideal ⟨1, ![1024]⟩ .f32 := fun j => ((A.dg (j 0).val : ℝ) : EReal)

theorem value : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have H := fun c => @givenAt m c Cert.Pre_finite.Gen.facts hpre
  have H' : ∀ c : Dev nD, Cert.ReferenceIdeal.Model.GivenIn (argsAt m c) (StableHlo.launchContents m' c) := fun c => by
    have h := H c
    obtain ⟨e0, e1, e2, e3, e4, e5, e6, e7, e8, e9, e10⟩ := hargs c
    refine ⟨?_, ?_, ?_, ?_, ?_, ?_, ?_, ?_, ?_, ?_⟩
    · exact fun a b => (congrFun e0 _).trans (h.h a b)
    · exact fun a => (congrFun e1 _).trans (h.g a)
    · exact fun a b => (congrFun e2 _).trans (h.w a b)
    · exact fun a b => (congrFun e3 _).trans (h.cw a b)
    · exact fun a b c => (congrFun e4 _).trans (h.pw a b c)
    · exact fun a => (congrFun e5 _).trans (h.ps a)
    · exact fun a b => (congrFun e6 _).trans (h.y a b)
    · exact fun a b => (congrFun e7 _).trans (h.q a b)
    · exact fun a b => (congrFun e8 _).trans (h.k a b)
    · exact fun a b => (congrFun e9 _).trans (h.v a b)
  refine ⟨fun c => dproj (argsAt m c), fun c => dhid (argsAt m c) (m ((c.tc : Thread nD τ).loc Cert.KernelIdeal.main_arg10)), fun c => dconvw (argsAt m c),
    fun c => dpoolw (argsAt m c), fun c => dscale (argsAt m c), fun c => dgain (argsAt m c), ?_, ?_⟩
  · refine (θ_run _ _ _).mono (fun r h c => ?_) (θ_run_and (Cert.KernelIdeal.Step.run_main m g) (Cert.KernelIdeal.Step.frame m g))
    obtain ⟨h, hf⟩ := h
    refine ⟨((h c).1 13).trans (Cert.KernelIdeal.Result.final13 (H c)), ((h c).1 14).trans (Cert.KernelIdeal.Result.final14 (H c)),
      ((h c).2 Cert.KernelIdeal.main_v33 (Pipeline.mem_restRefs_of Cert.KernelIdeal.main_v33 (by decide) (by decide))).trans (Cert.KernelIdeal.Result.out33 (H c)),
      ((h c).2 Cert.KernelIdeal.main_v42 (Pipeline.mem_restRefs_of Cert.KernelIdeal.main_v42 (by decide) (by decide))).trans (Cert.KernelIdeal.Result.out42 (H c)),
      ((h c).2 Cert.KernelIdeal.main_v44 (Pipeline.mem_restRefs_of Cert.KernelIdeal.main_v44 (by decide) (by decide))).trans (Cert.KernelIdeal.Result.out44 (H c)),
      ((h c).2 Cert.KernelIdeal.main_v46 (Pipeline.mem_restRefs_of Cert.KernelIdeal.main_v46 (by decide) (by decide))).trans (Cert.KernelIdeal.Result.out46 (H c)), hf.1 c⟩
  · refine (θ_run _ _ _).mono (fun r h c => ?_) (Cert.ReferenceIdeal.Value.run m' g')
    obtain ⟨h0, h1, h2, h3, h4, h5, ha⟩ := h c
    exact ⟨h0.trans (Cert.ReferenceIdeal.Model.result298 (H' c)),
      h1.trans ((Cert.ReferenceIdeal.Model.result296 (H' c)).trans (congrArg (dhid (argsAt m c)) (hargs c).2.2.2.2.2.2.2.2.2.2)),
      h2.trans (Cert.ReferenceIdeal.Model.result264 (H' c)), h3.trans (Cert.ReferenceIdeal.Model.result213 (H' c)),
      h4.trans (Cert.ReferenceIdeal.Model.result149 (H' c)), h5.trans (Cert.ReferenceIdeal.Model.result281 (H' c)), ha⟩

end Cert.Value

end
-- ==== Proof.lean ====
/- The certificate: the call that takes the gradient of a layer's convolution, pooling and input projection, the four calls that
   take the gradients of a layer's weights, the two calls that compute the tail of a layer and take its gradient, and the call that
   computes a layer's normed input, projection, convolution and pooling. -/
module

public import proofs.«01_k».proof.Proof.TailValue
public import proofs.«01_k».proof.Proof.TailBackValue
public import proofs.«01_k».proof.Proof.ForwardValue
public import proofs.«01_k».proof.Proof.Gen.KernelForwardIdeal.Frame
public import proofs.«01_k».proof.Proof.Gen.KernelForward.Frame
public import proofs.«01_k».proof.Proof.Gen.ReferenceForwardIdeal.Run
public import proofs.«01_k».proof.Proof.Gen.Pre_finite_fwd
public import proofs.«01_k».proof.Proof.Gen.KernelTailBackIdeal.Frame
public import proofs.«01_k».proof.Proof.Gen.KernelTailBack.Frame
public import proofs.«01_k».proof.Proof.Gen.ReferenceTailBackIdeal.Run
public import proofs.«01_k».proof.Proof.Gen.Pre_finite_tail
public import proofs.«01_k».proof.Proof.Gen.KernelTailIdeal.Frame
public import proofs.«01_k».proof.Proof.Gen.KernelTail.Frame
public import proofs.«01_k».proof.Proof.Gen.ReferenceTailIdeal.Run
public import proofs.«01_k».proof.Proof.WeightIn
public import proofs.«01_k».proof.Proof.WeightOut
public import proofs.«01_k».proof.Proof.WeightGateUp
public import proofs.«01_k».proof.Proof.WeightDown
public import proofs.«01_k».proof.Proof.Gen.KernelInIdeal.Value
public import proofs.«01_k».proof.Proof.Gen.KernelIn.Frame
public import proofs.«01_k».proof.Proof.Gen.ReferenceInIdeal.Run
public import proofs.«01_k».proof.Proof.Gen.KernelOutIdeal.Value
public import proofs.«01_k».proof.Proof.Gen.KernelOut.Frame
public import proofs.«01_k».proof.Proof.Gen.ReferenceOutIdeal.Run
public import proofs.«01_k».proof.Proof.Gen.KernelGateUpIdeal.Value
public import proofs.«01_k».proof.Proof.Gen.KernelGateUp.Frame
public import proofs.«01_k».proof.Proof.Gen.ReferenceGateUpIdeal.Run
public import proofs.«01_k».proof.Proof.Gen.KernelDownIdeal.Value
public import proofs.«01_k».proof.Proof.Gen.KernelDown.Frame
public import proofs.«01_k».proof.Proof.Gen.ReferenceDownIdeal.Run
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Run
public import proofs.«01_k».proof.Proof.Value
public import proofs.«01_k».proof.Proof.Gen.Pre_finite
public import proofs.«01_k».proof.Proof.Gen.ReferenceIdeal
public import Idealize.ShloMosaic.Adequacy
public import Idealize.ShloMosaic.Init

@[expose] public section

set_option maxRecDepth 65536
set_option maxHeartbeats 4000000

noncomputable section

namespace Cert.Proof

open Idealize.ShloMosaic Idealize.SL.Sem Cert.Kernel

/-- The kernel's frame: the idealized program has the kernel's text, and its run is proved over any float values. -/
theorem frame_kernel : Cert.quiescent_Kernel (hKernel := Cert.Kernel.Gen.facts) := by
  intro m ρ _
  have h := Cert.KernelIdeal.Step.frame (F := Bits) m ρ
  revert h
  delta Cert.Kernel.main Cert.Kernel.defs Cert.Kernel.main_call0 Cert.Kernel.fn_pad.body Cert.Kernel.defs₀ Cert.Kernel.cc0_inproj_mixers_bwd Cert.Kernel.k0_part6 Cert.Kernel.k0_part5 Cert.Kernel.k0_part4 Cert.Kernel.k0_part3 Cert.Kernel.k0_part2 Cert.Kernel.k0_part1 Cert.KernelIdeal.main Cert.KernelIdeal.defs Cert.KernelIdeal.main_call0 Cert.KernelIdeal.fn_pad.body Cert.KernelIdeal.defs₀ Cert.KernelIdeal.cc0_inproj_mixers_bwd Cert.KernelIdeal.k0_part6 Cert.KernelIdeal.k0_part5 Cert.KernelIdeal.k0_part4 Cert.KernelIdeal.k0_part3 Cert.KernelIdeal.k0_part2 Cert.KernelIdeal.k0_part1
  delta Cert.Kernel.defs₀.match_1 Cert.Kernel.cc0_inproj_mixers_bwd.match_1 Cert.Kernel.cc0_inproj_mixers_bwd.match_3 Cert.Kernel.cc0_inproj_mixers_bwd.match_5 Cert.Kernel.cc0_inproj_mixers_bwd.match_7 Cert.Kernel.cc0_inproj_mixers_bwd.match_9 Cert.KernelIdeal.defs₀.match_1 Cert.KernelIdeal.cc0_inproj_mixers_bwd.match_1 Cert.KernelIdeal.cc0_inproj_mixers_bwd.match_3 Cert.KernelIdeal.cc0_inproj_mixers_bwd.match_5 Cert.KernelIdeal.cc0_inproj_mixers_bwd.match_7 Cert.KernelIdeal.cc0_inproj_mixers_bwd.match_9
  exact id

/-- The reference's frame: its arguments are never written, and it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelGateUp.Gen.facts, Cert.KernelGateUpIdeal.Gen.facts, Cert.ReferenceGateUpIdeal.Gen.facts,
    Cert.KernelDown.Gen.facts, Cert.KernelDownIdeal.Gen.facts, Cert.ReferenceDownIdeal.Gen.facts,
    Cert.KernelTail.Gen.facts, Cert.KernelTailIdeal.Gen.facts, Cert.ReferenceTailIdeal.Gen.facts,
    Cert.KernelTailBack.Gen.facts, Cert.KernelTailBackIdeal.Gen.facts, Cert.ReferenceTailBackIdeal.Gen.facts,
    Cert.KernelForward.Gen.facts, Cert.KernelForwardIdeal.Gen.facts, Cert.ReferenceForwardIdeal.Gen.facts,
    Cert.Pre_finite.Gen.facts, Cert.Pre_finite_tail.Gen.facts, Cert.Pre_finite_fwd.Gen.facts,
    frame_kernel, fun m ρ _ => Cert.KernelIdeal.Step.frame m ρ, fun m ρ _ => Cert.KernelIdeal.Step.frame m ρ,
    frame_reference, fun m ρ _ => frame_reference m ρ trivial,
    Cert.WeightIn.frame_kernel, Cert.WeightIn.frame_ideal, Cert.WeightIn.frame_reference,
    Cert.WeightOut.frame_kernel, Cert.WeightOut.frame_ideal, Cert.WeightOut.frame_reference,
    Cert.WeightGateUp.frame_kernel, Cert.WeightGateUp.frame_ideal, Cert.WeightGateUp.frame_reference,
    Cert.WeightDown.frame_kernel, Cert.WeightDown.frame_ideal, Cert.WeightDown.frame_reference,
    Cert.TailValue.frame_kernel, Cert.TailValue.frame_ideal, Cert.TailValue.frame_reference,
    Cert.TailBackValue.frame_kernel, Cert.TailBackValue.frame_ideal, fun m ρ _ => Cert.TailBackValue.frame_ideal m ρ trivial,
    Cert.TailBackValue.frame_reference, fun m ρ _ => Cert.TailBackValue.frame_reference m ρ trivial,
    Cert.ForwardValue.frame_kernel, Cert.ForwardValue.frame_ideal, fun m ρ _ => Cert.ForwardValue.frame_ideal m ρ trivial,
    Cert.ForwardValue.frame_reference, fun m ρ _ => Cert.ForwardValue.frame_reference m ρ trivial,
    trivial, Cert.Value.value,
    trivial, Cert.WeightIn.value,
    trivial, Cert.WeightOut.value,
    trivial, Cert.WeightGateUp.value,
    trivial, Cert.WeightDown.value,
    trivial, Cert.TailValue.value,
    trivial, Cert.TailBackValue.value,
    trivial, Cert.ForwardValue.value⟩

end Cert.Proof

end
